-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v21) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x4096 : Shape := ⟨2, ![4096, 4096]⟩
abbrev S4096x512 : Shape := ⟨2, ![4096, 512]⟩
abbrev S_ : Shape := ⟨0, ![]⟩

class Facts : Prop where
  bcast_S_S4096x4096 : S_.BroadcastsInDim S4096x4096 (![] : Fin 0 → Fin S4096x4096.rank)
  bitsLt_bf16_f32 : FTy.bits .bf16 < FTy.bits .f32
  bcast_S_S4096x512 : S_.BroadcastsInDim S4096x512 (![] : Fin 0 → Fin S4096x512.rank)

variable [Facts]

def fn {F : FTy → Type} [FloatOps F] (main_arg0 : FVec F S4096x4096 .f32) (main_arg1 : FVec F S4096x512 .bf16) : IVec S4096x4096 1 × IVec S4096x512 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x512 .f32 := (extf .f32 · bitsLt_bf16_f32) main_arg1
  let main_v4 : FVec F S4096x512 .f32 := Host.absf main_v3
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  (main_v2, main_v6)
-- ==== Kernel.lean ====
abbrev S4096x4096 : Shape := ⟨2, ![4096, 4096]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S1x4096x4096 : Shape := ⟨3, ![1, 4096, 4096]⟩
abbrev S8x4096x16 : Shape := ⟨3, ![8, 4096, 16]⟩
abbrev S8x4096x128 : Shape := ⟨3, ![8, 4096, 128]⟩
abbrev S4x2x4096x128 : Shape := ⟨4, ![4, 2, 4096, 128]⟩
abbrev S1024x128 : Shape := ⟨2, ![1024, 128]⟩
abbrev S4096x128 : Shape := ⟨2, ![4096, 128]⟩
abbrev S1x2x1024x128 : Shape := ⟨4, ![1, 2, 1024, 128]⟩
abbrev S16x128x256 : Shape := ⟨3, ![16, 128, 256]⟩
abbrev S1x128 : Shape := ⟨2, ![1, 128]⟩
abbrev S128x1 : Shape := ⟨2, ![128, 1]⟩
abbrev S128x1024 : Shape := ⟨2, ![128, 1024]⟩
abbrev S1x1x1024x128 : Shape := ⟨4, ![1, 1, 1024, 128]⟩
abbrev S256x256 : Shape := ⟨2, ![256, 256]⟩
abbrev S1024x1 : Shape := ⟨2, ![1024, 1]⟩
abbrev S256x128 : Shape := ⟨2, ![256, 128]⟩
abbrev S128x256 : Shape := ⟨2, ![128, 256]⟩
abbrev S1024 : Shape := ⟨1, ![1024]⟩
abbrev S1024x256 : Shape := ⟨2, ![1024, 256]⟩
abbrev S1x128x256 : Shape := ⟨3, ![1, 128, 256]⟩
abbrev S768x256 : Shape := ⟨2, ![768, 256]⟩
abbrev S768x128 : Shape := ⟨2, ![768, 128]⟩
abbrev S768 : Shape := ⟨1, ![768]⟩
abbrev S768x1 : Shape := ⟨2, ![768, 1]⟩
abbrev S256x1 : Shape := ⟨2, ![256, 1]⟩
abbrev S128x768 : Shape := ⟨2, ![128, 768]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S256 : Shape := ⟨1, ![256]⟩

abbrev nBuf : Space → Nat
  | .hbm => 47
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x512, .bf16⟩
  | .hbm, ⟨2, _⟩ => ⟨S4096x512, .f32⟩
  | .hbm, ⟨3, _⟩ => ⟨S4096x8x64, .f32⟩
  | .hbm, ⟨4, _⟩ => ⟨S8x4096x64, .f32⟩
  | .hbm, ⟨5, _⟩ => ⟨S4096x512, .f32⟩
  | .hbm, ⟨6, _⟩ => ⟨S4096x8x64, .f32⟩
  | .hbm, ⟨7, _⟩ => ⟨S8x4096x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S1x4096x4096, .i32⟩
  | .hbm, ⟨13, _⟩ => ⟨S1x4096x4096, .i32⟩
  | .hbm, ⟨14, _⟩ => ⟨S1x4096x4096, .i1⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096x16, .f32⟩
  | .hbm, ⟨40, _⟩ => ⟨S_, .i32⟩
  | .hbm, ⟨41, _⟩ => ⟨S_, .f32⟩
  | .hbm, ⟨42, _⟩ => ⟨S8x4096x128, .f32⟩
  | .hbm, ⟨43, _⟩ => ⟨S4x2x4096x128, .f32⟩
  | .hbm, ⟨44, _⟩ => ⟨S4096x512, .bf16⟩
  | .hbm, ⟨45, _⟩ => ⟨S4096x512, .bf16⟩
  | .hbm, ⟨46, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x2x1024x128, .f32⟩
  | .local _ .vmem, ⟨7, _⟩ => ⟨S1x2x1024x128, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S16x128x256, .f32⟩
  | .local _ .vmem, ⟨17, _⟩ => ⟨S16x128x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_call2_cst : Ref sig .tc := ⟨.hbm, 35, rfl⟩
abbrev main_call2_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_call3_v0 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_v20_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_22 : BitVec 32 := 0#32
  let arg1 : BitVec 32 := BitVec.ofNat 32 (i 1).val
  let c2_i32 : BitVec 32 := 2#32
  let v73 : BitVec 32 := Scalar.muli arg1 c2_i32
  let v75 : BitVec 32 := Scalar.subi v73 c0_i32_22
  let c1_i32 : BitVec 32 := 1#32
  let v77 : BitVec 32 := Scalar.divsi v75 c1_i32
  let v78 : BitVec 32 := Scalar.muli v77 c1_i32
  let v79 : BitVec 32 := Scalar.addi c0_i32_22 v78
  let c1_i32_23 : BitVec 32 := 1#32
  ⟨c0_i32_22, v79, c1_i32_23⟩
def k0_mult1 (i : grid0.Coords) (k0_t1 : Fin (k0_t1_loop i).trips) : BitVec 32 :=
  let c0_i32_22 : BitVec 32 := 0#32
  let c1_i32_23 : BitVec 32 := 1#32
  let arg12 : BitVec 32 := Scf.iv c0_i32_22 c1_i32_23 k0_t1
  let c2_i32_228 : BitVec 32 := 2#32
  let v750 : BitVec 32 := Scalar.muli arg12 c2_i32_228
  let c0_i32_229 : BitVec 32 := 0#32
  let v751 : BitVec 32 := Scalar.addi v750 c0_i32_229
  let c256_i32_230 : BitVec 32 := 256#32
  let v752 : BitVec 32 := Scalar.muli v751 c256_i32_230
  v752
def k0_off1 (i : grid0.Coords) (k0_t1 : Fin (k0_t1_loop i).trips) (c0_i32_229 : BitVec 32) : Fin 2 → Nat :=
  let c0_i32_22 : BitVec 32 := 0#32
  let c1_i32_23 : BitVec 32 := 1#32
  let arg12 : BitVec 32 := Scf.iv c0_i32_22 c1_i32_23 k0_t1
  let c2_i32_228 : BitVec 32 := 2#32
  let v750 : BitVec 32 := Scalar.muli arg12 c2_i32_228
  let v751 : BitVec 32 := Scalar.addi v750 c0_i32_229
  let c256_i32_230 : BitVec 32 := 256#32
  let v752 : BitVec 32 := Scalar.muli v751 c256_i32_230
  let v753 : BitVec 32 := v752
  let v754 : Index := Scalar.indexCast v753
  let c0_231 : Index := 0#32
  ![v754.toNat, 0]
def k0_off2 (i : grid0.Coords) (k0_t1 : Fin (k0_t1_loop i).trips) (c0_i32_229 : BitVec 32) : Fin 3 → Nat :=
  let c0_i32_22 : BitVec 32 := 0#32
  let c1_i32_23 : BitVec 32 := 1#32
  let arg12 : BitVec 32 := Scf.iv c0_i32_22 c1_i32_23 k0_t1
  let c2_i32_228 : BitVec 32 := 2#32
  let v750 : BitVec 32 := Scalar.muli arg12 c2_i32_228
  let v751 : BitVec 32 := Scalar.addi v750 c0_i32_229
  let v865 : Index := Scalar.indexCast v751
  let c0_262 : Index := 0#32
  let c0_263 : Index := 0#32
  ![v865.toNat, 0, 0]
def k0_mult2 (i : grid0.Coords) (k0_t1 : Fin (k0_t1_loop i).trips) : BitVec 32 :=
  let c0_i32_22 : BitVec 32 := 0#32
  let c1_i32_23 : BitVec 32 := 1#32
  let arg12 : BitVec 32 := Scf.iv c0_i32_22 c1_i32_23 k0_t1
  let c2_i32_270 : BitVec 32 := 2#32
  let v882 : BitVec 32 := Scalar.muli arg12 c2_i32_270
  let c1_i32_271 : BitVec 32 := 1#32
  let v883 : BitVec 32 := Scalar.addi v882 c1_i32_271
  let c256_i32_272 : BitVec 32 := 256#32
  let v884 : BitVec 32 := Scalar.muli v883 c256_i32_272
  v884
@[reducible] def k0_t2_loop (i : grid0.Coords) : Scf.Loop 32 :=
  let c0_i32_22 : BitVec 32 := 0#32
  let arg1 : BitVec 32 := BitVec.ofNat 32 (i 1).val
  let c2_i32 : BitVec 32 := 2#32
  let v73 : BitVec 32 := Scalar.muli arg1 c2_i32
  let v75 : BitVec 32 := Scalar.subi v73 c0_i32_22
  let c1_i32 : BitVec 32 := 1#32
  let v77 : BitVec 32 := Scalar.divsi v75 c1_i32
  let v78 : BitVec 32 := Scalar.muli v77 c1_i32
  let v79 : BitVec 32 := Scalar.addi c0_i32_22 v78
  let v76 : BitVec 32 := Scalar.addi c0_i32_22 v75
  let c1_i32_24 : BitVec 32 := 1#32
  ⟨v79, v76, c1_i32_24⟩
def k0_mult3 (i : grid0.Coords) (k0_t2 : Fin (k0_t2_loop i).trips) : BitVec 32 :=
  let c0_i32_22 : BitVec 32 := 0#32
  let arg1 : BitVec 32 := BitVec.ofNat 32 (i 1).val
  let c2_i32 : BitVec 32 := 2#32
  let v73 : BitVec 32 := Scalar.muli arg1 c2_i32
  let v75 : BitVec 32 := Scalar.subi v73 c0_i32_22
  let c1_i32 : BitVec 32 := 1#32
  let v77 : BitVec 32 := Scalar.divsi v75 c1_i32
  let v78 : BitVec 32 := Scalar.muli v77 c1_i32
  let v79 : BitVec 32 := Scalar.addi c0_i32_22 v78
  let c1_i32_24 : BitVec 32 := 1#32
  let arg12 : BitVec 32 := Scf.iv v79 c1_i32_24 k0_t2
  let c2_i32_228 : BitVec 32 := 2#32
  let v750 : BitVec 32 := Scalar.muli arg12 c2_i32_228
  let c0_i32_229 : BitVec 32 := 0#32
  let v751 : BitVec 32 := Scalar.addi v750 c0_i32_229
  let c256_i32_230 : BitVec 32 := 256#32
  let v752 : BitVec 32 := Scalar.muli v751 c256_i32_230
  v752
def k0_off3 (i : grid0.Coords) (k0_t2 : Fin (k0_t2_loop i).trips) (c0_i32_229 : BitVec 32) : Fin 2 → Nat :=
  let c0_i32_22 : BitVec 32 := 0#32
  let arg1 : BitVec 32 := BitVec.ofNat 32 (i 1).val
  let c2_i32 : BitVec 32 := 2#32
  let v73 : BitVec 32 := Scalar.muli arg1 c2_i32
  let v75 : BitVec 32 := Scalar.subi v73 c0_i32_22
  let c1_i32 : BitVec 32 := 1#32
  let v77 : BitVec 32 := Scalar.divsi v75 c1_i32
  let v78 : BitVec 32 := Scalar.muli v77 c1_i32
  let v79 : BitVec 32 := Scalar.addi c0_i32_22 v78
  let c1_i32_24 : BitVec 32 := 1#32
  let arg12 : BitVec 32 := Scf.iv v79 c1_i32_24 k0_t2
  let c2_i32_228 : BitVec 32 := 2#32
  let v750 : BitVec 32 := Scalar.muli arg12 c2_i32_228
  let v751 : BitVec 32 := Scalar.addi v750 c0_i32_229
  let c256_i32_230 : BitVec 32 := 256#32
  let v752 : BitVec 32 := Scalar.muli v751 c256_i32_230
  let v753 : BitVec 32 := v752
  let v754 : Index := Scalar.indexCast v753
  let c0_231 : Index := 0#32
  ![v754.toNat, 0]
def k0_off4 (i : grid0.Coords) (k0_t2 : Fin (k0_t2_loop i).trips) (c0_i32_229 : BitVec 32) : Fin 3 → Nat :=
  let c0_i32_22 : BitVec 32 := 0#32
  let arg1 : BitVec 32 := BitVec.ofNat 32 (i 1).val
  let c2_i32 : BitVec 32 := 2#32
  let v73 : BitVec 32 := Scalar.muli arg1 c2_i32
  let v75 : BitVec 32 := Scalar.subi v73 c0_i32_22
  let c1_i32 : BitVec 32 := 1#32
  let v77 : BitVec 32 := Scalar.divsi v75 c1_i32
  let v78 : BitVec 32 := Scalar.muli v77 c1_i32
  let v79 : BitVec 32 := Scalar.addi c0_i32_22 v78
  let c1_i32_24 : BitVec 32 := 1#32
  let arg12 : BitVec 32 := Scf.iv v79 c1_i32_24 k0_t2
  let c2_i32_228 : BitVec 32 := 2#32
  let v750 : BitVec 32 := Scalar.muli arg12 c2_i32_228
  let v751 : BitVec 32 := Scalar.addi v750 c0_i32_229
  let v865 : Index := Scalar.indexCast v751
  let c0_262 : Index := 0#32
  let c0_263 : Index := 0#32
  ![v865.toNat, 0, 0]
def k0_mult4 (i : grid0.Coords) (k0_t2 : Fin (k0_t2_loop i).trips) : BitVec 32 :=
  let c0_i32_22 : BitVec 32 := 0#32
  let arg1 : BitVec 32 := BitVec.ofNat 32 (i 1).val
  let c2_i32 : BitVec 32 := 2#32
  let v73 : BitVec 32 := Scalar.muli arg1 c2_i32
  let v75 : BitVec 32 := Scalar.subi v73 c0_i32_22
  let c1_i32 : BitVec 32 := 1#32
  let v77 : BitVec 32 := Scalar.divsi v75 c1_i32
  let v78 : BitVec 32 := Scalar.muli v77 c1_i32
  let v79 : BitVec 32 := Scalar.addi c0_i32_22 v78
  let c1_i32_24 : BitVec 32 := 1#32
  let arg12 : BitVec 32 := Scf.iv v79 c1_i32_24 k0_t2
  let c2_i32_270 : BitVec 32 := 2#32
  let v882 : BitVec 32 := Scalar.muli arg12 c2_i32_270
  let c1_i32_271 : BitVec 32 := 1#32
  let v883 : BitVec 32 := Scalar.addi v882 c1_i32_271
  let c256_i32_272 : BitVec 32 := 256#32
  let v884 : BitVec 32 := Scalar.muli v883 c256_i32_272
  v884
def k0_mult5 (i : grid0.Coords) : BitVec 32 :=
  let arg1 : BitVec 32 := BitVec.ofNat 32 (i 1).val
  let c4_i32 : BitVec 32 := 4#32
  let v82 : BitVec 32 := Scalar.muli arg1 c4_i32
  let c0_i32_25 : BitVec 32 := 0#32
  let v83 : BitVec 32 := Scalar.addi v82 c0_i32_25
  let c256_i32 : BitVec 32 := 256#32
  let v84 : BitVec 32 := Scalar.muli v83 c256_i32
  v84
def k0_off5 (i : grid0.Coords) (c0_i32_25 : BitVec 32) : Fin 2 → Nat :=
  let arg1 : BitVec 32 := BitVec.ofNat 32 (i 1).val
  let c4_i32 : BitVec 32 := 4#32
  let v82 : BitVec 32 := Scalar.muli arg1 c4_i32
  let v83 : BitVec 32 := Scalar.addi v82 c0_i32_25
  let c256_i32 : BitVec 32 := 256#32
  let v84 : BitVec 32 := Scalar.muli v83 c256_i32
  let v85 : BitVec 32 := v84
  let v86 : Index := Scalar.indexCast v85
  let c0_26 : Index := 0#32
  ![v86.toNat, 0]
def k0_off6 (i : grid0.Coords) (c0_i32_25 : BitVec 32) : Fin 3 → Nat :=
  let arg1 : BitVec 32 := BitVec.ofNat 32 (i 1).val
  let c4_i32 : BitVec 32 := 4#32
  let v82 : BitVec 32 := Scalar.muli arg1 c4_i32
  let v83 : BitVec 32 := Scalar.addi v82 c0_i32_25
  let v217 : Index := Scalar.indexCast v83
  let c0_65 : Index := 0#32
  let c0_66 : Index := 0#32
  ![v217.toNat, 0, 0]
def k0_mult6 (i : grid0.Coords) : BitVec 32 :=
  let arg1 : BitVec 32 := BitVec.ofNat 32 (i 1).val
  let c4_i32_73 : BitVec 32 := 4#32
  let v234 : BitVec 32 := Scalar.muli arg1 c4_i32_73
  let c1_i32_74 : BitVec 32 := 1#32
  let v235 : BitVec 32 := Scalar.addi v234 c1_i32_74
  let c256_i32_75 : BitVec 32 := 256#32
  let v236 : BitVec 32 := Scalar.muli v235 c256_i32_75
  v236
def k0_mult7 (i : grid0.Coords) : BitVec 32 :=
  let arg1 : BitVec 32 := BitVec.ofNat 32 (i 1).val
  let c4_i32_124 : BitVec 32 := 4#32
  let v407 : BitVec 32 := Scalar.muli arg1 c4_i32_124
  let c2_i32_125 : BitVec 32 := 2#32
  let v408 : BitVec 32 := Scalar.addi v407 c2_i32_125
  let c256_i32_126 : BitVec 32 := 256#32
  let v409 : BitVec 32 := Scalar.muli v408 c256_i32_126
  v409
def k0_mult8 (i : grid0.Coords) : BitVec 32 :=
  let arg1 : BitVec 32 := BitVec.ofNat 32 (i 1).val
  let c4_i32_174 : BitVec 32 := 4#32
  let v580 : BitVec 32 := Scalar.muli arg1 c4_i32_174
  let c3_i32 : BitVec 32 := 3#32
  let v581 : BitVec 32 := Scalar.addi v580 c3_i32
  let c256_i32_175 : BitVec 32 := 256#32
  let v582 : BitVec 32 := Scalar.muli v581 c256_i32_175
  v582
def k0_cond2 (i : grid0.Coords) : BitVec 1 :=
  let arg1 : BitVec 32 := BitVec.ofNat 32 (i 1).val
  let c3_i32_226 : BitVec 32 := 3#32
  let v747 : BitVec 1 := Scalar.cmpi .eq arg1 c3_i32_226
  let v748 : BitVec 32 := Scalar.extui v747
  let c0_i32_227 : BitVec 32 := 0#32
  let v749 : BitVec 1 := Scalar.cmpi .ne v748 c0_i32_227
  v749

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x4096 : Shape := ⟨2, ![4096, 4096]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S1x4096x4096 : Shape := ⟨3, ![1, 4096, 4096]⟩
abbrev S8x64x4096 : Shape := ⟨3, ![8, 64, 4096]⟩

abbrev nBuf : Space → Nat
  | .hbm => 172
  | .vmem => 0
  | .smem => 0
  | _ => 0

abbrev hbmTy0_0 (i : Nat) : BufTy := match i % 128 with
  | 0 => ⟨S4096x4096, .f32⟩
  | 1 => ⟨S4096x512, .bf16⟩
  | 2 => ⟨S4096x512, .f32⟩
  | 3 => ⟨S4096x8x64, .f32⟩
  | 4 => ⟨S8x4096x64, .f32⟩
  | 5 => ⟨S4096x512, .f32⟩
  | 6 => ⟨S4096x8x64, .f32⟩
  | 7 => ⟨S8x4096x64, .f32⟩
  | 8 => ⟨S4096x512, .f32⟩
  | 9 => ⟨S4096x8x64, .f32⟩
  | 10 => ⟨S8x4096x64, .f32⟩
  | 11 => ⟨S8x4096x4096, .f32⟩
  | 12 => ⟨S_, .f32⟩
  | 13 => ⟨S8x4096x4096, .f32⟩
  | 14 => ⟨S8x4096x4096, .f32⟩
  | 15 => ⟨S1x4096x4096, .i32⟩
  | 16 => ⟨S1x4096x4096, .i32⟩
  | 17 => ⟨S1x4096x4096, .i1⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .i1⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S_, .f32⟩
  | 33 => ⟨S8x4096x4096, .f32⟩
  | 34 => ⟨S8x4096x4096, .i1⟩
  | 35 => ⟨S_, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S8x4096x4096, .f32⟩
  | 45 => ⟨S8x4096x4096, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x4096x4096, .f32⟩
  | 54 => ⟨S8x4096x4096, .i1⟩
  | 55 => ⟨S_, .f32⟩
  | 56 => ⟨S8x4096x4096, .f32⟩
  | 57 => ⟨S8x4096x4096, .f32⟩
  | 58 => ⟨S8x4096x4096, .f32⟩
  | 59 => ⟨S8x4096x4096, .f32⟩
  | 60 => ⟨S8x4096x4096, .f32⟩
  | 61 => ⟨S_, .f32⟩
  | 62 => ⟨S8x4096x4096, .f32⟩
  | 63 => ⟨S8x4096x4096, .f32⟩
  | 64 => ⟨S8x4096x4096, .f32⟩
  | 65 => ⟨S_, .f32⟩
  | 66 => ⟨S_, .f32⟩
  | 67 => ⟨S8x4096x4096, .i1⟩
  | 68 => ⟨S8x4096x4096, .f32⟩
  | 69 => ⟨S8x4096x4096, .f32⟩
  | 70 => ⟨S_, .f32⟩
  | 71 => ⟨S8x4096x4096, .f32⟩
  | 72 => ⟨S_, .f32⟩
  | 73 => ⟨S_, .f32⟩
  | 74 => ⟨S8x4096x4096, .f32⟩
  | 75 => ⟨S8x4096x4096, .f32⟩
  | 76 => ⟨S8x4096x4096, .f32⟩
  | 77 => ⟨S_, .f32⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .i1⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S_, .f32⟩
  | 92 => ⟨S8x4096x4096, .f32⟩
  | 93 => ⟨S8x4096x4096, .i1⟩
  | 94 => ⟨S_, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S8x4096x4096, .f32⟩
  | 104 => ⟨S8x4096x4096, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S8x4096x4096, .f32⟩
  | 113 => ⟨S8x4096x4096, .i1⟩
  | 114 => ⟨S_, .f32⟩
  | 115 => ⟨S8x4096x4096, .f32⟩
  | 116 => ⟨S8x4096x4096, .f32⟩
  | 117 => ⟨S8x4096x4096, .f32⟩
  | 118 => ⟨S8x4096x4096, .f32⟩
  | 119 => ⟨S8x4096x4096, .f32⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S_, .f32⟩
  | _ => ⟨S4096x4096, .f32⟩

abbrev hbmTy0_1 (i : Nat) : BufTy := match i % 128 with
  | 0 => ⟨S8x4096x4096, .i1⟩
  | 1 => ⟨S8x4096x4096, .f32⟩
  | 2 => ⟨S8x4096x4096, .f32⟩
  | 3 => ⟨S_, .f32⟩
  | 4 => ⟨S8x4096x4096, .f32⟩
  | 5 => ⟨S8x4096x64, .f32⟩
  | 6 => ⟨S4096x512, .f32⟩
  | 7 => ⟨S4096x8x64, .f32⟩
  | 8 => ⟨S8x4096x64, .f32⟩
  | 9 => ⟨S8x64x4096, .f32⟩
  | 10 => ⟨S8x4096x64, .f32⟩
  | 11 => ⟨S8x4096x4096, .f32⟩
  | 12 => ⟨S_, .f32⟩
  | 13 => ⟨S8x4096x4096, .f32⟩
  | 14 => ⟨S8x4096x4096, .f32⟩
  | 15 => ⟨S8x4096x4096, .f32⟩
  | 16 => ⟨S8x4096x4096, .f32⟩
  | 17 => ⟨S8x4096x4096, .f32⟩
  | 18 => ⟨S8x4096x4096, .f32⟩
  | 19 => ⟨S8x4096x4096, .f32⟩
  | 20 => ⟨S_, .f32⟩
  | 21 => ⟨S_, .f32⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S8x4096x64, .f32⟩
  | 34 => ⟨S8x4096x64, .f32⟩
  | 35 => ⟨S4096x8x64, .f32⟩
  | 36 => ⟨S4096x512, .f32⟩
  | 37 => ⟨S4096x512, .bf16⟩
  | 38 => ⟨S4096x8x64, .f32⟩
  | 39 => ⟨S4096x512, .f32⟩
  | 40 => ⟨S4096x512, .bf16⟩
  | 41 => ⟨S4096x8x64, .f32⟩
  | 42 => ⟨S4096x512, .f32⟩
  | 43 => ⟨S4096x512, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v15_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v15_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v15_2 : Ref sig .tc := ⟨.hbm, 63, rfl⟩
abbrev main_v16 : Ref sig .tc := ⟨.hbm, 64, rfl⟩
abbrev main_cst_0 : Ref sig .tc := ⟨.hbm, 65, rfl⟩
abbrev main_call1_v0 : Ref sig .tc := ⟨.hbm, 66, rfl⟩
abbrev main_v17_1 : Ref sig .tc := ⟨.hbm, 67, rfl⟩
abbrev main_call1_v2 : Ref sig .tc := ⟨.hbm, 68, rfl⟩
abbrev main_v17_0 : Ref sig .tc := ⟨.hbm, 69, rfl⟩
abbrev main_call1_cst : Ref sig .tc := ⟨.hbm, 70, rfl⟩
abbrev main_v17_2 : Ref sig .tc := ⟨.hbm, 71, rfl⟩
abbrev main_call2_cst : Ref sig .tc := ⟨.hbm, 72, rfl⟩
abbrev main_call2_v0 : Ref sig .tc := ⟨.hbm, 73, rfl⟩
abbrev main_v18 : Ref sig .tc := ⟨.hbm, 74, rfl⟩
abbrev main_v19 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v20_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v20_2 : Ref sig .tc := ⟨.hbm, 122, rfl⟩
abbrev main_v20_0 : Ref sig .tc := ⟨.hbm, 123, rfl⟩
abbrev main_v21 : Ref sig .tc := ⟨.hbm, 124, rfl⟩
abbrev main_v22 : Ref sig .tc := ⟨.hbm, 125, rfl⟩
abbrev main_cst_1 : Ref sig .tc := ⟨.hbm, 126, rfl⟩
abbrev main_call4_v0 : Ref sig .tc := ⟨.hbm, 127, rfl⟩
abbrev main_v23_1 : Ref sig .tc := ⟨.hbm, 128, rfl⟩
abbrev main_call4_v2 : Ref sig .tc := ⟨.hbm, 129, rfl⟩
abbrev main_v23_0 : Ref sig .tc := ⟨.hbm, 130, rfl⟩
abbrev main_call4_cst : Ref sig .tc := ⟨.hbm, 131, rfl⟩
abbrev main_v23_2 : Ref sig .tc := ⟨.hbm, 132, rfl⟩
abbrev main_v24 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_call5_cst : Ref sig .tc := ⟨.hbm, 140, rfl⟩
abbrev main_call5_v0 : Ref sig .tc := ⟨.hbm, 141, rfl⟩
abbrev main_v31 : Ref sig .tc := ⟨.hbm, 142, rfl⟩
abbrev main_v32 : Ref sig .tc := ⟨.hbm, 143, rfl⟩
abbrev main_call6_v0 : Ref sig .tc := ⟨.hbm, 144, rfl⟩
abbrev main_call6_v1 : Ref sig .tc := ⟨.hbm, 145, rfl⟩
abbrev main_v33 : Ref sig .tc := ⟨.hbm, 146, rfl⟩
abbrev main_v34 : Ref sig .tc := ⟨.hbm, 147, rfl⟩
abbrev main_call7_cst : Ref sig .tc := ⟨.hbm, 148, rfl⟩
abbrev main_call7_v0 : Ref sig .tc := ⟨.hbm, 149, rfl⟩
abbrev main_v35 : Ref sig .tc := ⟨.hbm, 150, rfl⟩
abbrev main_v36 : Ref sig .tc := ⟨.hbm, 151, rfl⟩
abbrev main_call8_cst : Ref sig .tc := ⟨.hbm, 152, rfl⟩
abbrev main_call8_v0 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_cst_2 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩

abbrev nD : Nat := 1
abbrev τ : Topo := Topo.v7x

variable {F : FTy → Type} [FloatOps F]
-- ==== Kernel2.lean ====
abbrev S4096x1024 : Shape := ⟨2, ![4096, 1024]⟩
abbrev S4096x512 : Shape := ⟨2, ![4096, 512]⟩
abbrev S8x1024x512 : Shape := ⟨3, ![8, 1024, 512]⟩
abbrev S512x512 : Shape := ⟨2, ![512, 512]⟩
abbrev S1x1024x512 : Shape := ⟨3, ![1, 1024, 512]⟩
abbrev S1024x512 : Shape := ⟨2, ![1024, 512]⟩
abbrev S512x1024 : Shape := ⟨2, ![512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S8x1024x512, .bf16⟩
  | .local _ .vmem, ⟨0, _⟩ => ⟨S4096x1024, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond4 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond7 (i : grid0.Coords) : BitVec 1 :=
  let arg0 : BitVec 32 := BitVec.ofNat 32 (i 0).val
  let c2_i32 : BitVec 32 := 2#32
  let v8 : BitVec 1 := Scalar.cmpi .eq arg0 c2_i32
  let v9 : BitVec 32 := Scalar.extui v8
  let c0_i32_2 : BitVec 32 := 0#32
  let v10 : BitVec 1 := Scalar.cmpi .ne v9 c0_i32_2
  v10

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond10 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_3 : BitVec 32 := 0#32
  let v13 : BitVec 1 := Scalar.cmpi .ne v12 c0_i32_3
  v13

def k0_off4 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond13 (i : grid0.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_4 : BitVec 32 := 0#32
  let v16 : BitVec 1 := Scalar.cmpi .ne v15 c0_i32_4
  v16

def k0_off5 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond16 (i : grid0.Coords) : BitVec 1 :=
  let arg0 : BitVec 32 := BitVec.ofNat 32 (i 0).val
  let c5_i32 : BitVec 32 := 5#32
  let v17 : BitVec 1 := Scalar.cmpi .eq arg0 c5_i32
  let v18 : BitVec 32 := Scalar.extui v17
  let c0_i32_5 : BitVec 32 := 0#32
  let v19 : BitVec 1 := Scalar.cmpi .ne v18 c0_i32_5
  v19

def k0_off6 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond19 (i : grid0.Coords) : BitVec 1 :=
  let arg0 : BitVec 32 := BitVec.ofNat 32 (i 0).val
  let c6_i32 : BitVec 32 := 6#32
  let v20 : BitVec 1 := Scalar.cmpi .eq arg0 c6_i32
  let v21 : BitVec 32 := Scalar.extui v20
  let c0_i32_6 : BitVec 32 := 0#32
  let v22 : BitVec 1 := Scalar.cmpi .ne v21 c0_i32_6
  v22

def k0_off7 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond22 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_7 : BitVec 32 := 0#32
  let v25 : BitVec 1 := Scalar.cmpi .ne v24 c0_i32_7
  v25

def k0_off8 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v29 : Index := Scalar.indexCast v1
  let c0 : Index := 0#32
  ![v29.toNat, 0]
def k0_cond25 (i : grid0.Coords) : BitVec 1 :=
  let arg1 : BitVec 32 := BitVec.ofNat 32 (i 1).val
  let c7_i32_8 : BitVec 32 := 7#32
  let v26 : BitVec 1 := Scalar.cmpi .eq arg1 c7_i32_8
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S4096x1024 : Shape := ⟨2, ![4096, 1024]⟩
abbrev S4096x512 : Shape := ⟨2, ![4096, 512]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x4096, .bf16⟩
  | .hbm, ⟨10, _⟩ => ⟨S_, .f32⟩
  | .hbm, ⟨11, _⟩ => ⟨S1024x4096, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S1024x4096, .f32⟩
  | .hbm, ⟨17, _⟩ => ⟨S1024x8x512, .f32⟩
  | .hbm, ⟨18, _⟩ => ⟨S8x1024x512, .f32⟩
  | .hbm, ⟨19, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel3.lean ====
abbrev S8x1024x512 : Shape := ⟨3, ![8, 1024, 512]⟩
abbrev S4096x512 : Shape := ⟨2, ![4096, 512]⟩
abbrev S4096x1024 : Shape := ⟨2, ![4096, 1024]⟩
abbrev S512x512 : Shape := ⟨2, ![512, 512]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 10
  | .vmem => 19
  | .smem => 0
  | _ => 0

abbrev bufTy : (tb : Table) → Fin (tcTables nBuf tb) → BufTy
  | .hbm, ⟨0, _⟩ => ⟨S8x1024x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S8x1024x512, .bf16⟩
  | .local _ .vmem, ⟨17, _⟩ => ⟨S512x1024, .f32⟩
  | .local _ .vmem, ⟨18, _⟩ => ⟨S512x1024, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S8x1024x512 : Shape := ⟨3, ![8, 1024, 512]⟩
abbrev S4096x512 : Shape := ⟨2, ![4096, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩
abbrev S4096x1024 : Shape := ⟨2, ![4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S8x1024x512, .f32⟩
  | .hbm, ⟨10, _⟩ => ⟨S1024x8x512, .f32⟩
  | .hbm, ⟨11, _⟩ => ⟨S1024x4096, .f32⟩
  | .hbm, ⟨12, _⟩ => ⟨S4096x4096, .bf16⟩
  | .hbm, ⟨13, _⟩ => ⟨S_, .f32⟩
  | .hbm, ⟨14, _⟩ => ⟨S4096x1024, .f32⟩
  | .hbm, ⟨15, _⟩ => ⟨S4096x4096, .f32⟩
  | .hbm, ⟨16, _⟩ => ⟨S4096x4096, .f32⟩
  | .hbm, ⟨17, _⟩ => ⟨S4096x1024, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel4.lean ====
abbrev S4096x1024 : Shape := ⟨2, ![4096, 1024]⟩
abbrev S8x1024x512 : Shape := ⟨3, ![8, 1024, 512]⟩
abbrev S4096x4096 : Shape := ⟨2, ![4096, 4096]⟩
abbrev S1x1024x512 : Shape := ⟨3, ![1, 1024, 512]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .f32⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S512x512, .f32⟩
  | .local _ .vmem, ⟨4, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S1x1024x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S1x1024x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S4096x1024, .bf16⟩
  | .local _ .vmem, ⟨1, _⟩ => ⟨S512x1024, .bf16⟩
  | .local _ .vmem, ⟨2, _⟩ => ⟨S512x1024, .bf16⟩
  | .local _ .vmem, ⟨3, _⟩ => ⟨S1x1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def k0_cond4 (i : grid0.Coords) : BitVec 1 :=
  let arg1 : BitVec 32 := BitVec.ofNat 32 (i 1).val
  let c7_i32 : BitVec 32 := 7#32
  let v5 : BitVec 1 := Scalar.cmpi .eq arg1 c7_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x1024, .bf16⟩
  | .local _ .vmem, ⟨0, _⟩ => ⟨S4096x1024, .bf16⟩
  | .local _ .vmem, ⟨1, _⟩ => ⟨S512x1024, .f32⟩
  | .local _ .vmem, ⟨2, _⟩ => ⟨S512x1024, .f32⟩
  | .local _ .vmem, ⟨3, _⟩ => ⟨S1x1024x1024, .bf16⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def k0_cond4 (i : grid0.Coords) : BitVec 1 :=
  let arg1 : BitVec 32 := BitVec.ofNat 32 (i 1).val
  let c7_i32 : BitVec 32 := 7#32
  let v5 : BitVec 1 := Scalar.cmpi .eq arg1 c7_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .local _ .vmem, ⟨0, _⟩ => ⟨S4096x1024, .bf16⟩
  | .local _ .vmem, ⟨1, _⟩ => ⟨S1x1024x1024, .bf16⟩
  | .local _ .vmem, ⟨2, _⟩ => ⟨S512x1024, .f32⟩
  | .local _ .vmem, ⟨3, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S1x1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S4096x1024, .f32⟩
  | .local _ .vmem, ⟨0, _⟩ => ⟨S4096x1024, .bf16⟩
  | .local _ .vmem, ⟨1, _⟩ => ⟨S1x1024x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S4096x1024, .f32⟩
  | .hbm, ⟨4, _⟩ => ⟨S1x1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x256 : Shape := ⟨2, ![4096, 256]⟩
abbrev S1x256x1024 : Shape := ⟨3, ![1, 256, 1024]⟩
abbrev S4096x1024 : Shape := ⟨2, ![4096, 1024]⟩
abbrev S512x1024 : Shape := ⟨2, ![512, 1024]⟩
abbrev S512x256 : Shape := ⟨2, ![512, 256]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S1x256x1024, .bf16⟩
  | .hbm, ⟨2, _⟩ => ⟨S4096x1024, .f32⟩
  | .local _ .vmem, ⟨0, _⟩ => ⟨S4096x256, .f32⟩
  | .local _ .vmem, ⟨1, _⟩ => ⟨S1x256x1024, .bf16⟩
  | .local _ .vmem, ⟨2, _⟩ => ⟨S512x1024, .f32⟩
  | .local _ .vmem, ⟨3, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x256 : Shape := ⟨2, ![4096, 256]⟩
abbrev S1x256x1024 : Shape := ⟨3, ![1, 256, 1024]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x256x1024, .bf16⟩
  | .hbm, ⟨2, _⟩ => ⟨S1x256x1024, .f32⟩
  | .hbm, ⟨3, _⟩ => ⟨S256x1024, .f32⟩
  | .hbm, ⟨4, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x256 : Shape := ⟨2, ![4096, 256]⟩
abbrev S4096x1024 : Shape := ⟨2, ![4096, 1024]⟩
abbrev S1x256x1024 : Shape := ⟨3, ![1, 256, 1024]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S1x256x1024, .bf16⟩
  | .local _ .vmem, ⟨0, _⟩ => ⟨S4096x256, .f32⟩
  | .local _ .vmem, ⟨1, _⟩ => ⟨S512x1024, .bf16⟩
  | .local _ .vmem, ⟨2, _⟩ => ⟨S512x1024, .bf16⟩
  | .local _ .vmem, ⟨3, _⟩ => ⟨S1x256x1024, .bf16⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def k0_cond4 (i : grid0.Coords) : BitVec 1 :=
  let arg1 : BitVec 32 := BitVec.ofNat 32 (i 1).val
  let c7_i32 : BitVec 32 := 7#32
  let v5 : BitVec 1 := Scalar.cmpi .eq arg1 c7_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S1x256x1024 : Shape := ⟨3, ![1, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | .hbm, ⟨9, _⟩ => ⟨S1x256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Arr.lean ====
/-
  Real matrices inside the ideal arrays. A matrix `ℕ → ℕ → ℝ` read over an array's indices (`up`) is an array of finite
  numbers; every operation of the kernel's body sends such arrays to such arrays, and this file says to which.
-/
module

public import Idealize.ShloMosaic.Lib.Pointwise
public import Idealize.ShloMosaic.Lib.MatmulPlain
public import Idealize.ShloMosaic.Lib.ValueIdx

@[expose] public section

noncomputable section

open scoped BigOperators Classical
open Idealize.ShloMosaic Idealize.ShloMosaic.ValueIdx

namespace Cert.Arr

/-- A matrix of reals, over all pairs of naturals. -/
abbrev RMat := ℕ → ℕ → ℝ

/-- The matrix read over the indices of an `n × m` array. -/
def up {n m : ℕ} {φ : FTy} (A : RMat) : FVec Ideal ⟨2, ![n, m]⟩ φ := fun i => ((A (i 0).val (i 1).val : ℝ) : EReal)
/-- The same over a `1 × n × m` array. -/
def up1 {n m : ℕ} {φ : FTy} (A : RMat) : FVec Ideal ⟨3, ![1, n, m]⟩ φ := fun i => ((A (i 1).val (i 2).val : ℝ) : EReal)
/-- The same over a `1 × 1 × n × m` array. -/
def up11 {n m : ℕ} {φ : FTy} (A : RMat) : FVec Ideal ⟨4, ![1, 1, n, m]⟩ φ := fun i => ((A (i 2).val (i 3).val : ℝ) : EReal)
/-- A condition on the two coordinates as a mask. -/
def upP {n m : ℕ} (p : ℕ → ℕ → Prop) : IVec ⟨2, ![n, m]⟩ 1 := fun i => if p (i 0).val (i 1).val then 1#1 else 0#1

/-- Elementwise exponential. -/
def expM (A : RMat) : RMat := fun r c => Real.exp (A r c)
/-- Elementwise `log (1 + exp ·)`. -/
def lseM (A : RMat) : RMat := fun r c => Real.log (1 + Real.exp (A r c))
/-- Elementwise absolute value. -/
def absM (A : RMat) : RMat := fun r c => |A r c|
/-- Elementwise maximum. -/
def maxM (A B : RMat) : RMat := fun r c => max (A r c) (B r c)
/-- The first where the condition holds, the second elsewhere. -/
def selM (p : ℕ → ℕ → Prop) (A B : RMat) : RMat := fun r c => if p r c then A r c else B r c
/-- The product over `K` contracted positions. -/
def mmNN (K : ℕ) (A B : RMat) : RMat := fun r c => ∑ k ∈ Finset.range K, A r k * B k c
/-- The product with the second factor transposed. -/
def mmNT (K : ℕ) (A B : RMat) : RMat := fun r c => ∑ k ∈ Finset.range K, A r k * B c k
/-- Column 0 in every column. -/
def colM (A : RMat) : RMat := fun r _ => A r 0
/-- The matrix from row `a` and column `b` on. -/
def shiftM (a b : ℕ) (A : RMat) : RMat := fun r c => A (a + r) (b + c)
/-- `n` rows of the first, then the second's rows. -/
def catM (n : ℕ) (A B : RMat) : RMat := fun r c => if r < n then A r c else B (r - n) c
/-- The transpose. -/
def tM (A : RMat) : RMat := fun r c => A c r
/-- One number everywhere. -/
def constM (x : ℝ) : RMat := fun _ _ => x
/-- One where the row is at least the column. -/
def inclM : RMat := fun r c => if c ≤ r then 1 else 0
/-- One where the row is at most the column. -/
def preM : RMat := fun r c => if r ≤ c then 1 else 0
/-- Column `j` in every column. -/
def pickM (j : ℕ) (A : RMat) : RMat := fun r _ => A r j

variable {n m k : ℕ} {φ ψ : FTy} (A B : RMat)

theorem ofBits_one : Ideal.ofBits .f32 0x3F800000#32 = ((1 : ℝ) : EReal) := by
  simp [Ideal.ofBits, Ideal.ieee]
  rw [← EReal.coe_mul, ← EReal.coe_one]; norm_num

theorem ofBits_eighth : Ideal.ofBits .f32 0x3E000000#32 = ((1/8 : ℝ) : EReal) := by
  simp [Ideal.ofBits, Ideal.ieee]
  rw [← EReal.coe_mul]; norm_num

theorem up_apply (i : (⟨2, ![n, m]⟩ : Shape).Idx) : (up A : FVec Ideal _ φ) i = ((A (i 0).val (i 1).val : ℝ) : EReal) := rfl

theorem addf_up : addf (up A : FVec Ideal ⟨2, ![n, m]⟩ φ) (up B) = up (A + B) := by
  funext i; exact (EReal.coe_add _ _).symm
theorem subf_up : subf (up A : FVec Ideal ⟨2, ![n, m]⟩ φ) (up B) = up (A - B) := by
  funext i; exact (EReal.coe_sub _ _).symm
theorem mulf_up : mulf (up A : FVec Ideal ⟨2, ![n, m]⟩ φ) (up B) = up (A * B) := by
  funext i; exact (EReal.coe_mul _ _).symm
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]
theorem maximumf_up : maximumf (up A : FVec Ideal ⟨2, ![n, m]⟩ φ) (up B) = up (maxM A B) := by
  funext i; exact (coe_max _ _).symm
theorem absf_up : absf (up A : FVec Ideal ⟨2, ![n, m]⟩ φ) = up (absM A) := by
  funext i
  show max ((A (i 0).val (i 1).val : ℝ) : EReal) (-((A (i 0).val (i 1).val : ℝ) : EReal)) = ((|A (i 0).val (i 1).val| : ℝ) : EReal)
  rw [← EReal.coe_neg, ← coe_max]; rfl
theorem exp_up : exp (up A : FVec Ideal ⟨2, ![n, m]⟩ φ) = up (expM A) := by
  funext i; rfl
theorem log_up : log (up (constM 1 + expM A) : FVec Ideal ⟨2, ![n, m]⟩ φ) = up (lseM A) := by
  funext i
  have h : ¬ (1 + Real.exp (A (i 0).val (i 1).val) ≤ 0) := by have := Real.exp_pos (A (i 0).val (i 1).val); linarith
  show Ideal.log (((1 + Real.exp (A (i 0).val (i 1).val) : ℝ)) : EReal) = _
  rw [Ideal.log_coe, if_neg h]; rfl
theorem truncf_up (h : ψ.bits < φ.bits) : truncf ψ (up A : FVec Ideal ⟨2, ![n, m]⟩ φ) h = up A := rfl
theorem extf_up (h : φ.bits < ψ.bits) : extf ψ (up A : FVec Ideal ⟨2, ![n, m]⟩ φ) h = up A := rfl
theorem zero_up : broadcast (⟨2, ![n, m]⟩ : Shape) (Scalar.ofBits (F := Ideal) .f32 0x00000000#32) = up (constM 0) := by
  funext i
  show Ideal.ofBits .f32 0x00000000#32 = ((0 : ℝ) : EReal)
  rw [Ideal.ofBits_zero_f32]; rfl
theorem one_up : broadcast (⟨2, ![n, m]⟩ : Shape) (Scalar.ofBits (F := Ideal) .f32 0x3F800000#32) = up (constM 1) := by
  funext i; exact ofBits_one
theorem eighth_up : broadcast (⟨2, ![n, m]⟩ : Shape) (Scalar.ofBits (F := Ideal) .f32 0x3E000000#32) = up (constM (1/8)) := by
  funext i; exact ofBits_eighth
theorem select_up (p : ℕ → ℕ → Prop) : select (upP p) (up A : FVec Ideal ⟨2, ![n, m]⟩ φ) (up B) = up (selM p A B) := by
  funext i
  show Scalar.select (if p (i 0).val (i 1).val then 1#1 else 0#1) _ _ = (((if p (i 0).val (i 1).val then _ else _ : ℝ)) : EReal)
  split <;> rfl
theorem shapeCast_self_eq {α : Type} {s : Shape} (v : s.Idx → α) (h : s.ShapeCasts s) : shapeCast s v h = v := by
  funext i; pointwise

/-- A row of conditions over all rows. -/
theorem bcRow_up (h : (⟨2, ![1, m]⟩ : Shape).Broadcasts ⟨2, ![n, m]⟩) (p : ℕ → ℕ → Prop) (hm : m ≠ 1) :
    broadcastTo (⟨2, ![n, m]⟩ : Shape) (upP p : IVec ⟨2, ![1, m]⟩ 1) h = upP (fun _ c => p 0 c) := by
  funext i
  simp [broadcastTo, upP, hm]
/-- A column of conditions over all columns. -/
theorem bcCol_up (h : (⟨2, ![n, 1]⟩ : Shape).Broadcasts ⟨2, ![n, m]⟩) (p : ℕ → ℕ → Prop) (hn : n ≠ 1) :
    broadcastTo (⟨2, ![n, m]⟩ : Shape) (upP p : IVec ⟨2, ![n, 1]⟩ 1) h = upP (fun r _ => p r 0) := by
  funext i
  simp [broadcastTo, upP, hn]
/-- A column over all columns. -/
theorem bcColF_up (h : (⟨2, ![n, 1]⟩ : Shape).Broadcasts ⟨2, ![n, m]⟩) (hn : n ≠ 1) :
    broadcastTo (⟨2, ![n, m]⟩ : Shape) (up A : FVec Ideal ⟨2, ![n, 1]⟩ φ) h = up (colM A) := by
  funext i
  simp [broadcastTo, up, colM, hn]
theorem slice_up {n' m' : ℕ} (off : Fin 2 → ℕ) (h : (⟨2, ![n, m]⟩ : Shape).Slices off ⟨2, ![n', m']⟩) :
    extractStridedSlice (⟨2, ![n', m']⟩ : Shape) off (up A : FVec Ideal ⟨2, ![n, m]⟩ φ) h = up (shiftM (off 0) (off 1) A) := rfl
theorem transpose_1024_up (h : (⟨2, ![1024, 128]⟩ : Shape).Transposes [1, 0] ⟨2, ![128, 1024]⟩) :
    transpose (⟨2, ![128, 1024]⟩ : Shape) [1, 0] (up A : FVec Ideal ⟨2, ![1024, 128]⟩ φ) h = up (tM A) := by
  funext i; pointwise [up, tM]
theorem transpose_128_up (h : (⟨2, ![128, 256]⟩ : Shape).Transposes [1, 0] ⟨2, ![256, 128]⟩) :
    transpose (⟨2, ![256, 128]⟩ : Shape) [1, 0] (up A : FVec Ideal ⟨2, ![128, 256]⟩ φ) h = up (tM A) := by
  funext i; pointwise [up, tM]
theorem cast1_up (h : (⟨3, ![1, 128, 256]⟩ : Shape).ShapeCasts ⟨2, ![128, 256]⟩) :
    shapeCast (⟨2, ![128, 256]⟩ : Shape) (up1 A : FVec Ideal ⟨3, ![1, 128, 256]⟩ φ) h = up A := by
  funext i; pointwise [up1, up]
theorem castTo1_up (h : (⟨2, ![128, 256]⟩ : Shape).ShapeCasts ⟨3, ![1, 128, 256]⟩) :
    shapeCast (⟨3, ![1, 128, 256]⟩ : Shape) (up A : FVec Ideal ⟨2, ![128, 256]⟩ φ) h = up1 A := by
  funext i; pointwise [up1, up]
theorem cast11_up (h : (⟨4, ![1, 1, 1024, 128]⟩ : Shape).ShapeCasts ⟨2, ![1024, 128]⟩) :
    shapeCast (⟨2, ![1024, 128]⟩ : Shape) (up11 A : FVec Ideal ⟨4, ![1, 1, 1024, 128]⟩ φ) h = up A := by
  funext i; pointwise [up11, up]
theorem coe_sum_range (K : ℕ) (f : ℕ → ℝ) : ((∑ k ∈ Finset.range K, f k : ℝ) : EReal) = ∑ k : Fin K, ((f k.val : ℝ) : EReal) := by
  rw [Finset.sum_range]
  exact map_sum (⟨⟨Real.toEReal, EReal.coe_zero⟩, EReal.coe_add⟩ : ℝ →+ EReal) _ _
theorem matmul_nn {M K N : ℕ} (d : DotDims ⟨2, ![M, K]⟩ ⟨2, ![K, N]⟩ ⟨2, ![M, N]⟩) (hd : d = DotDims.plain M K N)
    (prec : Option ContractPrecision) :
    matmul d prec (up A : FVec Ideal ⟨2, ![M, K]⟩ φ) (up B : FVec Ideal ⟨2, ![K, N]⟩ ψ) (constant ⟨2, ![M, N]⟩ .f32 0x00000000#32)
      = up (mmNN K A B) := by
  subst hd
  funext i
  obtain ⟨r, c, rfl⟩ : ∃ r c, i = Idealize.ShloMosaic.ValueIdx.ix2 r c := ⟨i 0, i 1, Idealize.ShloMosaic.ValueIdx.eq_ix2 i⟩
  refine (Ideal.matmul_plain_apply prec _ _ _ r c).trans ?_
  show Ideal.ofBits .f32 0x00000000#32 + _ = (((mmNN K A B r.val c.val : ℝ)) : EReal)
  rw [Ideal.ofBits_zero_f32]
  unfold mmNN
  rw [coe_sum_range, zero_add]
  exact Finset.sum_congr rfl fun k _ => (EReal.coe_mul _ _).symm
theorem matmul_nt {M K N : ℕ} (d : DotDims ⟨2, ![M, K]⟩ ⟨2, ![N, K]⟩ ⟨2, ![M, N]⟩) (hd : d = DotDims.transposedRhs M K N)
    (prec : Option ContractPrecision) :
    matmul d prec (up A : FVec Ideal ⟨2, ![M, K]⟩ φ) (up B : FVec Ideal ⟨2, ![N, K]⟩ ψ) (constant ⟨2, ![M, N]⟩ .f32 0x00000000#32)
      = up (mmNT K A B) := by
  subst hd
  funext i
  obtain ⟨r, c, rfl⟩ : ∃ r c, i = Idealize.ShloMosaic.ValueIdx.ix2 r c := ⟨i 0, i 1, Idealize.ShloMosaic.ValueIdx.eq_ix2 i⟩
  refine (Ideal.matmul_transposedRhs_apply prec _ _ _ r c).trans ?_
  show Ideal.ofBits .f32 0x00000000#32 + _ = (((mmNT K A B r.val c.val : ℝ)) : EReal)
  rw [Ideal.ofBits_zero_f32]
  unfold mmNT
  rw [coe_sum_range, zero_add]
  exact Finset.sum_congr rfl fun k _ => (EReal.coe_mul _ _).symm

/-- The sum of a row, as a column. -/
def rowSum (K : ℕ) (A : RMat) : RMat := fun r _ => ∑ k ∈ Finset.range K, A r k

theorem rowSum_1024 (h : (⟨2, ![1024, 128]⟩ : Shape).Reduces [1] ⟨1, ![1024]⟩) (hφ) (ha) (h' : (⟨1, ![1024]⟩ : Shape).ShapeCasts ⟨2, ![1024, 1]⟩) :
    shapeCast (⟨2, ![1024, 1]⟩ : Shape) (multiReduction .add [1] ⟨1, ![1024]⟩ (up A : FVec Ideal ⟨2, ![1024, 128]⟩ .f32) 0x00000000#32 h hφ ha) h'
      = up (rowSum 128 A) := by
  funext i; pointwise [up, rowSum]; rw [coe_sum_range]
theorem rowSum_768 (h : (⟨2, ![768, 128]⟩ : Shape).Reduces [1] ⟨1, ![768]⟩) (hφ) (ha) (h' : (⟨1, ![768]⟩ : Shape).ShapeCasts ⟨2, ![768, 1]⟩) :
    shapeCast (⟨2, ![768, 1]⟩ : Shape) (multiReduction .add [1] ⟨1, ![768]⟩ (up A : FVec Ideal ⟨2, ![768, 128]⟩ .f32) 0x00000000#32 h hφ ha) h'
      = up (rowSum 128 A) := by
  funext i; pointwise [up, rowSum]; rw [coe_sum_range]
theorem rowSum_512 (h : (⟨2, ![512, 128]⟩ : Shape).Reduces [1] ⟨1, ![512]⟩) (hφ) (ha) (h' : (⟨1, ![512]⟩ : Shape).ShapeCasts ⟨2, ![512, 1]⟩) :
    shapeCast (⟨2, ![512, 1]⟩ : Shape) (multiReduction .add [1] ⟨1, ![512]⟩ (up A : FVec Ideal ⟨2, ![512, 128]⟩ .f32) 0x00000000#32 h hφ ha) h'
      = up (rowSum 128 A) := by
  funext i; pointwise [up, rowSum]; rw [coe_sum_range]
theorem rowSum_256 (h : (⟨2, ![256, 128]⟩ : Shape).Reduces [1] ⟨1, ![256]⟩) (hφ) (ha) (h' : (⟨1, ![256]⟩ : Shape).ShapeCasts ⟨2, ![256, 1]⟩) :
    shapeCast (⟨2, ![256, 1]⟩ : Shape) (multiReduction .add [1] ⟨1, ![256]⟩ (up A : FVec Ideal ⟨2, ![256, 128]⟩ .f32) 0x00000000#32 h hφ ha) h'
      = up (rowSum 128 A) := by
  funext i; pointwise [up, rowSum]; rw [coe_sum_range]
theorem cat_256_1_up (h) :
    concatenate (⟨2, ![1024, 1]⟩ : Shape) 0 [⟨⟨2, ![256, 1]⟩, (up A : FVec Ideal ⟨2, ![256, 1]⟩ φ)⟩, ⟨⟨2, ![768, 1]⟩, (up B : FVec Ideal ⟨2, ![768, 1]⟩ φ)⟩] h
      = up (catM 256 A B) := by
  funext i; pointwise [up, catM]; split <;> rfl
theorem cat_512_1_up (h) :
    concatenate (⟨2, ![1024, 1]⟩ : Shape) 0 [⟨⟨2, ![512, 1]⟩, (up A : FVec Ideal ⟨2, ![512, 1]⟩ φ)⟩, ⟨⟨2, ![512, 1]⟩, (up B : FVec Ideal ⟨2, ![512, 1]⟩ φ)⟩] h
      = up (catM 512 A B) := by
  funext i; pointwise [up, catM]; split <;> rfl
theorem cat_768_128_up (h) :
    concatenate (⟨2, ![1024, 128]⟩ : Shape) 0 [⟨⟨2, ![768, 128]⟩, (up A : FVec Ideal ⟨2, ![768, 128]⟩ φ)⟩, ⟨⟨2, ![256, 128]⟩, (up B : FVec Ideal ⟨2, ![256, 128]⟩ φ)⟩] h
      = up (catM 768 A B) := by
  funext i; pointwise [up, catM]; split <;> rfl
theorem cat_256_128_up (h) :
    concatenate (⟨2, ![1024, 128]⟩ : Shape) 0 [⟨⟨2, ![256, 128]⟩, (up A : FVec Ideal ⟨2, ![256, 128]⟩ φ)⟩, ⟨⟨2, ![768, 128]⟩, (up B : FVec Ideal ⟨2, ![768, 128]⟩ φ)⟩] h
      = up (catM 256 A B) := by
  funext i; pointwise [up, catM]; split <;> rfl
theorem cat_512_128_up (h) :
    concatenate (⟨2, ![1024, 128]⟩ : Shape) 0 [⟨⟨2, ![512, 128]⟩, (up A : FVec Ideal ⟨2, ![512, 128]⟩ φ)⟩, ⟨⟨2, ![512, 128]⟩, (up B : FVec Ideal ⟨2, ![512, 128]⟩ φ)⟩] h
      = up (catM 512 A B) := by
  funext i; pointwise [up, catM]; split <;> rfl

/-- Lane numbers below 64. -/
theorem lane_lt : cmpi .slt (iota .tc (⟨2, ![1, 128]⟩ : Shape) 32 [1]) (broadcast (⟨2, ![1, 128]⟩ : Shape) 64#32) = upP (fun _ c => c < 64) := by
  funext i
  have h : ∀ x : Fin 128, IntOp.cmpi .slt (BitVec.ofNat 32 (0 * 128 + x.val)) 64#32 = if x.val < 64 then 1#1 else 0#1 := by decide
  exact (h (i 1)).trans (by unfold upP; congr)
/-- Row numbers below 64. -/
theorem row_lt : cmpi .slt (iota .tc (⟨2, ![128, 1]⟩ : Shape) 32 [0]) (broadcast (⟨2, ![128, 1]⟩ : Shape) 64#32) = upP (fun r _ => r < 64) := by
  funext i
  have h : ∀ x : Fin 128, IntOp.cmpi .slt (BitVec.ofNat 32 (0 * 128 + x.val)) 64#32 = if x.val < 64 then 1#1 else 0#1 := by decide
  exact (h (i 0)).trans (by unfold upP; congr)
/-- The lane whose number is `j`. -/
theorem lane_eq (j : ℕ) (hj : j < 128) : cmpi .eq (iota .tc (⟨2, ![1, 128]⟩ : Shape) 32 [1]) (broadcast (⟨2, ![1, 128]⟩ : Shape) (BitVec.ofNat 32 j)) = upP (fun _ c => c = j) := by
  funext i
  have h : ∀ j x : Fin 128, IntOp.cmpi .eq (BitVec.ofNat 32 (0 * 128 + x.val)) (BitVec.ofNat 32 j.val) = if x.val = j.val then 1#1 else 0#1 := by
    intro j x
    have hx := x.isLt; have hj := j.isLt
    simp only [IntOp.cmpi, zero_mul, zero_add]
    by_cases h : x.val = j.val
    · simp [h]
    · have : BitVec.ofNat 32 x.val ≠ BitVec.ofNat 32 j.val := by
        intro h'
        apply h
        have := congrArg BitVec.toNat h'
        simp at this; omega
      rw [if_neg h, beq_eq_false_iff_ne.mpr this]; rfl
  exact (h ⟨j, hj⟩ (i 1)).trans (by unfold upP; congr)
/-- One column number against one row number. -/
theorem word_slt (a b : ℕ) (ha : a < 2 ^ 31) (hb : b < 2 ^ 31) : IntOp.cmpi .slt (BitVec.ofNat 32 a) (BitVec.ofNat 32 b) = if a < b then 1#1 else 0#1 := by
  have e : ∀ x, x < 2 ^ 31 → (BitVec.ofNat 32 x).toInt = (x : ℤ) := by
    intro x hx; rw [BitVec.toInt_ofNat']; simp only [Int.bmod]; omega
  simp only [IntOp.cmpi, BitVec.slt, e a ha, e b hb]
  by_cases h : a < b
  · simp [h]
  · simp [h]
theorem sitofp_ite (p : Prop) [Decidable p] (q : Prop) [Decidable q] (h : p ↔ q) (φ : FTy) :
    FloatOps.sitofp (F := Ideal) φ ((if p then 1#1 else 0#1 : BitVec 1).zeroExtend 32) = (((if q then 1 else 0 : ℝ)) : EReal) := by
  by_cases hp : p
  · rw [if_pos hp, if_pos (h.mp hp)]
    show (((BitVec.zeroExtend 32 1#1).toInt : ℝ) : EReal) = _
    norm_num
  · rw [if_neg hp, if_neg (fun hq => hp (h.mpr hq))]
    show (((BitVec.zeroExtend 32 0#1).toInt : ℝ) : EReal) = _
    norm_num
theorem word_sle (a b : ℕ) (ha : a < 2 ^ 31) (hb : b < 2 ^ 31) : IntOp.cmpi .sle (BitVec.ofNat 32 a) (BitVec.ofNat 32 b) = if a ≤ b then 1#1 else 0#1 := by
  have e : ∀ x, x < 2 ^ 31 → (BitVec.ofNat 32 x).toInt = (x : ℤ) := by
    intro x hx; rw [BitVec.toInt_ofNat']; simp only [Int.bmod]; omega
  simp only [IntOp.cmpi, BitVec.sle, e a ha, e b hb]
  by_cases h : a ≤ b
  · simp [h]
  · simp [h]
theorem sge_indicator (h0) (h1) (h) : sitofp (F := Ideal) .f32 (extui 32 (cmpi .sge (iota .tc (⟨2, ![256, 256]⟩ : Shape) 32 [0] h0) (iota .tc (⟨2, ![256, 256]⟩ : Shape) 32 [1] h1)) h) = up inclM := by
  funext i
  have h0 : (i 0).val < 256 := (i 0).isLt
  have h1 : (i 1).val < 256 := (i 1).isLt
  show FloatOps.sitofp (F := Ideal) .f32 ((IntOp.cmpi .sle (BitVec.ofNat 32 (0 * 256 + (i 1).val)) (BitVec.ofNat 32 (0 * 256 + (i 0).val))).zeroExtend 32) = _
  rw [word_sle _ _ (by omega) (by omega)]
  exact sitofp_ite _ _ (by omega) _
theorem sle_indicator (h0) (h1) (h) : sitofp (F := Ideal) .f32 (extui 32 (cmpi .sle (iota .tc (⟨2, ![256, 256]⟩ : Shape) 32 [0] h0) (iota .tc (⟨2, ![256, 256]⟩ : Shape) 32 [1] h1)) h) = up preM := by
  funext i
  have h0 : (i 0).val < 256 := (i 0).isLt
  have h1 : (i 1).val < 256 := (i 1).isLt
  show FloatOps.sitofp (F := Ideal) .f32 ((IntOp.cmpi .sle (BitVec.ofNat 32 (0 * 256 + (i 0).val)) (BitVec.ofNat 32 (0 * 256 + (i 1).val))).zeroExtend 32) = _
  rw [word_sle _ _ (by omega) (by omega)]
  exact sitofp_ite _ _ (by omega) _
theorem causal_mask (a b : ℕ) (ha : a < 2 ^ 30) (hb : b < 2 ^ 30) (hn : n < 2 ^ 30) (hm : m < 2 ^ 30) (h0) (h1) :
    cmpi .slt (addi (broadcast (⟨2, ![n, m]⟩ : Shape) (BitVec.ofNat 32 b)) (iota .tc (⟨2, ![n, m]⟩ : Shape) 32 [1] h1))
        (addi (broadcast (⟨2, ![n, m]⟩ : Shape) (BitVec.ofNat 32 a)) (iota .tc (⟨2, ![n, m]⟩ : Shape) 32 [0] h0))
      = upP (fun r c => b + c < a + r) := by
  funext i
  have h0 : (i 0).val < n := (i 0).isLt
  have h1 : (i 1).val < m := (i 1).isLt
  show IntOp.cmpi .slt (BitVec.ofNat 32 b + BitVec.ofNat 32 (0 * m + (i 1).val)) (BitVec.ofNat 32 a + BitVec.ofNat 32 (0 * n + (i 0).val)) = _
  rw [← BitVec.ofNat_add, ← BitVec.ofNat_add, word_slt _ _ (by omega) (by omega)]
  simp only [zero_mul, zero_add]; unfold upP; congr
theorem pick_lane (j : ℕ) (hj : j < 128) : rowSum 128 (selM (fun _ c => c = j) A (constM 0)) = pickM j A := by
  funext r c
  simp only [rowSum, selM, constM, pickM]
  refine (Finset.sum_eq_single j ?_ ?_).trans (if_pos rfl)
  · intro b _ hb; exact if_neg hb
  · intro h; exact absurd (Finset.mem_range.mpr hj) h

end Cert.Arr
end
-- ==== Proof.Tile.lean ====
/-
  One key tile of the attention's gradient on real matrices, as the body computes it; and the readings of the products
  and loads the body does.
-/
module

public import proofs.«01_k».proof.Proof.Arr
public import Idealize.ShloMosaic.Lib.WritesUnit
public import proofs.«01_k».proof.Proof.Gen.KernelIdeal.Loops

@[expose] public section

set_option maxRecDepth 16384

noncomputable section

open scoped BigOperators Classical
open Idealize.ShloMosaic Idealize.ShloMosaic.ValueIdx Idealize.SL Idealize.SL.Sem

namespace Cert.Arr

/-- The lanes of the pair's first head. -/
def lowM (A : RMat) : RMat := selM (fun _ c => c < 64) A (constM 0)
/-- The lanes of the pair's second head. -/
def highM (A : RMat) : RMat := selM (fun _ c => c < 64) (constM 0) A

/-- The softplus of the scores where the mask holds. -/
def tSp (p : ℕ → ℕ → Prop) (q k : RMat) : RMat :=
  selM p (maxM (mmNT 128 q k) (constM 0) + lseM (constM 0 - absM (mmNT 128 q k))) (constM 0)
/-- The stick-breaking weights of the tile. -/
def tW (p : ℕ → ℕ → Prop) (q k c : RMat) : RMat :=
  selM p (expM (mmNT 128 q k - mmNN 256 (tSp p q k) inclM + colM c)) (constM 0)
/-- The weights times the products of the output's gradient with the values. -/
def tE (p : ℕ → ℕ → Prop) (q k v d c : RMat) : RMat := tW p q k c * mmNT 128 d v
/-- Its prefix sums within the tile. -/
def tPre (p : ℕ → ℕ → Prop) (q k v d c : RMat) : RMat := mmNN 256 (tE p q k v d c) preM
/-- The scores' gradient on the tile, from the prefix `ec` carried in. -/
def tDz (p : ℕ → ℕ → Prop) (q k v d c ec : RMat) : RMat :=
  selM p (tE p q k v d c - expM (mmNT 128 q k - tSp p q k) * (colM ec + tPre p q k v d c)) (constM 0)
/-- The prefix handed on. -/
def tEc (p : ℕ → ℕ → Prop) (q k v d c ec : RMat) : RMat := ec + shiftM 0 255 (tPre p q k v d c)

theorem selM_true (A B : RMat) : selM (fun _ _ => True) A B = A := by
  funext r c; simp [selM]

theorem iv_word (k : ℕ) : Scf.iv 0#32 1#32 k = BitVec.ofNat 32 k := by
  simp [Scf.iv]

/-- A stack of matrices as a `16 × 128 × 256` array. -/
def upS (S : ℕ → RMat) : FVec Ideal ⟨3, ![16, 128, 256]⟩ .f32 := fun i => ((S (i 0).val (i 1).val (i 2).val : ℝ) : EReal)

section loads
variable {sig : RefSig} {κ : Kind} {sp : Space}

/-- What a load of a block of a two-axis buffer reads. -/
theorem readAt_up {n m n' m' : ℕ} (v : View sig κ sp ⟨2, ![n, m]⟩ .f32) (f : v.ty.Contents (Elt Ideal))
    (K : RMat) (hf : v.read (Elt Ideal) f = (up K : FVec Ideal ⟨2, ![n, m]⟩ .f32)) (off : Fin 2 → ℕ) (a b : ℕ) (hoff : off = ![a, b])
    (inb) : v.readAt (Elt Ideal) (Rect.unit (s := ⟨2, ![n, m]⟩) off ![n', m'] inb).toLoadRect f = (up (shiftM a b K) : FVec Ideal ⟨2, ![n', m']⟩ .f32) := by
  subst hoff
  funext x
  show v.read (Elt Ideal) f _ = _
  rw [hf]
  show ((K (a + 1 * (x 0).val) (b + 1 * (x 1).val) : ℝ) : EReal) = _
  rw [one_mul, one_mul]; rfl

/-- What a load of one matrix of the stack reads. -/
theorem readAt_upS (v : View sig κ sp ⟨3, ![16, 128, 256]⟩ .f32) (f : v.ty.Contents (Elt Ideal))
    (S : ℕ → RMat) (hf : v.read (Elt Ideal) f = upS S) (off : Fin 3 → ℕ) (j : ℕ) (hoff : off = ![j, 0, 0])
    (inb) : v.readAt (Elt Ideal) (Rect.unit (s := ⟨3, ![16, 128, 256]⟩) off ![1, 128, 256] inb).toLoadRect f = (up1 (S j) : FVec Ideal ⟨3, ![1, 128, 256]⟩ .f32) := by
  subst hoff
  funext x
  show v.read (Elt Ideal) f _ = _
  rw [hf]
  have h0 : (x 0).val = 0 := by have : (x 0).val < 1 := (x 0).isLt; omega
  show ((S (j + 1 * (x 0).val) (0 + 1 * (x 1).val) (0 + 1 * (x 2).val) : ℝ) : EReal) = _
  rw [h0, one_mul, one_mul, one_mul, add_zero, zero_add, zero_add]; rfl

/-- What the stack reads after a store of one matrix. -/
theorem read_store (v : View sig κ sp ⟨3, ![16, 128, 256]⟩ .f32) (f : v.ty.Contents (Elt Ideal)) (L : List (View.Piece (Elt Ideal) ⟨3, ![16, 128, 256]⟩ .f32))
    (S : ℕ → RMat) (hf : v.read (Elt Ideal) (v.writes (Elt Ideal) f L) = upS S) (off : Fin 3 → ℕ) (j : ℕ) (hoff : off = ![j, 0, 0])
    (inb) (A : RMat) : v.read (Elt Ideal) (v.writes (Elt Ideal) f (⟨Rect.unit (s := ⟨3, ![16, 128, 256]⟩) off ![1, 128, 256] inb, (up1 A : FVec Ideal ⟨3, ![1, 128, 256]⟩ .f32)⟩ :: L))
      = upS (Function.update S j A) := by
  funext y
  rw [View.read_writes_cons_unit v f inb _ L y hoff, hf]
  have h1 : (y 1).val < 128 := (y 1).isLt
  have h2 : (y 2).val < 256 := (y 2).isLt
  by_cases h : (y 0).val = j
  · rw [dif_pos (by
      intro a
      match a with
      | 0 => exact ⟨h.ge, by show (y 0).val < j + 1; omega⟩
      | 1 => exact ⟨Nat.zero_le _, by show (y 1).val < 0 + 128; omega⟩
      | 2 => exact ⟨Nat.zero_le _, by show (y 2).val < 0 + 256; omega⟩)]
    subst h
    simp only [upS, Function.update_self]; rfl
  · rw [dif_neg (fun hc => h (by
      have := hc 0
      have h3 : j ≤ (y 0).val := this.1
      have h4 : (y 0).val < j + 1 := this.2
      omega))]
    simp only [upS, Function.update_of_ne h]
end loads

/-! ### The products of the body -/
section products
open Cert.KernelIdeal Cert.KernelIdeal.Gen
variable {φ ψ : FTy} (A B : RMat) (prec : Option ContractPrecision)
theorem mm_1024x128_256x128_t : matmul dot_S1024x128_S256x128_S1024x256_1_1_0_0_n_n prec (up A : FVec Ideal S1024x128 φ) (up B : FVec Ideal S256x128 ψ) (constant S1024x256 .f32 0x00000000#32) = up (mmNT 128 A B) :=
  matmul_nt A B _ rfl prec
theorem mm_1024x256_256x256_n : matmul dot_S1024x256_S256x256_S1024x256_1_0_0_1_n_n prec (up A : FVec Ideal S1024x256 φ) (up B : FVec Ideal S256x256 ψ) (constant S1024x256 .f32 0x00000000#32) = up (mmNN 256 A B) :=
  matmul_nn A B _ rfl prec
theorem mm_1024x256_256x128_n : matmul dot_S1024x256_S256x128_S1024x128_1_0_0_1_n_n prec (up A : FVec Ideal S1024x256 φ) (up B : FVec Ideal S256x128 ψ) (constant S1024x128 .f32 0x00000000#32) = up (mmNN 256 A B) :=
  matmul_nn A B _ rfl prec
theorem mm_128x1024_1024x256_n : matmul dot_S128x1024_S1024x256_S128x256_1_0_0_1_n_n prec (up A : FVec Ideal S128x1024 φ) (up B : FVec Ideal S1024x256 ψ) (constant S128x256 .f32 0x00000000#32) = up (mmNN 1024 A B) :=
  matmul_nn A B _ rfl prec
theorem mm_768x128_256x128_t : matmul dot_S768x128_S256x128_S768x256_1_1_0_0_n_n prec (up A : FVec Ideal S768x128 φ) (up B : FVec Ideal S256x128 ψ) (constant S768x256 .f32 0x00000000#32) = up (mmNT 128 A B) :=
  matmul_nt A B _ rfl prec
theorem mm_768x256_256x256_n : matmul dot_S768x256_S256x256_S768x256_1_0_0_1_n_n prec (up A : FVec Ideal S768x256 φ) (up B : FVec Ideal S256x256 ψ) (constant S768x256 .f32 0x00000000#32) = up (mmNN 256 A B) :=
  matmul_nn A B _ rfl prec
theorem mm_768x256_256x128_n : matmul dot_S768x256_S256x128_S768x128_1_0_0_1_n_n prec (up A : FVec Ideal S768x256 φ) (up B : FVec Ideal S256x128 ψ) (constant S768x128 .f32 0x00000000#32) = up (mmNN 256 A B) :=
  matmul_nn A B _ rfl prec
theorem mm_128x768_768x256_n : matmul dot_S128x768_S768x256_S128x256_1_0_0_1_n_n prec (up A : FVec Ideal S128x768 φ) (up B : FVec Ideal S768x256 ψ) (constant S128x256 .f32 0x00000000#32) = up (mmNN 768 A B) :=
  matmul_nn A B _ rfl prec
theorem mm_512x128_256x128_t : matmul dot_S512x128_S256x128_S512x256_1_1_0_0_n_n prec (up A : FVec Ideal S512x128 φ) (up B : FVec Ideal S256x128 ψ) (constant S512x256 .f32 0x00000000#32) = up (mmNT 128 A B) :=
  matmul_nt A B _ rfl prec
theorem mm_512x256_256x256_n : matmul dot_S512x256_S256x256_S512x256_1_0_0_1_n_n prec (up A : FVec Ideal S512x256 φ) (up B : FVec Ideal S256x256 ψ) (constant S512x256 .f32 0x00000000#32) = up (mmNN 256 A B) :=
  matmul_nn A B _ rfl prec
theorem mm_512x256_256x128_n : matmul dot_S512x256_S256x128_S512x128_1_0_0_1_n_n prec (up A : FVec Ideal S512x256 φ) (up B : FVec Ideal S256x128 ψ) (constant S512x128 .f32 0x00000000#32) = up (mmNN 256 A B) :=
  matmul_nn A B _ rfl prec
theorem mm_128x512_512x256_n : matmul dot_S128x512_S512x256_S128x256_1_0_0_1_n_n prec (up A : FVec Ideal S128x512 φ) (up B : FVec Ideal S512x256 ψ) (constant S128x256 .f32 0x00000000#32) = up (mmNN 512 A B) :=
  matmul_nn A B _ rfl prec
theorem mm_256x128_256x128_t : matmul dot_S256x128_S256x128_S256x256_1_1_0_0_n_n prec (up A : FVec Ideal S256x128 φ) (up B : FVec Ideal S256x128 ψ) (constant S256x256 .f32 0x00000000#32) = up (mmNT 128 A B) :=
  matmul_nt A B _ rfl prec
theorem mm_256x256_256x256_n : matmul dot_S256x256_S256x256_S256x256_1_0_0_1_n_n prec (up A : FVec Ideal S256x256 φ) (up B : FVec Ideal S256x256 ψ) (constant S256x256 .f32 0x00000000#32) = up (mmNN 256 A B) :=
  matmul_nn A B _ rfl prec
theorem mm_256x256_256x128_n : matmul dot_S256x256_S256x128_S256x128_1_0_0_1_n_n prec (up A : FVec Ideal S256x256 φ) (up B : FVec Ideal S256x128 ψ) (constant S256x128 .f32 0x00000000#32) = up (mmNN 256 A B) :=
  matmul_nn A B _ rfl prec
theorem mm_128x256_256x256_n : matmul dot_S128x256_S256x256_S128x256_1_0_0_1_n_n prec (up A : FVec Ideal S128x256 φ) (up B : FVec Ideal S256x256 ψ) (constant S128x256 .f32 0x00000000#32) = up (mmNN 256 A B) :=
  matmul_nn A B _ rfl prec
theorem rowS_1024 (A : RMat) : shapeCast S1024x1 (multiReduction .add [1] S1024 (up A : FVec Ideal S1024x128 .f32) 0x00000000#32 reduces_S1024x128_S1024 (.inl rfl) rfl) shapeCasts_S1024_S1024x1
    = up (rowSum 128 A) := rowSum_1024 A _ _ _ _
theorem rowS_768 (A : RMat) : shapeCast S768x1 (multiReduction .add [1] S768 (up A : FVec Ideal S768x128 .f32) 0x00000000#32 reduces_S768x128_S768 (.inl rfl) rfl) shapeCasts_S768_S768x1
    = up (rowSum 128 A) := rowSum_768 A _ _ _ _
theorem rowS_512 (A : RMat) : shapeCast S512x1 (multiReduction .add [1] S512 (up A : FVec Ideal S512x128 .f32) 0x00000000#32 reduces_S512x128_S512 (.inl rfl) rfl) shapeCasts_S512_S512x1
    = up (rowSum 128 A) := rowSum_512 A _ _ _ _
theorem rowS_256 (A : RMat) : shapeCast S256x1 (multiReduction .add [1] S256 (up A : FVec Ideal S256x128 .f32) 0x00000000#32 reduces_S256x128_S256 (.inl rfl) rfl) shapeCasts_S256_S256x1
    = up (rowSum 128 A) := rowSum_256 A _ _ _ _
theorem pay160_eq : k0_pay160 (F := Ideal) = up inclM := by
  unfold k0_pay160
  dsimp only
  rw [sge_indicator, truncf_up]
theorem pay161_eq : k0_pay161 (F := Ideal) = up preM := by
  unfold k0_pay161
  dsimp only
  rw [sle_indicator, truncf_up]
theorem trS_1024 (A : RMat) (h) : transpose S128x1024 [1, 0] (up A : FVec Ideal S1024x128 .f32) h = up (tM A) := transpose_1024_up A h
theorem trS_128 (A : RMat) (h) : transpose S256x128 [1, 0] (up A : FVec Ideal S128x256 .f32) h = up (tM A) := transpose_128_up A h
/-- The sums of the rows of a block of 1024 rows. -/
def red1024 (A : FVec Ideal S1024x128 .f32) : FVec Ideal S1024 .f32 := multiReduction .add [1] S1024 A 0x00000000#32 reduces_S1024x128_S1024 (.inl rfl) rfl
theorem red1024_up (A : RMat) : shapeCast S1024x1 (red1024 (up A)) shapeCasts_S1024_S1024x1 = up (rowSum 128 A) := rowS_1024 A
/-- The sums of the rows of a block of 768 rows. -/
def red768 (A : FVec Ideal S768x128 .f32) : FVec Ideal S768 .f32 := multiReduction .add [1] S768 A 0x00000000#32 reduces_S768x128_S768 (.inl rfl) rfl
theorem red768_up (A : RMat) : shapeCast S768x1 (red768 (up A)) shapeCasts_S768_S768x1 = up (rowSum 128 A) := rowS_768 A
/-- The sums of the rows of a block of 512 rows. -/
def red512 (A : FVec Ideal S512x128 .f32) : FVec Ideal S512 .f32 := multiReduction .add [1] S512 A 0x00000000#32 reduces_S512x128_S512 (.inl rfl) rfl
theorem red512_up (A : RMat) : shapeCast S512x1 (red512 (up A)) shapeCasts_S512_S512x1 = up (rowSum 128 A) := rowS_512 A
/-- The sums of the rows of a block of 256 rows. -/
def red256 (A : FVec Ideal S256x128 .f32) : FVec Ideal S256 .f32 := multiReduction .add [1] S256 A 0x00000000#32 reduces_S256x128_S256 (.inl rfl) rfl
theorem red256_up (A : RMat) : shapeCast S256x1 (red256 (up A)) shapeCasts_S256_S256x1 = up (rowSum 128 A) := rowS_256 A
theorem red_k0_pay8 (i : grid0.Coords) (v3 : IVec S1x128 32) (v57 : FVec Ideal S1024x128 .f32) (c0_i32_22 : BitVec 32) (c1_i32_23 : BitVec 32) (k0_t1 : Fin (k0_t1_loop i).trips) : k0_pay8 (F := Ideal) i v3 v57 c0_i32_22 c1_i32_23 k0_t1 =
  (let arg12 : BitVec 32 := Scf.iv c0_i32_22 c1_i32_23 k0_t1
  let v750 : BitVec 32 := Scalar.muli arg12 2#32
  let v751 : BitVec 32 := Scalar.addi v750 0#32
  have v773 : IVec S1x128 32 := broadcast S1x128 v751
  have v774 : IVec S1x128 1 := cmpi .eq v3 v773
  have cst_238 : Ideal .f32 := Scalar.ofBits .f32 0x00000000#32
  have v775 : IVec S1x128 1 := shapeCast S1x128 v774 shapeCasts_S1x128_S1x128
  have v776 : IVec S1024x128 1 := broadcastTo S1024x128 v775 broadcasts_S1x128_S1024x128
  have v777 : FVec Ideal S1024x128 .f32 := broadcast S1024x128 cst_238
  have v778 : FVec Ideal S1024x128 .f32 := select v776 v57 v777
  have v779 : FVec Ideal S1024 .f32 := red1024 v778
  have v780 : FVec Ideal S1024x1 .f32 := shapeCast S1024x1 v779 shapeCasts_S1024_S1024x1
  v780 : FVec Ideal S1024x1 .f32) := rfl
theorem red_k0_pay21 (v3 : IVec S1x128 32) (v59 : FVec Ideal S1024x128 .f32) (v751 : BitVec 32) : k0_pay21 (F := Ideal) v3 v59 v751 =
  (have v819 : IVec S1x128 32 := broadcast S1x128 v751
  have v820 : IVec S1x128 1 := cmpi .eq v3 v819
  have cst_250 : Ideal .f32 := Scalar.ofBits .f32 0x00000000#32
  have v821 : IVec S1x128 1 := shapeCast S1x128 v820 shapeCasts_S1x128_S1x128
  have v822 : IVec S1024x128 1 := broadcastTo S1024x128 v821 broadcasts_S1x128_S1024x128
  have v823 : FVec Ideal S1024x128 .f32 := broadcast S1024x128 cst_250
  have v824 : FVec Ideal S1024x128 .f32 := select v822 v59 v823
  have v825 : FVec Ideal S1024 .f32 := red1024 v824
  have v826 : FVec Ideal S1024x1 .f32 := shapeCast S1024x1 v825 shapeCasts_S1024_S1024x1
  v826 : FVec Ideal S1024x1 .f32) := rfl
theorem red_k0_pay44 (v3 : IVec S1x128 32) (v57 : FVec Ideal S1024x128 .f32) (v882 : BitVec 32) (c1_i32_271 : BitVec 32) : k0_pay44 (F := Ideal) v3 v57 v882 c1_i32_271 =
  (let v883 : BitVec 32 := Scalar.addi v882 c1_i32_271
  have v905 : IVec S1x128 32 := broadcast S1x128 v883
  have v906 : IVec S1x128 1 := cmpi .eq v3 v905
  have cst_280 : Ideal .f32 := Scalar.ofBits .f32 0x00000000#32
  have v907 : IVec S1x128 1 := shapeCast S1x128 v906 shapeCasts_S1x128_S1x128
  have v908 : IVec S1024x128 1 := broadcastTo S1024x128 v907 broadcasts_S1x128_S1024x128
  have v909 : FVec Ideal S1024x128 .f32 := broadcast S1024x128 cst_280
  have v910 : FVec Ideal S1024x128 .f32 := select v908 v57 v909
  have v911 : FVec Ideal S1024 .f32 := red1024 v910
  have v912 : FVec Ideal S1024x1 .f32 := shapeCast S1024x1 v911 shapeCasts_S1024_S1024x1
  have v927 : FVec Ideal S1024x256 .f32 := broadcastTo S1024x256 v912 broadcasts_S1024x1_S1024x256
  v927 : FVec Ideal S1024x256 .f32) := rfl
theorem red_k0_pay56 (v3 : IVec S1x128 32) (v23 : FVec Ideal S1024x128 .bf16) (v59 : FVec Ideal S1024x128 .f32) (v65 : FVec Ideal S256x256 .bf16) (v883 : BitVec 32) (v888 : FVec Ideal S256x128 .bf16) : k0_pay56 (F := Ideal) v3 v23 v59 v65 v883 v888 =
  (have v951 : IVec S1x128 32 := broadcast S1x128 v883
  have v952 : IVec S1x128 1 := cmpi .eq v3 v951
  have cst_292 : Ideal .f32 := Scalar.ofBits .f32 0x00000000#32
  have v953 : IVec S1x128 1 := shapeCast S1x128 v952 shapeCasts_S1x128_S1x128
  have v954 : IVec S1024x128 1 := broadcastTo S1024x128 v953 broadcasts_S1x128_S1024x128
  have v955 : FVec Ideal S1024x128 .f32 := broadcast S1024x128 cst_292
  have v956 : FVec Ideal S1024x128 .f32 := select v954 v59 v955
  have v957 : FVec Ideal S1024 .f32 := red1024 v956
  have v958 : FVec Ideal S1024x1 .f32 := shapeCast S1024x1 v957 shapeCasts_S1024_S1024x1
  have v972 : FVec Ideal S1024x256 .f32 := subf (k0_pay53 v23 v888) (k0_pay55 v23 v65 v888)
  have v973 : FVec Ideal S1024x256 .f32 := broadcastTo S1024x256 v958 broadcasts_S1024x1_S1024x256
  have v974 : FVec Ideal S1024x256 .f32 := addf v972 v973
  have v975 : FVec Ideal S1024x256 .f32 := exp v974
  v975 : FVec Ideal S1024x256 .f32) := rfl
theorem red_k0_pay64 (i : grid0.Coords) (v3 : IVec S1x128 32) (v57 : FVec Ideal S1024x128 .f32) (v79 : BitVec 32) (c1_i32_24 : BitVec 32) (k0_t2 : Fin (k0_t2_loop i).trips) : k0_pay64 (F := Ideal) i v3 v57 v79 c1_i32_24 k0_t2 =
  (let arg12 : BitVec 32 := Scf.iv v79 c1_i32_24 k0_t2
  let v750 : BitVec 32 := Scalar.muli arg12 2#32
  let v751 : BitVec 32 := Scalar.addi v750 0#32
  have v773 : IVec S1x128 32 := broadcast S1x128 v751
  have v774 : IVec S1x128 1 := cmpi .eq v3 v773
  have cst_238 : Ideal .f32 := Scalar.ofBits .f32 0x00000000#32
  have v775 : IVec S1x128 1 := shapeCast S1x128 v774 shapeCasts_S1x128_S1x128
  have v776 : IVec S1024x128 1 := broadcastTo S1024x128 v775 broadcasts_S1x128_S1024x128
  have v777 : FVec Ideal S1024x128 .f32 := broadcast S1024x128 cst_238
  have v778 : FVec Ideal S1024x128 .f32 := select v776 v57 v777
  have v779 : FVec Ideal S1024 .f32 := red1024 v778
  have v780 : FVec Ideal S1024x1 .f32 := shapeCast S1024x1 v779 shapeCasts_S1024_S1024x1
  v780 : FVec Ideal S1024x1 .f32) := rfl
theorem red_k0_pay77 (v3 : IVec S1x128 32) (v59 : FVec Ideal S1024x128 .f32) (v751 : BitVec 32) : k0_pay77 (F := Ideal) v3 v59 v751 =
  (have v819 : IVec S1x128 32 := broadcast S1x128 v751
  have v820 : IVec S1x128 1 := cmpi .eq v3 v819
  have cst_250 : Ideal .f32 := Scalar.ofBits .f32 0x00000000#32
  have v821 : IVec S1x128 1 := shapeCast S1x128 v820 shapeCasts_S1x128_S1x128
  have v822 : IVec S1024x128 1 := broadcastTo S1024x128 v821 broadcasts_S1x128_S1024x128
  have v823 : FVec Ideal S1024x128 .f32 := broadcast S1024x128 cst_250
  have v824 : FVec Ideal S1024x128 .f32 := select v822 v59 v823
  have v825 : FVec Ideal S1024 .f32 := red1024 v824
  have v826 : FVec Ideal S1024x1 .f32 := shapeCast S1024x1 v825 shapeCasts_S1024_S1024x1
  v826 : FVec Ideal S1024x1 .f32) := rfl
theorem red_k0_pay100 (v3 : IVec S1x128 32) (v57 : FVec Ideal S1024x128 .f32) (v882 : BitVec 32) (c1_i32_271 : BitVec 32) : k0_pay100 (F := Ideal) v3 v57 v882 c1_i32_271 =
  (let v883 : BitVec 32 := Scalar.addi v882 c1_i32_271
  have v905 : IVec S1x128 32 := broadcast S1x128 v883
  have v906 : IVec S1x128 1 := cmpi .eq v3 v905
  have cst_280 : Ideal .f32 := Scalar.ofBits .f32 0x00000000#32
  have v907 : IVec S1x128 1 := shapeCast S1x128 v906 shapeCasts_S1x128_S1x128
  have v908 : IVec S1024x128 1 := broadcastTo S1024x128 v907 broadcasts_S1x128_S1024x128
  have v909 : FVec Ideal S1024x128 .f32 := broadcast S1024x128 cst_280
  have v910 : FVec Ideal S1024x128 .f32 := select v908 v57 v909
  have v911 : FVec Ideal S1024 .f32 := red1024 v910
  have v912 : FVec Ideal S1024x1 .f32 := shapeCast S1024x1 v911 shapeCasts_S1024_S1024x1
  have v927 : FVec Ideal S1024x256 .f32 := broadcastTo S1024x256 v912 broadcasts_S1024x1_S1024x256
  v927 : FVec Ideal S1024x256 .f32) := rfl
theorem red_k0_pay112 (v3 : IVec S1x128 32) (v23 : FVec Ideal S1024x128 .bf16) (v59 : FVec Ideal S1024x128 .f32) (v65 : FVec Ideal S256x256 .bf16) (v883 : BitVec 32) (v888 : FVec Ideal S256x128 .bf16) : k0_pay112 (F := Ideal) v3 v23 v59 v65 v883 v888 =
  (have v951 : IVec S1x128 32 := broadcast S1x128 v883
  have v952 : IVec S1x128 1 := cmpi .eq v3 v951
  have cst_292 : Ideal .f32 := Scalar.ofBits .f32 0x00000000#32
  have v953 : IVec S1x128 1 := shapeCast S1x128 v952 shapeCasts_S1x128_S1x128
  have v954 : IVec S1024x128 1 := broadcastTo S1024x128 v953 broadcasts_S1x128_S1024x128
  have v955 : FVec Ideal S1024x128 .f32 := broadcast S1024x128 cst_292
  have v956 : FVec Ideal S1024x128 .f32 := select v954 v59 v955
  have v957 : FVec Ideal S1024 .f32 := red1024 v956
  have v958 : FVec Ideal S1024x1 .f32 := shapeCast S1024x1 v957 shapeCasts_S1024_S1024x1
  have v972 : FVec Ideal S1024x256 .f32 := subf (k0_pay109 v23 v888) (k0_pay111 v23 v65 v888)
  have v973 : FVec Ideal S1024x256 .f32 := broadcastTo S1024x256 v958 broadcasts_S1024x1_S1024x256
  have v974 : FVec Ideal S1024x256 .f32 := addf v972 v973
  have v975 : FVec Ideal S1024x256 .f32 := exp v974
  v975 : FVec Ideal S1024x256 .f32) := rfl
theorem red_k0_pay186 (v3 : IVec S1x128 32) (v57 : FVec Ideal S1024x128 .f32) (v82 : BitVec 32) (c0_i32_25 : BitVec 32) : k0_pay186 (F := Ideal) v3 v57 v82 c0_i32_25 =
  (let v83 : BitVec 32 := Scalar.addi v82 c0_i32_25
  have v115 : IVec S1x128 32 := broadcast S1x128 v83
  have v116 : IVec S1x128 1 := cmpi .eq v3 v115
  have cst_35 : Ideal .f32 := Scalar.ofBits .f32 0x00000000#32
  have v117 : IVec S1x128 1 := shapeCast S1x128 v116 shapeCasts_S1x128_S1x128
  have v118 : IVec S1024x128 1 := broadcastTo S1024x128 v117 broadcasts_S1x128_S1024x128
  have v119 : FVec Ideal S1024x128 .f32 := broadcast S1024x128 cst_35
  have v120 : FVec Ideal S1024x128 .f32 := select v118 v57 v119
  have v121 : FVec Ideal S1024 .f32 := red1024 v120
  have v122 : FVec Ideal S1024x1 .f32 := shapeCast S1024x1 v121 shapeCasts_S1024_S1024x1
  v122 : FVec Ideal S1024x1 .f32) := rfl
theorem red_k0_pay199 (v3 : IVec S1x128 32) (v59 : FVec Ideal S1024x128 .f32) (v83 : BitVec 32) : k0_pay199 (F := Ideal) v3 v59 v83 =
  (have v166 : IVec S1x128 32 := broadcast S1x128 v83
  have v167 : IVec S1x128 1 := cmpi .eq v3 v166
  have cst_50 : Ideal .f32 := Scalar.ofBits .f32 0x00000000#32
  have v168 : IVec S1x128 1 := shapeCast S1x128 v167 shapeCasts_S1x128_S1x128
  have v169 : IVec S1024x128 1 := broadcastTo S1024x128 v168 broadcasts_S1x128_S1024x128
  have v170 : FVec Ideal S1024x128 .f32 := broadcast S1024x128 cst_50
  have v171 : FVec Ideal S1024x128 .f32 := select v169 v59 v170
  have v172 : FVec Ideal S1024 .f32 := red1024 v171
  have v173 : FVec Ideal S1024x1 .f32 := shapeCast S1024x1 v172 shapeCasts_S1024_S1024x1
  v173 : FVec Ideal S1024x1 .f32) := rfl
theorem red_k0_pay226 (v3 : IVec S1x128 32) (v18 : FVec Ideal S1024x128 .bf16) (v57 : FVec Ideal S1024x128 .f32) (v65 : FVec Ideal S256x256 .bf16) (v235 : BitVec 32) (v240 : FVec Ideal S256x128 .bf16) (v258 : IVec S768x256 32) (v260 : IVec S768x256 32) (v261 : IVec S768x256 32) : k0_pay226 (F := Ideal) v3 v18 v57 v65 v235 v240 v258 v260 v261 =
  (have v267 : IVec S1x128 32 := broadcast S1x128 v235
  have v268 : IVec S1x128 1 := cmpi .eq v3 v267
  have v269 : FVec Ideal S768x128 .f32 := extractStridedSlice S768x128 ![256, 0] v57 slices_S1024x128_o256_0_S768x128
  have cst_86 : Ideal .f32 := Scalar.ofBits .f32 0x00000000#32
  have v270 : IVec S1x128 1 := shapeCast S1x128 v268 shapeCasts_S1x128_S1x128
  have v271 : IVec S768x128 1 := broadcastTo S768x128 v270 broadcasts_S1x128_S768x128
  have v272 : FVec Ideal S768x128 .f32 := broadcast S768x128 cst_86
  have v273 : FVec Ideal S768x128 .f32 := select v271 v269 v272
  have v274 : FVec Ideal S768 .f32 := red768 v273
  have v275 : FVec Ideal S768x1 .f32 := shapeCast S768x1 v274 shapeCasts_S768_S768x1
  have v290 : FVec Ideal S768x256 .bf16 := truncf .bf16 (k0_pay225 v18 v240 v258 v260 v261) bitsLt_bf16_f32
  have cst_93 : FVec Ideal S768x256 .f32 := constant S768x256 .f32 0x00000000#32
  have v291 : FVec Ideal S768x256 .f32 := matmul dot_S768x256_S256x256_S768x256_1_0_0_1_n_n none v290 v65 cst_93
  have v292 : FVec Ideal S768x256 .f32 := subf (k0_pay224 v18 v240) v291
  have v293 : FVec Ideal S768x256 .f32 := broadcastTo S768x256 v275 broadcasts_S768x1_S768x256
  have v294 : FVec Ideal S768x256 .f32 := addf v292 v293
  have v295 : FVec Ideal S768x256 .f32 := exp v294
  have cst_94 : Ideal .f32 := Scalar.ofBits .f32 0x00000000#32
  have v296 : FVec Ideal S768x256 .f32 := broadcast S768x256 cst_94
  have v297 : FVec Ideal S768x256 .f32 := select (k0_pay220 v258 v260 v261) v295 v296
  v297 : FVec Ideal S768x256 .f32) := rfl
theorem red_k0_pay238 (v3 : IVec S1x128 32) (v23 : FVec Ideal S1024x128 .bf16) (v59 : FVec Ideal S1024x128 .f32) (v65 : FVec Ideal S256x256 .bf16) (v235 : BitVec 32) (v240 : FVec Ideal S256x128 .bf16) (v263 : IVec S768x256 1) : k0_pay238 (F := Ideal) v3 v23 v59 v65 v235 v240 v263 =
  (have v327 : IVec S1x128 32 := broadcast S1x128 v235
  have v328 : IVec S1x128 1 := cmpi .eq v3 v327
  have v329 : FVec Ideal S768x128 .f32 := extractStridedSlice S768x128 ![256, 0] v59 slices_S1024x128_o256_0_S768x128
  have cst_101 : Ideal .f32 := Scalar.ofBits .f32 0x00000000#32
  have v330 : IVec S1x128 1 := shapeCast S1x128 v328 shapeCasts_S1x128_S1x128
  have v331 : IVec S768x128 1 := broadcastTo S768x128 v330 broadcasts_S1x128_S768x128
  have v332 : FVec Ideal S768x128 .f32 := broadcast S768x128 cst_101
  have v333 : FVec Ideal S768x128 .f32 := select v331 v329 v332
  have v334 : FVec Ideal S768 .f32 := red768 v333
  have v335 : FVec Ideal S768x1 .f32 := shapeCast S768x1 v334 shapeCasts_S768_S768x1
  have v350 : FVec Ideal S768x256 .bf16 := truncf .bf16 (k0_pay237 v23 v240 v263) bitsLt_bf16_f32
  have cst_108 : FVec Ideal S768x256 .f32 := constant S768x256 .f32 0x00000000#32
  have v351 : FVec Ideal S768x256 .f32 := matmul dot_S768x256_S256x256_S768x256_1_0_0_1_n_n none v350 v65 cst_108
  have v352 : FVec Ideal S768x256 .f32 := subf (k0_pay236 v23 v240) v351
  have v353 : FVec Ideal S768x256 .f32 := broadcastTo S768x256 v335 broadcasts_S768x1_S768x256
  have v354 : FVec Ideal S768x256 .f32 := addf v352 v353
  have v355 : FVec Ideal S768x256 .f32 := exp v354
  v355 : FVec Ideal S768x256 .f32) := rfl
theorem red_k0_pay261 (v18 : FVec Ideal S1024x128 .bf16) (v65 : FVec Ideal S256x256 .bf16) (v413 : FVec Ideal S256x128 .bf16) (v436 : IVec S512x256 1) (v442 : FVec Ideal S512x128 .f32) (cst_136 : Ideal .f32) (v444 : IVec S512x128 1) : k0_pay261 (F := Ideal) v18 v65 v413 v436 v442 cst_136 v444 =
  (have v445 : FVec Ideal S512x128 .f32 := broadcast S512x128 cst_136
  have v446 : FVec Ideal S512x128 .f32 := select v444 v442 v445
  have v447 : FVec Ideal S512 .f32 := red512 v446
  have v448 : FVec Ideal S512x1 .f32 := shapeCast S512x1 v447 shapeCasts_S512_S512x1
  have v463 : FVec Ideal S512x256 .bf16 := truncf .bf16 (k0_pay260 v18 v413 v436) bitsLt_bf16_f32
  have cst_143 : FVec Ideal S512x256 .f32 := constant S512x256 .f32 0x00000000#32
  have v464 : FVec Ideal S512x256 .f32 := matmul dot_S512x256_S256x256_S512x256_1_0_0_1_n_n none v463 v65 cst_143
  have v465 : FVec Ideal S512x256 .f32 := subf (k0_pay259 v18 v413) v464
  have v466 : FVec Ideal S512x256 .f32 := broadcastTo S512x256 v448 broadcasts_S512x1_S512x256
  have v467 : FVec Ideal S512x256 .f32 := addf v465 v466
  have v468 : FVec Ideal S512x256 .f32 := exp v467
  have cst_144 : Ideal .f32 := Scalar.ofBits .f32 0x00000000#32
  have v469 : FVec Ideal S512x256 .f32 := broadcast S512x256 cst_144
  have v470 : FVec Ideal S512x256 .f32 := select v436 v468 v469
  v470 : FVec Ideal S512x256 .f32) := rfl
theorem red_k0_pay273 (v3 : IVec S1x128 32) (v23 : FVec Ideal S1024x128 .bf16) (v59 : FVec Ideal S1024x128 .f32) (v65 : FVec Ideal S256x256 .bf16) (v408 : BitVec 32) (v413 : FVec Ideal S256x128 .bf16) (v436 : IVec S512x256 1) : k0_pay273 (F := Ideal) v3 v23 v59 v65 v408 v413 v436 =
  (have v500 : IVec S1x128 32 := broadcast S1x128 v408
  have v501 : IVec S1x128 1 := cmpi .eq v3 v500
  have v502 : FVec Ideal S512x128 .f32 := extractStridedSlice S512x128 ![512, 0] v59 slices_S1024x128_o512_0_S512x128
  have cst_151 : Ideal .f32 := Scalar.ofBits .f32 0x00000000#32
  have v503 : IVec S1x128 1 := shapeCast S1x128 v501 shapeCasts_S1x128_S1x128
  have v504 : IVec S512x128 1 := broadcastTo S512x128 v503 broadcasts_S1x128_S512x128
  have v505 : FVec Ideal S512x128 .f32 := broadcast S512x128 cst_151
  have v506 : FVec Ideal S512x128 .f32 := select v504 v502 v505
  have v507 : FVec Ideal S512 .f32 := red512 v506
  have v508 : FVec Ideal S512x1 .f32 := shapeCast S512x1 v507 shapeCasts_S512_S512x1
  have v523 : FVec Ideal S512x256 .bf16 := truncf .bf16 (k0_pay272 v23 v413 v436) bitsLt_bf16_f32
  have cst_158 : FVec Ideal S512x256 .f32 := constant S512x256 .f32 0x00000000#32
  have v524 : FVec Ideal S512x256 .f32 := matmul dot_S512x256_S256x256_S512x256_1_0_0_1_n_n none v523 v65 cst_158
  have v525 : FVec Ideal S512x256 .f32 := subf (k0_pay271 v23 v413) v524
  have v526 : FVec Ideal S512x256 .f32 := broadcastTo S512x256 v508 broadcasts_S512x1_S512x256
  have v527 : FVec Ideal S512x256 .f32 := addf v525 v526
  have v528 : FVec Ideal S512x256 .f32 := exp v527
  have cst_159 : Ideal .f32 := Scalar.ofBits .f32 0x00000000#32
  have v529 : FVec Ideal S512x256 .f32 := broadcast S512x256 cst_159
  have v530 : FVec Ideal S512x256 .f32 := select v436 v528 v529
  v530 : FVec Ideal S512x256 .f32) := rfl
theorem red_k0_pay291 (v3 : IVec S1x128 32) (v57 : FVec Ideal S1024x128 .f32) (v581 : BitVec 32) : k0_pay291 (F := Ideal) v3 v57 v581 =
  (have v613 : IVec S1x128 32 := broadcast S1x128 v581
  have v614 : IVec S1x128 1 := cmpi .eq v3 v613
  have v615 : FVec Ideal S256x128 .f32 := extractStridedSlice S256x128 ![768, 0] v57 slices_S1024x128_o768_0_S256x128
  have cst_185 : Ideal .f32 := Scalar.ofBits .f32 0x00000000#32
  have v616 : IVec S1x128 1 := shapeCast S1x128 v614 shapeCasts_S1x128_S1x128
  have v617 : IVec S256x128 1 := broadcastTo S256x128 v616 broadcasts_S1x128_S256x128
  have v618 : FVec Ideal S256x128 .f32 := broadcast S256x128 cst_185
  have v619 : FVec Ideal S256x128 .f32 := select v617 v615 v618
  have v620 : FVec Ideal S256 .f32 := red256 v619
  have v621 : FVec Ideal S256x1 .f32 := shapeCast S256x1 v620 shapeCasts_S256_S256x1
  v621 : FVec Ideal S256x1 .f32) := rfl
theorem red_k0_pay302 (v3 : IVec S1x128 32) (v59 : FVec Ideal S1024x128 .f32) (v581 : BitVec 32) : k0_pay302 (F := Ideal) v3 v59 v581 =
  (have v668 : IVec S1x128 32 := broadcast S1x128 v581
  have v669 : IVec S1x128 1 := cmpi .eq v3 v668
  have v670 : FVec Ideal S256x128 .f32 := extractStridedSlice S256x128 ![768, 0] v59 slices_S1024x128_o768_0_S256x128
  have cst_200 : Ideal .f32 := Scalar.ofBits .f32 0x00000000#32
  have v671 : IVec S1x128 1 := shapeCast S1x128 v669 shapeCasts_S1x128_S1x128
  have v672 : IVec S256x128 1 := broadcastTo S256x128 v671 broadcasts_S1x128_S256x128
  have v673 : FVec Ideal S256x128 .f32 := broadcast S256x128 cst_200
  have v674 : FVec Ideal S256x128 .f32 := select v672 v670 v673
  have v675 : FVec Ideal S256 .f32 := red256 v674
  v675 : FVec Ideal S256 .f32) := rfl
end products

end Cert.Arr
end
-- ==== Proof.Trip.lean ====
/-
  One trip of the body's counted loop — two unmasked key tiles — on real matrices.
-/
module

public import proofs.«01_k».proof.Proof.Tile

@[expose] public section

set_option maxRecDepth 16384

noncomputable section

open scoped BigOperators Classical
open Idealize.ShloMosaic Idealize.ShloMosaic.ValueIdx Idealize.SL Idealize.SL.Sem
open Cert.Arr

namespace Cert.KernelIdeal.Gen

/-- What a row block of one pair of heads holds: the queries, the output's gradient and its heads, their transposes, the
    carries, and the pair's whole keys and values. -/
structure Blk where
  (q0 q1 d d0 d1 qt0 qt1 dt0 dt1 c0 c1 K V : RMat)

/-- What is carried from tile to tile: the two prefixes, the queries' gradient, and the two stacks accumulated. -/
structure St where
  (e0 e1 dq : RMat)
  (sk sv : ℕ → RMat)

/-- The key tile `j` under a mask, all rows. -/
def Blk.step (b : Blk) (p : ℕ → ℕ → Prop) (j : ℕ) (s : St) : St where
  e0 := tEc p b.q0 (shiftM (256 * j) 0 b.K) (shiftM (256 * j) 0 b.V) b.d0 (pickM j b.c0) s.e0
  e1 := tEc p b.q1 (shiftM (256 * j) 0 b.K) (shiftM (256 * j) 0 b.V) b.d1 (pickM j b.c1) s.e1
  dq := s.dq + (constM 0 + mmNN 256 (tDz p b.q0 (shiftM (256 * j) 0 b.K) (shiftM (256 * j) 0 b.V) b.d0 (pickM j b.c0) s.e0) (lowM (shiftM (256 * j) 0 b.K))
    + mmNN 256 (tDz p b.q1 (shiftM (256 * j) 0 b.K) (shiftM (256 * j) 0 b.V) b.d1 (pickM j b.c1) s.e1) (highM (shiftM (256 * j) 0 b.K)))
  sk := Function.update s.sk j (s.sk j + (constM 0 + mmNN 1024 b.qt0 (tDz p b.q0 (shiftM (256 * j) 0 b.K) (shiftM (256 * j) 0 b.V) b.d0 (pickM j b.c0) s.e0)
    + mmNN 1024 b.qt1 (tDz p b.q1 (shiftM (256 * j) 0 b.K) (shiftM (256 * j) 0 b.V) b.d1 (pickM j b.c1) s.e1)))
  sv := Function.update s.sv j (s.sv j + (constM 0 + mmNN 1024 b.dt0 (tW p b.q0 (shiftM (256 * j) 0 b.K) (pickM j b.c0))
    + mmNN 1024 b.dt1 (tW p b.q1 (shiftM (256 * j) 0 b.K) (pickM j b.c1))))

theorem bcRow1024 (h) (p : ℕ → ℕ → Prop) : broadcastTo S1024x128 (upP p : IVec S1x128 1) h = upP (fun _ c => p 0 c) := bcRow_up h p (by decide)
theorem bcRow256 (h) (p : ℕ → ℕ → Prop) : broadcastTo S256x128 (upP p : IVec S1x128 1) h = upP (fun _ c => p 0 c) := bcRow_up h p (by decide)
theorem bcColF1024 (A : RMat) (h) : broadcastTo S1024x256 (up A : FVec Ideal S1024x1 .f32) h = up (colM A) := bcColF_up A h (by decide)

theorem bcColP128 (h) (p : ℕ → ℕ → Prop) : broadcastTo S128x1024 (upP p : IVec S128x1 1) h = upP (fun r _ => p r 0) := bcCol_up h p (by decide)

theorem tile_word (k r : ℕ) : Scalar.addi (Scalar.muli (Scf.iv 0#32 1#32 k) 2#32) (BitVec.ofNat 32 r) = BitVec.ofNat 32 (2 * k + r) := by
  rw [iv_word]
  show BitVec.ofNat 32 k * BitVec.ofNat 32 2 + BitVec.ofNat 32 r = _
  rw [← BitVec.ofNat_mul, ← BitVec.ofNat_add, mul_comm]

theorem off1_eq (i : grid0.Coords) (k : Fin (k0_t1_loop i).trips) (r : ℕ) (h : 2 * k.val + r < 16) :
    k0_off1 i k (BitVec.ofNat 32 r) = ![256 * (2 * k.val + r), 0] := by
  have e : (Scalar.muli (Scalar.addi (Scalar.muli (Scf.iv 0#32 1#32 k.val) 2#32) (BitVec.ofNat 32 r)) 256#32).toNat = 256 * (2 * k.val + r) := by
    rw [tile_word]
    show (BitVec.ofNat 32 _ * BitVec.ofNat 32 256).toNat = _
    rw [← BitVec.ofNat_mul, BitVec.toNat_ofNat]; omega
  unfold k0_off1
  exact congrArg (fun x => ![x, 0]) e

theorem off2_eq (i : grid0.Coords) (k : Fin (k0_t1_loop i).trips) (r : ℕ) (h : 2 * k.val + r < 16) :
    k0_off2 i k (BitVec.ofNat 32 r) = ![2 * k.val + r, 0, 0] := by
  have e : (Scalar.addi (Scalar.muli (Scf.iv 0#32 1#32 k.val) 2#32) (BitVec.ofNat 32 r)).toNat = 2 * k.val + r := by
    rw [tile_word, BitVec.toNat_ofNat]; omega
  unfold k0_off2
  exact congrArg (fun x => ![x, 0, 0]) e

section
variable (𝒱 : Variants) (c : Dev nD) (bd : Option 𝒱.V) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x2x1024x128 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S16x128x256 .f32) (harg10 : arg10.IsWhole) (arg11 : Memref sig .tc .vmem S16x128x256 .f32) (harg11 : arg11.IsWhole) (arg1 : BitVec 32) (X_arg3 : BufTy.Contents (Elt Ideal) arg3.view.ty) (X_arg4 : BufTy.Contents (Elt Ideal) arg4.view.ty)  (k : Fin (k0_t1_loop i).trips) (f_arg10 : BufTy.Contents (Elt Ideal) arg10.view.ty) (f_arg11 : BufTy.Contents (Elt Ideal) arg11.view.ty)
  (b : Blk) (s : St) (v3 : IVec S1x128 32) (v5 : IVec S1x128 1) (v8 : IVec S128x1 1) (cst_10 : Ideal .f32)

set_option maxHeartbeats 600000 in
theorem trip_value (hk : k.val < 8) (hv3 : v3 = iota .tc S1x128 32 [1] iota_S1x128_d1_w32) (hv5 : v5 = upP (fun _ c => c < 64))
    (hv8 : v8 = upP (fun r _ => r < 64)) (hc : cst_10 = Scalar.ofBits (F := Ideal) .f32 0x00000000#32)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (h3 : arg3.view.read (Elt Ideal) X_arg3 = (up b.K : FVec Ideal S4096x128 .f32)) (h4 : arg4.view.read (Elt Ideal) X_arg4 = (up b.V : FVec Ideal S4096x128 .f32))
    (h10 : arg10.view.read (Elt Ideal) f_arg10 = upS s.sk) (h11 : arg11.view.read (Elt Ideal) f_arg11 = upS s.sv) :
    let s' := b.step (fun _ _ => True) (2 * k.val + 1) (b.step (fun _ _ => True) (2 * k.val + 0) s)
    ((trip_k0_t1 (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 k).1 (up s.e0, up s.e1, up s.dq) f_arg10 f_arg11 = (up s'.e0, up s'.e1, up s'.dq))
    ∧ arg10.view.read (Elt Ideal) (arg10.view.writes (Elt Ideal) f_arg10 ((trip_k0_t1 (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 k).2.1 (up s.e0, up s.e1, up s.dq) f_arg10 f_arg11)) = upS s'.sk
    ∧ arg11.view.read (Elt Ideal) (arg11.view.writes (Elt Ideal) f_arg11 ((trip_k0_t1 (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 k).2.2.1 (up s.e0, up s.e1, up s.dq) f_arg10 f_arg11)) = upS s'.sv := by
  subst hv3 hv5 hv8
  have e0 := off1_eq i k 0 (by omega)
  have e1 := off1_eq i k 1 (by omega)
  have o0 := off2_eq i k 0 (by omega)
  have o1 := off2_eq i k 1 (by omega)
  have r30 := fun inb => readAt_up (n' := 256) (m' := 128) arg3.view X_arg3 b.K h3 _ _ _ e0 inb
  have r31 := fun inb => readAt_up (n' := 256) (m' := 128) arg3.view X_arg3 b.K h3 _ _ _ e1 inb
  have r40 := fun inb => readAt_up (n' := 256) (m' := 128) arg4.view X_arg4 b.V h4 _ _ _ e0 inb
  have r41 := fun inb => readAt_up (n' := 256) (m' := 128) arg4.view X_arg4 b.V h4 _ _ _ e1 inb
  have t0 := fun inb => readAt_upS arg10.view f_arg10 s.sk h10 _ _ o0 inb
  have t1 := fun inb => readAt_upS arg10.view f_arg10 s.sk h10 _ _ o1 inb
  have u0 := fun inb => readAt_upS arg11.view f_arg11 s.sv h11 _ _ o0 inb
  have u1 := fun inb => readAt_upS arg11.view f_arg11 s.sv h11 _ _ o1 inb
  have w0 := tile_word k.val 0
  have w1 := tile_word k.val 1
  have l0 := lane_eq (2 * k.val + 0) (by omega)
  have l1 := lane_eq (2 * k.val + 1) (by omega)
  have p0 := fun A => pick_lane A (2 * k.val + 0) (by omega)
  have p1 := fun A => pick_lane A (2 * k.val + 1) (by omega)
  have ne : 2 * k.val + 1 ≠ 2 * k.val + 0 := by omega
  unfold trip_k0_t1
  dsimp only
  simp only [trip_k0_t1.sl.arg12, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_4, trip_k0_t1.sl.r_5, trip_k0_t1.sl.r_6, trip_k0_t1.sl.r_7, trip_k0_t1.sl.r_8, trip_k0_t1.sl.r_9, trip_k0_t1.sl.v1006, trip_k0_t1.sl.v750, trip_k0_t1.sl.v751, trip_k0_t1.sl.v883, trip_k0_t1.sl.v998]
  simp only [r30, r31, r40, r41, t0, t1, u0, u1]
  simp only [hc, k0_pay1, k0_pay2, k0_pay3, k0_pay4, k0_pay5, k0_pay6, k0_pay7, red_k0_pay8, k0_pay9, k0_pay10, k0_pay11, k0_pay12, k0_pay13, k0_pay14, k0_pay15, k0_pay16, k0_pay17, k0_pay18, k0_pay19, k0_pay20, red_k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, red_k0_pay44, k0_pay45, k0_pay46, k0_pay47, k0_pay48, k0_pay49, k0_pay50, k0_pay51, k0_pay52, k0_pay53, k0_pay54, k0_pay55, red_k0_pay56, k0_pay57, k0_pay58, k0_pay59, k0_pay60, k0_pay61, k0_pay62, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay162, k0_pay163, k0_pay164, k0_pay165, k0_pay166, k0_pay167, k0_pay168, k0_pay169, k0_pay170, addf_up, subf_up, mulf_up, maximumf_up, absf_up, exp_up, log_up, truncf_up, extf_up, zero_up, one_up, eighth_up, select_up, shapeCast_self_eq, bcRow1024, bcColP128, bcRow256, bcColF1024, slice_up, cast1_up, castTo1_up, cast11_up, red1024_up, pay160_eq, pay161_eq, mm_1024x128_256x128_t, mm_1024x256_256x256_n, mm_1024x256_256x128_n, mm_128x1024_1024x256_n, mm_768x128_256x128_t, mm_768x256_256x256_n, mm_768x256_256x128_n, mm_128x768_768x256_n, mm_512x128_256x128_t, mm_512x256_256x256_n, mm_512x256_256x128_n, mm_128x512_512x256_n, mm_256x128_256x128_t, mm_256x256_256x256_n, mm_256x256_256x128_n, mm_128x256_256x256_n, w0, w1, l0, l1, p0, p1]
  rw [trS_1024]
  simp only [addf_up, subf_up, mulf_up, maximumf_up, absf_up, exp_up, log_up, truncf_up, extf_up, zero_up, one_up, eighth_up, select_up, shapeCast_self_eq, bcRow1024, bcColP128, bcRow256, bcColF1024, slice_up, cast1_up, castTo1_up, cast11_up, red1024_up, pay160_eq, pay161_eq, mm_1024x128_256x128_t, mm_1024x256_256x256_n, mm_1024x256_256x128_n, mm_128x1024_1024x256_n, mm_768x128_256x128_t, mm_768x256_256x256_n, mm_768x256_256x128_n, mm_128x768_768x256_n, mm_512x128_256x128_t, mm_512x256_256x256_n, mm_512x256_256x128_n, mm_128x512_512x256_n, mm_256x128_256x128_t, mm_256x256_256x256_n, mm_256x256_256x128_n, mm_128x256_256x256_n]
  simp only [Blk.step, tEc, tDz, tPre, tE, tW, tSp, selM_true, lowM, highM, hd1, hdt0, hdt1]
  have ue : ∀ (S : ℕ → RMat) A, Function.update S (2 * k.val + 0) A (2 * k.val + 1) = S (2 * k.val + 1) := fun S A => Function.update_of_ne ne _ _
  simp only [ue]
  refine ⟨rfl, ?_, ?_⟩
  · exact read_store arg10.view f_arg10 _ _ (read_store arg10.view f_arg10 [] s.sk h10 _ _ o0 _ _) _ _ o1 _ _
  · exact read_store arg11.view f_arg11 _ _ (read_store arg11.view f_arg11 [] s.sv h11 _ _ o0 _ _) _ _ o1 _ _
end
end Cert.KernelIdeal.Gen
end
-- ==== Proof.Loop.lean ====
/-
  The body's counted loop over the key tiles below the diagonal, on real matrices.
-/
module

public import proofs.«01_k».proof.Proof.Trip

@[expose] public section

noncomputable section

open scoped BigOperators Classical
open Idealize.ShloMosaic Idealize.ShloMosaic.ValueIdx Idealize.SL Idealize.SL.Sem
open Cert.Arr

namespace Cert.KernelIdeal.Gen

/-- The state after `n` trips, two tiles each. -/
def Blk.run (b : Blk) : ℕ → St → St
  | 0, s => s
  | n + 1, s => b.step (fun _ _ => True) (2 * n + 1) (b.step (fun _ _ => True) (2 * n + 0) (b.run n s))

theorem trips_eq (i : grid0.Coords) : (k0_t1_loop i).trips = 2 * (i 1).val := by
  have h : (i 1).val < 4 := (i 1).isLt
  unfold k0_t1_loop
  dsimp only
  generalize (i 1).val = a at h ⊢
  interval_cases a <;> decide

/-- No tile is left for the second loop. -/
theorem trips2_zero (i : grid0.Coords) : (k0_t2_loop i).trips = 0 := by
  have h : (i 1).val < 4 := (i 1).isLt
  unfold k0_t2_loop
  dsimp only
  generalize (i 1).val = a at h ⊢
  interval_cases a <;> decide

section
variable (𝒱 : Variants) (c : Dev nD) (bd : Option 𝒱.V) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x2x1024x128 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S16x128x256 .f32) (harg10 : arg10.IsWhole) (arg11 : Memref sig .tc .vmem S16x128x256 .f32) (harg11 : arg11.IsWhole) (arg1 : BitVec 32) (X_arg3 : BufTy.Contents (Elt Ideal) arg3.view.ty) (X_arg4 : BufTy.Contents (Elt Ideal) arg4.view.ty)  (G10 : BufTy.Contents (Elt Ideal) arg10.view.ty) (G11 : BufTy.Contents (Elt Ideal) arg11.view.ty)
  (b : Blk) (s : St) (v3 : IVec S1x128 32) (v5 : IVec S1x128 1) (v8 : IVec S128x1 1) (cst_10 : Ideal .f32)

theorem loop_value (hn : (k0_t1_loop i).trips ≤ 8) (hv3 : v3 = iota .tc S1x128 32 [1] iota_S1x128_d1_w32) (hv5 : v5 = upP (fun _ c => c < 64))
    (hv8 : v8 = upP (fun r _ => r < 64)) (hc : cst_10 = Scalar.ofBits (F := Ideal) .f32 0x00000000#32)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (h3 : arg3.view.read (Elt Ideal) X_arg3 = (up b.K : FVec Ideal S4096x128 .f32)) (h4 : arg4.view.read (Elt Ideal) X_arg4 = (up b.V : FVec Ideal S4096x128 .f32))
    (h10 : arg10.view.read (Elt Ideal) G10 = upS s.sk) (h11 : arg11.view.read (Elt Ideal) G11 = upS s.sv)
    (n : ℕ) (hle : n ≤ (k0_t1_loop i).trips) :
    (st_k0_t1 (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 G10 G11 (up s.e0, up s.e1, up s.dq) n).1 = (up (b.run n s).e0, up (b.run n s).e1, up (b.run n s).dq)
    ∧ arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 G10 G11 (up s.e0, up s.e1, up s.dq) n).2.1) = upS (b.run n s).sk
    ∧ arg11.view.read (Elt Ideal) (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 G10 G11 (up s.e0, up s.e1, up s.dq) n).2.2) = upS (b.run n s).sv := by
  induction n with
  | zero => exact ⟨rfl, h10, h11⟩
  | succ n ih =>
    obtain ⟨i1, i2, i3⟩ := ih (by omega)
    have e := st_k0_t1_succ (F := Ideal) 𝒱 c bd i arg2 harg2 arg3 harg3 arg4 harg4 arg5 harg5 arg6 harg6 arg7 harg7 arg8 harg8 arg9 harg9 arg10 harg10 arg11 harg11 arg1 v3 v5 v8 (up b.d) (up b.q0) (up b.q1) (up b.qt0) (up b.qt1) (up b.d0) cst_10 (upP (fun _ c => c < 64)) (up11 b.c0 : FVec Ideal S1x1x1024x128 .f32) (up11 b.c1 : FVec Ideal S1x1x1024x128 .f32) X_arg3 X_arg4 G10 G11 (up s.e0, up s.e1, up s.dq) ⟨n, hle⟩
    have tv := trip_value 𝒱 c bd i arg2 harg2 arg3 harg3 arg4 harg4 arg5 harg5 arg6 harg6 arg7 harg7 arg8 harg8 arg9 harg9 arg10 harg10 arg11 harg11 arg1 X_arg3 X_arg4 ⟨n, hle⟩ _ _ b (b.run n s) v3 v5 v8 cst_10 (by show n < 8; omega) hv3 hv5 hv8 hc hd1 hdt0 hdt1 h3 h4 i2 i3
    obtain ⟨t1, t2, t3⟩ := tv
    rw [e]
    simp only [tripR_k0_t1, tripL_k0_t1]
    rw [View.writes_append, View.writes_append, i1]
    exact ⟨t1, t2, t3⟩
end

end Cert.KernelIdeal.Gen
end
-- ==== Proof.Diag.lean ====
/-
  The four masked key tiles of a diagonal block, on real matrices.
-/
module

public import proofs.«01_k».proof.Proof.Loop

@[expose] public section

set_option maxRecDepth 16384

noncomputable section

open scoped BigOperators Classical
open Idealize.ShloMosaic Idealize.ShloMosaic.ValueIdx Idealize.SL Idealize.SL.Sem
open Cert.Arr

namespace Cert.KernelIdeal.Gen

/-- A key tile from row `a` of the block on, `n` rows. -/
def Blk.diag (b : Blk) (a n : ℕ) (p : ℕ → ℕ → Prop) (j : ℕ) (s : St) : St where
  e0 := catM a (shiftM 0 0 s.e0) (tEc p (shiftM a 0 b.q0) (shiftM (256 * j) 0 b.K) (shiftM (256 * j) 0 b.V) (shiftM a 0 b.d0) (pickM j (shiftM a 0 b.c0)) (shiftM a 0 s.e0))
  e1 := catM a (shiftM 0 0 s.e1) (tEc p (shiftM a 0 b.q1) (shiftM (256 * j) 0 b.K) (shiftM (256 * j) 0 b.V) (shiftM a 0 b.d1) (pickM j (shiftM a 0 b.c1)) (shiftM a 0 s.e1))
  dq := catM a (shiftM 0 0 s.dq) (shiftM a 0 s.dq + (constM 0
    + mmNN 256 (tDz p (shiftM a 0 b.q0) (shiftM (256 * j) 0 b.K) (shiftM (256 * j) 0 b.V) (shiftM a 0 b.d0) (pickM j (shiftM a 0 b.c0)) (shiftM a 0 s.e0)) (lowM (shiftM (256 * j) 0 b.K))
    + mmNN 256 (tDz p (shiftM a 0 b.q1) (shiftM (256 * j) 0 b.K) (shiftM (256 * j) 0 b.V) (shiftM a 0 b.d1) (pickM j (shiftM a 0 b.c1)) (shiftM a 0 s.e1)) (highM (shiftM (256 * j) 0 b.K))))
  sk := Function.update s.sk j (s.sk j + (constM 0
    + mmNN n (shiftM 0 a b.qt0) (tDz p (shiftM a 0 b.q0) (shiftM (256 * j) 0 b.K) (shiftM (256 * j) 0 b.V) (shiftM a 0 b.d0) (pickM j (shiftM a 0 b.c0)) (shiftM a 0 s.e0))
    + mmNN n (shiftM 0 a b.qt1) (tDz p (shiftM a 0 b.q1) (shiftM (256 * j) 0 b.K) (shiftM (256 * j) 0 b.V) (shiftM a 0 b.d1) (pickM j (shiftM a 0 b.c1)) (shiftM a 0 s.e1))))
  sv := Function.update s.sv j (s.sv j + (constM 0
    + mmNN n (shiftM 0 a b.dt0) (tW p (shiftM a 0 b.q0) (shiftM (256 * j) 0 b.K) (pickM j (shiftM a 0 b.c0)))
    + mmNN n (shiftM 0 a b.dt1) (tW p (shiftM a 0 b.q1) (shiftM (256 * j) 0 b.K) (pickM j (shiftM a 0 b.c1)))))

theorem bcRow768 (h) (p : ℕ → ℕ → Prop) : broadcastTo S768x128 (upP p : IVec S1x128 1) h = upP (fun _ c => p 0 c) := bcRow_up h p (by decide)
theorem bcRow512 (h) (p : ℕ → ℕ → Prop) : broadcastTo S512x128 (upP p : IVec S1x128 1) h = upP (fun _ c => p 0 c) := bcRow_up h p (by decide)
theorem bcColF768 (A : RMat) (h) : broadcastTo S768x256 (up A : FVec Ideal S768x1 .f32) h = up (colM A) := bcColF_up A h (by decide)
theorem bcColF512 (A : RMat) (h) : broadcastTo S512x256 (up A : FVec Ideal S512x1 .f32) h = up (colM A) := bcColF_up A h (by decide)
theorem bcColF256 (A : RMat) (h) : broadcastTo S256x256 (up A : FVec Ideal S256x1 .f32) h = up (colM A) := bcColF_up A h (by decide)
theorem lane_lt1 : (k0_pay143 : IVec S1x128 1) = upP (fun _ c => c < 64) := lane_lt

theorem tile_word' (q r : ℕ) (hq : q < 4) : Scalar.addi (Scalar.muli (BitVec.ofNat 32 q) 4#32) (BitVec.ofNat 32 r) = BitVec.ofNat 32 (4 * q + r) := by
  show BitVec.ofNat 32 q * BitVec.ofNat 32 4 + BitVec.ofNat 32 r = _
  rw [← BitVec.ofNat_mul, ← BitVec.ofNat_add, mul_comm]
theorem key_word (q r : ℕ) (hq : q < 4) : Scalar.muli (BitVec.ofNat 32 (4 * q + r)) 256#32 = BitVec.ofNat 32 (256 * (4 * q + r)) := by
  show BitVec.ofNat 32 (4 * q + r) * BitVec.ofNat 32 256 = _
  rw [← BitVec.ofNat_mul, mul_comm]
theorem row_word (q a : ℕ) (hq : q < 4) (ha : a < 1024) : Scalar.addi (Scalar.muli (BitVec.ofNat 32 q) 1024#32) (BitVec.ofNat 32 a) = BitVec.ofNat 32 (1024 * q + a) := by
  show BitVec.ofNat 32 q * BitVec.ofNat 32 1024 + BitVec.ofNat 32 a = _
  rw [← BitVec.ofNat_mul, ← BitVec.ofNat_add, mul_comm 1024 q]
/-- The rows of `A` and the rows of `B` below them. -/
def cat256_1 (A : FVec Ideal S256x1 .f32) (B : FVec Ideal S768x1 .f32) : FVec Ideal S1024x1 .f32 := concatenate S1024x1 0 [⟨S256x1, A⟩, ⟨S768x1, B⟩] concatenates_S256x1_S768x1_S1024x1_d0
theorem cat256_1_up (A B : RMat) : cat256_1 (up A) (up B) = (up (catM 256 A B) : FVec Ideal S1024x1 .f32) := cat_256_1_up A B _
/-- The rows of `A` and the rows of `B` below them. -/
def cat256_128 (A : FVec Ideal S256x128 .f32) (B : FVec Ideal S768x128 .f32) : FVec Ideal S1024x128 .f32 := concatenate S1024x128 0 [⟨S256x128, A⟩, ⟨S768x128, B⟩] concatenates_S256x128_S768x128_S1024x128_d0
theorem cat256_128_up (A B : RMat) : cat256_128 (up A) (up B) = (up (catM 256 A B) : FVec Ideal S1024x128 .f32) := cat_256_128_up A B _
/-- The rows of `A` and the rows of `B` below them. -/
def cat512_1 (A : FVec Ideal S512x1 .f32) (B : FVec Ideal S512x1 .f32) : FVec Ideal S1024x1 .f32 := concatenate S1024x1 0 [⟨S512x1, A⟩, ⟨S512x1, B⟩] concatenates_S512x1_S512x1_S1024x1_d0
theorem cat512_1_up (A B : RMat) : cat512_1 (up A) (up B) = (up (catM 512 A B) : FVec Ideal S1024x1 .f32) := cat_512_1_up A B _
/-- The rows of `A` and the rows of `B` below them. -/
def cat512_128 (A : FVec Ideal S512x128 .f32) (B : FVec Ideal S512x128 .f32) : FVec Ideal S1024x128 .f32 := concatenate S1024x128 0 [⟨S512x128, A⟩, ⟨S512x128, B⟩] concatenates_S512x128_S512x128_S1024x128_d0
theorem cat512_128_up (A B : RMat) : cat512_128 (up A) (up B) = (up (catM 512 A B) : FVec Ideal S1024x128 .f32) := cat_512_128_up A B _
/-- The rows of `A` and the rows of `B` below them. -/
def cat768_128 (A : FVec Ideal S768x128 .f32) (B : FVec Ideal S256x128 .f32) : FVec Ideal S1024x128 .f32 := concatenate S1024x128 0 [⟨S768x128, A⟩, ⟨S256x128, B⟩] concatenates_S768x128_S256x128_S1024x128_d0
theorem cat768_128_up (A B : RMat) : cat768_128 (up A) (up B) = (up (catM 768 A B) : FVec Ideal S1024x128 .f32) := cat_768_128_up A B _
theorem cat_k0_pay231 (v157 : FVec Ideal S1024x1 .f32) (v302 : FVec Ideal S768x256 .f32) : k0_pay231 (F := Ideal) v157 v302 =
  (have v312 : FVec Ideal S768x1 .f32 := extractStridedSlice S768x1 ![256, 0] v157 slices_S1024x1_o256_0_S768x1
  have v313 : FVec Ideal S768x1 .f32 := extractStridedSlice S768x1 ![0, 255] v302 slices_S768x256_o0_255_S768x1
  have v314 : FVec Ideal S768x1 .f32 := addf v312 v313
  have v315 : FVec Ideal S256x1 .f32 := extractStridedSlice S256x1 ![0, 0] v157 slices_S1024x1_o0_0_S256x1
  have v316 : FVec Ideal S1024x1 .f32 := cat256_1 v315 v314
  v316 : FVec Ideal S1024x1 .f32) := rfl

theorem cat_k0_pay242 (v44 : FVec Ideal S1024x128 .bf16) (v71 : FVec Ideal S256x256 .bf16) (v208 : FVec Ideal S1024x1 .f32) (v253 : FVec Ideal S256x128 .bf16) (v263 : IVec S768x256 1) (v355 : FVec Ideal S768x256 .f32) : k0_pay242 (F := Ideal) v44 v71 v208 v253 v263 v355 =
  (have v372 : FVec Ideal S768x1 .f32 := extractStridedSlice S768x1 ![256, 0] v208 slices_S1024x1_o256_0_S768x1
  have v373 : FVec Ideal S768x1 .f32 := extractStridedSlice S768x1 ![0, 255] (k0_pay241 v44 v71 v253 v263 v355) slices_S768x256_o0_255_S768x1
  have v374 : FVec Ideal S768x1 .f32 := addf v372 v373
  have v375 : FVec Ideal S256x1 .f32 := extractStridedSlice S256x1 ![0, 0] v208 slices_S1024x1_o0_0_S256x1
  have v376 : FVec Ideal S1024x1 .f32 := cat256_1 v375 v374
  v376 : FVec Ideal S1024x1 .f32) := rfl

theorem cat_k0_pay248 (v233 : FVec Ideal S1024x128 .f32) (v380 : FVec Ideal S768x128 .f32) : k0_pay248 (F := Ideal) v233 v380 =
  (have v403 : FVec Ideal S768x128 .f32 := extractStridedSlice S768x128 ![256, 0] v233 slices_S1024x128_o256_0_S768x128
  have v404 : FVec Ideal S768x128 .f32 := addf v403 v380
  have v405 : FVec Ideal S256x128 .f32 := extractStridedSlice S256x128 ![0, 0] v233 slices_S1024x128_o0_0_S256x128
  have v406 : FVec Ideal S1024x128 .f32 := cat256_128 v405 v404
  v406 : FVec Ideal S1024x128 .f32) := rfl

theorem cat_k0_pay264 (v18 : FVec Ideal S1024x128 .bf16) (v39 : FVec Ideal S1024x128 .bf16) (v65 : FVec Ideal S256x256 .bf16) (v71 : FVec Ideal S256x256 .bf16) (v316 : FVec Ideal S1024x1 .f32) (v413 : FVec Ideal S256x128 .bf16) (v426 : FVec Ideal S256x128 .bf16) (v436 : IVec S512x256 1) (v442 : FVec Ideal S512x128 .f32) (cst_136 : Ideal .f32) (v444 : IVec S512x128 1) : k0_pay264 (F := Ideal) v18 v39 v65 v71 v316 v413 v426 v436 v442 cst_136 v444 =
  (have v485 : FVec Ideal S512x1 .f32 := extractStridedSlice S512x1 ![512, 0] v316 slices_S1024x1_o512_0_S512x1
  have v486 : FVec Ideal S512x1 .f32 := extractStridedSlice S512x1 ![0, 255] (k0_pay263 v18 v39 v65 v71 v413 v426 v436 v442 cst_136 v444) slices_S512x256_o0_255_S512x1
  have v487 : FVec Ideal S512x1 .f32 := addf v485 v486
  have v488 : FVec Ideal S512x1 .f32 := extractStridedSlice S512x1 ![0, 0] v316 slices_S1024x1_o0_0_S512x1
  have v489 : FVec Ideal S1024x1 .f32 := cat512_1 v488 v487
  v489 : FVec Ideal S1024x1 .f32) := rfl

theorem cat_k0_pay278 (v376 : FVec Ideal S1024x1 .f32) (v535 : FVec Ideal S512x256 .f32) : k0_pay278 (F := Ideal) v376 v535 =
  (have v545 : FVec Ideal S512x1 .f32 := extractStridedSlice S512x1 ![512, 0] v376 slices_S1024x1_o512_0_S512x1
  have v546 : FVec Ideal S512x1 .f32 := extractStridedSlice S512x1 ![0, 255] v535 slices_S512x256_o0_255_S512x1
  have v547 : FVec Ideal S512x1 .f32 := addf v545 v546
  have v548 : FVec Ideal S512x1 .f32 := extractStridedSlice S512x1 ![0, 0] v376 slices_S1024x1_o0_0_S512x1
  have v549 : FVec Ideal S1024x1 .f32 := cat512_1 v548 v547
  v549 : FVec Ideal S1024x1 .f32) := rfl

theorem cat_k0_pay282 (v406 : FVec Ideal S1024x128 .f32) (v423 : FVec Ideal S256x128 .bf16) (v436 : IVec S512x256 1) (v493 : FVec Ideal S512x128 .f32) (v533 : FVec Ideal S512x256 .f32) (v535 : FVec Ideal S512x256 .f32) (v537 : FVec Ideal S512x256 .f32) (v539 : FVec Ideal S512x256 .f32) : k0_pay282 (F := Ideal) v406 v423 v436 v493 v533 v535 v537 v539 =
  (have cst_163 : FVec Ideal S512x128 .f32 := constant S512x128 .f32 0x00000000#32
  have v552 : FVec Ideal S512x128 .f32 := matmul dot_S512x256_S256x128_S512x128_1_0_0_1_n_n none (k0_pay279 v436 v533 v535 v537 v539) v423 cst_163
  have v553 : FVec Ideal S512x128 .f32 := addf v493 v552
  have v576 : FVec Ideal S512x128 .f32 := extractStridedSlice S512x128 ![512, 0] v406 slices_S1024x128_o512_0_S512x128
  have v577 : FVec Ideal S512x128 .f32 := addf v576 v553
  have v578 : FVec Ideal S512x128 .f32 := extractStridedSlice S512x128 ![0, 0] v406 slices_S1024x128_o0_0_S512x128
  have v579 : FVec Ideal S1024x128 .f32 := cat512_128 v578 v577
  v579 : FVec Ideal S1024x128 .f32) := rfl

theorem cat_k0_pay312 (v579 : FVec Ideal S1024x128 .f32) (v716 : FVec Ideal S256x128 .f32) : k0_pay312 (F := Ideal) v579 v716 =
  (have v739 : FVec Ideal S256x128 .f32 := extractStridedSlice S256x128 ![768, 0] v579 slices_S1024x128_o768_0_S256x128
  have v740 : FVec Ideal S256x128 .f32 := addf v739 v716
  have v741 : FVec Ideal S768x128 .f32 := extractStridedSlice S768x128 ![0, 0] v579 slices_S1024x128_o0_0_S768x128
  have v742 : FVec Ideal S1024x128 .f32 := cat768_128 v741 v740
  have cst_223 : Ideal .f32 := Scalar.ofBits .f32 0x3E000000#32
  have v743 : FVec Ideal S1024x128 .f32 := broadcast S1024x128 cst_223
  have v744 : FVec Ideal S1024x128 .f32 := mulf v742 v743
  have v745 : FVec Ideal S1024x128 .bf16 := truncf .bf16 v744 bitsLt_bf16_f32
  v745 : FVec Ideal S1024x128 .bf16) := rfl

set_option maxHeartbeats 1000000 in
/-- The tile 0 of the diagonal block. -/
theorem tile0 (b : Blk) (s : St) (q : ℕ) (hq : q < 4)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (Q0 : FVec Ideal S1024x128 .bf16) (hQ0 : Q0 = up b.q0)
    (Q1 : FVec Ideal S1024x128 .bf16) (hQ1 : Q1 = up b.q1)
    (QT0 : FVec Ideal S128x1024 .bf16) (hQT0 : QT0 = up b.qt0)
    (QT1 : FVec Ideal S128x1024 .bf16) (hQT1 : QT1 = up b.qt1)
    (D0 : FVec Ideal S1024x128 .bf16) (hD0 : D0 = up b.d0)
    (D1 : FVec Ideal S1024x128 .bf16) (hD1 : D1 = up b.d1)
    (DT0 : FVec Ideal S128x1024 .bf16) (hDT0 : DT0 = up b.dt0)
    (DT1 : FVec Ideal S128x1024 .bf16) (hDT1 : DT1 = up b.dt1)
    (C0 : FVec Ideal S1024x128 .f32) (hC0 : C0 = up b.c0)
    (C1 : FVec Ideal S1024x128 .f32) (hC1 : C1 = up b.c1)
    (E0 : FVec Ideal S1024x1 .f32) (hE0 : E0 = up s.e0)
    (E1 : FVec Ideal S1024x1 .f32) (hE1 : E1 = up s.e1)
    (DQ : FVec Ideal S1024x128 .f32) (hDQ : DQ = up s.dq)
    (KB : FVec Ideal S256x128 .f32) (hKB : KB = up (shiftM (256 * (4 * q + 0)) 0 b.K))
    (VB : FVec Ideal S256x128 .f32) (hVB : VB = up (shiftM (256 * (4 * q + 0)) 0 b.V))
    (SK : FVec Ideal S1x128x256 .f32) (hSK : SK = up1 (s.sk (4 * q + 0)))
    (SV : FVec Ideal S1x128x256 .f32) (hSV : SV = up1 (s.sv (4 * q + 0)))
    (w14 : FVec Ideal S256x128 .bf16)
    (w15 : FVec Ideal S256x128 .bf16)
    (w16 : FVec Ideal S256x128 .bf16)
    (w17 : FVec Ideal S256x128 .bf16)
    (w18 : IVec S1024x256 1)
    (w19 : FVec Ideal S1024x1 .f32)
    (w20 : FVec Ideal S1024x256 .f32)
    (w21 : FVec Ideal S1024x256 .f32)
    (w22 : FVec Ideal S1024x256 .f32)
    (w23 : FVec Ideal S1024x1 .f32)
    (w24 : FVec Ideal S1024x128 .f32)
    (w25 : FVec Ideal S128x256 .f32)
    (w26 : FVec Ideal S128x256 .f32)
    (w27 : FVec Ideal S1024x1 .f32)
    (w28 : FVec Ideal S1024x1 .f32)
    (w29 : FVec Ideal S1024x128 .f32)
    (w30 : FVec Ideal S128x256 .f32)
    (w31 : FVec Ideal S128x256 .f32)
    (w32 : FVec Ideal S128x256 .f32)
    (w33 : FVec Ideal S1024x128 .f32)
    (h14 : w14 = k0_pay178 KB)
    (h15 : w15 = k0_pay179 k0_pay143 KB)
    (h16 : w16 = k0_pay180 k0_pay143 KB)
    (h17 : w17 = k0_pay181 VB)
    (h18 : w18 = k0_pay182 (BitVec.ofNat 32 q) (Scalar.muli (BitVec.ofNat 32 q) 4#32) 0#32)
    (h19 : w19 = k0_pay186 (iota .tc S1x128 32 [1] iota_S1x128_d1_w32) C0 (Scalar.muli (BitVec.ofNat 32 q) 4#32) 0#32)
    (h20 : w20 = k0_pay187 Q0 KB)
    (h21 : w21 = k0_pay188 Q0 KB)
    (h22 : w22 = k0_pay189 Q0 KB)
    (h23 : w23 = k0_pay194 D0 (k0_pay160 (F := Ideal)) (k0_pay161 (F := Ideal)) E0 w17 w18 w19 w20 w21 w22 (Scalar.ofBits .f32 0x00000000#32 : Ideal .f32))
    (h24 : w24 = k0_pay196 D0 (k0_pay160 (F := Ideal)) (k0_pay161 (F := Ideal)) E0 w15 w17 w18 (k0_pay185 (F := Ideal)) w19 w20 w21 w22 (Scalar.ofBits .f32 0x00000000#32 : Ideal .f32))
    (h25 : w25 = k0_pay197 QT0 D0 (k0_pay160 (F := Ideal)) (k0_pay161 (F := Ideal)) E0 w17 w18 (k0_pay183 (F := Ideal)) w19 w20 w21 w22 (Scalar.ofBits .f32 0x00000000#32 : Ideal .f32))
    (h26 : w26 = k0_pay198 DT0 (k0_pay160 (F := Ideal)) w18 (k0_pay184 (F := Ideal)) w19 w20 w21 w22 (Scalar.ofBits .f32 0x00000000#32 : Ideal .f32))
    (h27 : w27 = k0_pay199 (iota .tc S1x128 32 [1] iota_S1x128_d1_w32) C1 (Scalar.addi (Scalar.muli (BitVec.ofNat 32 q) 4#32) 0#32))
    (h28 : w28 = k0_pay205 Q1 D1 (k0_pay160 (F := Ideal)) (k0_pay161 (F := Ideal)) E1 w14 w17 w18 w27 (constant S1024x256 .f32 0x00000000#32 : FVec Ideal S1024x256 .f32))
    (h29 : w29 = k0_pay207 Q1 D1 (k0_pay160 (F := Ideal)) (k0_pay161 (F := Ideal)) E1 w14 w16 w17 w18 w24 w27 (constant S1024x256 .f32 0x00000000#32 : FVec Ideal S1024x256 .f32))
    (h30 : w30 = k0_pay208 Q1 QT1 D1 (k0_pay160 (F := Ideal)) (k0_pay161 (F := Ideal)) E1 w14 w17 w18 w25 w27 (constant S1024x256 .f32 0x00000000#32 : FVec Ideal S1024x256 .f32))
    (h31 : w31 = k0_pay209 Q1 DT1 (k0_pay160 (F := Ideal)) w14 w18 w26 w27 (constant S1024x256 .f32 0x00000000#32 : FVec Ideal S1024x256 .f32))
    (h32 : w32 = k0_pay210 SK)
    (h33 : w33 = k0_pay213 DQ w29)
    (s' : St) (hs' : s' = (b.step (fun r c => 256 * (4 * q + 0) + c < 1024 * q + 0 + r) (4 * q + 0) s)) :
    w23 = (up s'.e0 : FVec Ideal S1024x1 .f32)
    ∧ w28 = (up s'.e1 : FVec Ideal S1024x1 .f32)
    ∧ w33 = (up s'.dq : FVec Ideal S1024x128 .f32)
    ∧ k0_pay211 w30 w32 = (up1 (s'.sk (4 * q + 0)) : FVec Ideal S1x128x256 .f32)
    ∧ k0_pay212 w31 SV = (up1 (s'.sv (4 * q + 0)) : FVec Ideal S1x128x256 .f32) := by
  subst hs'
  subst h33
  subst h32
  subst h31
  subst h30
  subst h29
  subst h28
  subst h27
  subst h26
  subst h25
  subst h24
  subst h23
  subst h22
  subst h21
  subst h20
  subst h19
  subst h18
  subst h17
  subst h16
  subst h15
  subst h14
  subst hQ0 hQ1 hQT0 hQT1 hD0 hD1 hDT0 hDT1 hC0 hC1 hE0 hE1 hDQ hKB hVB hSK hSV
  have wq := tile_word' q 0 hq
  have ws := key_word q 0 hq
  have wr := row_word q 0 hq (by norm_num)
  have l := lane_eq (4 * q + 0) (by omega)
  have p := fun A => pick_lane A (4 * q + 0) (by omega)
  have cm := fun (h0) (h1) => causal_mask (n := 1024) (m := 256) (1024 * q + 0) (256 * (4 * q + 0)) (by omega) (by omega) (by norm_num) (by norm_num) h0 h1
  dsimp only
  simp only [k0_pay178, k0_pay179, k0_pay180, k0_pay181, k0_pay182, k0_pay183, k0_pay184, k0_pay185, red_k0_pay186, k0_pay187, k0_pay188, k0_pay189, k0_pay190, k0_pay191, k0_pay192, k0_pay193, k0_pay194, k0_pay195, k0_pay196, k0_pay197, k0_pay198, red_k0_pay199, k0_pay200, k0_pay201, k0_pay202, k0_pay203, k0_pay204, k0_pay205, k0_pay206, k0_pay207, k0_pay208, k0_pay209, k0_pay210, k0_pay211, k0_pay212, k0_pay213, addf_up, subf_up, mulf_up, maximumf_up, absf_up, exp_up, log_up, truncf_up, extf_up, zero_up, one_up, eighth_up, select_up, shapeCast_self_eq, bcRow1024, bcColP128, bcRow256, bcColF1024, slice_up, cast1_up, castTo1_up, cast11_up, red1024_up, pay160_eq, pay161_eq, lane_lt1, bcRow1024, cat256_1_up, cat512_1_up, cat256_128_up, cat512_128_up, cat768_128_up, mm_1024x128_256x128_t, mm_1024x256_256x256_n, mm_1024x256_256x128_n, mm_128x1024_1024x256_n, mm_768x128_256x128_t, mm_768x256_256x256_n, mm_768x256_256x128_n, mm_128x768_768x256_n, mm_512x128_256x128_t, mm_512x256_256x256_n, mm_512x256_256x128_n, mm_128x512_512x256_n, mm_256x128_256x128_t, mm_256x256_256x256_n, mm_256x256_256x128_n, mm_128x256_256x256_n, wq, ws, wr, l, p, cm]
  simp only [Blk.step, Blk.diag, tEc, tDz, tPre, tE, tW, tSp, lowM, highM, Function.update_self]
  and_intros <;> first | rfl | trivial

set_option maxHeartbeats 1000000 in
/-- The tile 1 of the diagonal block. -/
theorem tile1 (b : Blk) (s : St) (q : ℕ) (hq : q < 4)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (Q0 : FVec Ideal S1024x128 .bf16) (hQ0 : Q0 = up b.q0)
    (Q1 : FVec Ideal S1024x128 .bf16) (hQ1 : Q1 = up b.q1)
    (QT0 : FVec Ideal S128x1024 .bf16) (hQT0 : QT0 = up b.qt0)
    (QT1 : FVec Ideal S128x1024 .bf16) (hQT1 : QT1 = up b.qt1)
    (D0 : FVec Ideal S1024x128 .bf16) (hD0 : D0 = up b.d0)
    (D1 : FVec Ideal S1024x128 .bf16) (hD1 : D1 = up b.d1)
    (DT0 : FVec Ideal S128x1024 .bf16) (hDT0 : DT0 = up b.dt0)
    (DT1 : FVec Ideal S128x1024 .bf16) (hDT1 : DT1 = up b.dt1)
    (C0 : FVec Ideal S1024x128 .f32) (hC0 : C0 = up b.c0)
    (C1 : FVec Ideal S1024x128 .f32) (hC1 : C1 = up b.c1)
    (E0 : FVec Ideal S1024x1 .f32) (hE0 : E0 = up s.e0)
    (E1 : FVec Ideal S1024x1 .f32) (hE1 : E1 = up s.e1)
    (DQ : FVec Ideal S1024x128 .f32) (hDQ : DQ = up s.dq)
    (KB : FVec Ideal S256x128 .f32) (hKB : KB = up (shiftM (256 * (4 * q + 1)) 0 b.K))
    (VB : FVec Ideal S256x128 .f32) (hVB : VB = up (shiftM (256 * (4 * q + 1)) 0 b.V))
    (SK : FVec Ideal S1x128x256 .f32) (hSK : SK = up1 (s.sk (4 * q + 1)))
    (SV : FVec Ideal S1x128x256 .f32) (hSV : SV = up1 (s.sv (4 * q + 1)))
    (w34 : FVec Ideal S256x128 .bf16)
    (w35 : FVec Ideal S256x128 .bf16)
    (w36 : FVec Ideal S256x128 .bf16)
    (w37 : FVec Ideal S256x128 .bf16)
    (w38 : IVec S768x256 32)
    (w39 : IVec S768x256 32)
    (w40 : IVec S768x256 1)
    (w41 : FVec Ideal S768x256 .f32)
    (w42 : FVec Ideal S768x256 .f32)
    (w43 : FVec Ideal S768x256 .f32)
    (w44 : FVec Ideal S768x256 .f32)
    (w45 : FVec Ideal S768x256 .f32)
    (w46 : FVec Ideal S1024x1 .f32)
    (w47 : FVec Ideal S768x128 .f32)
    (w48 : FVec Ideal S128x256 .f32)
    (w49 : FVec Ideal S128x256 .f32)
    (w50 : FVec Ideal S768x256 .f32)
    (w51 : FVec Ideal S768x256 .f32)
    (w52 : FVec Ideal S768x256 .f32)
    (w53 : FVec Ideal S1024x1 .f32)
    (w54 : FVec Ideal S768x128 .f32)
    (w55 : FVec Ideal S128x256 .f32)
    (w56 : FVec Ideal S1024x128 .f32)
    (h34 : w34 = k0_pay214 KB)
    (h35 : w35 = k0_pay215 k0_pay143 KB)
    (h36 : w36 = k0_pay216 k0_pay143 KB)
    (h37 : w37 = k0_pay217 VB)
    (h38 : w38 = k0_pay218 (BitVec.ofNat 32 q))
    (h39 : w39 = k0_pay219 (BitVec.ofNat 32 q))
    (h40 : w40 = k0_pay220 w38 (iota .tc S768x256 32 [1] iota_S768x256_d1_w32) w39)
    (h41 : w41 = k0_pay226 (iota .tc S1x128 32 [1] iota_S1x128_d1_w32) Q0 C0 (k0_pay160 (F := Ideal)) (Scalar.addi (Scalar.muli (BitVec.ofNat 32 q) 4#32) 1#32) w34 w38 (iota .tc S768x256 32 [1] iota_S768x256_d1_w32) w39)
    (h42 : w42 = k0_pay227 (iota .tc S1x128 32 [1] iota_S1x128_d1_w32) Q0 D0 C0 (k0_pay160 (F := Ideal)) (Scalar.addi (Scalar.muli (BitVec.ofNat 32 q) 4#32) 1#32) w34 w37 w38 (iota .tc S768x256 32 [1] iota_S768x256_d1_w32) w39)
    (h43 : w43 = k0_pay228 (iota .tc S1x128 32 [1] iota_S1x128_d1_w32) Q0 D0 C0 (k0_pay160 (F := Ideal)) (k0_pay161 (F := Ideal)) (Scalar.addi (Scalar.muli (BitVec.ofNat 32 q) 4#32) 1#32) w34 w37 w38 (iota .tc S768x256 32 [1] iota_S768x256_d1_w32) w39)
    (h44 : w44 = k0_pay229 Q0 w34 w38 (iota .tc S768x256 32 [1] iota_S768x256_d1_w32) w39)
    (h45 : w45 = k0_pay230 (iota .tc S1x128 32 [1] iota_S1x128_d1_w32) Q0 D0 C0 (k0_pay160 (F := Ideal)) (k0_pay161 (F := Ideal)) E0 (Scalar.addi (Scalar.muli (BitVec.ofNat 32 q) 4#32) 1#32) w34 w37 w38 (iota .tc S768x256 32 [1] iota_S768x256_d1_w32) w39)
    (h46 : w46 = k0_pay231 E0 w43)
    (h47 : w47 = k0_pay233 w35 w40 (k0_pay223 (F := Ideal)) w42 w44 w45)
    (h48 : w48 = k0_pay234 QT0 w40 (k0_pay221 (F := Ideal)) w42 w44 w45)
    (h49 : w49 = k0_pay235 DT0 (k0_pay222 (F := Ideal)) w41)
    (h50 : w50 = k0_pay236 Q1 w34)
    (h51 : w51 = k0_pay237 Q1 w34 w40)
    (h52 : w52 = k0_pay238 (iota .tc S1x128 32 [1] iota_S1x128_d1_w32) Q1 C1 (k0_pay160 (F := Ideal)) (Scalar.addi (Scalar.muli (BitVec.ofNat 32 q) 4#32) 1#32) w34 w40)
    (h53 : w53 = k0_pay242 D1 (k0_pay161 (F := Ideal)) E1 w37 w40 w52)
    (h54 : w54 = k0_pay244 D1 (k0_pay161 (F := Ideal)) E1 w36 w37 w40 w47 w50 w51 w52)
    (h55 : w55 = k0_pay246 DT1 w40 w49 w52 SV)
    (h56 : w56 = k0_pay248 DQ w54)
    (s' : St) (hs' : s' = (b.diag 256 768 (fun r c => 256 * (4 * q + 1) + c < (1024 * q + 256) + r) (4 * q + 1) s)) :
    w46 = (up s'.e0 : FVec Ideal S1024x1 .f32)
    ∧ w53 = (up s'.e1 : FVec Ideal S1024x1 .f32)
    ∧ w56 = (up s'.dq : FVec Ideal S1024x128 .f32)
    ∧ k0_pay245 QT1 D1 (k0_pay161 (F := Ideal)) E1 w37 w40 w48 w50 w51 w52 SK = (up1 (s'.sk (4 * q + 1)) : FVec Ideal S1x128x256 .f32)
    ∧ k0_pay247 w55 = (up1 (s'.sv (4 * q + 1)) : FVec Ideal S1x128x256 .f32) := by
  subst hs'
  subst h56
  subst h55
  subst h54
  subst h53
  subst h52
  subst h51
  subst h50
  subst h49
  subst h48
  subst h47
  subst h46
  subst h45
  subst h44
  subst h43
  subst h42
  subst h41
  subst h40
  subst h39
  subst h38
  subst h37
  subst h36
  subst h35
  subst h34
  subst hQ0 hQ1 hQT0 hQT1 hD0 hD1 hDT0 hDT1 hC0 hC1 hE0 hE1 hDQ hKB hVB hSK hSV
  have wq := tile_word' q 1 hq
  have ws := key_word q 1 hq
  have wr := row_word q 256 hq (by norm_num)
  have l := lane_eq (4 * q + 1) (by omega)
  have p := fun A => pick_lane A (4 * q + 1) (by omega)
  have cm := fun (h0) (h1) => causal_mask (n := 768) (m := 256) (1024 * q + 256) (256 * (4 * q + 1)) (by omega) (by omega) (by norm_num) (by norm_num) h0 h1
  dsimp only
  simp only [k0_pay214, k0_pay215, k0_pay216, k0_pay217, k0_pay218, k0_pay219, k0_pay220, k0_pay221, k0_pay222, k0_pay223, k0_pay224, k0_pay225, red_k0_pay226, k0_pay227, k0_pay228, k0_pay229, k0_pay230, cat_k0_pay231, k0_pay232, k0_pay233, k0_pay234, k0_pay235, k0_pay236, k0_pay237, red_k0_pay238, k0_pay239, k0_pay240, k0_pay241, cat_k0_pay242, k0_pay243, k0_pay244, k0_pay245, k0_pay246, k0_pay247, cat_k0_pay248, addf_up, subf_up, mulf_up, maximumf_up, absf_up, exp_up, log_up, truncf_up, extf_up, zero_up, one_up, eighth_up, select_up, shapeCast_self_eq, bcRow1024, bcColP128, bcRow256, bcColF1024, slice_up, cast1_up, castTo1_up, cast11_up, red1024_up, pay160_eq, pay161_eq, lane_lt1, bcRow768, bcColF768, red768_up, cat256_1_up, cat512_1_up, cat256_128_up, cat512_128_up, cat768_128_up, mm_1024x128_256x128_t, mm_1024x256_256x256_n, mm_1024x256_256x128_n, mm_128x1024_1024x256_n, mm_768x128_256x128_t, mm_768x256_256x256_n, mm_768x256_256x128_n, mm_128x768_768x256_n, mm_512x128_256x128_t, mm_512x256_256x256_n, mm_512x256_256x128_n, mm_128x512_512x256_n, mm_256x128_256x128_t, mm_256x256_256x256_n, mm_256x256_256x128_n, mm_128x256_256x256_n, wq, ws, wr, l, p, cm]
  simp only [Blk.step, Blk.diag, tEc, tDz, tPre, tE, tW, tSp, lowM, highM, Function.update_self]
  and_intros <;> first | rfl | trivial

set_option maxHeartbeats 1000000 in
/-- The tile 2 of the diagonal block. -/
theorem tile2 (b : Blk) (s : St) (q : ℕ) (hq : q < 4)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (Q0 : FVec Ideal S1024x128 .bf16) (hQ0 : Q0 = up b.q0)
    (Q1 : FVec Ideal S1024x128 .bf16) (hQ1 : Q1 = up b.q1)
    (QT0 : FVec Ideal S128x1024 .bf16) (hQT0 : QT0 = up b.qt0)
    (QT1 : FVec Ideal S128x1024 .bf16) (hQT1 : QT1 = up b.qt1)
    (D0 : FVec Ideal S1024x128 .bf16) (hD0 : D0 = up b.d0)
    (D1 : FVec Ideal S1024x128 .bf16) (hD1 : D1 = up b.d1)
    (DT0 : FVec Ideal S128x1024 .bf16) (hDT0 : DT0 = up b.dt0)
    (DT1 : FVec Ideal S128x1024 .bf16) (hDT1 : DT1 = up b.dt1)
    (C0 : FVec Ideal S1024x128 .f32) (hC0 : C0 = up b.c0)
    (C1 : FVec Ideal S1024x128 .f32) (hC1 : C1 = up b.c1)
    (E0 : FVec Ideal S1024x1 .f32) (hE0 : E0 = up s.e0)
    (E1 : FVec Ideal S1024x1 .f32) (hE1 : E1 = up s.e1)
    (DQ : FVec Ideal S1024x128 .f32) (hDQ : DQ = up s.dq)
    (KB : FVec Ideal S256x128 .f32) (hKB : KB = up (shiftM (256 * (4 * q + 2)) 0 b.K))
    (VB : FVec Ideal S256x128 .f32) (hVB : VB = up (shiftM (256 * (4 * q + 2)) 0 b.V))
    (SK : FVec Ideal S1x128x256 .f32) (hSK : SK = up1 (s.sk (4 * q + 2)))
    (SV : FVec Ideal S1x128x256 .f32) (hSV : SV = up1 (s.sv (4 * q + 2)))
    (w57 : FVec Ideal S256x128 .bf16)
    (w58 : FVec Ideal S256x128 .bf16)
    (w59 : FVec Ideal S256x128 .bf16)
    (w60 : FVec Ideal S256x128 .bf16)
    (w61 : IVec S512x256 1)
    (w62 : FVec Ideal S512x128 .f32)
    (w63 : IVec S512x128 1)
    (w64 : FVec Ideal S1024x1 .f32)
    (w65 : FVec Ideal S512x256 .bf16)
    (w66 : FVec Ideal S512x256 .bf16)
    (w67 : FVec Ideal S512x128 .f32)
    (w68 : FVec Ideal S512x128 .f32)
    (w69 : FVec Ideal S128x256 .f32)
    (w70 : FVec Ideal S128x256 .f32)
    (w71 : FVec Ideal S512x256 .f32)
    (w72 : FVec Ideal S512x256 .f32)
    (w73 : FVec Ideal S512x256 .f32)
    (w74 : FVec Ideal S512x256 .f32)
    (w75 : FVec Ideal S512x256 .f32)
    (w76 : FVec Ideal S1024x1 .f32)
    (w77 : FVec Ideal S1024x128 .f32)
    (h57 : w57 = k0_pay249 KB)
    (h58 : w58 = k0_pay250 k0_pay143 KB)
    (h59 : w59 = k0_pay251 k0_pay143 KB)
    (h60 : w60 = k0_pay252 VB)
    (h61 : w61 = k0_pay253 (BitVec.ofNat 32 q))
    (h62 : w62 = k0_pay257 C0)
    (h63 : w63 = k0_pay258 (BitVec.ofNat 32 q) (iota .tc S1x128 32 [1] iota_S1x128_d1_w32))
    (h64 : w64 = k0_pay264 Q0 D0 (k0_pay160 (F := Ideal)) (k0_pay161 (F := Ideal)) E0 w57 w60 w61 w62 (Scalar.ofBits .f32 0x00000000#32 : Ideal .f32) w63)
    (h65 : w65 = k0_pay265 Q0 D0 (k0_pay160 (F := Ideal)) (k0_pay161 (F := Ideal)) E0 w57 w60 w61 w62 (Scalar.ofBits .f32 0x00000000#32 : Ideal .f32) w63)
    (h66 : w66 = k0_pay266 Q0 (k0_pay160 (F := Ideal)) w57 w61 w62 (Scalar.ofBits .f32 0x00000000#32 : Ideal .f32) w63)
    (h67 : w67 = k0_pay267 Q0 D0 (k0_pay160 (F := Ideal)) (k0_pay161 (F := Ideal)) E0 w57 w58 w60 w61 w62 (Scalar.ofBits .f32 0x00000000#32 : Ideal .f32) w63)
    (h68 : w68 = k0_pay268 (k0_pay256 (F := Ideal)) w67)
    (h69 : w69 = k0_pay269 QT0 (k0_pay254 (F := Ideal)) w65)
    (h70 : w70 = k0_pay270 DT0 (k0_pay255 (F := Ideal)) w66)
    (h71 : w71 = k0_pay273 (iota .tc S1x128 32 [1] iota_S1x128_d1_w32) Q1 C1 (k0_pay160 (F := Ideal)) (Scalar.addi (Scalar.muli (BitVec.ofNat 32 q) 4#32) 2#32) w57 w61)
    (h72 : w72 = k0_pay274 (iota .tc S1x128 32 [1] iota_S1x128_d1_w32) Q1 D1 C1 (k0_pay160 (F := Ideal)) (Scalar.addi (Scalar.muli (BitVec.ofNat 32 q) 4#32) 2#32) w57 w60 w61)
    (h73 : w73 = k0_pay275 (iota .tc S1x128 32 [1] iota_S1x128_d1_w32) Q1 D1 C1 (k0_pay160 (F := Ideal)) (k0_pay161 (F := Ideal)) (Scalar.addi (Scalar.muli (BitVec.ofNat 32 q) 4#32) 2#32) w57 w60 w61)
    (h74 : w74 = k0_pay276 Q1 w57 w61)
    (h75 : w75 = k0_pay277 E1)
    (h76 : w76 = k0_pay278 E1 w73)
    (h77 : w77 = k0_pay282 DQ w59 w61 w68 w72 w73 w74 w75)
    (s' : St) (hs' : s' = (b.diag 512 512 (fun r c => 256 * (4 * q + 2) + c < (1024 * q + 512) + r) (4 * q + 2) s)) :
    w64 = (up s'.e0 : FVec Ideal S1024x1 .f32)
    ∧ w76 = (up s'.e1 : FVec Ideal S1024x1 .f32)
    ∧ w77 = (up s'.dq : FVec Ideal S1024x128 .f32)
    ∧ k0_pay280 QT1 w61 w69 w72 w73 w74 w75 SK = (up1 (s'.sk (4 * q + 2)) : FVec Ideal S1x128x256 .f32)
    ∧ k0_pay281 DT1 w70 w71 SV = (up1 (s'.sv (4 * q + 2)) : FVec Ideal S1x128x256 .f32) := by
  subst hs'
  subst h77
  subst h76
  subst h75
  subst h74
  subst h73
  subst h72
  subst h71
  subst h70
  subst h69
  subst h68
  subst h67
  subst h66
  subst h65
  subst h64
  subst h63
  subst h62
  subst h61
  subst h60
  subst h59
  subst h58
  subst h57
  subst hQ0 hQ1 hQT0 hQT1 hD0 hD1 hDT0 hDT1 hC0 hC1 hE0 hE1 hDQ hKB hVB hSK hSV
  have wq := tile_word' q 2 hq
  have ws := key_word q 2 hq
  have wr := row_word q 512 hq (by norm_num)
  have l := lane_eq (4 * q + 2) (by omega)
  have p := fun A => pick_lane A (4 * q + 2) (by omega)
  have cm := fun (h0) (h1) => causal_mask (n := 512) (m := 256) (1024 * q + 512) (256 * (4 * q + 2)) (by omega) (by omega) (by norm_num) (by norm_num) h0 h1
  dsimp only
  simp only [k0_pay249, k0_pay250, k0_pay251, k0_pay252, k0_pay253, k0_pay254, k0_pay255, k0_pay256, k0_pay257, k0_pay258, k0_pay259, k0_pay260, red_k0_pay261, k0_pay262, k0_pay263, cat_k0_pay264, k0_pay265, k0_pay266, k0_pay267, k0_pay268, k0_pay269, k0_pay270, k0_pay271, k0_pay272, red_k0_pay273, k0_pay274, k0_pay275, k0_pay276, k0_pay277, cat_k0_pay278, k0_pay279, k0_pay280, k0_pay281, cat_k0_pay282, addf_up, subf_up, mulf_up, maximumf_up, absf_up, exp_up, log_up, truncf_up, extf_up, zero_up, one_up, eighth_up, select_up, shapeCast_self_eq, bcRow1024, bcColP128, bcRow256, bcColF1024, slice_up, cast1_up, castTo1_up, cast11_up, red1024_up, pay160_eq, pay161_eq, lane_lt1, bcRow512, bcColF512, red512_up, cat256_1_up, cat512_1_up, cat256_128_up, cat512_128_up, cat768_128_up, mm_1024x128_256x128_t, mm_1024x256_256x256_n, mm_1024x256_256x128_n, mm_128x1024_1024x256_n, mm_768x128_256x128_t, mm_768x256_256x256_n, mm_768x256_256x128_n, mm_128x768_768x256_n, mm_512x128_256x128_t, mm_512x256_256x256_n, mm_512x256_256x128_n, mm_128x512_512x256_n, mm_256x128_256x128_t, mm_256x256_256x256_n, mm_256x256_256x128_n, mm_128x256_256x256_n, wq, ws, wr, l, p, cm]
  simp only [Blk.step, Blk.diag, tEc, tDz, tPre, tE, tW, tSp, lowM, highM, Function.update_self]
  and_intros <;> first | rfl | trivial

set_option maxHeartbeats 1000000 in
/-- The tile 3 of the diagonal block. -/
theorem tile3 (b : Blk) (s : St) (q : ℕ) (hq : q < 4)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (Q0 : FVec Ideal S1024x128 .bf16) (hQ0 : Q0 = up b.q0)
    (Q1 : FVec Ideal S1024x128 .bf16) (hQ1 : Q1 = up b.q1)
    (QT0 : FVec Ideal S128x1024 .bf16) (hQT0 : QT0 = up b.qt0)
    (QT1 : FVec Ideal S128x1024 .bf16) (hQT1 : QT1 = up b.qt1)
    (D0 : FVec Ideal S1024x128 .bf16) (hD0 : D0 = up b.d0)
    (D1 : FVec Ideal S1024x128 .bf16) (hD1 : D1 = up b.d1)
    (DT0 : FVec Ideal S128x1024 .bf16) (hDT0 : DT0 = up b.dt0)
    (DT1 : FVec Ideal S128x1024 .bf16) (hDT1 : DT1 = up b.dt1)
    (C0 : FVec Ideal S1024x128 .f32) (hC0 : C0 = up b.c0)
    (C1 : FVec Ideal S1024x128 .f32) (hC1 : C1 = up b.c1)
    (E0 : FVec Ideal S1024x1 .f32) (hE0 : E0 = up s.e0)
    (E1 : FVec Ideal S1024x1 .f32) (hE1 : E1 = up s.e1)
    (DQ : FVec Ideal S1024x128 .f32) (hDQ : DQ = up s.dq)
    (KB : FVec Ideal S256x128 .f32) (hKB : KB = up (shiftM (256 * (4 * q + 3)) 0 b.K))
    (VB : FVec Ideal S256x128 .f32) (hVB : VB = up (shiftM (256 * (4 * q + 3)) 0 b.V))
    (SK : FVec Ideal S1x128x256 .f32) (hSK : SK = up1 (s.sk (4 * q + 3)))
    (SV : FVec Ideal S1x128x256 .f32) (hSV : SV = up1 (s.sv (4 * q + 3)))
    (w78 : FVec Ideal S256x128 .bf16)
    (w79 : FVec Ideal S256x128 .bf16)
    (w80 : FVec Ideal S256x128 .bf16)
    (w81 : FVec Ideal S256x128 .bf16)
    (w82 : IVec S256x256 1)
    (w83 : FVec Ideal S256x1 .f32)
    (w84 : FVec Ideal S256x256 .f32)
    (w85 : FVec Ideal S256x256 .f32)
    (w86 : FVec Ideal S256x256 .f32)
    (w87 : FVec Ideal S256x128 .f32)
    (w88 : FVec Ideal S128x256 .f32)
    (w89 : FVec Ideal S128x256 .f32)
    (w90 : FVec Ideal S256 .f32)
    (w91 : FVec Ideal S256x128 .f32)
    (w92 : FVec Ideal S128x256 .f32)
    (w93 : FVec Ideal S128x256 .f32)
    (h78 : w78 = k0_pay283 KB)
    (h79 : w79 = k0_pay284 k0_pay143 KB)
    (h80 : w80 = k0_pay285 k0_pay143 KB)
    (h81 : w81 = k0_pay286 VB)
    (h82 : w82 = k0_pay287 (BitVec.ofNat 32 q) (Scalar.addi (Scalar.muli (BitVec.ofNat 32 q) 4#32) 3#32))
    (h83 : w83 = k0_pay291 (iota .tc S1x128 32 [1] iota_S1x128_d1_w32) C0 (Scalar.addi (Scalar.muli (BitVec.ofNat 32 q) 4#32) 3#32))
    (h84 : w84 = k0_pay292 Q0 KB)
    (h85 : w85 = k0_pay293 Q0 KB)
    (h86 : w86 = k0_pay294 Q0 KB)
    (h87 : w87 = k0_pay299 D0 (k0_pay160 (F := Ideal)) (k0_pay161 (F := Ideal)) E0 w79 w81 w82 (k0_pay290 (F := Ideal)) w83 w84 w85 w86 (k0_pay295 (F := Ideal)))
    (h88 : w88 = k0_pay300 QT0 D0 (k0_pay160 (F := Ideal)) (k0_pay161 (F := Ideal)) E0 w81 w82 (k0_pay288 (F := Ideal)) w83 w84 w85 w86 (k0_pay295 (F := Ideal)))
    (h89 : w89 = k0_pay301 DT0 (k0_pay160 (F := Ideal)) w82 (k0_pay289 (F := Ideal)) w83 w84 w85 w86 (k0_pay295 (F := Ideal)))
    (h90 : w90 = k0_pay302 (iota .tc S1x128 32 [1] iota_S1x128_d1_w32) C1 (Scalar.addi (Scalar.muli (BitVec.ofNat 32 q) 4#32) 3#32))
    (h91 : w91 = k0_pay307 Q1 D1 (k0_pay160 (F := Ideal)) (k0_pay161 (F := Ideal)) E1 w78 w80 w81 w82 w87 w90)
    (h92 : w92 = k0_pay308 Q1 QT1 D1 (k0_pay160 (F := Ideal)) (k0_pay161 (F := Ideal)) E1 w78 w81 w82 w88 w90)
    (h93 : w93 = k0_pay309 Q1 DT1 (k0_pay160 (F := Ideal)) w78 w82 w89 w90)
    (s' : St) (hs' : s' = (b.diag 768 256 (fun r c => 256 * (4 * q + 3) + c < (1024 * q + 768) + r) (4 * q + 3) s)) :
    k0_pay312 DQ w91 = (up (s'.dq * constM (1/8)) : FVec Ideal S1024x128 .bf16)
    ∧ k0_pay310 w92 SK = (up1 (s'.sk (4 * q + 3)) : FVec Ideal S1x128x256 .f32)
    ∧ k0_pay311 w93 SV = (up1 (s'.sv (4 * q + 3)) : FVec Ideal S1x128x256 .f32) := by
  subst hs'
  subst h93
  subst h92
  subst h91
  subst h90
  subst h89
  subst h88
  subst h87
  subst h86
  subst h85
  subst h84
  subst h83
  subst h82
  subst h81
  subst h80
  subst h79
  subst h78
  subst hQ0 hQ1 hQT0 hQT1 hD0 hD1 hDT0 hDT1 hC0 hC1 hE0 hE1 hDQ hKB hVB hSK hSV
  have wq := tile_word' q 3 hq
  have ws := key_word q 3 hq
  have wr := row_word q 768 hq (by norm_num)
  have l := lane_eq (4 * q + 3) (by omega)
  have p := fun A => pick_lane A (4 * q + 3) (by omega)
  have cm := fun (h0) (h1) => causal_mask (n := 256) (m := 256) (1024 * q + 768) (256 * (4 * q + 3)) (by omega) (by omega) (by norm_num) (by norm_num) h0 h1
  dsimp only
  simp only [k0_pay283, k0_pay284, k0_pay285, k0_pay286, k0_pay287, k0_pay288, k0_pay289, k0_pay290, red_k0_pay291, k0_pay292, k0_pay293, k0_pay294, k0_pay295, k0_pay296, k0_pay297, k0_pay298, k0_pay299, k0_pay300, k0_pay301, red_k0_pay302, k0_pay303, k0_pay304, k0_pay305, k0_pay306, k0_pay307, k0_pay308, k0_pay309, k0_pay310, k0_pay311, cat_k0_pay312, addf_up, subf_up, mulf_up, maximumf_up, absf_up, exp_up, log_up, truncf_up, extf_up, zero_up, one_up, eighth_up, select_up, shapeCast_self_eq, bcRow1024, bcColP128, bcRow256, bcColF1024, slice_up, cast1_up, castTo1_up, cast11_up, red1024_up, pay160_eq, pay161_eq, lane_lt1, bcRow256, bcColF256, red256_up, cat256_1_up, cat512_1_up, cat256_128_up, cat512_128_up, cat768_128_up, mm_1024x128_256x128_t, mm_1024x256_256x256_n, mm_1024x256_256x128_n, mm_128x1024_1024x256_n, mm_768x128_256x128_t, mm_768x256_256x256_n, mm_768x256_256x128_n, mm_128x768_768x256_n, mm_512x128_256x128_t, mm_512x256_256x256_n, mm_512x256_256x128_n, mm_128x512_512x256_n, mm_256x128_256x128_t, mm_256x256_256x256_n, mm_256x256_256x128_n, mm_128x256_256x256_n, wq, ws, wr, l, p, cm]
  simp only [Blk.step, Blk.diag, tEc, tDz, tPre, tE, tW, tSp, lowM, highM, Function.update_self]
  and_intros <;> first | rfl | trivial

end Cert.KernelIdeal.Gen
end
-- ==== Proof.Block.lean ====
/-
  One point of the grid on real matrices: what the body reads, its tiles in order, and the stores read back.
-/
module

public import proofs.«01_k».proof.Proof.Diag
public import proofs.«01_k».proof.Proof.Gen.KernelIdeal.Frame

@[expose] public section

set_option maxRecDepth 16384

noncomputable section

open scoped BigOperators Classical
open Idealize.ShloMosaic Idealize.ShloMosaic.ValueIdx Idealize.SL Idealize.SL.Sem
open Cert.Arr

namespace Cert.KernelIdeal.Gen

/-- The two carries' matrices of a pair of heads. -/
def up4 (C : ℕ → RMat) : FVec Ideal S1x2x1024x128 .f32 := fun x => ((C (x 1).val (x 2).val (x 3).val : ℝ) : EReal)

/-- What the body derives from its blocks. -/
def Blk.of (Q D C0 C1 K V : RMat) : Blk where
  q0 := lowM (Q * constM (1/8))
  q1 := highM (Q * constM (1/8))
  d := D
  d0 := lowM D
  d1 := highM D
  qt0 := selM (fun r _ => r < 64) (tM (Q * constM (1/8))) (constM 0)
  qt1 := selM (fun r _ => r < 64) (constM 0) (tM (Q * constM (1/8)))
  dt0 := selM (fun r _ => r < 64) (tM D) (constM 0)
  dt1 := selM (fun r _ => r < 64) (constM 0) (tM D)
  c0 := C0
  c1 := C1
  K := K
  V := V

/-- The tiles of row block `q` of a pair, in order. -/
def Blk.tail0 (b : Blk) (q : ℕ) (s : St) : St := b.step (fun r c => 256 * (4 * q + 0) + c < 1024 * q + 0 + r) (4 * q + 0) s
/-- The second tile of the diagonal. -/
def Blk.tail1 (b : Blk) (q : ℕ) (s : St) : St := b.diag 256 768 (fun r c => 256 * (4 * q + 1) + c < (1024 * q + 256) + r) (4 * q + 1) s
/-- The third tile of the diagonal. -/
def Blk.tail2 (b : Blk) (q : ℕ) (s : St) : St := b.diag 512 512 (fun r c => 256 * (4 * q + 2) + c < (1024 * q + 512) + r) (4 * q + 2) s
/-- The last tile of the diagonal. -/
def Blk.tail3 (b : Blk) (q : ℕ) (s : St) : St := b.diag 768 256 (fun r c => 256 * (4 * q + 3) + c < (1024 * q + 768) + r) (4 * q + 3) s
/-- A whole point of the grid. -/
def Blk.point (b : Blk) (q : ℕ) (s : St) : St := b.tail3 q (b.tail2 q (b.tail1 q (b.tail0 q (b.run (2 * q) s))))

theorem step_sk (b : Blk) (p : ℕ → ℕ → Prop) (j : ℕ) (s : St) : Function.update s.sk j ((b.step p j s).sk j) = (b.step p j s).sk := by simp [Blk.step]
theorem step_sv (b : Blk) (p : ℕ → ℕ → Prop) (j : ℕ) (s : St) : Function.update s.sv j ((b.step p j s).sv j) = (b.step p j s).sv := by simp [Blk.step]
theorem diag_sk (b : Blk) (a n : ℕ) (p : ℕ → ℕ → Prop) (j : ℕ) (s : St) : Function.update s.sk j ((b.diag a n p j s).sk j) = (b.diag a n p j s).sk := by simp [Blk.diag]
theorem diag_sv (b : Blk) (a n : ℕ) (p : ℕ → ℕ → Prop) (j : ℕ) (s : St) : Function.update s.sv j ((b.diag a n p j s).sv j) = (b.diag a n p j s).sv := by simp [Blk.diag]

theorem row_lt1 : (k0_pay144 : IVec S128x1 1) = upP (fun r _ => r < 64) := row_lt

/-! ### What is read once -/
theorem pay146_eq (A : RMat) : k0_pay146 (F := Ideal) (up A : FVec Ideal S1024x128 .bf16) = (up A : FVec Ideal S1024x128 .f32) := rfl
theorem pay147_eq (A : RMat) : k0_pay147 (up A : FVec Ideal S1024x128 .f32) = (up (lowM (A * constM (1/8))) : FVec Ideal S1024x128 .bf16) := by
  simp only [k0_pay147, k0_pay145, k0_pay146, k0_pay149, k0_pay155, addf_up, subf_up, mulf_up, truncf_up, extf_up, zero_up, one_up, eighth_up, select_up, shapeCast_self_eq, bcRow1024, bcColP128, slice_up, cast1_up, castTo1_up, cast11_up, lane_lt1, row_lt1]
  rfl
theorem pay148_eq (A : RMat) : k0_pay148 (up A : FVec Ideal S1024x128 .f32) = (up (highM (A * constM (1/8))) : FVec Ideal S1024x128 .bf16) := by
  simp only [k0_pay148, k0_pay145, k0_pay146, k0_pay149, k0_pay155, addf_up, subf_up, mulf_up, truncf_up, extf_up, zero_up, one_up, eighth_up, select_up, shapeCast_self_eq, bcRow1024, bcColP128, slice_up, cast1_up, castTo1_up, cast11_up, lane_lt1, row_lt1]
  rfl
theorem pay150_eq (A : RMat) : k0_pay150 (up A : FVec Ideal S1024x128 .f32) = (up (selM (fun r _ => r < 64) (tM (A * constM (1/8))) (constM 0)) : FVec Ideal S128x1024 .bf16) := by
  simp only [k0_pay150, k0_pay145, k0_pay149, addf_up, subf_up, mulf_up, truncf_up, extf_up, zero_up, one_up, eighth_up, select_up, shapeCast_self_eq, bcRow1024, bcColP128, slice_up, cast1_up, castTo1_up, cast11_up, lane_lt1, row_lt1]
  rw [trS_1024]
  simp only [addf_up, subf_up, mulf_up, truncf_up, extf_up, zero_up, one_up, eighth_up, select_up, shapeCast_self_eq, bcRow1024, bcColP128, slice_up, cast1_up, castTo1_up, cast11_up, lane_lt1, row_lt1]
theorem pay151_eq (A : RMat) : k0_pay151 (up A : FVec Ideal S1024x128 .f32) = (up (selM (fun r _ => r < 64) (constM 0) (tM (A * constM (1/8)))) : FVec Ideal S128x1024 .bf16) := by
  simp only [k0_pay151, k0_pay145, k0_pay149, addf_up, subf_up, mulf_up, truncf_up, extf_up, zero_up, one_up, eighth_up, select_up, shapeCast_self_eq, bcRow1024, bcColP128, slice_up, cast1_up, castTo1_up, cast11_up, lane_lt1, row_lt1]
  rw [trS_1024]
  simp only [addf_up, subf_up, mulf_up, truncf_up, extf_up, zero_up, one_up, eighth_up, select_up, shapeCast_self_eq, bcRow1024, bcColP128, slice_up, cast1_up, castTo1_up, cast11_up, lane_lt1, row_lt1]
theorem pay152_eq (A : RMat) : k0_pay152 (up A : FVec Ideal S1024x128 .bf16) = (up (lowM A) : FVec Ideal S1024x128 .bf16) := by
  simp only [k0_pay152, k0_pay145, k0_pay146, k0_pay149, k0_pay155, addf_up, subf_up, mulf_up, truncf_up, extf_up, zero_up, one_up, eighth_up, select_up, shapeCast_self_eq, bcRow1024, bcColP128, slice_up, cast1_up, castTo1_up, cast11_up, lane_lt1, row_lt1]
  rfl
theorem pay153_eq : (k0_pay153 : IVec S1024x128 1) = upP (fun _ c => c < 64) := by
  simp only [k0_pay153, addf_up, subf_up, mulf_up, truncf_up, extf_up, zero_up, one_up, eighth_up, select_up, shapeCast_self_eq, bcRow1024, bcColP128, slice_up, cast1_up, castTo1_up, cast11_up, lane_lt1, row_lt1]
theorem pay154_eq (A : RMat) : k0_pay154 (F := Ideal) (up A : FVec Ideal S1024x128 .f32) (Scalar.ofBits (F := Ideal) .f32 0x00000000#32) (upP (fun _ c => c < 64)) = (up (highM A) : FVec Ideal S1024x128 .bf16) := by
  simp only [k0_pay154, addf_up, subf_up, mulf_up, truncf_up, extf_up, zero_up, one_up, eighth_up, select_up, shapeCast_self_eq, bcRow1024, bcColP128, slice_up, cast1_up, castTo1_up, cast11_up, lane_lt1, row_lt1]
  rfl
theorem pay156_eq (A : RMat) : k0_pay156 (upP (fun r _ => r < 64) : IVec S128x1 1) (up A : FVec Ideal S1024x128 .f32) = (up (selM (fun r _ => r < 64) (tM A) (constM 0)) : FVec Ideal S128x1024 .bf16) := by
  simp only [k0_pay156, k0_pay155, addf_up, subf_up, mulf_up, truncf_up, extf_up, zero_up, one_up, eighth_up, select_up, shapeCast_self_eq, bcRow1024, bcColP128, slice_up, cast1_up, castTo1_up, cast11_up, lane_lt1, row_lt1]
  rw [trS_1024]
  simp only [addf_up, subf_up, mulf_up, truncf_up, extf_up, zero_up, one_up, eighth_up, select_up, shapeCast_self_eq, bcRow1024, bcColP128, slice_up, cast1_up, castTo1_up, cast11_up, lane_lt1, row_lt1]
theorem pay157_eq (A : RMat) : k0_pay157 (upP (fun r _ => r < 64) : IVec S128x1 1) (up A : FVec Ideal S1024x128 .f32) = (up (selM (fun r _ => r < 64) (constM 0) (tM A)) : FVec Ideal S128x1024 .bf16) := by
  simp only [k0_pay157, k0_pay155, addf_up, subf_up, mulf_up, truncf_up, extf_up, zero_up, one_up, eighth_up, select_up, shapeCast_self_eq, bcRow1024, bcColP128, slice_up, cast1_up, castTo1_up, cast11_up, lane_lt1, row_lt1]
  rw [trS_1024]
  simp only [addf_up, subf_up, mulf_up, truncf_up, extf_up, zero_up, one_up, eighth_up, select_up, shapeCast_self_eq, bcRow1024, bcColP128, slice_up, cast1_up, castTo1_up, cast11_up, lane_lt1, row_lt1]
theorem pay158_eq (A : RMat) : k0_pay158 (up11 A : FVec Ideal S1x1x1024x128 .f32) = (up A : FVec Ideal S1024x128 .f32) := cast11_up A _
theorem pay159_eq (A : RMat) : k0_pay159 (up11 A : FVec Ideal S1x1x1024x128 .f32) = (up A : FVec Ideal S1024x128 .f32) := cast11_up A _
theorem pay162_eq : k0_pay162 (F := Ideal) = up (constM 0) := zero_up
theorem pay163_eq : k0_pay163 (F := Ideal) = up (constM 0) := zero_up

theorem shift00 (A : RMat) : shiftM 0 0 A = A := by
  funext r c
  simp [shiftM]

section reads
variable {sig : RefSig} {κ : Kind} {sp : Space}
/-- A whole matrix read. -/
theorem readAt_all {n m : ℕ} {e : EltTy} (v : View sig κ sp ⟨2, ![n, m]⟩ e) (f : v.ty.Contents (Elt Ideal))
    (w : Vec Ideal ⟨2, ![n, m]⟩ e) (hf : v.read (Elt Ideal) f = w)
    (inb) : v.readAt (Elt Ideal) (Rect.unit (s := ⟨2, ![n, m]⟩) ![0, 0] ![n, m] inb).toLoadRect f = w := by
  subst hf
  funext x
  show v.read (Elt Ideal) f _ = _
  congr 1
  funext a
  apply Fin.ext
  match a with
  | 0 => exact (Nat.zero_add _).trans (Nat.one_mul _)
  | 1 => exact (Nat.zero_add _).trans (Nat.one_mul _)

/-- One of the two carries' matrices read. -/
theorem readAt_up4 (v : View sig κ sp S1x2x1024x128 .f32) (f : v.ty.Contents (Elt Ideal))
    (C : ℕ → RMat) (hf : v.read (Elt Ideal) f = up4 C) (h : ℕ)
    (inb) : v.readAt (Elt Ideal) (Rect.unit (s := S1x2x1024x128) ![0, h, 0, 0] S1x1x1024x128.size inb).toLoadRect f = (up11 (C h) : FVec Ideal S1x1x1024x128 .f32) := by
  funext x
  show v.read (Elt Ideal) f _ = _
  rw [hf]
  have h0 : (x 1).val = 0 := by have : (x 1).val < 1 := (x 1).isLt; omega
  show ((C (h + 1 * (x 1).val) (0 + 1 * (x 2).val) (0 + 1 * (x 3).val) : ℝ) : EReal) = _
  rw [h0, one_mul, one_mul, one_mul, add_zero, zero_add, zero_add]; rfl

theorem read_store' (v : View sig κ sp S16x128x256 .f32) (f : v.ty.Contents (Elt Ideal)) (L : List (View.Piece (Elt Ideal) S16x128x256 .f32))
    (S S' : ℕ → RMat) (hf : v.read (Elt Ideal) (v.writes (Elt Ideal) f L) = upS S) (off : Fin 3 → ℕ) (j : ℕ) (hoff : off = ![j, 0, 0])
    (inb) (w : FVec Ideal S1x128x256 .f32) (A : RMat) (hw : w = up1 A) (hS : Function.update S j A = S') :
    v.read (Elt Ideal) (v.writes (Elt Ideal) f (⟨Rect.unit (s := S16x128x256) off S1x128x256.size inb, w⟩ :: L)) = upS S' := by
  subst hw hS
  exact read_store v f L S hf off j hoff inb A

theorem read_block (v : View sig κ sp S1024x128 .bf16) (f : v.ty.Contents (Elt Ideal)) (inb) (w A : FVec Ideal S1024x128 .bf16) (hw : w = A) :
    v.read (Elt Ideal) (v.writes (Elt Ideal) f [⟨Rect.unit (s := S1024x128) ![0, 0] S1024x128.size inb, w⟩]) = A := by
  subst hw
  funext y
  exact View.read_writes_cons_unit_of_mem v f inb w [] y y rfl (fun a => match a with
    | 0 => (Nat.zero_add _).symm
    | 1 => (Nat.zero_add _).symm)

theorem read_stack (v : View sig κ sp S16x128x256 .f32) (f : v.ty.Contents (Elt Ideal)) (inb) (w A : FVec Ideal S16x128x256 .f32) (hw : w = A) :
    v.read (Elt Ideal) (v.writes (Elt Ideal) f [⟨Rect.unit (s := S16x128x256) ![0, 0, 0] S16x128x256.size inb, w⟩]) = A := by
  subst hw
  funext y
  exact View.read_writes_cons_unit_of_mem v f inb w [] y y rfl (fun a => match a with
    | 0 => (Nat.zero_add _).symm
    | 1 => (Nat.zero_add _).symm
    | 2 => (Nat.zero_add _).symm)

theorem pay141_eq : k0_pay141 (F := Ideal) = upS (fun _ => constM 0) := by
  funext i
  exact Ideal.ofBits_zero_f32
theorem pay142_eq : k0_pay142 (F := Ideal) = upS (fun _ => constM 0) := by
  funext i
  exact Ideal.ofBits_zero_f32

/-- The rows written so far. -/
def Rows (v : View sig κ sp S4096x128 .bf16) (f : v.ty.Contents (Elt Ideal)) (A : RMat) (n : ℕ) (L : List (View.Piece (Elt Ideal) S4096x128 .bf16)) : Prop :=
  ∀ y : S4096x128.Idx, (y 0).val < n → v.read (Elt Ideal) (v.writes (Elt Ideal) f L) y = (up A : FVec Ideal S4096x128 .bf16) y

theorem Rows.cons (v : View sig κ sp S4096x128 .bf16) (f : v.ty.Contents (Elt Ideal)) (A : RMat) (a : ℕ) (L : List (View.Piece (Elt Ideal) S4096x128 .bf16))
    (h : Rows v f A a L) (inb) (w : FVec Ideal S256x128 .bf16) (B : RMat) (hw : w = up B) (hB : ∀ r < 256, ∀ c, B r c = A (a + r) c) :
    Rows v f A (a + 256) (⟨Rect.unit (s := S4096x128) ![a, 0] S256x128.size inb, w⟩ :: L) := by
  intro y hy
  have h1 : (y 1).val < 128 := (y 1).isLt
  rw [View.read_writes_cons_unit v f inb _ L y rfl]
  by_cases hc : a ≤ (y 0).val
  · rw [dif_pos (by
      intro b
      match b with
      | 0 => exact ⟨hc, by show (y 0).val < a + 256; omega⟩
      | 1 => exact ⟨Nat.zero_le _, by show (y 1).val < 0 + 128; omega⟩)]
    subst hw
    show ((B ((y 0).val - a) ((y 1).val - 0) : ℝ) : EReal) = _
    rw [hB _ (by omega), Nat.add_sub_cancel' hc]; rfl
  · rw [dif_neg (fun hh => hc (hh 0).1)]
    exact h y (by omega)

theorem Rows.all (v : View sig κ sp S4096x128 .bf16) (f : v.ty.Contents (Elt Ideal)) (A : RMat) (L : List (View.Piece (Elt Ideal) S4096x128 .bf16))
    (h : Rows v f A 4096 L) : v.read (Elt Ideal) (v.writes (Elt Ideal) f L) = (up A : FVec Ideal S4096x128 .bf16) :=
  funext fun y => h y (y 0).isLt
end reads

/-- A stack of transposed matrices, one below the other. -/
def stackT (S : ℕ → RMat) : RMat := fun r c => S (r / 256) c (r % 256)

theorem stackT_row (S : ℕ → RMat) (j : ℕ) : ∀ r < 256, ∀ c, tM (S j) r c = stackT S (256 * j + r) c := by
  intro r hr c
  simp only [stackT, tM]
  rw [Nat.mul_add_div (by norm_num), Nat.div_eq_of_lt hr, add_zero, Nat.mul_add_mod, Nat.mod_eq_of_lt hr]

theorem off5_eq (i : grid0.Coords) (r : ℕ) (h : r < 4) : k0_off5 i (BitVec.ofNat 32 r) = ![256 * (4 * (i 1).val + r), 0] := by
  have h1 : (i 1).val < 4 := (i 1).isLt
  have e : (Scalar.muli (Scalar.addi (Scalar.muli (BitVec.ofNat 32 (i 1).val) 4#32) (BitVec.ofNat 32 r)) 256#32).toNat = 256 * (4 * (i 1).val + r) := by
    rw [tile_word' _ _ h1, key_word _ _ h1, BitVec.toNat_ofNat]; omega
  unfold k0_off5
  exact congrArg (fun x => ![x, 0]) e

theorem off6_eq (i : grid0.Coords) (r : ℕ) (h : r < 4) : k0_off6 i (BitVec.ofNat 32 r) = ![4 * (i 1).val + r, 0, 0] := by
  have h1 : (i 1).val < 4 := (i 1).isLt
  have e : (Scalar.addi (Scalar.muli (BitVec.ofNat 32 (i 1).val) 4#32) (BitVec.ofNat 32 r)).toNat = 4 * (i 1).val + r := by
    rw [tile_word' _ _ h1, BitVec.toNat_ofNat]; omega
  unfold k0_off6
  exact congrArg (fun x => ![x, 0, 0]) e

section
variable (𝒱 : Variants) (c : Dev nD) (bd : Option 𝒱.V) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x2x1024x128 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S16x128x256 .f32) (harg10 : arg10.IsWhole) (arg11 : Memref sig .tc .vmem S16x128x256 .f32) (harg11 : arg11.IsWhole) (arg1 : BitVec 32)   (G10 : BufTy.Contents (Elt Ideal) arg10.view.ty) (G11 : BufTy.Contents (Elt Ideal) arg11.view.ty)
  (v3 : IVec S1x128 32) (v5 : IVec S1x128 1) (v8 : IVec S128x1 1) (v13 : FVec Ideal S1024x128 .f32) (v18 v23 : FVec Ideal S1024x128 .bf16) (v29 v34 : FVec Ideal S128x1024 .bf16) (v39 : FVec Ideal S1024x128 .bf16) (cst_10 : Ideal .f32) (v41 : IVec S1024x128 1) (v56 v58 : Vec Ideal S1x1x1024x128 .f32)
  (X_arg3 : BufTy.Contents (Elt Ideal) arg3.view.ty) (X_arg4 : BufTy.Contents (Elt Ideal) arg4.view.ty)
  (G10 : BufTy.Contents (Elt Ideal) arg10.view.ty) (G11 : BufTy.Contents (Elt Ideal) arg11.view.ty)

/-- The loop without trips leaves its start. -/
theorem st2_nil (v79 : BitVec 32) (init : FVec Ideal S1024x1 .f32 × FVec Ideal S1024x1 .f32 × FVec Ideal S1024x128 .f32) :
    st_k0_t2 (F := Ideal) 𝒱 c bd i arg2 harg2 arg3 harg3 arg4 harg4 arg5 harg5 arg6 harg6 arg7 harg7 arg8 harg8 arg9 harg9 arg10 harg10 arg11 harg11 arg1 v3 v5 v8 v13 v18 v23 v29 v34 v39 cst_10 v41 v56 v58 v79 X_arg3 X_arg4 G10 G11 init (Scf.trips (k0_t2_loop i).lb (k0_t2_loop i).ub (k0_t2_loop i).st) = (init, [], []) := by
  rw [show Scf.trips (k0_t2_loop i).lb (k0_t2_loop i).ub (k0_t2_loop i).st = 0 from trips2_zero i]
  rfl

/-- The loop's result, from what its operands are. -/
theorem loop_done (E0 E1 : FVec Ideal S1024x1 .f32) (DQ : FVec Ideal S1024x128 .f32) (b : Blk) (s : St) (hv3 : v3 = iota .tc S1x128 32 [1] iota_S1x128_d1_w32) (hv5 : v5 = upP (fun _ c => c < 64))
    (hv8 : v8 = upP (fun r _ => r < 64)) (hv13 : v13 = up b.d) (hv18 : v18 = up b.q0) (hv23 : v23 = up b.q1) (hv29 : v29 = up b.qt0) (hv34 : v34 = up b.qt1) (hv39 : v39 = up b.d0)
    (hc : cst_10 = Scalar.ofBits (F := Ideal) .f32 0x00000000#32) (hv41 : v41 = upP (fun _ c => c < 64)) (hv56 : v56 = (up11 b.c0 : FVec Ideal S1x1x1024x128 .f32)) (hv58 : v58 = (up11 b.c1 : FVec Ideal S1x1x1024x128 .f32))
    (hE0 : E0 = up s.e0) (hE1 : E1 = up s.e1) (hDQ : DQ = up s.dq)
    (hd1 : b.d1 = selM (fun _ c => c < 64) (constM 0) b.d)
    (hdt0 : b.dt0 = selM (fun r _ => r < 64) (tM b.d) (constM 0)) (hdt1 : b.dt1 = selM (fun r _ => r < 64) (constM 0) (tM b.d))
    (h3 : arg3.view.read (Elt Ideal) X_arg3 = (up b.K : FVec Ideal S4096x128 .f32)) (h4 : arg4.view.read (Elt Ideal) X_arg4 = (up b.V : FVec Ideal S4096x128 .f32))
    (h10 : arg10.view.read (Elt Ideal) G10 = upS s.sk) (h11 : arg11.view.read (Elt Ideal) G11 = upS s.sv)
    (s' : St) (hs' : s' = b.run (2 * (i 1).val) s) :
    (st_k0_t1 (F := Ideal) 𝒱 c bd i arg2 harg2 arg3 harg3 arg4 harg4 arg5 harg5 arg6 harg6 arg7 harg7 arg8 harg8 arg9 harg9 arg10 harg10 arg11 harg11 arg1 v3 v5 v8 v13 v18 v23 v29 v34 v39 cst_10 v41 v56 v58 X_arg3 X_arg4 G10 G11 (E0, E1, DQ) (Scf.trips (k0_t1_loop i).lb (k0_t1_loop i).ub (k0_t1_loop i).st)).1 = (up s'.e0, up s'.e1, up s'.dq)
    ∧ arg10.view.read (Elt Ideal) (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 arg1 v3 v5 v8 v13 v18 v23 v29 v34 v39 cst_10 v41 v56 v58 X_arg3 X_arg4 G10 G11 (E0, E1, DQ) (Scf.trips (k0_t1_loop i).lb (k0_t1_loop i).ub (k0_t1_loop i).st)).2.1) = upS s'.sk
    ∧ arg11.view.read (Elt Ideal) (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg1 v3 v5 v8 v13 v18 v23 v29 v34 v39 cst_10 v41 v56 v58 X_arg3 X_arg4 G10 G11 (E0, E1, DQ) (Scf.trips (k0_t1_loop i).lb (k0_t1_loop i).ub (k0_t1_loop i).st)).2.2) = upS s'.sv := by
  have h1 : (i 1).val < 4 := (i 1).isLt
  have e := trips_eq i
  subst hs' hv13 hv18 hv23 hv29 hv34 hv39 hv41 hv56 hv58 hE0 hE1 hDQ
  have L := loop_value 𝒱 c bd i arg2 harg2 arg3 harg3 arg4 harg4 arg5 harg5 arg6 harg6 arg7 harg7 arg8 harg8 arg9 harg9 arg10 harg10 arg11 harg11 arg1 X_arg3 X_arg4 G10 G11 b s v3 v5 v8 cst_10 (by omega) hv3 hv5 hv8 hc hd1 hdt0 hdt1 h3 h4 h10 h11 (k0_t1_loop i).trips le_rfl
  rw [← e]
  exact L
end

end Cert.KernelIdeal.Gen
end
-- ==== Proof.Sem.lean ====
/-
  The sums the tiles accumulate: the gradient of stick-breaking attention of a pair of heads over whole rows, and the
  proof that a point of the grid leaves it.
-/
module

public import proofs.«01_k».proof.Proof.Block

@[expose] public section

noncomputable section

open scoped BigOperators Classical
open Cert.Arr Cert.KernelIdeal.Gen

namespace Cert.Sem

/-- The scores of a head. -/
def gz (q K : RMat) : RMat := mmNT 128 q K
/-- What the stick loses at a key, in logarithms. -/
def gsp (q K : RMat) : RMat := fun t s =>
  if s < t then max (gz q K t s) 0 + Real.log (1 + Real.exp (0 - |gz q K t s|)) else 0
/-- The attention weights. -/
def gw (q K : RMat) : RMat := fun t s =>
  if s < t then Real.exp (gz q K t s - ∑ x ∈ Finset.Ico s 4096, gsp q K t x) else 0
/-- The weights times the weights' gradient. -/
def ge (q K d V : RMat) : RMat := fun t s => gw q K t s * mmNT 128 d V t s
/-- The gradient of the scores. -/
def gdz (q K d V : RMat) : RMat := fun t s =>
  if s < t then ge q K d V t s - Real.exp (gz q K t s - gsp q K t s) * ∑ x ∈ Finset.range (s + 1), ge q K d V t x else 0

theorem gw_zero (q K : RMat) (t s : ℕ) (h : t ≤ s) : gw q K t s = 0 := if_neg (by omega)
theorem ge_zero (q K d V : RMat) (t s : ℕ) (h : t ≤ s) : ge q K d V t s = 0 := by
  show gw q K t s * _ = 0
  rw [gw_zero q K t s h, zero_mul]
theorem gdz_zero (q K d V : RMat) (t s : ℕ) (h : t ≤ s) : gdz q K d V t s = 0 := if_neg (by omega)

theorem sum_ge (f : ℕ → ℝ) (n x : ℕ) : ∑ k ∈ Finset.range n, f k * (if x ≤ k then 1 else 0) = ∑ k ∈ Finset.Ico x n, f k := by
  simp only [mul_ite, mul_one, mul_zero]
  rw [← Finset.sum_filter]
  refine Finset.sum_congr ?_ (fun _ _ => rfl)
  ext k; simp only [Finset.mem_filter, Finset.mem_range, Finset.mem_Ico]; omega

theorem sum_le (f : ℕ → ℝ) (n x : ℕ) (h : x < n) : ∑ k ∈ Finset.range n, f k * (if k ≤ x then 1 else 0) = ∑ k ∈ Finset.range (x + 1), f k := by
  simp only [mul_ite, mul_one, mul_zero]
  rw [← Finset.sum_filter]
  refine Finset.sum_congr ?_ (fun _ _ => rfl)
  ext k; simp only [Finset.mem_filter, Finset.mem_range]; omega

/-- A tile computes its part of the row sums. -/
theorem tile_sem (q K d V q' K' d' V' c ec : RMat) (p : ℕ → ℕ → Prop) (t s0 r : ℕ) (hs : s0 + 256 ≤ 4096)
    (hq : ∀ k, q' r k = q t k) (hd : ∀ k, d' r k = d t k) (hK : ∀ x k, K' x k = K (s0 + x) k) (hV : ∀ x k, V' x k = V (s0 + x) k)
    (hp : ∀ x < 256, (p r x ↔ s0 + x < t)) (hc : c r 0 = -∑ x ∈ Finset.Ico (s0 + 256) 4096, gsp q K t x)  :
    (∀ x < 256, tW p q' K' c r x = gw q K t (s0 + x))
    ∧ (ec r 0 = ∑ x ∈ Finset.range s0, ge q K d V t x → (∀ x < 256, tDz p q' K' V' d' c ec r x = gdz q K d V t (s0 + x))
    ∧ tEc p q' K' V' d' c ec r 0 = ∑ x ∈ Finset.range (s0 + 256), ge q K d V t x) := by
  have hz : ∀ x, mmNT 128 q' K' r x = gz q K t (s0 + x) := by intro x; simp only [gz, mmNT, hq, hK]
  have hdv : ∀ x, mmNT 128 d' V' r x = mmNT 128 d V t (s0 + x) := by intro x; simp only [mmNT, hd, hV]
  have hsp : ∀ x < 256, tSp p q' K' r x = gsp q K t (s0 + x) := by
    intro x hx
    show (if p r x then max (mmNT 128 q' K' r x) 0 + Real.log (1 + Real.exp (0 - |mmNT 128 q' K' r x|)) else 0) = _
    rw [hz]
    unfold gsp
    by_cases h : s0 + x < t
    · rw [if_pos ((hp x hx).2 h), if_pos h]
    · rw [if_neg (fun h' => h ((hp x hx).1 h')), if_neg h]
  have hsuf : ∀ x < 256, mmNN 256 (tSp p q' K') inclM r x = ∑ y ∈ Finset.Ico (s0 + x) (s0 + 256), gsp q K t y := by
    intro x hx
    show ∑ k ∈ Finset.range 256, tSp p q' K' r k * (if x ≤ k then 1 else 0) = _
    rw [Finset.sum_congr rfl (fun k hk => by rw [hsp k (Finset.mem_range.1 hk)]), sum_ge (fun k => gsp q K t (s0 + k)), Finset.sum_Ico_add,
      add_comm x, add_comm 256]
  have hw : ∀ x < 256, tW p q' K' c r x = gw q K t (s0 + x) := by
    intro x hx
    show (if p r x then Real.exp (mmNT 128 q' K' r x - mmNN 256 (tSp p q' K') inclM r x + c r 0) else 0) = _
    rw [hz, hsuf x hx, hc]
    unfold gw
    by_cases h : s0 + x < t
    · rw [if_pos ((hp x hx).2 h), if_pos h, ← Finset.sum_Ico_consecutive _ (by omega : s0 + x ≤ s0 + 256) hs]
      congr 1; ring
    · rw [if_neg (fun h' => h ((hp x hx).1 h')), if_neg h]
  refine ⟨hw, fun hec => ?_⟩
  have he : ∀ x < 256, tE p q' K' V' d' c r x = ge q K d V t (s0 + x) := by
    intro x hx
    show tW p q' K' c r x * mmNT 128 d' V' r x = _
    rw [hw x hx, hdv]; rfl
  have hpre : ∀ x < 256, tPre p q' K' V' d' c r x = ∑ k ∈ Finset.range (x + 1), ge q K d V t (s0 + k) := by
    intro x hx
    show ∑ k ∈ Finset.range 256, tE p q' K' V' d' c r k * (if k ≤ x then 1 else 0) = _
    rw [Finset.sum_congr rfl (fun k hk => by rw [he k (Finset.mem_range.1 hk)]), sum_le _ _ _ hx]
  constructor
  · intro x hx
    show (if p r x then tE p q' K' V' d' c r x - Real.exp (mmNT 128 q' K' r x - tSp p q' K' r x) * (ec r 0 + tPre p q' K' V' d' c r x) else 0) = _
    rw [hz, hsp x hx, he x hx, hec, hpre x hx, ← Finset.sum_range_add, ← add_assoc]
    unfold gdz
    by_cases h : s0 + x < t
    · rw [if_pos ((hp x hx).2 h), if_pos h]
    · rw [if_neg (fun h' => h ((hp x hx).1 h')), if_neg h]
  · show ec r 0 + tPre p q' K' V' d' c (0 + r) (255 + 0) = _
    rw [zero_add, add_zero, hec, hpre 255 (by norm_num), ← Finset.sum_range_add]

/-- A pair of heads over whole rows: queries, keys, values and the output's gradient. -/
structure Pair where
  (Q K V D : RMat)

namespace Pair
variable (P : Pair)
/-- The first head's scaled queries. -/
def q0 : RMat := lowM (P.Q * constM (1/8))
/-- The second head's scaled queries. -/
def q1 : RMat := highM (P.Q * constM (1/8))
/-- The first head's gradient of the output. -/
def d0 : RMat := lowM P.D
/-- The second head's gradient of the output. -/
def d1 : RMat := highM P.D
/-- The keys' gradient transposed, from the first `n` queries. -/
def gK (n l x : ℕ) : ℝ := ∑ t ∈ Finset.range n, (P.q0 t l * gdz P.q0 P.K P.d0 P.V t x + P.q1 t l * gdz P.q1 P.K P.d1 P.V t x)
/-- The values' gradient transposed, from the first `n` queries. -/
def gV (n l x : ℕ) : ℝ := ∑ t ∈ Finset.range n, (P.d0 t l * gw P.q0 P.K t x + P.d1 t l * gw P.q1 P.K t x)
/-- The queries' gradient before its scale, from the first `n` keys. -/
def gQ (n t l : ℕ) : ℝ := ∑ x ∈ Finset.range n, (gdz P.q0 P.K P.d0 P.V t x * lowM P.K x l + gdz P.q1 P.K P.d1 P.V t x * highM P.K x l)

/-- The blocks a point of the grid reads are the rows of the pair, and its carries the sums right of each key tile. -/
structure Pt (qi : ℕ) (b : Blk) : Prop where
  q0 : ∀ r < 1024, ∀ k, b.q0 r k = P.q0 (1024 * qi + r) k
  q1 : ∀ r < 1024, ∀ k, b.q1 r k = P.q1 (1024 * qi + r) k
  d0 : ∀ r < 1024, ∀ k, b.d0 r k = P.d0 (1024 * qi + r) k
  d1 : ∀ r < 1024, ∀ k, b.d1 r k = P.d1 (1024 * qi + r) k
  qt0 : ∀ r < 1024, ∀ k, b.qt0 k r = P.q0 (1024 * qi + r) k
  qt1 : ∀ r < 1024, ∀ k, b.qt1 k r = P.q1 (1024 * qi + r) k
  dt0 : ∀ r < 1024, ∀ k, b.dt0 k r = P.d0 (1024 * qi + r) k
  dt1 : ∀ r < 1024, ∀ k, b.dt1 k r = P.d1 (1024 * qi + r) k
  K : b.K = P.K
  V : b.V = P.V
  c0 : ∀ r < 1024, ∀ j < 16, b.c0 r j = -∑ x ∈ Finset.Ico (256 * j + 256) 4096, gsp P.q0 P.K (1024 * qi + r) x
  c1 : ∀ r < 1024, ∀ j < 16, b.c1 r j = -∑ x ∈ Finset.Ico (256 * j + 256) 4096, gsp P.q1 P.K (1024 * qi + r) x

/-- What has been accumulated after `j` key tiles of row block `qi`. -/
structure Inv (qi j : ℕ) (s : St) : Prop where
  e0 : ∀ r < 1024, s.e0 r 0 = ∑ x ∈ Finset.range (256 * j), ge P.q0 P.K P.d0 P.V (1024 * qi + r) x
  e1 : ∀ r < 1024, s.e1 r 0 = ∑ x ∈ Finset.range (256 * j), ge P.q1 P.K P.d1 P.V (1024 * qi + r) x
  dq : ∀ r < 1024, ∀ l, s.dq r l = P.gQ (256 * j) (1024 * qi + r) l
  sk : ∀ i < 16, ∀ l, ∀ x < 256, s.sk i l x = P.gK (if i < j then 1024 * qi + 1024 else 1024 * qi) l (256 * i + x)
  sv : ∀ i < 16, ∀ l, ∀ x < 256, s.sv i l x = P.gV (if i < j then 1024 * qi + 1024 else 1024 * qi) l (256 * i + x)

variable {P}

theorem sum_tail (f : ℕ → ℝ) (a n m : ℕ) (h : a + n = m) (hz : ∀ k < a, f k = 0) :
    ∑ k ∈ Finset.range m, f k = ∑ k ∈ Finset.range n, f (a + k) := by
  subst h
  rw [Finset.sum_range_add, Finset.sum_eq_zero (fun k hk => hz k (Finset.mem_range.1 hk)), zero_add]

theorem diag_inv {qi : ℕ} {b : Blk} (h : P.Pt qi b) (a n : ℕ) (han : a + n = 1024) (j : ℕ) (hj : j < 16) (p : ℕ → ℕ → Prop)
    (hp : ∀ r < n, ∀ x < 256, (p r x ↔ 256 * j + x < 1024 * qi + (a + r))) (hz : a = 0 ∨ 1024 * qi + a ≤ 256 * j) (s : St)
    (hs : P.Inv qi j s) : P.Inv qi (j + 1) (b.diag a n p j s) := by
  have T0 : ∀ r < n, _ := fun r hr => tile_sem P.q0 P.K P.d0 P.V (shiftM a 0 b.q0) (shiftM (256 * j) 0 b.K) (shiftM a 0 b.d0) (shiftM (256 * j) 0 b.V)
    (pickM j (shiftM a 0 b.c0)) (shiftM a 0 s.e0) p (1024 * qi + (a + r)) (256 * j) r (by omega)
    (fun k => (h.q0 (a + r) (by omega) (0 + k)).trans (by rw [zero_add])) (fun k => (h.d0 (a + r) (by omega) (0 + k)).trans (by rw [zero_add]))
    (fun x k => by rw [h.K]; show P.K _ (0 + k) = _; rw [zero_add]) (fun x k => by rw [h.V]; show P.V _ (0 + k) = _; rw [zero_add]) (hp r hr)
    (by show b.c0 (a + r) (0 + j) = _; rw [zero_add]; exact h.c0 (a + r) (by omega) j hj)
  have T1 : ∀ r < n, _ := fun r hr => tile_sem P.q1 P.K P.d1 P.V (shiftM a 0 b.q1) (shiftM (256 * j) 0 b.K) (shiftM a 0 b.d1) (shiftM (256 * j) 0 b.V)
    (pickM j (shiftM a 0 b.c1)) (shiftM a 0 s.e1) p (1024 * qi + (a + r)) (256 * j) r (by omega)
    (fun k => (h.q1 (a + r) (by omega) (0 + k)).trans (by rw [zero_add])) (fun k => (h.d1 (a + r) (by omega) (0 + k)).trans (by rw [zero_add]))
    (fun x k => by rw [h.K]; show P.K _ (0 + k) = _; rw [zero_add]) (fun x k => by rw [h.V]; show P.V _ (0 + k) = _; rw [zero_add]) (hp r hr)
    (by show b.c1 (a + r) (0 + j) = _; rw [zero_add]; exact h.c1 (a + r) (by omega) j hj)
  have U0 : ∀ r (hr : r < n), _ := fun r hr => (T0 r hr).2 (by show s.e0 (a + r) 0 = _; exact hs.e0 (a + r) (by omega))
  have U1 : ∀ r (hr : r < n), _ := fun r hr => (T1 r hr).2 (by show s.e1 (a + r) 0 = _; exact hs.e1 (a + r) (by omega))
  have hmul : 256 * (j + 1) = 256 * j + 256 := by ring
  refine ⟨fun r hr => ?_, fun r hr => ?_, fun r hr l => ?_, fun i hi l x hx => ?_, fun i hi l x hx => ?_⟩
  · show (if r < a then s.e0 (0 + r) (0 + 0) else tEc p _ _ _ _ _ _ (r - a) 0) = _
    rw [hmul]
    by_cases hra : r < a
    · rw [if_pos hra, zero_add, hs.e0 r hr, Finset.sum_range_add, Finset.sum_eq_zero (s := Finset.range 256), add_zero]
      intro x _; exact ge_zero _ _ _ _ _ _ (by omega)
    · rw [if_neg hra, (U0 (r - a) (by omega)).2, Nat.add_sub_cancel' (by omega : a ≤ r)]
  · show (if r < a then s.e1 (0 + r) (0 + 0) else tEc p _ _ _ _ _ _ (r - a) 0) = _
    rw [hmul]
    by_cases hra : r < a
    · rw [if_pos hra, zero_add, hs.e1 r hr, Finset.sum_range_add, Finset.sum_eq_zero (s := Finset.range 256), add_zero]
      intro x _; exact ge_zero _ _ _ _ _ _ (by omega)
    · rw [if_neg hra, (U1 (r - a) (by omega)).2, Nat.add_sub_cancel' (by omega : a ≤ r)]
  · show (if r < a then s.dq (0 + r) (0 + l) else s.dq (a + (r - a)) (0 + l) + (0 + ∑ k ∈ Finset.range 256, tDz p _ _ _ _ _ _ (r - a) k * lowM (shiftM (256 * j) 0 b.K) k l
      + ∑ k ∈ Finset.range 256, tDz p _ _ _ _ _ _ (r - a) k * highM (shiftM (256 * j) 0 b.K) k l)) = _
    unfold gQ
    rw [hmul, Finset.sum_range_add]
    by_cases hra : r < a
    · rw [if_pos hra, zero_add, zero_add, hs.dq r hr, Finset.sum_eq_zero (s := Finset.range 256), add_zero]
      · rfl
      · intro x _; rw [gdz_zero _ _ _ _ _ _ (by omega), gdz_zero _ _ _ _ _ _ (by omega), zero_mul, zero_mul, add_zero]
    · rw [if_neg hra, zero_add, zero_add, Nat.add_sub_cancel' (by omega : a ≤ r), hs.dq r hr, ← Finset.sum_add_distrib]
      refine congrArg₂ _ rfl (Finset.sum_congr rfl fun k hk => ?_)
      have hk' := Finset.mem_range.1 hk
      rw [(U0 (r - a) (by omega)).1 k hk', (U1 (r - a) (by omega)).1 k hk', Nat.add_sub_cancel' (by omega : a ≤ r), h.K]
      simp only [lowM, highM, selM, shiftM, zero_add, constM]
  · show Function.update s.sk j (s.sk j + (constM 0 + mmNN n _ _ + mmNN n _ _)) i l x = _
    by_cases hij : i = j
    · subst hij
      rw [Function.update_self, if_pos (Nat.lt_succ_self _)]
      show s.sk i l x + (0 + ∑ k ∈ Finset.range n, b.qt0 (0 + l) (a + k) * tDz p _ _ _ _ _ _ k x + ∑ k ∈ Finset.range n, b.qt1 (0 + l) (a + k) * tDz p _ _ _ _ _ _ k x) = _
      rw [hs.sk i hi l x hx, if_neg (lt_irrefl _), zero_add, zero_add, ← Finset.sum_add_distrib]
      unfold gK
      rw [Finset.sum_range_add, sum_tail _ a n 1024 han]
      · refine congrArg₂ _ rfl (Finset.sum_congr rfl fun k hk => ?_)
        have hk' := Finset.mem_range.1 hk
        rw [(U0 k hk').1 x hx, (U1 k hk').1 x hx, h.qt0 (a + k) (by omega), h.qt1 (a + k) (by omega)]
      · intro k hk
        rw [gdz_zero _ _ _ _ _ _ (by omega), gdz_zero _ _ _ _ _ _ (by omega), mul_zero, mul_zero, add_zero]
    · rw [Function.update_of_ne hij, hs.sk i hi l x hx]
      congr 1
      by_cases h1 : i < j
      · rw [if_pos h1, if_pos (by omega)]
      · rw [if_neg h1, if_neg (by omega)]
  · show Function.update s.sv j (s.sv j + (constM 0 + mmNN n _ _ + mmNN n _ _)) i l x = _
    by_cases hij : i = j
    · subst hij
      rw [Function.update_self, if_pos (Nat.lt_succ_self _)]
      show s.sv i l x + (0 + ∑ k ∈ Finset.range n, b.dt0 (0 + l) (a + k) * tW p _ _ _ k x + ∑ k ∈ Finset.range n, b.dt1 (0 + l) (a + k) * tW p _ _ _ k x) = _
      rw [hs.sv i hi l x hx, if_neg (lt_irrefl _), zero_add, zero_add, ← Finset.sum_add_distrib]
      unfold gV
      rw [Finset.sum_range_add, sum_tail _ a n 1024 han]
      · refine congrArg₂ _ rfl (Finset.sum_congr rfl fun k hk => ?_)
        have hk' := Finset.mem_range.1 hk
        rw [(T0 k hk').1 x hx, (T1 k hk').1 x hx, h.dt0 (a + k) (by omega), h.dt1 (a + k) (by omega)]
      · intro k hk
        rw [gw_zero _ _ _ _ (by omega), gw_zero _ _ _ _ (by omega), mul_zero, mul_zero, add_zero]
    · rw [Function.update_of_ne hij, hs.sv i hi l x hx]
      congr 1
      by_cases h1 : i < j
      · rw [if_pos h1, if_pos (by omega)]
      · rw [if_neg h1, if_neg (by omega)]

theorem shift_zero (A : RMat) : shiftM 0 0 A = A := by
  funext r c; show A (0 + r) (0 + c) = _; rw [zero_add, zero_add]
theorem cat_zero (A B : RMat) : catM 0 A B = B := rfl

theorem diag_step (b : Blk) (p : ℕ → ℕ → Prop) (j : ℕ) (s : St) : b.diag 0 1024 p j s = b.step p j s := by
  unfold Blk.diag Blk.step
  simp only [shift_zero, cat_zero]

theorem step_inv {qi : ℕ} {b : Blk} (h : P.Pt qi b) (j : ℕ) (hj : j < 16) (p : ℕ → ℕ → Prop)
    (hp : ∀ r < 1024, ∀ x < 256, (p r x ↔ 256 * j + x < 1024 * qi + r)) (s : St) (hs : P.Inv qi j s) : P.Inv qi (j + 1) (b.step p j s) := by
  rw [← diag_step]
  exact diag_inv h 0 1024 rfl j hj p (fun r hr x hx => by rw [hp r hr x hx, zero_add]) (.inl rfl) s hs

theorem run_inv {qi : ℕ} {b : Blk} (h : P.Pt qi b) (hq : qi < 4) (s : St) (hs : P.Inv qi 0 s) : ∀ n ≤ 2 * qi, P.Inv qi (2 * n) (b.run n s)
  | 0, _ => hs
  | n + 1, hn => by
    have h0 := run_inv h hq s hs n (by omega)
    have h1 := step_inv h (2 * n + 0) (by omega) (fun _ _ => True) (fun r hr x hx => ⟨fun _ => by omega, fun _ => trivial⟩) _ h0
    exact step_inv h (2 * n + 1) (by omega) (fun _ _ => True) (fun r hr x hx => ⟨fun _ => by omega, fun _ => trivial⟩) _ h1

theorem gQ_all (n t l : ℕ) (hn : n ≤ 4096) (h : t ≤ n) : P.gQ n t l = P.gQ 4096 t l := by
  obtain ⟨m, hm⟩ : ∃ m, 4096 = n + m := ⟨4096 - n, by omega⟩
  unfold gQ
  rw [hm, Finset.sum_range_add, Finset.sum_eq_zero (s := Finset.range m), add_zero]
  intro x _
  rw [gdz_zero _ _ _ _ _ _ (by omega), gdz_zero _ _ _ _ _ _ (by omega), zero_mul, zero_mul, add_zero]
theorem gK_same (n m l x : ℕ) (h : n + m ≤ x + 1) : P.gK n l x = P.gK (n + m) l x := by
  unfold gK
  rw [Finset.sum_range_add, Finset.sum_eq_zero (s := Finset.range m), add_zero]
  intro y hy
  have := Finset.mem_range.1 hy
  rw [gdz_zero _ _ _ _ _ _ (by omega), gdz_zero _ _ _ _ _ _ (by omega), mul_zero, mul_zero, add_zero]
theorem gV_same (n m l x : ℕ) (h : n + m ≤ x + 1) : P.gV n l x = P.gV (n + m) l x := by
  unfold gV
  rw [Finset.sum_range_add, Finset.sum_eq_zero (s := Finset.range m), add_zero]
  intro y hy
  have := Finset.mem_range.1 hy
  rw [gw_zero _ _ _ _ (by omega), gw_zero _ _ _ _ (by omega), mul_zero, mul_zero, add_zero]

/-- A point of the grid adds its rows to the stacks and leaves the rows of the queries' gradient. -/
theorem point_sem {qi : ℕ} {b : Blk} (h : P.Pt qi b) (hq : qi < 4) (sk sv : ℕ → RMat)
    (hsk : ∀ i < 16, ∀ l, ∀ x < 256, sk i l x = P.gK (1024 * qi) l (256 * i + x))
    (hsv : ∀ i < 16, ∀ l, ∀ x < 256, sv i l x = P.gV (1024 * qi) l (256 * i + x)) (s' : St)
    (hs' : s' = b.point qi ⟨constM 0, constM 0, constM 0, sk, sv⟩) :
    (∀ r < 1024, ∀ l, s'.dq r l = P.gQ 4096 (1024 * qi + r) l)
    ∧ (∀ i < 16, ∀ l, ∀ x < 256, s'.sk i l x = P.gK (1024 * (qi + 1)) l (256 * i + x))
    ∧ (∀ i < 16, ∀ l, ∀ x < 256, s'.sv i l x = P.gV (1024 * (qi + 1)) l (256 * i + x)) := by
  have I0 : P.Inv qi 0 ⟨constM 0, constM 0, constM 0, sk, sv⟩ :=
    ⟨fun _ _ => rfl, fun _ _ => rfl, fun _ _ _ => rfl, fun i hi l x hx => by rw [if_neg (Nat.not_lt_zero _)]; exact hsk i hi l x hx,
      fun i hi l x hx => by rw [if_neg (Nat.not_lt_zero _)]; exact hsv i hi l x hx⟩
  have I1 := run_inv h hq _ I0 (2 * qi) le_rfl
  rw [show 2 * (2 * qi) = 4 * qi + 0 by ring] at I1
  have I2 := step_inv h (4 * qi + 0) (by omega) (fun r c => 256 * (4 * qi + 0) + c < 1024 * qi + 0 + r) (fun r _ x _ => by simp only [add_zero]) _ I1
  have I3 := diag_inv h 256 768 rfl (4 * qi + 1) (by omega) (fun r c => 256 * (4 * qi + 1) + c < (1024 * qi + 256) + r) (fun r _ x _ => by rw [add_assoc (1024 * qi)]) (.inr (by omega)) _ I2
  have I4 := diag_inv h 512 512 rfl (4 * qi + 2) (by omega) (fun r c => 256 * (4 * qi + 2) + c < (1024 * qi + 512) + r) (fun r _ x _ => by rw [add_assoc (1024 * qi)]) (.inr (by omega)) _ I3
  have I5 := diag_inv h 768 256 rfl (4 * qi + 3) (by omega) (fun r c => 256 * (4 * qi + 3) + c < (1024 * qi + 768) + r) (fun r _ x _ => by rw [add_assoc (1024 * qi)]) (.inr (by omega)) _ I4
  have I : P.Inv qi (4 * qi + 3 + 1) s' := by rw [hs']; exact I5
  refine ⟨fun r hr l => ?_, fun i hi l x hx => ?_, fun i hi l x hx => ?_⟩
  · rw [I.dq r hr l]; exact gQ_all _ _ _ (by omega) (by omega)
  · rw [I.sk i hi l x hx]
    by_cases hc : i < 4 * qi + 3 + 1
    · rw [if_pos hc]; rfl
    · rw [if_neg hc]; exact gK_same _ 1024 _ _ (by omega)
  · rw [I.sv i hi l x hx]
    by_cases hc : i < 4 * qi + 3 + 1
    · rw [if_pos hc]; rfl
    · rw [if_neg hc]; exact gV_same _ 1024 _ _ (by omega)

/-- The blocks of a point, read from a pair. -/
theorem Pt.of {qi : ℕ} (Q' D' : RMat) (C : ℕ → RMat) (hQ : ∀ r < 1024, ∀ k, Q' r k = P.Q (1024 * qi + r) k) (hD : ∀ r < 1024, ∀ k, D' r k = P.D (1024 * qi + r) k)
    (hc0 : ∀ r < 1024, ∀ j < 16, C 0 r j = -∑ x ∈ Finset.Ico (256 * j + 256) 4096, gsp P.q0 P.K (1024 * qi + r) x)
    (hc1 : ∀ r < 1024, ∀ j < 16, C 1 r j = -∑ x ∈ Finset.Ico (256 * j + 256) 4096, gsp P.q1 P.K (1024 * qi + r) x) :
    P.Pt qi (Blk.of Q' D' (C 0) (C 1) P.K P.V) := by
  refine ⟨?_, ?_, ?_, ?_, ?_, ?_, ?_, ?_, rfl, rfl, hc0, hc1⟩ <;> intro r hr k <;>
    simp only [Blk.of, Pair.q0, Pair.q1, Pair.d0, Pair.d1, lowM, highM, selM, tM, Pi.mul_apply, constM, hQ r hr, hD r hr]

end Pair
end Cert.Sem
end
-- ==== Proof.Coord.lean ====
/-
  The blocks the grid's points read, from the host's arrays.
-/
module

public import proofs.«01_k».proof.Proof.Sem
public import proofs.«01_k».proof.Proof.Gen.KernelIdeal.Value

@[expose] public section

set_option maxRecDepth 16384

noncomputable section

open scoped BigOperators Classical
open Idealize.ShloMosaic Idealize.ShloMosaic.ValueIdx Idealize.ShloMosaic.TcCoe Idealize.SL Idealize.SL.Sem
open Cert.Arr Cert.Sem Cert.KernelIdeal Cert.KernelIdeal.Gen Cert.KernelIdeal.Value

namespace Cert.Grid

theorem up_congr {n m : ℕ} {φ : FTy} (A B : RMat) (h : ∀ r < n, ∀ c < m, A r c = B r c) : (up A : FVec Ideal ⟨2, ![n, m]⟩ φ) = up B := by
  funext i
  exact congrArg (fun x : ℝ => (x : EReal)) (h (i 0).val (i 0).isLt (i 1).val (i 1).isLt)

theorem upS_congr (A B : ℕ → RMat) (h : ∀ i < 16, ∀ l, ∀ x < 256, A i l x = B i l x) : upS A = upS B := by
  funext i
  exact congrArg (fun x : ℝ => (x : EReal)) (h (i 0).val (i 0).isLt (i 1).val (i 2).val (i 2).isLt)

/-- Pair `p` of the projections `P`, with the output's gradient `D`. -/
def pairOf (P D : RMat) (p : ℕ) : Pair :=
  ⟨fun t l => P t (2048 + (128 * p + l)), fun t l => P t (2560 + (128 * p + l)), fun t l => P t (3072 + (128 * p + l)), fun t l => D t (128 * p + l)⟩

theorem coords_val : ∀ t : Fin cfg0.N, (grid0.coords t 1).val = t.val % 4 :=
  (by decide +kernel : ∀ t : Fin grid0.N, _)
theorem idx0 : ∀ t : Fin cfg0.N, win0_0.index t (0 : Fin 2) = t.val % 4 ∧ win0_0.index t (1 : Fin 2) = 16 + t.val / 4 :=
  (by decide +kernel : ∀ t : Fin grid0.N, _)
theorem idx1 : ∀ t : Fin cfg0.N, win0_1.index t (0 : Fin 2) = 0 ∧ win0_1.index t (1 : Fin 2) = 20 + t.val / 4 :=
  (by decide +kernel : ∀ t : Fin grid0.N, _)
theorem idx2 : ∀ t : Fin cfg0.N, win0_2.index t (0 : Fin 2) = 0 ∧ win0_2.index t (1 : Fin 2) = 24 + t.val / 4 :=
  (by decide +kernel : ∀ t : Fin grid0.N, _)
theorem idx3 : ∀ t : Fin cfg0.N, win0_3.index t (0 : Fin 4) = t.val / 4 ∧ win0_3.index t (1 : Fin 4) = 0 ∧ win0_3.index t (2 : Fin 4) = t.val % 4 ∧ win0_3.index t (3 : Fin 4) = 0 :=
  (by decide +kernel : ∀ t : Fin grid0.N, _)
theorem idx4 : ∀ t : Fin cfg0.N, win0_4.index t (0 : Fin 2) = t.val % 4 ∧ win0_4.index t (1 : Fin 2) = t.val / 4 :=
  (by decide +kernel : ∀ t : Fin grid0.N, _)

variable (m : (ℓ : Loc nD τ sig) → Buf (Elt Ideal) ℓ) (c : Dev nD) (P D : RMat) (C : ℕ → ℕ → RMat)

theorem blk0 (h : ∀ i : S4096x4096.Idx, (m ((c : Thread nD τ).loc main_arg0) : FVec Ideal S4096x4096 .f32) i = ((P (i 0).val (i 1).val : ℝ) : EReal)) (t : Fin cfg0.N) :
    @Eq (FVec Ideal S1024x128 .f32) (iblk m c 0 t) (up (fun r l => (pairOf P D (t.val / 4)).Q (1024 * (t.val % 4) + r) l) : FVec Ideal S1024x128 .f32) := by
  obtain ⟨e0, e1⟩ := idx0 t
  funext y
  unfold iblk
  rw [View.read_apply]
  show (V m c main_arg0 : FVec Ideal S4096x4096 .f32) (((cfg0.win 0).blk t).view.emb y) = ((P (1024 * (t.val % 4) + (y 0).val) (2048 + (128 * (t.val / 4) + (y 1).val)) : ℝ) : EReal)
  have b0 : ((((cfg0.win 0).blk t).view.emb y : S4096x4096.Idx) 0).val = win0_0.index t (0 : Fin 2) * 1024 + 1 * (y 0).val := rfl
  have b1 : ((((cfg0.win 0).blk t).view.emb y : S4096x4096.Idx) 1).val = win0_0.index t (1 : Fin 2) * 128 + 1 * (y 1).val := rfl
  have e : (V m c main_arg0 : FVec Ideal S4096x4096 .f32) = (m ((c : Thread nD τ).loc main_arg0) : FVec Ideal S4096x4096 .f32) := V_main_arg0 m c
  rw [e, h, b0, b1, e0, e1, show t.val % 4 * 1024 + 1 * (y 0).val = 1024 * (t.val % 4) + (y 0).val by omega, show (16 + t.val / 4) * 128 + 1 * (y 1).val = 2048 + (128 * (t.val / 4) + (y 1).val) by omega]

theorem blk1 (h : ∀ i : S4096x4096.Idx, (m ((c : Thread nD τ).loc main_arg0) : FVec Ideal S4096x4096 .f32) i = ((P (i 0).val (i 1).val : ℝ) : EReal)) (t : Fin cfg0.N) :
    @Eq (FVec Ideal S4096x128 .f32) (iblk m c 1 t) (up (fun r l => (pairOf P D (t.val / 4)).K r l) : FVec Ideal S4096x128 .f32) := by
  obtain ⟨e0, e1⟩ := idx1 t
  funext y
  unfold iblk
  rw [View.read_apply]
  show (V m c main_arg0 : FVec Ideal S4096x4096 .f32) (((cfg0.win 1).blk t).view.emb y) = ((P ((y 0).val) (2560 + (128 * (t.val / 4) + (y 1).val)) : ℝ) : EReal)
  have b0 : ((((cfg0.win 1).blk t).view.emb y : S4096x4096.Idx) 0).val = win0_1.index t (0 : Fin 2) * 4096 + 1 * (y 0).val := rfl
  have b1 : ((((cfg0.win 1).blk t).view.emb y : S4096x4096.Idx) 1).val = win0_1.index t (1 : Fin 2) * 128 + 1 * (y 1).val := rfl
  have e : (V m c main_arg0 : FVec Ideal S4096x4096 .f32) = (m ((c : Thread nD τ).loc main_arg0) : FVec Ideal S4096x4096 .f32) := V_main_arg0 m c
  rw [e, h, b0, b1, e0, e1, show 0 * 4096 + 1 * (y 0).val = (y 0).val by omega, show (20 + t.val / 4) * 128 + 1 * (y 1).val = 2560 + (128 * (t.val / 4) + (y 1).val) by omega]

theorem blk2 (h : ∀ i : S4096x4096.Idx, (m ((c : Thread nD τ).loc main_arg0) : FVec Ideal S4096x4096 .f32) i = ((P (i 0).val (i 1).val : ℝ) : EReal)) (t : Fin cfg0.N) :
    @Eq (FVec Ideal S4096x128 .f32) (iblk m c 2 t) (up (fun r l => (pairOf P D (t.val / 4)).V r l) : FVec Ideal S4096x128 .f32) := by
  obtain ⟨e0, e1⟩ := idx2 t
  funext y
  unfold iblk
  rw [View.read_apply]
  show (V m c main_arg0 : FVec Ideal S4096x4096 .f32) (((cfg0.win 2).blk t).view.emb y) = ((P ((y 0).val) (3072 + (128 * (t.val / 4) + (y 1).val)) : ℝ) : EReal)
  have b0 : ((((cfg0.win 2).blk t).view.emb y : S4096x4096.Idx) 0).val = win0_2.index t (0 : Fin 2) * 4096 + 1 * (y 0).val := rfl
  have b1 : ((((cfg0.win 2).blk t).view.emb y : S4096x4096.Idx) 1).val = win0_2.index t (1 : Fin 2) * 128 + 1 * (y 1).val := rfl
  have e : (V m c main_arg0 : FVec Ideal S4096x4096 .f32) = (m ((c : Thread nD τ).loc main_arg0) : FVec Ideal S4096x4096 .f32) := V_main_arg0 m c
  rw [e, h, b0, b1, e0, e1, show 0 * 4096 + 1 * (y 0).val = (y 0).val by omega, show (24 + t.val / 4) * 128 + 1 * (y 1).val = 3072 + (128 * (t.val / 4) + (y 1).val) by omega]

theorem read3 (t : Fin cfg0.N) (f : (((cfg0.win 3).blk t).view.ty).Contents (Elt Ideal)) (A : FVec Ideal S4x2x4096x128 .f32) (h : f = A) (y) :
    ((cfg0.win 3).blk t).view.read (Elt Ideal) f y = A (((cfg0.win 3).blk t).view.emb y) := by
  subst h; rfl

theorem blk3 (A : FVec Ideal S4x2x4096x128 .f32) (hC : V m c (Pipeline.arrRef spec0 3) = A) (hA : ∀ i : S4x2x4096x128.Idx, A i = ((C (i 0).val (i 1).val (i 2).val (i 3).val : ℝ) : EReal)) (t : Fin cfg0.N) :
    @Eq (FVec Ideal S1x2x1024x128 .f32) (iblk m c 3 t) (up4 (fun h r j => C (t.val / 4) h (1024 * (t.val % 4) + r) j) : FVec Ideal S1x2x1024x128 .f32) := by
  obtain ⟨e0, e1, e2, e3⟩ := idx3 t
  funext y
  refine (read3 t _ _ hC y).trans ?_
  show A (((cfg0.win 3).blk t).view.emb y) = ((C (t.val / 4) (y 1).val (1024 * (t.val % 4) + (y 2).val) (y 3).val : ℝ) : EReal)
  have b0 : ((((cfg0.win 3).blk t).view.emb y : S4x2x4096x128.Idx) 0).val = win0_3.index t (0 : Fin 4) * 1 + 1 * (y 0).val := rfl
  have b1 : ((((cfg0.win 3).blk t).view.emb y : S4x2x4096x128.Idx) 1).val = win0_3.index t (1 : Fin 4) * 2 + 1 * (y 1).val := rfl
  have b2 : ((((cfg0.win 3).blk t).view.emb y : S4x2x4096x128.Idx) 2).val = win0_3.index t (2 : Fin 4) * 1024 + 1 * (y 2).val := rfl
  have b3 : ((((cfg0.win 3).blk t).view.emb y : S4x2x4096x128.Idx) 3).val = win0_3.index t (3 : Fin 4) * 128 + 1 * (y 3).val := rfl
  have h0 : (y 0).val < 1 := (y 0).isLt
  rw [hA, b0, b1, b2, b3, e0, e1, e2, e3, show t.val / 4 * 1 + 1 * (y 0).val = t.val / 4 by omega,
    show 0 * 2 + 1 * (y 1).val = (y 1).val by omega, show t.val % 4 * 1024 + 1 * (y 2).val = 1024 * (t.val % 4) + (y 2).val by omega,
    show 0 * 128 + 1 * (y 3).val = (y 3).val by omega]

theorem blk4 (h : ∀ i : S4096x512.Idx, (m ((c : Thread nD τ).loc main_arg1) : FVec Ideal S4096x512 .bf16) i = ((D (i 0).val (i 1).val : ℝ) : EReal)) (t : Fin cfg0.N) :
    @Eq (FVec Ideal S1024x128 .bf16) (iblk m c 4 t) (up (fun r l => (pairOf P D (t.val / 4)).D (1024 * (t.val % 4) + r) l) : FVec Ideal S1024x128 .bf16) := by
  obtain ⟨e0, e1⟩ := idx4 t
  funext y
  unfold iblk
  rw [View.read_apply]
  show (V m c main_arg1 : FVec Ideal S4096x512 .bf16) (((cfg0.win 4).blk t).view.emb y) = ((D (1024 * (t.val % 4) + (y 0).val) (128 * (t.val / 4) + (y 1).val) : ℝ) : EReal)
  have b0 : ((((cfg0.win 4).blk t).view.emb y : S4096x512.Idx) 0).val = win0_4.index t (0 : Fin 2) * 1024 + 1 * (y 0).val := rfl
  have b1 : ((((cfg0.win 4).blk t).view.emb y : S4096x512.Idx) 1).val = win0_4.index t (1 : Fin 2) * 128 + 1 * (y 1).val := rfl
  have e : (V m c main_arg1 : FVec Ideal S4096x512 .bf16) = (m ((c : Thread nD τ).loc main_arg1) : FVec Ideal S4096x512 .bf16) := V_main_arg1 m c
  rw [e, h, b0, b1, e0, e1, show t.val % 4 * 1024 + 1 * (y 0).val = 1024 * (t.val % 4) + (y 0).val by omega, show t.val / 4 * 128 + 1 * (y 1).val = 128 * (t.val / 4) + (y 1).val by omega]

end Cert.Grid
end
-- ==== Proof.Left.lean ====
/-
  What a point of the grid leaves in the buffers.
-/
module

public import proofs.«01_k».proof.Proof.Coord
public import proofs.«01_k».proof.Proof.Gen.KernelIdeal.Value

@[expose] public section

set_option maxRecDepth 16384

noncomputable section

open scoped BigOperators Classical
open Idealize.ShloMosaic Idealize.ShloMosaic.ValueIdx Idealize.ShloMosaic.TcCoe Idealize.SL Idealize.SL.Sem
open Cert.Arr Cert.Sem Cert.KernelIdeal Cert.KernelIdeal.Gen Cert.KernelIdeal.Value

namespace Cert.Grid

variable (m : (ℓ : Loc nD τ sig) → Buf (Elt Ideal) ℓ) (c : Dev nD) (P D : RMat) (C : ℕ → ℕ → RMat)

/-- What the buffers hold after point `n`. -/
structure Left (n : ℕ) (o : Vec Ideal S1024x128 .bf16 × Vec Ideal S4096x128 .bf16 × Vec Ideal S4096x128 .bf16 × Vec Ideal S16x128x256 .f32 × Vec Ideal S16x128x256 .f32) : Prop where
  dq : o.1 = (up (fun r l => (pairOf P D (n / 4)).gQ 4096 (1024 * (n % 4) + r) l * (1 / 8)) : FVec Ideal S1024x128 .bf16)
  sk : o.2.2.2.1 = upS (fun i l x => (pairOf P D (n / 4)).gK (1024 * (n % 4 + 1)) l (256 * i + x))
  sv : o.2.2.2.2 = upS (fun i l x => (pairOf P D (n / 4)).gV (1024 * (n % 4 + 1)) l (256 * i + x))
  dk : n % 4 = 3 → o.2.1 = (up (fun x l => (pairOf P D (n / 4)).gK 4096 l x) : FVec Ideal S4096x128 .bf16)
  dv : n % 4 = 3 → o.2.2.1 = (up (fun x l => (pairOf P D (n / 4)).gV 4096 l x) : FVec Ideal S4096x128 .bf16)

theorem stack_all (S : ℕ → RMat) (G : ℕ → ℕ → ℝ) (h : ∀ i < 16, ∀ l, ∀ x < 256, S i l x = G l (256 * i + x)) :
    (up (stackT S) : FVec Ideal S4096x128 .bf16) = up (fun x l => G l x) := by
  refine up_congr _ _ fun r hr l _ => ?_
  show S (r / 256) l (r % 256) = G l r
  rw [h (r / 256) (by omega) l (r % 256) (Nat.mod_lt _ (by norm_num)), Nat.div_add_mod]

/-- The carries hold the sums right of each key tile. -/
def Carries : Prop := ∀ p < 4, ∀ t < 4096, ∀ j < 16,
  C p 0 t j = -∑ x ∈ Finset.Ico (256 * j + 256) 4096, gsp (pairOf P D p).q0 (pairOf P D p).K t x
  ∧ C p 1 t j = -∑ x ∈ Finset.Ico (256 * j + 256) 4096, gsp (pairOf P D p).q1 (pairOf P D p).K t x

theorem point_pt (hcar : Carries P D C) (t : Fin cfg0.N) : (pairOf P D (t.val / 4)).Pt (t.val % 4)
    (Blk.of (fun r l => (pairOf P D (t.val / 4)).Q (1024 * (t.val % 4) + r) l) (fun r l => (pairOf P D (t.val / 4)).D (1024 * (t.val % 4) + r) l)
      (C (t.val / 4) 0 ∘ (1024 * (t.val % 4) + ·)) (C (t.val / 4) 1 ∘ (1024 * (t.val % 4) + ·)) (pairOf P D (t.val / 4)).K (pairOf P D (t.val / 4)).V) := by
  have hN : t.val < 16 := lt_of_lt_of_eq t.isLt (show cfg0.N = 16 from N_0)
  exact Pair.Pt.of _ _ (fun h r j => C (t.val / 4) h (1024 * (t.val % 4) + r) j) (fun _ _ _ => rfl) (fun _ _ _ => rfl)
    (fun r hr j hj => (hcar (t.val / 4) (by omega) (1024 * (t.val % 4) + r) (by omega) j hj).1)
    (fun r hr j hj => (hcar (t.val / 4) (by omega) (1024 * (t.val % 4) + r) (by omega) j hj).2)

end Cert.Grid
end
-- ==== Proof.CaseA.lean ====
/-
  A point of the grid of one kind, on real matrices: the generated words of its run put through the tiles' values.
-/
module

public import proofs.«01_k».proof.Proof.Block

@[expose] public section

set_option maxRecDepth 16384

noncomputable section

open scoped BigOperators Classical
open Idealize.ShloMosaic Idealize.ShloMosaic.ValueIdx Idealize.SL Idealize.SL.Sem
open Cert.Arr

namespace Cert.KernelIdeal.Gen

set_option maxHeartbeats 4000000 in
/-- What a point of this kind leaves: the queries' gradient and the two stacks. -/
theorem case_A (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x2x1024x128 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S16x128x256 .f32) (harg10 : arg10.IsWhole) (arg11 : Memref sig .tc .vmem S16x128x256 .f32) (harg11 : arg11.IsWhole) (hc0 : cond0_0 i) (hc1 : ¬cond0_1 i)
    (x0 : Vec Ideal S1024x128 .f32) (x1 x2 : Vec Ideal S4096x128 .f32) (x3 : Vec Ideal S1x2x1024x128 .f32) (x4 : Vec Ideal S1024x128 .bf16)
    (Q D K V : RMat) (C : ℕ → RMat) (hx0 : x0 = (up Q : FVec Ideal S1024x128 .f32)) (hx1 : x1 = (up K : FVec Ideal S4096x128 .f32)) (hx2 : x2 = (up V : FVec Ideal S4096x128 .f32))
    (hx3 : x3 = up4 C) (hx4 : x4 = (up D : FVec Ideal S1024x128 .bf16)) (s' : St)
    (hs' : s' = (Blk.of Q D (C 0) (C 1) K V).point (i 1).val ⟨constM 0, constM 0, constM 0, (fun _ => constM 0), (fun _ => constM 0)⟩) :
    out0_A_5 (F := Ideal) c i arg2 harg2 arg3 harg3 arg4 harg4 arg5 harg5 arg6 harg6 arg7 harg7 arg8 harg8 arg9 harg9 arg10 harg10 arg11 harg11 hc0 hc1 x0 x1 x2 x3 x4 = (up (s'.dq * constM (1/8)) : FVec Ideal S1024x128 .bf16)
    ∧ sout0_A_0 (F := Ideal) c i arg2 harg2 arg3 harg3 arg4 harg4 arg5 harg5 arg6 harg6 arg7 harg7 arg8 harg8 arg9 harg9 arg10 harg10 arg11 harg11 hc0 hc1 x0 x1 x2 x3 x4 = upS s'.sk
    ∧ sout0_A_1 (F := Ideal) c i arg2 harg2 arg3 harg3 arg4 harg4 arg5 harg5 arg6 harg6 arg7 harg7 arg8 harg8 arg9 harg9 arg10 harg10 arg11 harg11 hc0 hc1 x0 x1 x2 x3 x4 = upS s'.sv := by
  have hq : (i 1).val < 4 := (i 1).isLt
  obtain ⟨b, hb⟩ : ∃ b, b = Blk.of Q D (C 0) (C 1) K V := ⟨_, rfl⟩
  have hd1 : b.d1 = selM (fun _ c => c < 64) (constM 0) b.d := by rw [hb]; rfl
  have hdt0 : b.dt0 = selM (fun r _ => r < 64) (tM b.d) (constM 0) := by rw [hb]; rfl
  have hdt1 : b.dt1 = selM (fun r _ => r < 64) (constM 0) (tM b.d) := by rw [hb]; rfl
  obtain ⟨t, ht⟩ : ∃ t : St, t = ⟨constM 0, constM 0, constM 0, (fun _ => constM 0), (fun _ => constM 0)⟩ := ⟨_, rfl⟩
  obtain ⟨s0, hs0⟩ : ∃ s0, s0 = b.run (2 * (i 1).val) t := ⟨_, rfl⟩
  obtain ⟨s1, hs1⟩ : ∃ s1, s1 = b.tail0 (i 1).val s0 := ⟨_, rfl⟩
  obtain ⟨s2, hs2⟩ : ∃ s2, s2 = b.tail1 (i 1).val s1 := ⟨_, rfl⟩
  obtain ⟨s3, hs3⟩ : ∃ s3, s3 = b.tail2 (i 1).val s2 := ⟨_, rfl⟩
  have hs4 : s' = b.tail3 (i 1).val s3 := by rw [hs', hs3, hs2, hs1, hs0, ht, hb]; rfl
  have k1 : Function.update s0.sk (4 * (i 1).val + 0) (s1.sk (4 * (i 1).val + 0)) = s1.sk := by rw [hs1]; exact step_sk _ _ _ _
  have k2 : Function.update s1.sk (4 * (i 1).val + 1) (s2.sk (4 * (i 1).val + 1)) = s2.sk := by rw [hs2]; exact diag_sk _ _ _ _ _ _
  have k3 : Function.update s2.sk (4 * (i 1).val + 2) (s3.sk (4 * (i 1).val + 2)) = s3.sk := by rw [hs3]; exact diag_sk _ _ _ _ _ _
  have k4 : Function.update s3.sk (4 * (i 1).val + 3) (s'.sk (4 * (i 1).val + 3)) = s'.sk := by rw [hs4]; exact diag_sk _ _ _ _ _ _
  have v1 : Function.update s0.sv (4 * (i 1).val + 0) (s1.sv (4 * (i 1).val + 0)) = s1.sv := by rw [hs1]; exact step_sv _ _ _ _
  have v2 : Function.update s1.sv (4 * (i 1).val + 1) (s2.sv (4 * (i 1).val + 1)) = s2.sv := by rw [hs2]; exact diag_sv _ _ _ _ _ _
  have v3 : Function.update s2.sv (4 * (i 1).val + 2) (s3.sv (4 * (i 1).val + 2)) = s3.sv := by rw [hs3]; exact diag_sv _ _ _ _ _ _
  have v4 : Function.update s3.sv (4 * (i 1).val + 3) (s'.sv (4 * (i 1).val + 3)) = s'.sv := by rw [hs4]; exact diag_sv _ _ _ _ _ _
  have g0 := readAt_all arg2.view (harg2.unread x0) _ ((harg2.read_unread x0).trans hx0) inb_S1024x128_S1024x128_0_0
  have g4 := readAt_all arg6.view (harg6.unread x4) _ ((harg6.read_unread x4).trans hx4) inb_S1024x128_S1024x128_0_0
  have g30 := readAt_up4 arg5.view (harg5.unread x3) C ((harg5.read_unread x3).trans hx3) 0 inb_S1x2x1024x128_S1x1x1024x128_0_0_0_0
  have g31 := readAt_up4 arg5.view (harg5.unread x3) C ((harg5.read_unread x3).trans hx3) 1 inb_S1x2x1024x128_S1x1x1024x128_0_1_0_0
  have hK : arg3.view.read (Elt Ideal) (harg3.unread x1) = (up b.K : FVec Ideal S4096x128 .f32) := by rw [hb]; exact (harg3.read_unread x1).trans hx1
  have hV : arg4.view.read (Elt Ideal) (harg4.unread x2) = (up b.V : FVec Ideal S4096x128 .f32) := by rw [hb]; exact (harg4.read_unread x2).trans hx2
  have pr : (kernelRun0_A.sl.r (F := Ideal) c arg6 harg6 x4) = (up b.d : FVec Ideal S1024x128 .f32) := by
    rw [hb]; exact (congrArg (k0_pay146 (F := Ideal)) g4).trans (pay146_eq D)
  have pr_1 : (kernelRun0_A.sl.r_1 (F := Ideal) c arg2 harg2 x0) = (up b.q0 : FVec Ideal S1024x128 .bf16) := by
    rw [hb]; exact (congrArg (k0_pay147 (F := Ideal)) g0).trans (pay147_eq Q)
  have pr_2 : (kernelRun0_A.sl.r_2 (F := Ideal) c arg2 harg2 x0) = (up b.q1 : FVec Ideal S1024x128 .bf16) := by
    rw [hb]; exact (congrArg (k0_pay148 (F := Ideal)) g0).trans (pay148_eq Q)
  have pr_3 : (kernelRun0_A.sl.r_3 (F := Ideal) c arg2 harg2 x0) = (up b.qt0 : FVec Ideal S128x1024 .bf16) := by
    rw [hb]; exact (congrArg (k0_pay150 (F := Ideal)) g0).trans (pay150_eq Q)
  have pr_4 : (kernelRun0_A.sl.r_4 (F := Ideal) c arg2 harg2 x0) = (up b.qt1 : FVec Ideal S128x1024 .bf16) := by
    rw [hb]; exact (congrArg (k0_pay151 (F := Ideal)) g0).trans (pay151_eq Q)
  have pr_5 : (kernelRun0_A.sl.r_5 (F := Ideal) c arg6 harg6 x4) = (up b.d0 : FVec Ideal S1024x128 .bf16) := by
    rw [hb]; exact (congrArg (k0_pay152 (F := Ideal)) g4).trans (pay152_eq D)
  have pr_9 : (kernelRun0_A.sl.r_9 (F := Ideal) c arg5 harg5 x3) = (up b.c0 : FVec Ideal S1024x128 .f32) := by
    rw [hb]; exact (congrArg (k0_pay158 (F := Ideal)) g30).trans (pay158_eq (C 0))
  have pr_10 : (kernelRun0_A.sl.r_10 (F := Ideal) c arg5 harg5 x3) = (up b.c1 : FVec Ideal S1024x128 .f32) := by
    rw [hb]; exact (congrArg (k0_pay159 (F := Ideal)) g31).trans (pay159_eq (C 1))
  have pr' : (kernelRun0_A.sl.r (F := Ideal) c arg6 harg6 x4) = (up D : FVec Ideal S1024x128 .f32) := pr.trans (by rw [hb]; rfl)
  have pr_6 : (kernelRun0_A.sl.r_6 (F := Ideal) c arg6 harg6 x4) = (up b.d1 : FVec Ideal S1024x128 .bf16) := by
    rw [hb]; exact (congrArg₂ (fun x y => k0_pay154 (F := Ideal) x (Scalar.ofBits (F := Ideal) .f32 0x00000000#32) y) pr' pay153_eq).trans (pay154_eq D)
  have pr_7 : (kernelRun0_A.sl.r_7 (F := Ideal) c arg6 harg6 x4) = (up b.dt0 : FVec Ideal S128x1024 .bf16) := by
    rw [hb]; exact (congrArg₂ (fun x y => k0_pay156 (F := Ideal) x y) row_lt1 pr').trans (pay156_eq D)
  have pr_8 : (kernelRun0_A.sl.r_8 (F := Ideal) c arg6 harg6 x4) = (up b.dt1 : FVec Ideal S128x1024 .bf16) := by
    rw [hb]; exact (congrArg₂ (fun x y => k0_pay157 (F := Ideal) x y) row_lt1 pr').trans (pay157_eq D)
  have a10 : arg10.view.read (Elt Ideal) (arg10.view.writes (Elt Ideal) arg10.view.junk (kernelRun0_A.sl.HS0_1 (F := Ideal))) = upS t.sk := by
    rw [ht]; exact read_stack _ _ _ _ _ pay141_eq
  have a11 : arg11.view.read (Elt Ideal) (arg11.view.writes (Elt Ideal) arg11.view.junk (kernelRun0_A.sl.HS1_1 (F := Ideal))) = upS t.sv := by
    rw [ht]; exact read_stack _ _ _ _ _ pay142_eq
  have L := loop_done Variants.none c none i arg2 harg2 arg3 harg3 arg4 harg4 arg5 harg5 arg6 harg6 arg7 harg7 arg8 harg8 arg9 harg9 arg10 harg10 arg11 harg11 (BitVec.ofNat 32 (i 1).val)
    (kernelRun0_A.sl.v3 ) k0_pay143 k0_pay144 (kernelRun0_A.sl.r (F := Ideal) c arg6 harg6 x4) (kernelRun0_A.sl.r_1 (F := Ideal) c arg2 harg2 x0) (kernelRun0_A.sl.r_2 (F := Ideal) c arg2 harg2 x0) (kernelRun0_A.sl.r_3 (F := Ideal) c arg2 harg2 x0) (kernelRun0_A.sl.r_4 (F := Ideal) c arg2 harg2 x0) (kernelRun0_A.sl.r_5 (F := Ideal) c arg6 harg6 x4) (kernelRun0_A.sl.cst_10 (F := Ideal) ) k0_pay153 _ _ (harg3.unread x1) (harg4.unread x2) _ _ _ _ _ b t
    rfl lane_lt1 row_lt1 pr pr_1 pr_2 pr_3 pr_4 pr_5 rfl pay153_eq (g30.trans (by rw [hb]; rfl)) (g31.trans (by rw [hb]; rfl)) (pay162_eq.trans (by rw [ht])) (pay162_eq.trans (by rw [ht])) (pay163_eq.trans (by rw [ht])) hd1 hdt0 hdt1 hK hV a10 a11 s0 hs0
  have pr_11 : (kernelRun0_A.sl.r_11 (F := Ideal) c i arg2 harg2 arg3 harg3 arg4 harg4 arg5 harg5 arg6 harg6 arg7 harg7 arg8 harg8 arg9 harg9 arg10 harg10 arg11 harg11 x0 x1 x2 x3 x4) = (up s0.e0 : FVec Ideal S1024x1 .f32) := by
    unfold kernelRun0_A.sl.r_11
    rw [st2_nil]
    exact congrArg (fun z => z.1) L.1
  have pr_12 : (kernelRun0_A.sl.r_12 (F := Ideal) c i arg2 harg2 arg3 harg3 arg4 harg4 arg5 harg5 arg6 harg6 arg7 harg7 arg8 harg8 arg9 harg9 arg10 harg10 arg11 harg11 x0 x1 x2 x3 x4) = (up s0.e1 : FVec Ideal S1024x1 .f32) := by
    unfold kernelRun0_A.sl.r_12
    rw [st2_nil]
    exact congrArg (fun z => z.2.1) L.1
  have pr_13 : (kernelRun0_A.sl.r_13 (F := Ideal) c i arg2 harg2 arg3 harg3 arg4 harg4 arg5 harg5 arg6 harg6 arg7 harg7 arg8 harg8 arg9 harg9 arg10 harg10 arg11 harg11 x0 x1 x2 x3 x4) = (up s0.dq : FVec Ideal S1024x128 .f32) := by
    unfold kernelRun0_A.sl.r_13
    rw [st2_nil]
    exact congrArg (fun z => z.2.2) L.1
  have z10 : (kernelRun0_A.sl.v218 (F := Ideal) c i arg2 harg2 arg3 harg3 arg4 harg4 arg5 harg5 arg6 harg6 arg7 harg7 arg8 harg8 arg9 harg9 arg10 harg10 arg11 harg11 x0 x1 x2 x3 x4) = (up1 (s0.sk (4 * (i 1).val + 0)) : FVec Ideal S1x128x256 .f32) :=
    readAt_upS arg10.view _ s0.sk (by rw [st2_nil, List.nil_append, View.writes_append]; exact L.2.1) _ _ (off6_eq i 0 (by norm_num)) _
  have z11 : (kernelRun0_A.sl.v226 (F := Ideal) c i arg2 harg2 arg3 harg3 arg4 harg4 arg5 harg5 arg6 harg6 arg7 harg7 arg8 harg8 arg9 harg9 arg10 harg10 arg11 harg11 x0 x1 x2 x3 x4) = (up1 (s0.sv (4 * (i 1).val + 0)) : FVec Ideal S1x128x256 .f32) :=
    readAt_upS arg11.view _ s0.sv (by rw [st2_nil, List.nil_append, View.writes_append]; exact L.2.2) _ _ (off6_eq i 0 (by norm_num)) _
  obtain ⟨e0_1, e1_1, dq_1, hk_1, hv_1⟩ := tile0 b s0 (i 1).val hq hd1 hdt0 hdt1 (kernelRun0_A.sl.r_1 (F := Ideal) c arg2 harg2 x0) pr_1 (kernelRun0_A.sl.r_2 (F := Ideal) c arg2 harg2 x0) pr_2 (kernelRun0_A.sl.r_3 (F := Ideal) c arg2 harg2 x0) pr_3 (kernelRun0_A.sl.r_4 (F := Ideal) c arg2 harg2 x0) pr_4 (kernelRun0_A.sl.r_5 (F := Ideal) c arg6 harg6 x4) pr_5 (kernelRun0_A.sl.r_6 (F := Ideal) c arg6 harg6 x4) pr_6 (kernelRun0_A.sl.r_7 (F := Ideal) c arg6 harg6 x4) pr_7 (kernelRun0_A.sl.r_8 (F := Ideal) c arg6 harg6 x4) pr_8 (kernelRun0_A.sl.r_9 (F := Ideal) c arg5 harg5 x3) pr_9 (kernelRun0_A.sl.r_10 (F := Ideal) c arg5 harg5 x3) pr_10 (kernelRun0_A.sl.r_11 (F := Ideal) c i arg2 harg2 arg3 harg3 arg4 harg4 arg5 harg5 arg6 harg6 arg7 harg7 arg8 harg8 arg9 harg9 arg10 harg10 arg11 harg11 x0 x1 x2 x3 x4) pr_11 (kernelRun0_A.sl.r_12 (F := Ideal) c i arg2 harg2 arg3 harg3 arg4 harg4 arg5 harg5 arg6 harg6 arg7 harg7 arg8 harg8 arg9 harg9 arg10 harg10 arg11 harg11 x0 x1 x2 x3 x4) pr_12 (kernelRun0_A.sl.r_13 (F := Ideal) c i arg2 harg2 arg3 harg3 arg4 harg4 arg5 harg5 arg6 harg6 arg7 harg7 arg8 harg8 arg9 harg9 arg10 harg10 arg11 harg11 x0 x1 x2 x3 x4) pr_13 _ (readAt_up arg3.view (harg3.unread x1) b.K hK (k0_off5 i 0#32) (256 * (4 * (i 1).val + 0)) 0 (off5_eq i 0 (by norm_num)) _) _ (readAt_up arg4.view (harg4.unread x2) b.V hV (k0_off5 i 0#32) (256 * (4 * (i 1).val + 0)) 0 (off5_eq i 0 (by norm_num)) _) (kernelRun0_A.sl.v218 (F := Ideal) c i arg2 harg2 arg3 harg3 arg4 harg4 arg5 harg5 arg6 harg6 arg7 harg7 arg8 harg8 arg9 harg9 arg10 harg10 arg11 harg11 x0 x1 x2 x3 x4) z10 (kernelRun0_A.sl.v226 (F := Ideal) c i arg2 harg2 arg3 harg3 arg4 harg4 arg5 harg5 arg6 harg6 arg7 harg7 arg8 harg8 arg9 harg9 arg10 harg10 arg11 harg11 x0 x1 x2 x3 x4) z11
    (kernelRun0_A.sl.r_14 (F := Ideal) i arg3 harg3 x1) (kernelRun0_A.sl.r_15 (F := Ideal) i arg3 harg3 x1) (kernelRun0_A.sl.r_16 (F := Ideal) i arg3 harg3 x1) (kernelRun0_A.sl.r_17 (F := Ideal) i arg4 harg4 x2) (kernelRun0_A.sl.r_18 i) (kernelRun0_A.sl.r_19 (F := Ideal) c i arg5 harg5 x3) (kernelRun0_A.sl.r_20 (F := Ideal) c i arg2 harg2 arg3 harg3 x0 x1) (kernelRun0_A.sl.r_21 (F := Ideal) c i arg2 harg2 arg3 harg3 x0 x1) (kernelRun0_A.sl.r_22 (F := Ideal) c i arg2 harg2 arg3 harg3 x0 x1) (kernelRun0_A.sl.r_23 (F := Ideal) c i arg2 harg2 arg3 harg3 arg4 harg4 arg5 harg5 arg6 harg6 arg7 harg7 arg8 harg8 arg9 harg9 arg10 harg10 arg11 harg11 x0 x1 x2 x3 x4) (kernelRun0_A.sl.r_24 (F := Ideal) c i arg2 harg2 arg3 harg3 arg4 harg4 arg5 harg5 arg6 harg6 arg7 harg7 arg8 harg8 arg9 harg9 arg10 harg10 arg11 harg11 x0 x1 x2 x3 x4) (kernelRun0_A.sl.r_25 (F := Ideal) c i arg2 harg2 arg3 harg3 arg4 harg4 arg5 harg5 arg6 harg6 arg7 harg7 arg8 harg8 arg9 harg9 arg10 harg10 arg11 harg11 x0 x1 x2 x3 x4) (kernelRun0_A.sl.r_26 (F := Ideal) c i arg2 harg2 arg3 harg3 arg5 harg5 arg6 harg6 x0 x1 x3 x4) (kernelRun0_A.sl.r_27 (F := Ideal) c i arg5 harg5 x3) (kernelRun0_A.sl.r_28 (F := Ideal) c i arg2 harg2 arg3 harg3 arg4 harg4 arg5 harg5 arg6 harg6 arg7 harg7 arg8 harg8 arg9 harg9 arg10 harg10 arg11 harg11 x0 x1 x2 x3 x4) (kernelRun0_A.sl.r_29 (F := Ideal) c i arg2 harg2 arg3 harg3 arg4 harg4 arg5 harg5 arg6 harg6 arg7 harg7 arg8 harg8 arg9 harg9 arg10 harg10 arg11 harg11 x0 x1 x2 x3 x4) (kernelRun0_A.sl.r_30 (F := Ideal) c i arg2 harg2 arg3 harg3 arg4 harg4 arg5 harg5 arg6 harg6 arg7 harg7 arg8 harg8 arg9 harg9 arg10 harg10 arg11 harg11 x0 x1 x2 x3 x4) (kernelRun0_A.sl.r_31 (F := Ideal) c i arg2 harg2 arg3 harg3 arg5 harg5 arg6 harg6 x0 x1 x3 x4) (kernelRun0_A.sl.r_32 (F := Ideal) c i arg2 harg2 arg3 harg3 arg4 harg4 arg5 harg5 arg6 harg6 arg7 harg7 arg8 harg8 arg9 harg9 arg10 harg10 arg11 harg11 x0 x1 x2 x3 x4) (kernelRun0_A.sl.r_33 (F := Ideal) c i arg2 harg2 arg3 harg3 arg4 harg4 arg5 harg5 arg6 harg6 arg7 harg7 arg8 harg8 arg9 harg9 arg10 harg10 arg11 harg11 x0 x1 x2 x3 x4)
    rfl rfl rfl rfl rfl rfl rfl rfl rfl rfl rfl rfl rfl rfl rfl rfl rfl rfl rfl rfl s1 hs1
  have R10_1 : arg10.view.read (Elt Ideal) (arg10.view.writes (Elt Ideal) arg10.view.junk (kernelRun0_A.sl.HS0_1_1 (F := Ideal) c i arg2 harg2 arg3 harg3 arg4 harg4 arg5 harg5 arg6 harg6 arg7 harg7 arg8 harg8 arg9 harg9 arg10 harg10 arg11 harg11 x0 x1 x2 x3 x4)) = upS s1.sk :=
    read_store' arg10.view _ _ s0.sk _ (by rw [st2_nil, List.nil_append, View.writes_append]; exact L.2.1) (k0_off6 i 0#32) _ (off6_eq i 0 (by norm_num)) _ _ _ hk_1 k1
  have R11_1 : arg11.view.read (Elt Ideal) (arg11.view.writes (Elt Ideal) arg11.view.junk (kernelRun0_A.sl.HS1_1_1 (F := Ideal) c i arg2 harg2 arg3 harg3 arg4 harg4 arg5 harg5 arg6 harg6 arg7 harg7 arg8 harg8 arg9 harg9 arg10 harg10 arg11 harg11 x0 x1 x2 x3 x4)) = upS s1.sv :=
    read_store' arg11.view _ _ s0.sv _ (by rw [st2_nil, List.nil_append, View.writes_append]; exact L.2.2) (k0_off6 i 0#32) _ (off6_eq i 0 (by norm_num)) _ _ _ hv_1 v1
  obtain ⟨e0_2, e1_2, dq_2, hk_2, hv_2⟩ := tile1 b s1 (i 1).val hq hd1 hdt0 hdt1 (kernelRun0_A.sl.r_1 (F := Ideal) c arg2 harg2 x0) pr_1 (kernelRun0_A.sl.r_2 (F := Ideal) c arg2 harg2 x0) pr_2 (kernelRun0_A.sl.r_3 (F := Ideal) c arg2 harg2 x0) pr_3 (kernelRun0_A.sl.r_4 (F := Ideal) c arg2 harg2 x0) pr_4 (kernelRun0_A.sl.r_5 (F := Ideal) c arg6 harg6 x4) pr_5 (kernelRun0_A.sl.r_6 (F := Ideal) c arg6 harg6 x4) pr_6 (kernelRun0_A.sl.r_7 (F := Ideal) c arg6 harg6 x4) pr_7 (kernelRun0_A.sl.r_8 (F := Ideal) c arg6 harg6 x4) pr_8 (kernelRun0_A.sl.r_9 (F := Ideal) c arg5 harg5 x3) pr_9 (kernelRun0_A.sl.r_10 (F := Ideal) c arg5 harg5 x3) pr_10 (kernelRun0_A.sl.r_23 (F := Ideal) c i arg2 harg2 arg3 harg3 arg4 harg4 arg5 harg5 arg6 harg6 arg7 harg7 arg8 harg8 arg9 harg9 arg10 harg10 arg11 harg11 x0 x1 x2 x3 x4) e0_1 (kernelRun0_A.sl.r_28 (F := Ideal) c i arg2 harg2 arg3 harg3 arg4 harg4 arg5 harg5 arg6 harg6 arg7 harg7 arg8 harg8 arg9 harg9 arg10 harg10 arg11 harg11 x0 x1 x2 x3 x4) e1_1 (kernelRun0_A.sl.r_33 (F := Ideal) c i arg2 harg2 arg3 harg3 arg4 harg4 arg5 harg5 arg6 harg6 arg7 harg7 arg8 harg8 arg9 harg9 arg10 harg10 arg11 harg11 x0 x1 x2 x3 x4) dq_1 _ (readAt_up arg3.view (harg3.unread x1) b.K hK (k0_off5 i 1#32) (256 * (4 * (i 1).val + 1)) 0 (off5_eq i 1 (by norm_num)) _) _ (readAt_up arg4.view (harg4.unread x2) b.V hV (k0_off5 i 1#32) (256 * (4 * (i 1).val + 1)) 0 (off5_eq i 1 (by norm_num)) _) _ (readAt_upS arg10.view _ s1.sk R10_1 (k0_off6 i 1#32) _ (off6_eq i 1 (by norm_num)) _) _ (readAt_upS arg11.view _ s1.sv R11_1 (k0_off6 i 1#32) _ (off6_eq i 1 (by norm_num)) _)
    (kernelRun0_A.sl.r_34 (F := Ideal) i arg3 harg3 x1) (kernelRun0_A.sl.r_35 (F := Ideal) i arg3 harg3 x1) (kernelRun0_A.sl.r_36 (F := Ideal) i arg3 harg3 x1) (kernelRun0_A.sl.r_37 (F := Ideal) i arg4 harg4 x2) (kernelRun0_A.sl.r_38 i) (kernelRun0_A.sl.r_39 i) (kernelRun0_A.sl.r_40 i) (kernelRun0_A.sl.r_41 (F := Ideal) c i arg2 harg2 arg3 harg3 arg5 harg5 x0 x1 x3) (kernelRun0_A.sl.r_42 (F := Ideal) c i arg2 harg2 arg3 harg3 arg4 harg4 arg5 harg5 arg6 harg6 x0 x1 x2 x3 x4) (kernelRun0_A.sl.r_43 (F := Ideal) c i arg2 harg2 arg3 harg3 arg4 harg4 arg5 harg5 arg6 harg6 x0 x1 x2 x3 x4) (kernelRun0_A.sl.r_44 (F := Ideal) c i arg2 harg2 arg3 harg3 x0 x1) (kernelRun0_A.sl.r_45 (F := Ideal) c i arg2 harg2 arg3 harg3 arg4 harg4 arg5 harg5 arg6 harg6 arg7 harg7 arg8 harg8 arg9 harg9 arg10 harg10 arg11 harg11 x0 x1 x2 x3 x4) (kernelRun0_A.sl.r_46 (F := Ideal) c i arg2 harg2 arg3 harg3 arg4 harg4 arg5 harg5 arg6 harg6 arg7 harg7 arg8 harg8 arg9 harg9 arg10 harg10 arg11 harg11 x0 x1 x2 x3 x4) (kernelRun0_A.sl.r_47 (F := Ideal) c i arg2 harg2 arg3 harg3 arg4 harg4 arg5 harg5 arg6 harg6 arg7 harg7 arg8 harg8 arg9 harg9 arg10 harg10 arg11 harg11 x0 x1 x2 x3 x4) (kernelRun0_A.sl.r_48 (F := Ideal) c i arg2 harg2 arg3 harg3 arg4 harg4 arg5 harg5 arg6 harg6 arg7 harg7 arg8 harg8 arg9 harg9 arg10 harg10 arg11 harg11 x0 x1 x2 x3 x4) (kernelRun0_A.sl.r_49 (F := Ideal) c i arg2 harg2 arg3 harg3 arg5 harg5 arg6 harg6 x0 x1 x3 x4) (kernelRun0_A.sl.r_50 (F := Ideal) c i arg2 harg2 arg3 harg3 x0 x1) (kernelRun0_A.sl.r_51 (F := Ideal) c i arg2 harg2 arg3 harg3 x0 x1) (kernelRun0_A.sl.r_52 (F := Ideal) c i arg2 harg2 arg3 harg3 arg5 harg5 x0 x1 x3) (kernelRun0_A.sl.r_53 (F := Ideal) c i arg2 harg2 arg3 harg3 arg4 harg4 arg5 harg5 arg6 harg6 arg7 harg7 arg8 harg8 arg9 harg9 arg10 harg10 arg11 harg11 x0 x1 x2 x3 x4) (kernelRun0_A.sl.r_54 (F := Ideal) c i arg2 harg2 arg3 harg3 arg4 harg4 arg5 harg5 arg6 harg6 arg7 harg7 arg8 harg8 arg9 harg9 arg10 harg10 arg11 harg11 x0 x1 x2 x3 x4) (kernelRun0_A.sl.r_55 (F := Ideal) c i arg2 harg2 arg3 harg3 arg4 harg4 arg5 harg5 arg6 harg6 arg7 harg7 arg8 harg8 arg9 harg9 arg10 harg10 arg11 harg11 x0 x1 x2 x3 x4) (kernelRun0_A.sl.r_56 (F := Ideal) c i arg2 harg2 arg3 harg3 arg4 harg4 arg5 harg5 arg6 harg6 arg7 harg7 arg8 harg8 arg9 harg9 arg10 harg10 arg11 harg11 x0 x1 x2 x3 x4)
    rfl rfl rfl rfl rfl rfl rfl rfl rfl rfl rfl rfl rfl rfl rfl rfl rfl rfl rfl rfl rfl rfl rfl s2 hs2
  have R10_2 : arg10.view.read (Elt Ideal) (arg10.view.writes (Elt Ideal) arg10.view.junk (kernelRun0_A.sl.HS0_2 (F := Ideal) c i arg2 harg2 arg3 harg3 arg4 harg4 arg5 harg5 arg6 harg6 arg7 harg7 arg8 harg8 arg9 harg9 arg10 harg10 arg11 harg11 x0 x1 x2 x3 x4)) = upS s2.sk :=
    read_store' arg10.view _ _ s1.sk _ R10_1 (k0_off6 i 1#32) _ (off6_eq i 1 (by norm_num)) _ _ _ hk_2 k2
  have R11_2 : arg11.view.read (Elt Ideal) (arg11.view.writes (Elt Ideal) arg11.view.junk (kernelRun0_A.sl.HS1_2 (F := Ideal) c i arg2 harg2 arg3 harg3 arg4 harg4 arg5 harg5 arg6 harg6 arg7 harg7 arg8 harg8 arg9 harg9 arg10 harg10 arg11 harg11 x0 x1 x2 x3 x4)) = upS s2.sv :=
    read_store' arg11.view _ _ s1.sv _ R11_1 (k0_off6 i 1#32) _ (off6_eq i 1 (by norm_num)) _ _ _ hv_2 v2
  obtain ⟨e0_3, e1_3, dq_3, hk_3, hv_3⟩ := tile2 b s2 (i 1).val hq hd1 hdt0 hdt1 (kernelRun0_A.sl.r_1 (F := Ideal) c arg2 harg2 x0) pr_1 (kernelRun0_A.sl.r_2 (F := Ideal) c arg2 harg2 x0) pr_2 (kernelRun0_A.sl.r_3 (F := Ideal) c arg2 harg2 x0) pr_3 (kernelRun0_A.sl.r_4 (F := Ideal) c arg2 harg2 x0) pr_4 (kernelRun0_A.sl.r_5 (F := Ideal) c arg6 harg6 x4) pr_5 (kernelRun0_A.sl.r_6 (F := Ideal) c arg6 harg6 x4) pr_6 (kernelRun0_A.sl.r_7 (F := Ideal) c arg6 harg6 x4) pr_7 (kernelRun0_A.sl.r_8 (F := Ideal) c arg6 harg6 x4) pr_8 (kernelRun0_A.sl.r_9 (F := Ideal) c arg5 harg5 x3) pr_9 (kernelRun0_A.sl.r_10 (F := Ideal) c arg5 harg5 x3) pr_10 (kernelRun0_A.sl.r_46 (F := Ideal) c i arg2 harg2 arg3 harg3 arg4 harg4 arg5 harg5 arg6 harg6 arg7 harg7 arg8 harg8 arg9 harg9 arg10 harg10 arg11 harg11 x0 x1 x2 x3 x4) e0_2 (kernelRun0_A.sl.r_53 (F := Ideal) c i arg2 harg2 arg3 harg3 arg4 harg4 arg5 harg5 arg6 harg6 arg7 harg7 arg8 harg8 arg9 harg9 arg10 harg10 arg11 harg11 x0 x1 x2 x3 x4) e1_2 (kernelRun0_A.sl.r_56 (F := Ideal) c i arg2 harg2 arg3 harg3 arg4 harg4 arg5 harg5 arg6 harg6 arg7 harg7 arg8 harg8 arg9 harg9 arg10 harg10 arg11 harg11 x0 x1 x2 x3 x4) dq_2 _ (readAt_up arg3.view (harg3.unread x1) b.K hK (k0_off5 i 2#32) (256 * (4 * (i 1).val + 2)) 0 (off5_eq i 2 (by norm_num)) _) _ (readAt_up arg4.view (harg4.unread x2) b.V hV (k0_off5 i 2#32) (256 * (4 * (i 1).val + 2)) 0 (off5_eq i 2 (by norm_num)) _) _ (readAt_upS arg10.view _ s2.sk R10_2 (k0_off6 i 2#32) _ (off6_eq i 2 (by norm_num)) _) _ (readAt_upS arg11.view _ s2.sv R11_2 (k0_off6 i 2#32) _ (off6_eq i 2 (by norm_num)) _)
    (kernelRun0_A.sl.r_57 (F := Ideal) i arg3 harg3 x1) (kernelRun0_A.sl.r_58 (F := Ideal) i arg3 harg3 x1) (kernelRun0_A.sl.r_59 (F := Ideal) i arg3 harg3 x1) (kernelRun0_A.sl.r_60 (F := Ideal) i arg4 harg4 x2) (kernelRun0_A.sl.r_61 i) (kernelRun0_A.sl.r_62 (F := Ideal) c arg5 harg5 x3) (kernelRun0_A.sl.r_63 i) (kernelRun0_A.sl.r_64 (F := Ideal) c i arg2 harg2 arg3 harg3 arg4 harg4 arg5 harg5 arg6 harg6 arg7 harg7 arg8 harg8 arg9 harg9 arg10 harg10 arg11 harg11 x0 x1 x2 x3 x4) (kernelRun0_A.sl.r_65 (F := Ideal) c i arg2 harg2 arg3 harg3 arg4 harg4 arg5 harg5 arg6 harg6 arg7 harg7 arg8 harg8 arg9 harg9 arg10 harg10 arg11 harg11 x0 x1 x2 x3 x4) (kernelRun0_A.sl.r_66 (F := Ideal) c i arg2 harg2 arg3 harg3 arg5 harg5 x0 x1 x3) (kernelRun0_A.sl.r_67 (F := Ideal) c i arg2 harg2 arg3 harg3 arg4 harg4 arg5 harg5 arg6 harg6 arg7 harg7 arg8 harg8 arg9 harg9 arg10 harg10 arg11 harg11 x0 x1 x2 x3 x4) (kernelRun0_A.sl.r_68 (F := Ideal) c i arg2 harg2 arg3 harg3 arg4 harg4 arg5 harg5 arg6 harg6 arg7 harg7 arg8 harg8 arg9 harg9 arg10 harg10 arg11 harg11 x0 x1 x2 x3 x4) (kernelRun0_A.sl.r_69 (F := Ideal) c i arg2 harg2 arg3 harg3 arg4 harg4 arg5 harg5 arg6 harg6 arg7 harg7 arg8 harg8 arg9 harg9 arg10 harg10 arg11 harg11 x0 x1 x2 x3 x4) (kernelRun0_A.sl.r_70 (F := Ideal) c i arg2 harg2 arg3 harg3 arg5 harg5 arg6 harg6 x0 x1 x3 x4) (kernelRun0_A.sl.r_71 (F := Ideal) c i arg2 harg2 arg3 harg3 arg5 harg5 x0 x1 x3) (kernelRun0_A.sl.r_72 (F := Ideal) c i arg2 harg2 arg3 harg3 arg4 harg4 arg5 harg5 arg6 harg6 x0 x1 x2 x3 x4) (kernelRun0_A.sl.r_73 (F := Ideal) c i arg2 harg2 arg3 harg3 arg4 harg4 arg5 harg5 arg6 harg6 x0 x1 x2 x3 x4) (kernelRun0_A.sl.r_74 (F := Ideal) c i arg2 harg2 arg3 harg3 x0 x1) (kernelRun0_A.sl.r_75 (F := Ideal) c i arg2 harg2 arg3 harg3 arg4 harg4 arg5 harg5 arg6 harg6 arg7 harg7 arg8 harg8 arg9 harg9 arg10 harg10 arg11 harg11 x0 x1 x2 x3 x4) (kernelRun0_A.sl.r_76 (F := Ideal) c i arg2 harg2 arg3 harg3 arg4 harg4 arg5 harg5 arg6 harg6 arg7 harg7 arg8 harg8 arg9 harg9 arg10 harg10 arg11 harg11 x0 x1 x2 x3 x4) (kernelRun0_A.sl.r_77 (F := Ideal) c i arg2 harg2 arg3 harg3 arg4 harg4 arg5 harg5 arg6 harg6 arg7 harg7 arg8 harg8 arg9 harg9 arg10 harg10 arg11 harg11 x0 x1 x2 x3 x4)
    rfl rfl rfl rfl rfl rfl rfl rfl rfl rfl rfl rfl rfl rfl rfl rfl rfl rfl rfl rfl rfl s3 hs3
  have R10_3 : arg10.view.read (Elt Ideal) (arg10.view.writes (Elt Ideal) arg10.view.junk (kernelRun0_A.sl.HS0_3 (F := Ideal) c i arg2 harg2 arg3 harg3 arg4 harg4 arg5 harg5 arg6 harg6 arg7 harg7 arg8 harg8 arg9 harg9 arg10 harg10 arg11 harg11 x0 x1 x2 x3 x4)) = upS s3.sk :=
    read_store' arg10.view _ _ s2.sk _ R10_2 (k0_off6 i 2#32) _ (off6_eq i 2 (by norm_num)) _ _ _ hk_3 k3
  have R11_3 : arg11.view.read (Elt Ideal) (arg11.view.writes (Elt Ideal) arg11.view.junk (kernelRun0_A.sl.HS1_3 (F := Ideal) c i arg2 harg2 arg3 harg3 arg4 harg4 arg5 harg5 arg6 harg6 arg7 harg7 arg8 harg8 arg9 harg9 arg10 harg10 arg11 harg11 x0 x1 x2 x3 x4)) = upS s3.sv :=
    read_store' arg11.view _ _ s2.sv _ R11_2 (k0_off6 i 2#32) _ (off6_eq i 2 (by norm_num)) _ _ _ hv_3 v3
  obtain ⟨ho, hk_4, hv_4⟩ := tile3 b s3 (i 1).val hq hd1 hdt0 hdt1 (kernelRun0_A.sl.r_1 (F := Ideal) c arg2 harg2 x0) pr_1 (kernelRun0_A.sl.r_2 (F := Ideal) c arg2 harg2 x0) pr_2 (kernelRun0_A.sl.r_3 (F := Ideal) c arg2 harg2 x0) pr_3 (kernelRun0_A.sl.r_4 (F := Ideal) c arg2 harg2 x0) pr_4 (kernelRun0_A.sl.r_5 (F := Ideal) c arg6 harg6 x4) pr_5 (kernelRun0_A.sl.r_6 (F := Ideal) c arg6 harg6 x4) pr_6 (kernelRun0_A.sl.r_7 (F := Ideal) c arg6 harg6 x4) pr_7 (kernelRun0_A.sl.r_8 (F := Ideal) c arg6 harg6 x4) pr_8 (kernelRun0_A.sl.r_9 (F := Ideal) c arg5 harg5 x3) pr_9 (kernelRun0_A.sl.r_10 (F := Ideal) c arg5 harg5 x3) pr_10 (kernelRun0_A.sl.r_64 (F := Ideal) c i arg2 harg2 arg3 harg3 arg4 harg4 arg5 harg5 arg6 harg6 arg7 harg7 arg8 harg8 arg9 harg9 arg10 harg10 arg11 harg11 x0 x1 x2 x3 x4) e0_3 (kernelRun0_A.sl.r_76 (F := Ideal) c i arg2 harg2 arg3 harg3 arg4 harg4 arg5 harg5 arg6 harg6 arg7 harg7 arg8 harg8 arg9 harg9 arg10 harg10 arg11 harg11 x0 x1 x2 x3 x4) e1_3 (kernelRun0_A.sl.r_77 (F := Ideal) c i arg2 harg2 arg3 harg3 arg4 harg4 arg5 harg5 arg6 harg6 arg7 harg7 arg8 harg8 arg9 harg9 arg10 harg10 arg11 harg11 x0 x1 x2 x3 x4) dq_3 _ (readAt_up arg3.view (harg3.unread x1) b.K hK (k0_off5 i 3#32) (256 * (4 * (i 1).val + 3)) 0 (off5_eq i 3 (by norm_num)) _) _ (readAt_up arg4.view (harg4.unread x2) b.V hV (k0_off5 i 3#32) (256 * (4 * (i 1).val + 3)) 0 (off5_eq i 3 (by norm_num)) _) _ (readAt_upS arg10.view _ s3.sk R10_3 (k0_off6 i 3#32) _ (off6_eq i 3 (by norm_num)) _) _ (readAt_upS arg11.view _ s3.sv R11_3 (k0_off6 i 3#32) _ (off6_eq i 3 (by norm_num)) _)
    (kernelRun0_A.sl.r_78 (F := Ideal) i arg3 harg3 x1) (kernelRun0_A.sl.r_79 (F := Ideal) i arg3 harg3 x1) (kernelRun0_A.sl.r_80 (F := Ideal) i arg3 harg3 x1) (kernelRun0_A.sl.r_81 (F := Ideal) i arg4 harg4 x2) (kernelRun0_A.sl.r_82 i) (kernelRun0_A.sl.r_83 (F := Ideal) c i arg5 harg5 x3) (kernelRun0_A.sl.r_84 (F := Ideal) c i arg2 harg2 arg3 harg3 x0 x1) (kernelRun0_A.sl.r_85 (F := Ideal) c i arg2 harg2 arg3 harg3 x0 x1) (kernelRun0_A.sl.r_86 (F := Ideal) c i arg2 harg2 arg3 harg3 x0 x1) (kernelRun0_A.sl.r_87 (F := Ideal) c i arg2 harg2 arg3 harg3 arg4 harg4 arg5 harg5 arg6 harg6 arg7 harg7 arg8 harg8 arg9 harg9 arg10 harg10 arg11 harg11 x0 x1 x2 x3 x4) (kernelRun0_A.sl.r_88 (F := Ideal) c i arg2 harg2 arg3 harg3 arg4 harg4 arg5 harg5 arg6 harg6 arg7 harg7 arg8 harg8 arg9 harg9 arg10 harg10 arg11 harg11 x0 x1 x2 x3 x4) (kernelRun0_A.sl.r_89 (F := Ideal) c i arg2 harg2 arg3 harg3 arg5 harg5 arg6 harg6 x0 x1 x3 x4) (kernelRun0_A.sl.r_90 (F := Ideal) c i arg5 harg5 x3) (kernelRun0_A.sl.r_91 (F := Ideal) c i arg2 harg2 arg3 harg3 arg4 harg4 arg5 harg5 arg6 harg6 arg7 harg7 arg8 harg8 arg9 harg9 arg10 harg10 arg11 harg11 x0 x1 x2 x3 x4) (kernelRun0_A.sl.r_92 (F := Ideal) c i arg2 harg2 arg3 harg3 arg4 harg4 arg5 harg5 arg6 harg6 arg7 harg7 arg8 harg8 arg9 harg9 arg10 harg10 arg11 harg11 x0 x1 x2 x3 x4) (kernelRun0_A.sl.r_93 (F := Ideal) c i arg2 harg2 arg3 harg3 arg5 harg5 arg6 harg6 x0 x1 x3 x4)
    rfl rfl rfl rfl rfl rfl rfl rfl rfl rfl rfl rfl rfl rfl rfl rfl s' hs4
  have R10_4 : arg10.view.read (Elt Ideal) (arg10.view.writes (Elt Ideal) arg10.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.2.1) = upS s'.sk :=
    read_store' arg10.view _ _ s3.sk _ R10_3 (k0_off6 i 3#32) _ (off6_eq i 3 (by norm_num)) _ _ _ hk_4 k4
  have R11_4 : arg11.view.read (Elt Ideal) (arg11.view.writes (Elt Ideal) arg11.view.junk (kernelRun0_A (F := Ideal) c i arg2 harg2 arg3 harg3 arg4 harg4 arg5 harg5 arg6 harg6 arg7 harg7 arg8 harg8 arg9 harg9 arg10 harg10 arg11 harg11 hc0 hc1 x0 x1 x2 x3 x4).2.2.2.2.1) = upS s'.sv :=
    read_store' arg11.view _ _ s3.sv _ R11_3 (k0_off6 i 3#32) _ (off6_eq i 3 (by norm_num)) _ _ _ hv_4 v4
  refine ⟨read_block _ _ _ _ _ ho, ?_, ?_⟩
  · exact (View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)).trans ((View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)).symm.trans R10_4)
  · exact (View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)).trans ((View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)).symm.trans R11_4)

end Cert.KernelIdeal.Gen
end
-- ==== Proof.LeftA.lean ====
/-
  What the first points of a sweep leave.
-/
module

public import proofs.«01_k».proof.Proof.Left
public import proofs.«01_k».proof.Proof.CaseA

@[expose] public section

set_option maxRecDepth 16384

noncomputable section

open scoped BigOperators Classical
open Idealize.ShloMosaic Idealize.ShloMosaic.ValueIdx Idealize.ShloMosaic.TcCoe Idealize.SL Idealize.SL.Sem
open Cert.Arr Cert.Sem Cert.KernelIdeal Cert.KernelIdeal.Gen Cert.KernelIdeal.Value

namespace Cert.Grid

variable (m : (ℓ : Loc nD τ sig) → Buf (Elt Ideal) ℓ) (c : Dev nD) (P D : RMat) (C : ℕ → ℕ → RMat)

variable (A : FVec Ideal S4x2x4096x128 .f32)
  (hP : ∀ i : S4096x4096.Idx, (m ((c : Thread nD τ).loc main_arg0) : FVec Ideal S4096x4096 .f32) i = ((P (i 0).val (i 1).val : ℝ) : EReal))
  (hD : ∀ i : S4096x512.Idx, (m ((c : Thread nD τ).loc main_arg1) : FVec Ideal S4096x512 .bf16) i = ((D (i 0).val (i 1).val : ℝ) : EReal))
  (hC : V m c (Pipeline.arrRef spec0 3) = A) (hA : ∀ i : S4x2x4096x128.Idx, A i = ((C (i 0).val (i 1).val (i 2).val (i 3).val : ℝ) : EReal))
  (hcar : Carries P D C)
include hP hD hC hA hcar

set_option maxHeartbeats 4000000 in
theorem left_A (t : Fin cfg0.N) (h0 : t.val % 4 = 0) (h1 : ¬t.val % 4 = 3): Left P D t.val (outsAt0 m c t.val t.isLt) := by
  have hN : t.val < 16 := lt_of_lt_of_eq t.isLt (show cfg0.N = 16 from N_0)
  obtain ⟨s', hs'⟩ : ∃ s', s' = (Blk.of (fun r l => (pairOf P D (t.val / 4)).Q (1024 * (t.val % 4) + r) l) (fun r l => (pairOf P D (t.val / 4)).D (1024 * (t.val % 4) + r) l) (C (t.val / 4) 0 ∘ (1024 * (t.val % 4) + ·)) (C (t.val / 4) 1 ∘ (1024 * (t.val % 4) + ·)) (pairOf P D (t.val / 4)).K (pairOf P D (t.val / 4)).V).point (t.val % 4) ⟨constM 0, constM 0, constM 0, (fun _ => constM 0), (fun _ => constM 0)⟩ := ⟨_, rfl⟩
  obtain ⟨q1, q2, q3⟩ := Pair.point_sem (point_pt P D C hcar t) (by omega) (fun _ => constM 0) (fun _ => constM 0) (fun i hi l x hx => by rw [h0]; rfl) (fun i hi l x hx => by rw [h0]; rfl) s' hs'
  obtain ⟨r5, r0, r1⟩ := case_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h))
    (iblk m c 0 t) (iblk m c 1 t) (iblk m c 2 t) (iblk m c 3 t) (iblk m c 4 t)
    (fun r l => (pairOf P D (t.val / 4)).Q (1024 * (t.val % 4) + r) l) (fun r l => (pairOf P D (t.val / 4)).D (1024 * (t.val % 4) + r) l) (pairOf P D (t.val / 4)).K (pairOf P D (t.val / 4)).V
    (fun h r j => C (t.val / 4) h (1024 * (t.val % 4) + r) j)
    (blk0 m c P D hP t) (blk1 m c P D hP t) (blk2 m c P D hP t) (blk3 m c C A hC hA t) (blk4 m c P D hD t) s' (by rw [coords_val]; exact hs')
  rw [outsAt0_A m c t h0 h1]
  refine ⟨r5.trans (up_congr _ _ fun r hr l _ => ?_), r0.trans (upS_congr _ _ q2), r1.trans (upS_congr _ _ q3), fun h => ?_, fun h => ?_⟩
  · show s'.dq r l * (1 / 8) = _
    rw [q1 r hr l]
  · exact absurd h h1
  · exact absurd h h1

end Cert.Grid
end
-- ==== Proof.CaseB.lean ====
/-
  A point of the grid of one kind, on real matrices: the generated words of its run put through the tiles' values.
-/
module

public import proofs.«01_k».proof.Proof.Block

@[expose] public section

set_option maxRecDepth 16384

noncomputable section

open scoped BigOperators Classical
open Idealize.ShloMosaic Idealize.ShloMosaic.ValueIdx Idealize.SL Idealize.SL.Sem
open Cert.Arr

namespace Cert.KernelIdeal.Gen

set_option maxHeartbeats 4000000 in
/-- What a point of this kind leaves: the queries' gradient and the two stacks. -/
theorem case_B (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x2x1024x128 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S16x128x256 .f32) (harg10 : arg10.IsWhole) (arg11 : Memref sig .tc .vmem S16x128x256 .f32) (harg11 : arg11.IsWhole) (hc0 : ¬cond0_0 i) (hc1 : ¬cond0_1 i)
    (x0 : Vec Ideal S1024x128 .f32) (x1 x2 : Vec Ideal S4096x128 .f32) (x3 : Vec Ideal S1x2x1024x128 .f32) (x4 : Vec Ideal S1024x128 .bf16) (xs0 xs1 : Vec Ideal S16x128x256 .f32)
    (Q D K V : RMat) (C : ℕ → RMat) (sk sv : ℕ → RMat) (hx0 : x0 = (up Q : FVec Ideal S1024x128 .f32)) (hx1 : x1 = (up K : FVec Ideal S4096x128 .f32)) (hx2 : x2 = (up V : FVec Ideal S4096x128 .f32))
    (hx3 : x3 = up4 C) (hx4 : x4 = (up D : FVec Ideal S1024x128 .bf16)) (hxs0 : xs0 = upS sk) (hxs1 : xs1 = upS sv) (s' : St)
    (hs' : s' = (Blk.of Q D (C 0) (C 1) K V).point (i 1).val ⟨constM 0, constM 0, constM 0, sk, sv⟩) :
    out0_B_5 (F := Ideal) c i arg2 harg2 arg3 harg3 arg4 harg4 arg5 harg5 arg6 harg6 arg7 harg7 arg8 harg8 arg9 harg9 arg10 harg10 arg11 harg11 hc0 hc1 x0 x1 x2 x3 x4 xs0 xs1 = (up (s'.dq * constM (1/8)) : FVec Ideal S1024x128 .bf16)
    ∧ sout0_B_0 (F := Ideal) c i arg2 harg2 arg3 harg3 arg4 harg4 arg5 harg5 arg6 harg6 arg7 harg7 arg8 harg8 arg9 harg9 arg10 harg10 arg11 harg11 hc0 hc1 x0 x1 x2 x3 x4 xs0 xs1 = upS s'.sk
    ∧ sout0_B_1 (F := Ideal) c i arg2 harg2 arg3 harg3 arg4 harg4 arg5 harg5 arg6 harg6 arg7 harg7 arg8 harg8 arg9 harg9 arg10 harg10 arg11 harg11 hc0 hc1 x0 x1 x2 x3 x4 xs0 xs1 = upS s'.sv := by
  have hq : (i 1).val < 4 := (i 1).isLt
  obtain ⟨b, hb⟩ : ∃ b, b = Blk.of Q D (C 0) (C 1) K V := ⟨_, rfl⟩
  have hd1 : b.d1 = selM (fun _ c => c < 64) (constM 0) b.d := by rw [hb]; rfl
  have hdt0 : b.dt0 = selM (fun r _ => r < 64) (tM b.d) (constM 0) := by rw [hb]; rfl
  have hdt1 : b.dt1 = selM (fun r _ => r < 64) (constM 0) (tM b.d) := by rw [hb]; rfl
  obtain ⟨t, ht⟩ : ∃ t : St, t = ⟨constM 0, constM 0, constM 0, sk, sv⟩ := ⟨_, rfl⟩
  obtain ⟨s0, hs0⟩ : ∃ s0, s0 = b.run (2 * (i 1).val) t := ⟨_, rfl⟩
  obtain ⟨s1, hs1⟩ : ∃ s1, s1 = b.tail0 (i 1).val s0 := ⟨_, rfl⟩
  obtain ⟨s2, hs2⟩ : ∃ s2, s2 = b.tail1 (i 1).val s1 := ⟨_, rfl⟩
  obtain ⟨s3, hs3⟩ : ∃ s3, s3 = b.tail2 (i 1).val s2 := ⟨_, rfl⟩
  have hs4 : s' = b.tail3 (i 1).val s3 := by rw [hs', hs3, hs2, hs1, hs0, ht, hb]; rfl
  have k1 : Function.update s0.sk (4 * (i 1).val + 0) (s1.sk (4 * (i 1).val + 0)) = s1.sk := by rw [hs1]; exact step_sk _ _ _ _
  have k2 : Function.update s1.sk (4 * (i 1).val + 1) (s2.sk (4 * (i 1).val + 1)) = s2.sk := by rw [hs2]; exact diag_sk _ _ _ _ _ _
  have k3 : Function.update s2.sk (4 * (i 1).val + 2) (s3.sk (4 * (i 1).val + 2)) = s3.sk := by rw [hs3]; exact diag_sk _ _ _ _ _ _
  have k4 : Function.update s3.sk (4 * (i 1).val + 3) (s'.sk (4 * (i 1).val + 3)) = s'.sk := by rw [hs4]; exact diag_sk _ _ _ _ _ _
  have v1 : Function.update s0.sv (4 * (i 1).val + 0) (s1.sv (4 * (i 1).val + 0)) = s1.sv := by rw [hs1]; exact step_sv _ _ _ _
  have v2 : Function.update s1.sv (4 * (i 1).val + 1) (s2.sv (4 * (i 1).val + 1)) = s2.sv := by rw [hs2]; exact diag_sv _ _ _ _ _ _
  have v3 : Function.update s2.sv (4 * (i 1).val + 2) (s3.sv (4 * (i 1).val + 2)) = s3.sv := by rw [hs3]; exact diag_sv _ _ _ _ _ _
  have v4 : Function.update s3.sv (4 * (i 1).val + 3) (s'.sv (4 * (i 1).val + 3)) = s'.sv := by rw [hs4]; exact diag_sv _ _ _ _ _ _
  have g0 := readAt_all arg2.view (harg2.unread x0) _ ((harg2.read_unread x0).trans hx0) inb_S1024x128_S1024x128_0_0
  have g4 := readAt_all arg6.view (harg6.unread x4) _ ((harg6.read_unread x4).trans hx4) inb_S1024x128_S1024x128_0_0
  have g30 := readAt_up4 arg5.view (harg5.unread x3) C ((harg5.read_unread x3).trans hx3) 0 inb_S1x2x1024x128_S1x1x1024x128_0_0_0_0
  have g31 := readAt_up4 arg5.view (harg5.unread x3) C ((harg5.read_unread x3).trans hx3) 1 inb_S1x2x1024x128_S1x1x1024x128_0_1_0_0
  have hK : arg3.view.read (Elt Ideal) (harg3.unread x1) = (up b.K : FVec Ideal S4096x128 .f32) := by rw [hb]; exact (harg3.read_unread x1).trans hx1
  have hV : arg4.view.read (Elt Ideal) (harg4.unread x2) = (up b.V : FVec Ideal S4096x128 .f32) := by rw [hb]; exact (harg4.read_unread x2).trans hx2
  have pr : (kernelRun0_B.sl.r (F := Ideal) c arg6 harg6 x4) = (up b.d : FVec Ideal S1024x128 .f32) := by
    rw [hb]; exact (congrArg (k0_pay146 (F := Ideal)) g4).trans (pay146_eq D)
  have pr_1 : (kernelRun0_B.sl.r_1 (F := Ideal) c arg2 harg2 x0) = (up b.q0 : FVec Ideal S1024x128 .bf16) := by
    rw [hb]; exact (congrArg (k0_pay147 (F := Ideal)) g0).trans (pay147_eq Q)
  have pr_2 : (kernelRun0_B.sl.r_2 (F := Ideal) c arg2 harg2 x0) = (up b.q1 : FVec Ideal S1024x128 .bf16) := by
    rw [hb]; exact (congrArg (k0_pay148 (F := Ideal)) g0).trans (pay148_eq Q)
  have pr_3 : (kernelRun0_B.sl.r_3 (F := Ideal) c arg2 harg2 x0) = (up b.qt0 : FVec Ideal S128x1024 .bf16) := by
    rw [hb]; exact (congrArg (k0_pay150 (F := Ideal)) g0).trans (pay150_eq Q)
  have pr_4 : (kernelRun0_B.sl.r_4 (F := Ideal) c arg2 harg2 x0) = (up b.qt1 : FVec Ideal S128x1024 .bf16) := by
    rw [hb]; exact (congrArg (k0_pay151 (F := Ideal)) g0).trans (pay151_eq Q)
  have pr_5 : (kernelRun0_B.sl.r_5 (F := Ideal) c arg6 harg6 x4) = (up b.d0 : FVec Ideal S1024x128 .bf16) := by
    rw [hb]; exact (congrArg (k0_pay152 (F := Ideal)) g4).trans (pay152_eq D)
  have pr_9 : (kernelRun0_B.sl.r_9 (F := Ideal) c arg5 harg5 x3) = (up b.c0 : FVec Ideal S1024x128 .f32) := by
    rw [hb]; exact (congrArg (k0_pay158 (F := Ideal)) g30).trans (pay158_eq (C 0))
  have pr_10 : (kernelRun0_B.sl.r_10 (F := Ideal) c arg5 harg5 x3) = (up b.c1 : FVec Ideal S1024x128 .f32) := by
    rw [hb]; exact (congrArg (k0_pay159 (F := Ideal)) g31).trans (pay159_eq (C 1))
  have pr' : (kernelRun0_B.sl.r (F := Ideal) c arg6 harg6 x4) = (up D : FVec Ideal S1024x128 .f32) := pr.trans (by rw [hb]; rfl)
  have pr_6 : (kernelRun0_B.sl.r_6 (F := Ideal) c arg6 harg6 x4) = (up b.d1 : FVec Ideal S1024x128 .bf16) := by
    rw [hb]; exact (congrArg₂ (fun x y => k0_pay154 (F := Ideal) x (Scalar.ofBits (F := Ideal) .f32 0x00000000#32) y) pr' pay153_eq).trans (pay154_eq D)
  have pr_7 : (kernelRun0_B.sl.r_7 (F := Ideal) c arg6 harg6 x4) = (up b.dt0 : FVec Ideal S128x1024 .bf16) := by
    rw [hb]; exact (congrArg₂ (fun x y => k0_pay156 (F := Ideal) x y) row_lt1 pr').trans (pay156_eq D)
  have pr_8 : (kernelRun0_B.sl.r_8 (F := Ideal) c arg6 harg6 x4) = (up b.dt1 : FVec Ideal S128x1024 .bf16) := by
    rw [hb]; exact (congrArg₂ (fun x y => k0_pay157 (F := Ideal) x y) row_lt1 pr').trans (pay157_eq D)
  have a10 : arg10.view.read (Elt Ideal) (harg10.unread xs0) = upS t.sk := by rw [ht]; exact (harg10.read_unread xs0).trans hxs0
  have a11 : arg11.view.read (Elt Ideal) (harg11.unread xs1) = upS t.sv := by rw [ht]; exact (harg11.read_unread xs1).trans hxs1
  have L := loop_done Variants.none c none i arg2 harg2 arg3 harg3 arg4 harg4 arg5 harg5 arg6 harg6 arg7 harg7 arg8 harg8 arg9 harg9 arg10 harg10 arg11 harg11 (BitVec.ofNat 32 (i 1).val)
    (kernelRun0_B.sl.v3 ) k0_pay143 k0_pay144 (kernelRun0_B.sl.r (F := Ideal) c arg6 harg6 x4) (kernelRun0_B.sl.r_1 (F := Ideal) c arg2 harg2 x0) (kernelRun0_B.sl.r_2 (F := Ideal) c arg2 harg2 x0) (kernelRun0_B.sl.r_3 (F := Ideal) c arg2 harg2 x0) (kernelRun0_B.sl.r_4 (F := Ideal) c arg2 harg2 x0) (kernelRun0_B.sl.r_5 (F := Ideal) c arg6 harg6 x4) (kernelRun0_B.sl.cst_10 (F := Ideal) ) k0_pay153 _ _ (harg3.unread x1) (harg4.unread x2) _ _ _ _ _ b t
    rfl lane_lt1 row_lt1 pr pr_1 pr_2 pr_3 pr_4 pr_5 rfl pay153_eq (g30.trans (by rw [hb]; rfl)) (g31.trans (by rw [hb]; rfl)) (pay162_eq.trans (by rw [ht])) (pay162_eq.trans (by rw [ht])) (pay163_eq.trans (by rw [ht])) hd1 hdt0 hdt1 hK hV a10 a11 s0 hs0
  have pr_11 : (kernelRun0_B.sl.r_11 (F := Ideal) c i arg2 harg2 arg3 harg3 arg4 harg4 arg5 harg5 arg6 harg6 arg7 harg7 arg8 harg8 arg9 harg9 arg10 harg10 arg11 harg11 x0 x1 x2 x3 x4 xs0 xs1) = (up s0.e0 : FVec Ideal S1024x1 .f32) := by
    unfold kernelRun0_B.sl.r_11
    rw [st2_nil]
    exact congrArg (fun z => z.1) L.1
  have pr_12 : (kernelRun0_B.sl.r_12 (F := Ideal) c i arg2 harg2 arg3 harg3 arg4 harg4 arg5 harg5 arg6 harg6 arg7 harg7 arg8 harg8 arg9 harg9 arg10 harg10 arg11 harg11 x0 x1 x2 x3 x4 xs0 xs1) = (up s0.e1 : FVec Ideal S1024x1 .f32) := by
    unfold kernelRun0_B.sl.r_12
    rw [st2_nil]
    exact congrArg (fun z => z.2.1) L.1
  have pr_13 : (kernelRun0_B.sl.r_13 (F := Ideal) c i arg2 harg2 arg3 harg3 arg4 harg4 arg5 harg5 arg6 harg6 arg7 harg7 arg8 harg8 arg9 harg9 arg10 harg10 arg11 harg11 x0 x1 x2 x3 x4 xs0 xs1) = (up s0.dq : FVec Ideal S1024x128 .f32) := by
    unfold kernelRun0_B.sl.r_13
    rw [st2_nil]
    exact congrArg (fun z => z.2.2) L.1
  have z10 : (kernelRun0_B.sl.v218 (F := Ideal) c i arg2 harg2 arg3 harg3 arg4 harg4 arg5 harg5 arg6 harg6 arg7 harg7 arg8 harg8 arg9 harg9 arg10 harg10 arg11 harg11 x0 x1 x2 x3 x4 xs0 xs1) = (up1 (s0.sk (4 * (i 1).val + 0)) : FVec Ideal S1x128x256 .f32) :=
    readAt_upS arg10.view _ s0.sk (by rw [st2_nil]; exact L.2.1) _ _ (off6_eq i 0 (by norm_num)) _
  have z11 : (kernelRun0_B.sl.v226 (F := Ideal) c i arg2 harg2 arg3 harg3 arg4 harg4 arg5 harg5 arg6 harg6 arg7 harg7 arg8 harg8 arg9 harg9 arg10 harg10 arg11 harg11 x0 x1 x2 x3 x4 xs0 xs1) = (up1 (s0.sv (4 * (i 1).val + 0)) : FVec Ideal S1x128x256 .f32) :=
    readAt_upS arg11.view _ s0.sv (by rw [st2_nil]; exact L.2.2) _ _ (off6_eq i 0 (by norm_num)) _
  obtain ⟨e0_1, e1_1, dq_1, hk_1, hv_1⟩ := tile0 b s0 (i 1).val hq hd1 hdt0 hdt1 (kernelRun0_B.sl.r_1 (F := Ideal) c arg2 harg2 x0) pr_1 (kernelRun0_B.sl.r_2 (F := Ideal) c arg2 harg2 x0) pr_2 (kernelRun0_B.sl.r_3 (F := Ideal) c arg2 harg2 x0) pr_3 (kernelRun0_B.sl.r_4 (F := Ideal) c arg2 harg2 x0) pr_4 (kernelRun0_B.sl.r_5 (F := Ideal) c arg6 harg6 x4) pr_5 (kernelRun0_B.sl.r_6 (F := Ideal) c arg6 harg6 x4) pr_6 (kernelRun0_B.sl.r_7 (F := Ideal) c arg6 harg6 x4) pr_7 (kernelRun0_B.sl.r_8 (F := Ideal) c arg6 harg6 x4) pr_8 (kernelRun0_B.sl.r_9 (F := Ideal) c arg5 harg5 x3) pr_9 (kernelRun0_B.sl.r_10 (F := Ideal) c arg5 harg5 x3) pr_10 (kernelRun0_B.sl.r_11 (F := Ideal) c i arg2 harg2 arg3 harg3 arg4 harg4 arg5 harg5 arg6 harg6 arg7 harg7 arg8 harg8 arg9 harg9 arg10 harg10 arg11 harg11 x0 x1 x2 x3 x4 xs0 xs1) pr_11 (kernelRun0_B.sl.r_12 (F := Ideal) c i arg2 harg2 arg3 harg3 arg4 harg4 arg5 harg5 arg6 harg6 arg7 harg7 arg8 harg8 arg9 harg9 arg10 harg10 arg11 harg11 x0 x1 x2 x3 x4 xs0 xs1) pr_12 (kernelRun0_B.sl.r_13 (F := Ideal) c i arg2 harg2 arg3 harg3 arg4 harg4 arg5 harg5 arg6 harg6 arg7 harg7 arg8 harg8 arg9 harg9 arg10 harg10 arg11 harg11 x0 x1 x2 x3 x4 xs0 xs1) pr_13 _ (readAt_up arg3.view (harg3.unread x1) b.K hK (k0_off5 i 0#32) (256 * (4 * (i 1).val + 0)) 0 (off5_eq i 0 (by norm_num)) _) _ (readAt_up arg4.view (harg4.unread x2) b.V hV (k0_off5 i 0#32) (256 * (4 * (i 1).val + 0)) 0 (off5_eq i 0 (by norm_num)) _) (kernelRun0_B.sl.v218 (F := Ideal) c i arg2 harg2 arg3 harg3 arg4 harg4 arg5 harg5 arg6 harg6 arg7 harg7 arg8 harg8 arg9 harg9 arg10 harg10 arg11 harg11 x0 x1 x2 x3 x4 xs0 xs1) z10 (kernelRun0_B.sl.v226 (F := Ideal) c i arg2 harg2 arg3 harg3 arg4 harg4 arg5 harg5 arg6 harg6 arg7 harg7 arg8 harg8 arg9 harg9 arg10 harg10 arg11 harg11 x0 x1 x2 x3 x4 xs0 xs1) z11
    (kernelRun0_B.sl.r_14 (F := Ideal) i arg3 harg3 x1) (kernelRun0_B.sl.r_15 (F := Ideal) i arg3 harg3 x1) (kernelRun0_B.sl.r_16 (F := Ideal) i arg3 harg3 x1) (kernelRun0_B.sl.r_17 (F := Ideal) i arg4 harg4 x2) (kernelRun0_B.sl.r_18 i) (kernelRun0_B.sl.r_19 (F := Ideal) c i arg5 harg5 x3) (kernelRun0_B.sl.r_20 (F := Ideal) c i arg2 harg2 arg3 harg3 x0 x1) (kernelRun0_B.sl.r_21 (F := Ideal) c i arg2 harg2 arg3 harg3 x0 x1) (kernelRun0_B.sl.r_22 (F := Ideal) c i arg2 harg2 arg3 harg3 x0 x1) (kernelRun0_B.sl.r_23 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_24 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_25 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_26 (F := Ideal) c i arg2 harg2 arg3 harg3 arg5 harg5 arg6 harg6 x0 x1 x3 x4) (kernelRun0_B.sl.r_27 (F := Ideal) c i arg5 harg5 x3) (kernelRun0_B.sl.r_28 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_29 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_30 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_31 (F := Ideal) c i arg2 harg2 arg3 harg3 arg5 harg5 arg6 harg6 x0 x1 x3 x4) (kernelRun0_B.sl.r_32 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_33 (F := Ideal) c i arg2 harg2 arg3 harg3 arg4 harg4 arg5 harg5 arg6 harg6 arg7 harg7 arg8 harg8 arg9 harg9 arg10 harg10 arg11 harg11 x0 x1 x2 x3 x4 xs0 xs1)
    rfl rfl rfl rfl rfl rfl rfl rfl rfl rfl rfl rfl rfl rfl rfl rfl rfl rfl rfl rfl s1 hs1
  have R10_1 : arg10.view.read (Elt Ideal) (arg10.view.writes (Elt Ideal) (harg10.unread xs0) (kernelRun0_B.sl.HS0_1 (F := Ideal) c i arg2 harg2 arg3 harg3 arg4 harg4 arg5 harg5 arg6 harg6 arg7 harg7 arg8 harg8 arg9 harg9 arg10 harg10 arg11 harg11 x0 x1 x2 x3 x4 xs0 xs1)) = upS s1.sk :=
    read_store' arg10.view _ _ s0.sk _ (by rw [st2_nil]; exact L.2.1) (k0_off6 i 0#32) _ (off6_eq i 0 (by norm_num)) _ _ _ hk_1 k1
  have R11_1 : arg11.view.read (Elt Ideal) (arg11.view.writes (Elt Ideal) (harg11.unread xs1) (kernelRun0_B.sl.HS1_1 (F := Ideal) c i arg2 harg2 arg3 harg3 arg4 harg4 arg5 harg5 arg6 harg6 arg7 harg7 arg8 harg8 arg9 harg9 arg10 harg10 arg11 harg11 x0 x1 x2 x3 x4 xs0 xs1)) = upS s1.sv :=
    read_store' arg11.view _ _ s0.sv _ (by rw [st2_nil]; exact L.2.2) (k0_off6 i 0#32) _ (off6_eq i 0 (by norm_num)) _ _ _ hv_1 v1
  obtain ⟨e0_2, e1_2, dq_2, hk_2, hv_2⟩ := tile1 b s1 (i 1).val hq hd1 hdt0 hdt1 (kernelRun0_B.sl.r_1 (F := Ideal) c arg2 harg2 x0) pr_1 (kernelRun0_B.sl.r_2 (F := Ideal) c arg2 harg2 x0) pr_2 (kernelRun0_B.sl.r_3 (F := Ideal) c arg2 harg2 x0) pr_3 (kernelRun0_B.sl.r_4 (F := Ideal) c arg2 harg2 x0) pr_4 (kernelRun0_B.sl.r_5 (F := Ideal) c arg6 harg6 x4) pr_5 (kernelRun0_B.sl.r_6 (F := Ideal) c arg6 harg6 x4) pr_6 (kernelRun0_B.sl.r_7 (F := Ideal) c arg6 harg6 x4) pr_7 (kernelRun0_B.sl.r_8 (F := Ideal) c arg6 harg6 x4) pr_8 (kernelRun0_B.sl.r_9 (F := Ideal) c arg5 harg5 x3) pr_9 (kernelRun0_B.sl.r_10 (F := Ideal) c arg5 harg5 x3) pr_10 (kernelRun0_B.sl.r_23 (F := Ideal) c i arg2 harg2 arg3 harg3 arg4 harg4 arg5 harg5 arg6 harg6 arg7 harg7 arg8 harg8 arg9 harg9 arg10 harg10 arg11 harg11 x0 x1 x2 x3 x4 xs0 xs1) e0_1 (kernelRun0_B.sl.r_28 (F := Ideal) c i arg2 harg2 arg3 harg3 arg4 harg4 arg5 harg5 arg6 harg6 arg7 harg7 arg8 harg8 arg9 harg9 arg10 harg10 arg11 harg11 x0 x1 x2 x3 x4 xs0 xs1) e1_1 (kernelRun0_B.sl.r_33 (F := Ideal) c i arg2 harg2 arg3 harg3 arg4 harg4 arg5 harg5 arg6 harg6 arg7 harg7 arg8 harg8 arg9 harg9 arg10 harg10 arg11 harg11 x0 x1 x2 x3 x4 xs0 xs1) dq_1 _ (readAt_up arg3.view (harg3.unread x1) b.K hK (k0_off5 i 1#32) (256 * (4 * (i 1).val + 1)) 0 (off5_eq i 1 (by norm_num)) _) _ (readAt_up arg4.view (harg4.unread x2) b.V hV (k0_off5 i 1#32) (256 * (4 * (i 1).val + 1)) 0 (off5_eq i 1 (by norm_num)) _) _ (readAt_upS arg10.view _ s1.sk R10_1 (k0_off6 i 1#32) _ (off6_eq i 1 (by norm_num)) _) _ (readAt_upS arg11.view _ s1.sv R11_1 (k0_off6 i 1#32) _ (off6_eq i 1 (by norm_num)) _)
    (kernelRun0_B.sl.r_34 (F := Ideal) i arg3 harg3 x1) (kernelRun0_B.sl.r_35 (F := Ideal) i arg3 harg3 x1) (kernelRun0_B.sl.r_36 (F := Ideal) i arg3 harg3 x1) (kernelRun0_B.sl.r_37 (F := Ideal) i arg4 harg4 x2) (kernelRun0_B.sl.r_38 i) (kernelRun0_B.sl.r_39 i) (kernelRun0_B.sl.r_40 i) (kernelRun0_B.sl.r_41 (F := Ideal) c i arg2 harg2 arg3 harg3 arg5 harg5 x0 x1 x3) (kernelRun0_B.sl.r_42 (F := Ideal) c i arg2 harg2 arg3 harg3 arg4 harg4 arg5 harg5 arg6 harg6 x0 x1 x2 x3 x4) (kernelRun0_B.sl.r_43 (F := Ideal) c i arg2 harg2 arg3 harg3 arg4 harg4 arg5 harg5 arg6 harg6 x0 x1 x2 x3 x4) (kernelRun0_B.sl.r_44 (F := Ideal) c i arg2 harg2 arg3 harg3 x0 x1) (kernelRun0_B.sl.r_45 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_46 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_47 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_48 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_49 (F := Ideal) c i arg2 harg2 arg3 harg3 arg5 harg5 arg6 harg6 x0 x1 x3 x4) (kernelRun0_B.sl.r_50 (F := Ideal) c i arg2 harg2 arg3 harg3 x0 x1) (kernelRun0_B.sl.r_51 (F := Ideal) c i arg2 harg2 arg3 harg3 x0 x1) (kernelRun0_B.sl.r_52 (F := Ideal) c i arg2 harg2 arg3 harg3 arg5 harg5 x0 x1 x3) (kernelRun0_B.sl.r_53 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_54 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_55 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_56 (F := Ideal) c i arg2 harg2 arg3 harg3 arg4 harg4 arg5 harg5 arg6 harg6 arg7 harg7 arg8 harg8 arg9 harg9 arg10 harg10 arg11 harg11 x0 x1 x2 x3 x4 xs0 xs1)
    rfl rfl rfl rfl rfl rfl rfl rfl rfl rfl rfl rfl rfl rfl rfl rfl rfl rfl rfl rfl rfl rfl rfl s2 hs2
  have R10_2 : arg10.view.read (Elt Ideal) (arg10.view.writes (Elt Ideal) (harg10.unread xs0) (kernelRun0_B.sl.HS0_2 (F := Ideal) c i arg2 harg2 arg3 harg3 arg4 harg4 arg5 harg5 arg6 harg6 arg7 harg7 arg8 harg8 arg9 harg9 arg10 harg10 arg11 harg11 x0 x1 x2 x3 x4 xs0 xs1)) = upS s2.sk :=
    read_store' arg10.view _ _ s1.sk _ R10_1 (k0_off6 i 1#32) _ (off6_eq i 1 (by norm_num)) _ _ _ hk_2 k2
  have R11_2 : arg11.view.read (Elt Ideal) (arg11.view.writes (Elt Ideal) (harg11.unread xs1) (kernelRun0_B.sl.HS1_2 (F := Ideal) c i arg2 harg2 arg3 harg3 arg4 harg4 arg5 harg5 arg6 harg6 arg7 harg7 arg8 harg8 arg9 harg9 arg10 harg10 arg11 harg11 x0 x1 x2 x3 x4 xs0 xs1)) = upS s2.sv :=
    read_store' arg11.view _ _ s1.sv _ R11_1 (k0_off6 i 1#32) _ (off6_eq i 1 (by norm_num)) _ _ _ hv_2 v2
  obtain ⟨e0_3, e1_3, dq_3, hk_3, hv_3⟩ := tile2 b s2 (i 1).val hq hd1 hdt0 hdt1 (kernelRun0_B.sl.r_1 (F := Ideal) c arg2 harg2 x0) pr_1 (kernelRun0_B.sl.r_2 (F := Ideal) c arg2 harg2 x0) pr_2 (kernelRun0_B.sl.r_3 (F := Ideal) c arg2 harg2 x0) pr_3 (kernelRun0_B.sl.r_4 (F := Ideal) c arg2 harg2 x0) pr_4 (kernelRun0_B.sl.r_5 (F := Ideal) c arg6 harg6 x4) pr_5 (kernelRun0_B.sl.r_6 (F := Ideal) c arg6 harg6 x4) pr_6 (kernelRun0_B.sl.r_7 (F := Ideal) c arg6 harg6 x4) pr_7 (kernelRun0_B.sl.r_8 (F := Ideal) c arg6 harg6 x4) pr_8 (kernelRun0_B.sl.r_9 (F := Ideal) c arg5 harg5 x3) pr_9 (kernelRun0_B.sl.r_10 (F := Ideal) c arg5 harg5 x3) pr_10 (kernelRun0_B.sl.r_46 (F := Ideal) c i arg2 harg2 arg3 harg3 arg4 harg4 arg5 harg5 arg6 harg6 arg7 harg7 arg8 harg8 arg9 harg9 arg10 harg10 arg11 harg11 x0 x1 x2 x3 x4 xs0 xs1) e0_2 (kernelRun0_B.sl.r_53 (F := Ideal) c i arg2 harg2 arg3 harg3 arg4 harg4 arg5 harg5 arg6 harg6 arg7 harg7 arg8 harg8 arg9 harg9 arg10 harg10 arg11 harg11 x0 x1 x2 x3 x4 xs0 xs1) e1_2 (kernelRun0_B.sl.r_56 (F := Ideal) c i arg2 harg2 arg3 harg3 arg4 harg4 arg5 harg5 arg6 harg6 arg7 harg7 arg8 harg8 arg9 harg9 arg10 harg10 arg11 harg11 x0 x1 x2 x3 x4 xs0 xs1) dq_2 _ (readAt_up arg3.view (harg3.unread x1) b.K hK (k0_off5 i 2#32) (256 * (4 * (i 1).val + 2)) 0 (off5_eq i 2 (by norm_num)) _) _ (readAt_up arg4.view (harg4.unread x2) b.V hV (k0_off5 i 2#32) (256 * (4 * (i 1).val + 2)) 0 (off5_eq i 2 (by norm_num)) _) _ (readAt_upS arg10.view _ s2.sk R10_2 (k0_off6 i 2#32) _ (off6_eq i 2 (by norm_num)) _) _ (readAt_upS arg11.view _ s2.sv R11_2 (k0_off6 i 2#32) _ (off6_eq i 2 (by norm_num)) _)
    (kernelRun0_B.sl.r_57 (F := Ideal) i arg3 harg3 x1) (kernelRun0_B.sl.r_58 (F := Ideal) i arg3 harg3 x1) (kernelRun0_B.sl.r_59 (F := Ideal) i arg3 harg3 x1) (kernelRun0_B.sl.r_60 (F := Ideal) i arg4 harg4 x2) (kernelRun0_B.sl.r_61 i) (kernelRun0_B.sl.r_62 (F := Ideal) c arg5 harg5 x3) (kernelRun0_B.sl.r_63 i) (kernelRun0_B.sl.r_64 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_65 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_66 (F := Ideal) c i arg2 harg2 arg3 harg3 arg5 harg5 x0 x1 x3) (kernelRun0_B.sl.r_67 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_68 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_69 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_70 (F := Ideal) c i arg2 harg2 arg3 harg3 arg5 harg5 arg6 harg6 x0 x1 x3 x4) (kernelRun0_B.sl.r_71 (F := Ideal) c i arg2 harg2 arg3 harg3 arg5 harg5 x0 x1 x3) (kernelRun0_B.sl.r_72 (F := Ideal) c i arg2 harg2 arg3 harg3 arg4 harg4 arg5 harg5 arg6 harg6 x0 x1 x2 x3 x4) (kernelRun0_B.sl.r_73 (F := Ideal) c i arg2 harg2 arg3 harg3 arg4 harg4 arg5 harg5 arg6 harg6 x0 x1 x2 x3 x4) (kernelRun0_B.sl.r_74 (F := Ideal) c i arg2 harg2 arg3 harg3 x0 x1) (kernelRun0_B.sl.r_75 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_76 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_77 (F := Ideal) c i arg2 harg2 arg3 harg3 arg4 harg4 arg5 harg5 arg6 harg6 arg7 harg7 arg8 harg8 arg9 harg9 arg10 harg10 arg11 harg11 x0 x1 x2 x3 x4 xs0 xs1)
    rfl rfl rfl rfl rfl rfl rfl rfl rfl rfl rfl rfl rfl rfl rfl rfl rfl rfl rfl rfl rfl s3 hs3
  have R10_3 : arg10.view.read (Elt Ideal) (arg10.view.writes (Elt Ideal) (harg10.unread xs0) (kernelRun0_B.sl.HS0_3 (F := Ideal) c i arg2 harg2 arg3 harg3 arg4 harg4 arg5 harg5 arg6 harg6 arg7 harg7 arg8 harg8 arg9 harg9 arg10 harg10 arg11 harg11 x0 x1 x2 x3 x4 xs0 xs1)) = upS s3.sk :=
    read_store' arg10.view _ _ s2.sk _ R10_2 (k0_off6 i 2#32) _ (off6_eq i 2 (by norm_num)) _ _ _ hk_3 k3
  have R11_3 : arg11.view.read (Elt Ideal) (arg11.view.writes (Elt Ideal) (harg11.unread xs1) (kernelRun0_B.sl.HS1_3 (F := Ideal) c i arg2 harg2 arg3 harg3 arg4 harg4 arg5 harg5 arg6 harg6 arg7 harg7 arg8 harg8 arg9 harg9 arg10 harg10 arg11 harg11 x0 x1 x2 x3 x4 xs0 xs1)) = upS s3.sv :=
    read_store' arg11.view _ _ s2.sv _ R11_2 (k0_off6 i 2#32) _ (off6_eq i 2 (by norm_num)) _ _ _ hv_3 v3
  obtain ⟨ho, hk_4, hv_4⟩ := tile3 b s3 (i 1).val hq hd1 hdt0 hdt1 (kernelRun0_B.sl.r_1 (F := Ideal) c arg2 harg2 x0) pr_1 (kernelRun0_B.sl.r_2 (F := Ideal) c arg2 harg2 x0) pr_2 (kernelRun0_B.sl.r_3 (F := Ideal) c arg2 harg2 x0) pr_3 (kernelRun0_B.sl.r_4 (F := Ideal) c arg2 harg2 x0) pr_4 (kernelRun0_B.sl.r_5 (F := Ideal) c arg6 harg6 x4) pr_5 (kernelRun0_B.sl.r_6 (F := Ideal) c arg6 harg6 x4) pr_6 (kernelRun0_B.sl.r_7 (F := Ideal) c arg6 harg6 x4) pr_7 (kernelRun0_B.sl.r_8 (F := Ideal) c arg6 harg6 x4) pr_8 (kernelRun0_B.sl.r_9 (F := Ideal) c arg5 harg5 x3) pr_9 (kernelRun0_B.sl.r_10 (F := Ideal) c arg5 harg5 x3) pr_10 (kernelRun0_B.sl.r_64 (F := Ideal) c i arg2 harg2 arg3 harg3 arg4 harg4 arg5 harg5 arg6 harg6 arg7 harg7 arg8 harg8 arg9 harg9 arg10 harg10 arg11 harg11 x0 x1 x2 x3 x4 xs0 xs1) e0_3 (kernelRun0_B.sl.r_76 (F := Ideal) c i arg2 harg2 arg3 harg3 arg4 harg4 arg5 harg5 arg6 harg6 arg7 harg7 arg8 harg8 arg9 harg9 arg10 harg10 arg11 harg11 x0 x1 x2 x3 x4 xs0 xs1) e1_3 (kernelRun0_B.sl.r_77 (F := Ideal) c i arg2 harg2 arg3 harg3 arg4 harg4 arg5 harg5 arg6 harg6 arg7 harg7 arg8 harg8 arg9 harg9 arg10 harg10 arg11 harg11 x0 x1 x2 x3 x4 xs0 xs1) dq_3 _ (readAt_up arg3.view (harg3.unread x1) b.K hK (k0_off5 i 3#32) (256 * (4 * (i 1).val + 3)) 0 (off5_eq i 3 (by norm_num)) _) _ (readAt_up arg4.view (harg4.unread x2) b.V hV (k0_off5 i 3#32) (256 * (4 * (i 1).val + 3)) 0 (off5_eq i 3 (by norm_num)) _) _ (readAt_upS arg10.view _ s3.sk R10_3 (k0_off6 i 3#32) _ (off6_eq i 3 (by norm_num)) _) _ (readAt_upS arg11.view _ s3.sv R11_3 (k0_off6 i 3#32) _ (off6_eq i 3 (by norm_num)) _)
    (kernelRun0_B.sl.r_78 (F := Ideal) i arg3 harg3 x1) (kernelRun0_B.sl.r_79 (F := Ideal) i arg3 harg3 x1) (kernelRun0_B.sl.r_80 (F := Ideal) i arg3 harg3 x1) (kernelRun0_B.sl.r_81 (F := Ideal) i arg4 harg4 x2) (kernelRun0_B.sl.r_82 i) (kernelRun0_B.sl.r_83 (F := Ideal) c i arg5 harg5 x3) (kernelRun0_B.sl.r_84 (F := Ideal) c i arg2 harg2 arg3 harg3 x0 x1) (kernelRun0_B.sl.r_85 (F := Ideal) c i arg2 harg2 arg3 harg3 x0 x1) (kernelRun0_B.sl.r_86 (F := Ideal) c i arg2 harg2 arg3 harg3 x0 x1) (kernelRun0_B.sl.r_87 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_88 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_89 (F := Ideal) c i arg2 harg2 arg3 harg3 arg5 harg5 arg6 harg6 x0 x1 x3 x4) (kernelRun0_B.sl.r_90 (F := Ideal) c i arg5 harg5 x3) (kernelRun0_B.sl.r_91 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_92 (F := Ideal) c i arg2 harg2 arg3 harg3 arg4 harg4 arg5 harg5 arg6 harg6 arg7 harg7 arg8 harg8 arg9 harg9 arg10 harg10 arg11 harg11 x0 x1 x2 x3 x4 xs0 xs1) (kernelRun0_B.sl.r_93 (F := Ideal) c i arg2 harg2 arg3 harg3 arg5 harg5 arg6 harg6 x0 x1 x3 x4)
    rfl rfl rfl rfl rfl rfl rfl rfl rfl rfl rfl rfl rfl rfl rfl rfl s' hs4
  refine ⟨read_block _ _ _ _ _ ho, ?_, ?_⟩
  · exact read_store' arg10.view _ _ s3.sk _ R10_3 (k0_off6 i 3#32) _ (off6_eq i 3 (by norm_num)) _ _ _ hk_4 k4
  · exact read_store' arg11.view _ _ s3.sv _ R11_3 (k0_off6 i 3#32) _ (off6_eq i 3 (by norm_num)) _ _ _ hv_4 v4

end Cert.KernelIdeal.Gen
end
-- ==== Proof.LeftB.lean ====
/-
  What the middle points of a sweep leave.
-/
module

public import proofs.«01_k».proof.Proof.Left
public import proofs.«01_k».proof.Proof.CaseB

@[expose] public section

set_option maxRecDepth 16384

noncomputable section

open scoped BigOperators Classical
open Idealize.ShloMosaic Idealize.ShloMosaic.ValueIdx Idealize.ShloMosaic.TcCoe Idealize.SL Idealize.SL.Sem
open Cert.Arr Cert.Sem Cert.KernelIdeal Cert.KernelIdeal.Gen Cert.KernelIdeal.Value

namespace Cert.Grid

variable (m : (ℓ : Loc nD τ sig) → Buf (Elt Ideal) ℓ) (c : Dev nD) (P D : RMat) (C : ℕ → ℕ → RMat)

variable (A : FVec Ideal S4x2x4096x128 .f32)
  (hP : ∀ i : S4096x4096.Idx, (m ((c : Thread nD τ).loc main_arg0) : FVec Ideal S4096x4096 .f32) i = ((P (i 0).val (i 1).val : ℝ) : EReal))
  (hD : ∀ i : S4096x512.Idx, (m ((c : Thread nD τ).loc main_arg1) : FVec Ideal S4096x512 .bf16) i = ((D (i 0).val (i 1).val : ℝ) : EReal))
  (hC : V m c (Pipeline.arrRef spec0 3) = A) (hA : ∀ i : S4x2x4096x128.Idx, A i = ((C (i 0).val (i 1).val (i 2).val (i 3).val : ℝ) : EReal))
  (hcar : Carries P D C)
include hP hD hC hA hcar

set_option maxHeartbeats 4000000 in
theorem left_B (t : Fin cfg0.N) (h0 : ¬t.val % 4 = 0) (h1 : ¬t.val % 4 = 3) (hp : Left P D (t.val - 1) (outsAt0 m c (t.val - 1) (Nat.lt_of_le_of_lt (Nat.sub_le _ _) t.isLt))) : Left P D t.val (outsAt0 m c t.val t.isLt) := by
  have hN : t.val < 16 := lt_of_lt_of_eq t.isLt (show cfg0.N = 16 from N_0)
  have e1 : (t.val - 1) / 4 = t.val / 4 := by omega
  have e2 : (t.val - 1) % 4 + 1 = t.val % 4 := by omega
  have hsk := hp.sk
  have hsv := hp.sv
  rw [e1, e2] at hsk hsv
  obtain ⟨s', hs'⟩ : ∃ s', s' = (Blk.of (fun r l => (pairOf P D (t.val / 4)).Q (1024 * (t.val % 4) + r) l) (fun r l => (pairOf P D (t.val / 4)).D (1024 * (t.val % 4) + r) l) (C (t.val / 4) 0 ∘ (1024 * (t.val % 4) + ·)) (C (t.val / 4) 1 ∘ (1024 * (t.val % 4) + ·)) (pairOf P D (t.val / 4)).K (pairOf P D (t.val / 4)).V).point (t.val % 4) ⟨constM 0, constM 0, constM 0, (fun i l x => (pairOf P D (t.val / 4)).gK (1024 * (t.val % 4)) l (256 * i + x)), (fun i l x => (pairOf P D (t.val / 4)).gV (1024 * (t.val % 4)) l (256 * i + x))⟩ := ⟨_, rfl⟩
  obtain ⟨q1, q2, q3⟩ := Pair.point_sem (point_pt P D C hcar t) (by omega) (fun i l x => (pairOf P D (t.val / 4)).gK (1024 * (t.val % 4)) l (256 * i + x)) (fun i l x => (pairOf P D (t.val / 4)).gV (1024 * (t.val % 4)) l (256 * i + x)) (fun i hi l x hx => rfl) (fun i hi l x hx => rfl) s' hs'
  obtain ⟨r5, r0, r1⟩ := case_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h))
    (iblk m c 0 t) (iblk m c 1 t) (iblk m c 2 t) (iblk m c 3 t) (iblk m c 4 t) _ _
    (fun r l => (pairOf P D (t.val / 4)).Q (1024 * (t.val % 4) + r) l) (fun r l => (pairOf P D (t.val / 4)).D (1024 * (t.val % 4) + r) l) (pairOf P D (t.val / 4)).K (pairOf P D (t.val / 4)).V
    (fun h r j => C (t.val / 4) h (1024 * (t.val % 4) + r) j) _ _
    (blk0 m c P D hP t) (blk1 m c P D hP t) (blk2 m c P D hP t) (blk3 m c C A hC hA t) (blk4 m c P D hD t) hsk hsv s' (by rw [coords_val]; exact hs')
  rw [outsAt0_B m c t h0 h1]
  refine ⟨r5.trans (up_congr _ _ fun r hr l _ => ?_), r0.trans (upS_congr _ _ q2), r1.trans (upS_congr _ _ q3), fun h => ?_, fun h => ?_⟩
  · show s'.dq r l * (1 / 8) = _
    rw [q1 r hr l]
  · exact absurd h h1
  · exact absurd h h1

end Cert.Grid
end
-- ==== Proof.CaseC.lean ====
/-
  A point of the grid of one kind, on real matrices: the generated words of its run put through the tiles' values.
-/
module

public import proofs.«01_k».proof.Proof.Block

@[expose] public section

set_option maxRecDepth 16384

noncomputable section

open scoped BigOperators Classical
open Idealize.ShloMosaic Idealize.ShloMosaic.ValueIdx Idealize.SL Idealize.SL.Sem
open Cert.Arr

namespace Cert.KernelIdeal.Gen

theorem tr_k0_pay316 (A : RMat) : k0_pay316 (F := Ideal) (up1 A : FVec Ideal S1x128x256 .f32) = up (tM A) := by
  simp only [k0_pay316, cast1_up]
  rw [trS_128]
  rfl
theorem tr_k0_pay314 (A : RMat) : k0_pay314 (F := Ideal) (up1 A : FVec Ideal S1x128x256 .f32) = up (tM A) := by
  simp only [k0_pay314, cast1_up]
  rw [trS_128]
  rfl
theorem tr_k0_pay140 (A : RMat) : k0_pay140 (F := Ideal) (up1 A : FVec Ideal S1x128x256 .f32) = up (tM A) := by
  simp only [k0_pay140, cast1_up]
  rw [trS_128]
  rfl
theorem tr_k0_pay138 (A : RMat) : k0_pay138 (F := Ideal) (up1 A : FVec Ideal S1x128x256 .f32) = up (tM A) := by
  simp only [k0_pay138, cast1_up]
  rw [trS_128]
  rfl
theorem tr_k0_pay136 (A : RMat) : k0_pay136 (F := Ideal) (up1 A : FVec Ideal S1x128x256 .f32) = up (tM A) := by
  simp only [k0_pay136, cast1_up]
  rw [trS_128]
  rfl
theorem tr_k0_pay134 (A : RMat) : k0_pay134 (F := Ideal) (up1 A : FVec Ideal S1x128x256 .f32) = up (tM A) := by
  simp only [k0_pay134, cast1_up]
  rw [trS_128]
  rfl
theorem tr_k0_pay132 (A : RMat) : k0_pay132 (F := Ideal) (up1 A : FVec Ideal S1x128x256 .f32) = up (tM A) := by
  simp only [k0_pay132, cast1_up]
  rw [trS_128]
  rfl
theorem tr_k0_pay130 (A : RMat) : k0_pay130 (F := Ideal) (up1 A : FVec Ideal S1x128x256 .f32) = up (tM A) := by
  simp only [k0_pay130, cast1_up]
  rw [trS_128]
  rfl
theorem tr_k0_pay128 (A : RMat) : k0_pay128 (F := Ideal) (up1 A : FVec Ideal S1x128x256 .f32) = up (tM A) := by
  simp only [k0_pay128, cast1_up]
  rw [trS_128]
  rfl
theorem tr_k0_pay126 (A : RMat) : k0_pay126 (F := Ideal) (up1 A : FVec Ideal S1x128x256 .f32) = up (tM A) := by
  simp only [k0_pay126, cast1_up]
  rw [trS_128]
  rfl
theorem tr_k0_pay124 (A : RMat) : k0_pay124 (F := Ideal) (up1 A : FVec Ideal S1x128x256 .f32) = up (tM A) := by
  simp only [k0_pay124, cast1_up]
  rw [trS_128]
  rfl
theorem tr_k0_pay122 (A : RMat) : k0_pay122 (F := Ideal) (up1 A : FVec Ideal S1x128x256 .f32) = up (tM A) := by
  simp only [k0_pay122, cast1_up]
  rw [trS_128]
  rfl
theorem tr_k0_pay120 (A : RMat) : k0_pay120 (F := Ideal) (up1 A : FVec Ideal S1x128x256 .f32) = up (tM A) := by
  simp only [k0_pay120, cast1_up]
  rw [trS_128]
  rfl
theorem tr_k0_pay117 (A : RMat) : k0_pay117 (F := Ideal) (up1 A : FVec Ideal S1x128x256 .f32) = up (tM A) := by
  simp only [k0_pay117, cast1_up]
  rw [trS_128]
  rfl
theorem tr_k0_pay115 (A : RMat) : k0_pay115 (F := Ideal) (up1 A : FVec Ideal S1x128x256 .f32) = up (tM A) := by
  simp only [k0_pay115, cast1_up]
  rw [trS_128]
  rfl
theorem tr_k0_pay113 (A : RMat) : k0_pay113 (F := Ideal) (up1 A : FVec Ideal S1x128x256 .f32) = up (tM A) := by
  simp only [k0_pay113, cast1_up]
  rw [trS_128]
  rfl
theorem tr_k0_pay317 (A : RMat) : k0_pay317 (F := Ideal) (up1 A : FVec Ideal S1x128x256 .f32) = up (tM A) := by
  simp only [k0_pay317, cast1_up]
  rw [trS_128]
  rfl
theorem tr_k0_pay315 (A : RMat) : k0_pay315 (F := Ideal) (up1 A : FVec Ideal S1x128x256 .f32) = up (tM A) := by
  simp only [k0_pay315, cast1_up]
  rw [trS_128]
  rfl
theorem tr_k0_pay313 (A : RMat) : k0_pay313 (F := Ideal) (up1 A : FVec Ideal S1x128x256 .f32) = up (tM A) := by
  simp only [k0_pay313, cast1_up]
  rw [trS_128]
  rfl
theorem tr_k0_pay139 (A : RMat) : k0_pay139 (F := Ideal) (up1 A : FVec Ideal S1x128x256 .f32) = up (tM A) := by
  simp only [k0_pay139, cast1_up]
  rw [trS_128]
  rfl
theorem tr_k0_pay137 (A : RMat) : k0_pay137 (F := Ideal) (up1 A : FVec Ideal S1x128x256 .f32) = up (tM A) := by
  simp only [k0_pay137, cast1_up]
  rw [trS_128]
  rfl
theorem tr_k0_pay135 (A : RMat) : k0_pay135 (F := Ideal) (up1 A : FVec Ideal S1x128x256 .f32) = up (tM A) := by
  simp only [k0_pay135, cast1_up]
  rw [trS_128]
  rfl
theorem tr_k0_pay133 (A : RMat) : k0_pay133 (F := Ideal) (up1 A : FVec Ideal S1x128x256 .f32) = up (tM A) := by
  simp only [k0_pay133, cast1_up]
  rw [trS_128]
  rfl
theorem tr_k0_pay131 (A : RMat) : k0_pay131 (F := Ideal) (up1 A : FVec Ideal S1x128x256 .f32) = up (tM A) := by
  simp only [k0_pay131, cast1_up]
  rw [trS_128]
  rfl
theorem tr_k0_pay129 (A : RMat) : k0_pay129 (F := Ideal) (up1 A : FVec Ideal S1x128x256 .f32) = up (tM A) := by
  simp only [k0_pay129, cast1_up]
  rw [trS_128]
  rfl
theorem tr_k0_pay127 (A : RMat) : k0_pay127 (F := Ideal) (up1 A : FVec Ideal S1x128x256 .f32) = up (tM A) := by
  simp only [k0_pay127, cast1_up]
  rw [trS_128]
  rfl
theorem tr_k0_pay125 (A : RMat) : k0_pay125 (F := Ideal) (up1 A : FVec Ideal S1x128x256 .f32) = up (tM A) := by
  simp only [k0_pay125, cast1_up]
  rw [trS_128]
  rfl
theorem tr_k0_pay123 (A : RMat) : k0_pay123 (F := Ideal) (up1 A : FVec Ideal S1x128x256 .f32) = up (tM A) := by
  simp only [k0_pay123, cast1_up]
  rw [trS_128]
  rfl
theorem tr_k0_pay121 (A : RMat) : k0_pay121 (F := Ideal) (up1 A : FVec Ideal S1x128x256 .f32) = up (tM A) := by
  simp only [k0_pay121, cast1_up]
  rw [trS_128]
  rfl
theorem tr_k0_pay119 (A : RMat) : k0_pay119 (F := Ideal) (k0_pay118 (F := Ideal) (up1 A : FVec Ideal S1x128x256 .f32)) = up (tM A) := by
  simp only [k0_pay119, k0_pay118, cast1_up]
  rw [trS_128]
  rfl
theorem tr_k0_pay116 (A : RMat) : k0_pay116 (F := Ideal) (up1 A : FVec Ideal S1x128x256 .f32) = up (tM A) := by
  simp only [k0_pay116, cast1_up]
  rw [trS_128]
  rfl
theorem tr_k0_pay114 (A : RMat) : k0_pay114 (F := Ideal) (up1 A : FVec Ideal S1x128x256 .f32) = up (tM A) := by
  simp only [k0_pay114, cast1_up]
  rw [trS_128]
  rfl

set_option maxHeartbeats 4000000 in
/-- What a point of this kind leaves: the queries' gradient and the two stacks, and with the last point of a pair the stacks written out. -/
theorem case_C (c : Dev nD) (i : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x2x1024x128 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S16x128x256 .f32) (harg10 : arg10.IsWhole) (arg11 : Memref sig .tc .vmem S16x128x256 .f32) (harg11 : arg11.IsWhole) (hc0 : ¬cond0_0 i) (hc1 : cond0_1 i)
    (x0 : Vec Ideal S1024x128 .f32) (x1 x2 : Vec Ideal S4096x128 .f32) (x3 : Vec Ideal S1x2x1024x128 .f32) (x4 : Vec Ideal S1024x128 .bf16) (xs0 xs1 : Vec Ideal S16x128x256 .f32)
    (Q D K V : RMat) (C : ℕ → RMat) (sk sv : ℕ → RMat) (hx0 : x0 = (up Q : FVec Ideal S1024x128 .f32)) (hx1 : x1 = (up K : FVec Ideal S4096x128 .f32)) (hx2 : x2 = (up V : FVec Ideal S4096x128 .f32))
    (hx3 : x3 = up4 C) (hx4 : x4 = (up D : FVec Ideal S1024x128 .bf16)) (hxs0 : xs0 = upS sk) (hxs1 : xs1 = upS sv) (s' : St)
    (hs' : s' = (Blk.of Q D (C 0) (C 1) K V).point (i 1).val ⟨constM 0, constM 0, constM 0, sk, sv⟩) :
    out0_C_5 (F := Ideal) c i arg2 harg2 arg3 harg3 arg4 harg4 arg5 harg5 arg6 harg6 arg7 harg7 arg8 harg8 arg9 harg9 arg10 harg10 arg11 harg11 hc0 hc1 x0 x1 x2 x3 x4 xs0 xs1 = (up (s'.dq * constM (1/8)) : FVec Ideal S1024x128 .bf16)
    ∧ sout0_C_0 (F := Ideal) c i arg2 harg2 arg3 harg3 arg4 harg4 arg5 harg5 arg6 harg6 arg7 harg7 arg8 harg8 arg9 harg9 arg10 harg10 arg11 harg11 hc0 hc1 x0 x1 x2 x3 x4 xs0 xs1 = upS s'.sk
    ∧ sout0_C_1 (F := Ideal) c i arg2 harg2 arg3 harg3 arg4 harg4 arg5 harg5 arg6 harg6 arg7 harg7 arg8 harg8 arg9 harg9 arg10 harg10 arg11 harg11 hc0 hc1 x0 x1 x2 x3 x4 xs0 xs1 = upS s'.sv
    ∧ out0_C_6 (F := Ideal) c i arg2 harg2 arg3 harg3 arg4 harg4 arg5 harg5 arg6 harg6 arg7 harg7 arg8 harg8 arg9 harg9 arg10 harg10 arg11 harg11 hc0 hc1 x0 x1 x2 x3 x4 xs0 xs1 = (up (stackT s'.sk) : FVec Ideal S4096x128 .bf16)
    ∧ out0_C_7 (F := Ideal) c i arg2 harg2 arg3 harg3 arg4 harg4 arg5 harg5 arg6 harg6 arg7 harg7 arg8 harg8 arg9 harg9 arg10 harg10 arg11 harg11 hc0 hc1 x0 x1 x2 x3 x4 xs0 xs1 = (up (stackT s'.sv) : FVec Ideal S4096x128 .bf16) := by
  have hq : (i 1).val < 4 := (i 1).isLt
  obtain ⟨b, hb⟩ : ∃ b, b = Blk.of Q D (C 0) (C 1) K V := ⟨_, rfl⟩
  have hd1 : b.d1 = selM (fun _ c => c < 64) (constM 0) b.d := by rw [hb]; rfl
  have hdt0 : b.dt0 = selM (fun r _ => r < 64) (tM b.d) (constM 0) := by rw [hb]; rfl
  have hdt1 : b.dt1 = selM (fun r _ => r < 64) (constM 0) (tM b.d) := by rw [hb]; rfl
  obtain ⟨t, ht⟩ : ∃ t : St, t = ⟨constM 0, constM 0, constM 0, sk, sv⟩ := ⟨_, rfl⟩
  obtain ⟨s0, hs0⟩ : ∃ s0, s0 = b.run (2 * (i 1).val) t := ⟨_, rfl⟩
  obtain ⟨s1, hs1⟩ : ∃ s1, s1 = b.tail0 (i 1).val s0 := ⟨_, rfl⟩
  obtain ⟨s2, hs2⟩ : ∃ s2, s2 = b.tail1 (i 1).val s1 := ⟨_, rfl⟩
  obtain ⟨s3, hs3⟩ : ∃ s3, s3 = b.tail2 (i 1).val s2 := ⟨_, rfl⟩
  have hs4 : s' = b.tail3 (i 1).val s3 := by rw [hs', hs3, hs2, hs1, hs0, ht, hb]; rfl
  have k1 : Function.update s0.sk (4 * (i 1).val + 0) (s1.sk (4 * (i 1).val + 0)) = s1.sk := by rw [hs1]; exact step_sk _ _ _ _
  have k2 : Function.update s1.sk (4 * (i 1).val + 1) (s2.sk (4 * (i 1).val + 1)) = s2.sk := by rw [hs2]; exact diag_sk _ _ _ _ _ _
  have k3 : Function.update s2.sk (4 * (i 1).val + 2) (s3.sk (4 * (i 1).val + 2)) = s3.sk := by rw [hs3]; exact diag_sk _ _ _ _ _ _
  have k4 : Function.update s3.sk (4 * (i 1).val + 3) (s'.sk (4 * (i 1).val + 3)) = s'.sk := by rw [hs4]; exact diag_sk _ _ _ _ _ _
  have v1 : Function.update s0.sv (4 * (i 1).val + 0) (s1.sv (4 * (i 1).val + 0)) = s1.sv := by rw [hs1]; exact step_sv _ _ _ _
  have v2 : Function.update s1.sv (4 * (i 1).val + 1) (s2.sv (4 * (i 1).val + 1)) = s2.sv := by rw [hs2]; exact diag_sv _ _ _ _ _ _
  have v3 : Function.update s2.sv (4 * (i 1).val + 2) (s3.sv (4 * (i 1).val + 2)) = s3.sv := by rw [hs3]; exact diag_sv _ _ _ _ _ _
  have v4 : Function.update s3.sv (4 * (i 1).val + 3) (s'.sv (4 * (i 1).val + 3)) = s'.sv := by rw [hs4]; exact diag_sv _ _ _ _ _ _
  have g0 := readAt_all arg2.view (harg2.unread x0) _ ((harg2.read_unread x0).trans hx0) inb_S1024x128_S1024x128_0_0
  have g4 := readAt_all arg6.view (harg6.unread x4) _ ((harg6.read_unread x4).trans hx4) inb_S1024x128_S1024x128_0_0
  have g30 := readAt_up4 arg5.view (harg5.unread x3) C ((harg5.read_unread x3).trans hx3) 0 inb_S1x2x1024x128_S1x1x1024x128_0_0_0_0
  have g31 := readAt_up4 arg5.view (harg5.unread x3) C ((harg5.read_unread x3).trans hx3) 1 inb_S1x2x1024x128_S1x1x1024x128_0_1_0_0
  have hK : arg3.view.read (Elt Ideal) (harg3.unread x1) = (up b.K : FVec Ideal S4096x128 .f32) := by rw [hb]; exact (harg3.read_unread x1).trans hx1
  have hV : arg4.view.read (Elt Ideal) (harg4.unread x2) = (up b.V : FVec Ideal S4096x128 .f32) := by rw [hb]; exact (harg4.read_unread x2).trans hx2
  have pr : (kernelRun0_C.sl.r (F := Ideal) c arg6 harg6 x4) = (up b.d : FVec Ideal S1024x128 .f32) := by
    rw [hb]; exact (congrArg (k0_pay146 (F := Ideal)) g4).trans (pay146_eq D)
  have pr_1 : (kernelRun0_C.sl.r_1 (F := Ideal) c arg2 harg2 x0) = (up b.q0 : FVec Ideal S1024x128 .bf16) := by
    rw [hb]; exact (congrArg (k0_pay147 (F := Ideal)) g0).trans (pay147_eq Q)
  have pr_2 : (kernelRun0_C.sl.r_2 (F := Ideal) c arg2 harg2 x0) = (up b.q1 : FVec Ideal S1024x128 .bf16) := by
    rw [hb]; exact (congrArg (k0_pay148 (F := Ideal)) g0).trans (pay148_eq Q)
  have pr_3 : (kernelRun0_C.sl.r_3 (F := Ideal) c arg2 harg2 x0) = (up b.qt0 : FVec Ideal S128x1024 .bf16) := by
    rw [hb]; exact (congrArg (k0_pay150 (F := Ideal)) g0).trans (pay150_eq Q)
  have pr_4 : (kernelRun0_C.sl.r_4 (F := Ideal) c arg2 harg2 x0) = (up b.qt1 : FVec Ideal S128x1024 .bf16) := by
    rw [hb]; exact (congrArg (k0_pay151 (F := Ideal)) g0).trans (pay151_eq Q)
  have pr_5 : (kernelRun0_C.sl.r_5 (F := Ideal) c arg6 harg6 x4) = (up b.d0 : FVec Ideal S1024x128 .bf16) := by
    rw [hb]; exact (congrArg (k0_pay152 (F := Ideal)) g4).trans (pay152_eq D)
  have pr_9 : (kernelRun0_C.sl.r_9 (F := Ideal) c arg5 harg5 x3) = (up b.c0 : FVec Ideal S1024x128 .f32) := by
    rw [hb]; exact (congrArg (k0_pay158 (F := Ideal)) g30).trans (pay158_eq (C 0))
  have pr_10 : (kernelRun0_C.sl.r_10 (F := Ideal) c arg5 harg5 x3) = (up b.c1 : FVec Ideal S1024x128 .f32) := by
    rw [hb]; exact (congrArg (k0_pay159 (F := Ideal)) g31).trans (pay159_eq (C 1))
  have pr' : (kernelRun0_C.sl.r (F := Ideal) c arg6 harg6 x4) = (up D : FVec Ideal S1024x128 .f32) := pr.trans (by rw [hb]; rfl)
  have pr_6 : (kernelRun0_C.sl.r_6 (F := Ideal) c arg6 harg6 x4) = (up b.d1 : FVec Ideal S1024x128 .bf16) := by
    rw [hb]; exact (congrArg₂ (fun x y => k0_pay154 (F := Ideal) x (Scalar.ofBits (F := Ideal) .f32 0x00000000#32) y) pr' pay153_eq).trans (pay154_eq D)
  have pr_7 : (kernelRun0_C.sl.r_7 (F := Ideal) c arg6 harg6 x4) = (up b.dt0 : FVec Ideal S128x1024 .bf16) := by
    rw [hb]; exact (congrArg₂ (fun x y => k0_pay156 (F := Ideal) x y) row_lt1 pr').trans (pay156_eq D)
  have pr_8 : (kernelRun0_C.sl.r_8 (F := Ideal) c arg6 harg6 x4) = (up b.dt1 : FVec Ideal S128x1024 .bf16) := by
    rw [hb]; exact (congrArg₂ (fun x y => k0_pay157 (F := Ideal) x y) row_lt1 pr').trans (pay157_eq D)
  have a10 : arg10.view.read (Elt Ideal) (harg10.unread xs0) = upS t.sk := by rw [ht]; exact (harg10.read_unread xs0).trans hxs0
  have a11 : arg11.view.read (Elt Ideal) (harg11.unread xs1) = upS t.sv := by rw [ht]; exact (harg11.read_unread xs1).trans hxs1
  have L := loop_done Variants.none c none i arg2 harg2 arg3 harg3 arg4 harg4 arg5 harg5 arg6 harg6 arg7 harg7 arg8 harg8 arg9 harg9 arg10 harg10 arg11 harg11 (BitVec.ofNat 32 (i 1).val)
    (kernelRun0_C.sl.v3 ) k0_pay143 k0_pay144 (kernelRun0_C.sl.r (F := Ideal) c arg6 harg6 x4) (kernelRun0_C.sl.r_1 (F := Ideal) c arg2 harg2 x0) (kernelRun0_C.sl.r_2 (F := Ideal) c arg2 harg2 x0) (kernelRun0_C.sl.r_3 (F := Ideal) c arg2 harg2 x0) (kernelRun0_C.sl.r_4 (F := Ideal) c arg2 harg2 x0) (kernelRun0_C.sl.r_5 (F := Ideal) c arg6 harg6 x4) (kernelRun0_C.sl.cst_10 (F := Ideal) ) k0_pay153 _ _ (harg3.unread x1) (harg4.unread x2) _ _ _ _ _ b t
    rfl lane_lt1 row_lt1 pr pr_1 pr_2 pr_3 pr_4 pr_5 rfl pay153_eq (g30.trans (by rw [hb]; rfl)) (g31.trans (by rw [hb]; rfl)) (pay162_eq.trans (by rw [ht])) (pay162_eq.trans (by rw [ht])) (pay163_eq.trans (by rw [ht])) hd1 hdt0 hdt1 hK hV a10 a11 s0 hs0
  have pr_11 : (kernelRun0_C.sl.r_11 (F := Ideal) c i arg2 harg2 arg3 harg3 arg4 harg4 arg5 harg5 arg6 harg6 arg7 harg7 arg8 harg8 arg9 harg9 arg10 harg10 arg11 harg11 x0 x1 x2 x3 x4 xs0 xs1) = (up s0.e0 : FVec Ideal S1024x1 .f32) := by
    unfold kernelRun0_C.sl.r_11
    rw [st2_nil]
    exact congrArg (fun z => z.1) L.1
  have pr_12 : (kernelRun0_C.sl.r_12 (F := Ideal) c i arg2 harg2 arg3 harg3 arg4 harg4 arg5 harg5 arg6 harg6 arg7 harg7 arg8 harg8 arg9 harg9 arg10 harg10 arg11 harg11 x0 x1 x2 x3 x4 xs0 xs1) = (up s0.e1 : FVec Ideal S1024x1 .f32) := by
    unfold kernelRun0_C.sl.r_12
    rw [st2_nil]
    exact congrArg (fun z => z.2.1) L.1
  have pr_13 : (kernelRun0_C.sl.r_13 (F := Ideal) c i arg2 harg2 arg3 harg3 arg4 harg4 arg5 harg5 arg6 harg6 arg7 harg7 arg8 harg8 arg9 harg9 arg10 harg10 arg11 harg11 x0 x1 x2 x3 x4 xs0 xs1) = (up s0.dq : FVec Ideal S1024x128 .f32) := by
    unfold kernelRun0_C.sl.r_13
    rw [st2_nil]
    exact congrArg (fun z => z.2.2) L.1
  have z10 : (kernelRun0_C.sl.v218 (F := Ideal) c i arg2 harg2 arg3 harg3 arg4 harg4 arg5 harg5 arg6 harg6 arg7 harg7 arg8 harg8 arg9 harg9 arg10 harg10 arg11 harg11 x0 x1 x2 x3 x4 xs0 xs1) = (up1 (s0.sk (4 * (i 1).val + 0)) : FVec Ideal S1x128x256 .f32) :=
    readAt_upS arg10.view _ s0.sk (by rw [st2_nil]; exact L.2.1) _ _ (off6_eq i 0 (by norm_num)) _
  have z11 : (kernelRun0_C.sl.v226 (F := Ideal) c i arg2 harg2 arg3 harg3 arg4 harg4 arg5 harg5 arg6 harg6 arg7 harg7 arg8 harg8 arg9 harg9 arg10 harg10 arg11 harg11 x0 x1 x2 x3 x4 xs0 xs1) = (up1 (s0.sv (4 * (i 1).val + 0)) : FVec Ideal S1x128x256 .f32) :=
    readAt_upS arg11.view _ s0.sv (by rw [st2_nil]; exact L.2.2) _ _ (off6_eq i 0 (by norm_num)) _
  obtain ⟨e0_1, e1_1, dq_1, hk_1, hv_1⟩ := tile0 b s0 (i 1).val hq hd1 hdt0 hdt1 (kernelRun0_C.sl.r_1 (F := Ideal) c arg2 harg2 x0) pr_1 (kernelRun0_C.sl.r_2 (F := Ideal) c arg2 harg2 x0) pr_2 (kernelRun0_C.sl.r_3 (F := Ideal) c arg2 harg2 x0) pr_3 (kernelRun0_C.sl.r_4 (F := Ideal) c arg2 harg2 x0) pr_4 (kernelRun0_C.sl.r_5 (F := Ideal) c arg6 harg6 x4) pr_5 (kernelRun0_C.sl.r_6 (F := Ideal) c arg6 harg6 x4) pr_6 (kernelRun0_C.sl.r_7 (F := Ideal) c arg6 harg6 x4) pr_7 (kernelRun0_C.sl.r_8 (F := Ideal) c arg6 harg6 x4) pr_8 (kernelRun0_C.sl.r_9 (F := Ideal) c arg5 harg5 x3) pr_9 (kernelRun0_C.sl.r_10 (F := Ideal) c arg5 harg5 x3) pr_10 (kernelRun0_C.sl.r_11 (F := Ideal) c i arg2 harg2 arg3 harg3 arg4 harg4 arg5 harg5 arg6 harg6 arg7 harg7 arg8 harg8 arg9 harg9 arg10 harg10 arg11 harg11 x0 x1 x2 x3 x4 xs0 xs1) pr_11 (kernelRun0_C.sl.r_12 (F := Ideal) c i arg2 harg2 arg3 harg3 arg4 harg4 arg5 harg5 arg6 harg6 arg7 harg7 arg8 harg8 arg9 harg9 arg10 harg10 arg11 harg11 x0 x1 x2 x3 x4 xs0 xs1) pr_12 (kernelRun0_C.sl.r_13 (F := Ideal) c i arg2 harg2 arg3 harg3 arg4 harg4 arg5 harg5 arg6 harg6 arg7 harg7 arg8 harg8 arg9 harg9 arg10 harg10 arg11 harg11 x0 x1 x2 x3 x4 xs0 xs1) pr_13 _ (readAt_up arg3.view (harg3.unread x1) b.K hK (k0_off5 i 0#32) (256 * (4 * (i 1).val + 0)) 0 (off5_eq i 0 (by norm_num)) _) _ (readAt_up arg4.view (harg4.unread x2) b.V hV (k0_off5 i 0#32) (256 * (4 * (i 1).val + 0)) 0 (off5_eq i 0 (by norm_num)) _) (kernelRun0_C.sl.v218 (F := Ideal) c i arg2 harg2 arg3 harg3 arg4 harg4 arg5 harg5 arg6 harg6 arg7 harg7 arg8 harg8 arg9 harg9 arg10 harg10 arg11 harg11 x0 x1 x2 x3 x4 xs0 xs1) z10 (kernelRun0_C.sl.v226 (F := Ideal) c i arg2 harg2 arg3 harg3 arg4 harg4 arg5 harg5 arg6 harg6 arg7 harg7 arg8 harg8 arg9 harg9 arg10 harg10 arg11 harg11 x0 x1 x2 x3 x4 xs0 xs1) z11
    (kernelRun0_C.sl.r_14 (F := Ideal) i arg3 harg3 x1) (kernelRun0_C.sl.r_15 (F := Ideal) i arg3 harg3 x1) (kernelRun0_C.sl.r_16 (F := Ideal) i arg3 harg3 x1) (kernelRun0_C.sl.r_17 (F := Ideal) i arg4 harg4 x2) (kernelRun0_C.sl.r_18 i) (kernelRun0_C.sl.r_19 (F := Ideal) c i arg5 harg5 x3) (kernelRun0_C.sl.r_20 (F := Ideal) c i arg2 harg2 arg3 harg3 x0 x1) (kernelRun0_C.sl.r_21 (F := Ideal) c i arg2 harg2 arg3 harg3 x0 x1) (kernelRun0_C.sl.r_22 (F := Ideal) c i arg2 harg2 arg3 harg3 x0 x1) (kernelRun0_C.sl.r_23 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_24 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_25 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_26 (F := Ideal) c i arg2 harg2 arg3 harg3 arg5 harg5 arg6 harg6 x0 x1 x3 x4) (kernelRun0_C.sl.r_27 (F := Ideal) c i arg5 harg5 x3) (kernelRun0_C.sl.r_28 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_29 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_30 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_31 (F := Ideal) c i arg2 harg2 arg3 harg3 arg5 harg5 arg6 harg6 x0 x1 x3 x4) (kernelRun0_C.sl.r_32 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_33 (F := Ideal) c i arg2 harg2 arg3 harg3 arg4 harg4 arg5 harg5 arg6 harg6 arg7 harg7 arg8 harg8 arg9 harg9 arg10 harg10 arg11 harg11 x0 x1 x2 x3 x4 xs0 xs1)
    rfl rfl rfl rfl rfl rfl rfl rfl rfl rfl rfl rfl rfl rfl rfl rfl rfl rfl rfl rfl s1 hs1
  have R10_1 : arg10.view.read (Elt Ideal) (arg10.view.writes (Elt Ideal) (harg10.unread xs0) (kernelRun0_C.sl.HS0_1 (F := Ideal) c i arg2 harg2 arg3 harg3 arg4 harg4 arg5 harg5 arg6 harg6 arg7 harg7 arg8 harg8 arg9 harg9 arg10 harg10 arg11 harg11 x0 x1 x2 x3 x4 xs0 xs1)) = upS s1.sk :=
    read_store' arg10.view _ _ s0.sk _ (by rw [st2_nil]; exact L.2.1) (k0_off6 i 0#32) _ (off6_eq i 0 (by norm_num)) _ _ _ hk_1 k1
  have R11_1 : arg11.view.read (Elt Ideal) (arg11.view.writes (Elt Ideal) (harg11.unread xs1) (kernelRun0_C.sl.HS1_1 (F := Ideal) c i arg2 harg2 arg3 harg3 arg4 harg4 arg5 harg5 arg6 harg6 arg7 harg7 arg8 harg8 arg9 harg9 arg10 harg10 arg11 harg11 x0 x1 x2 x3 x4 xs0 xs1)) = upS s1.sv :=
    read_store' arg11.view _ _ s0.sv _ (by rw [st2_nil]; exact L.2.2) (k0_off6 i 0#32) _ (off6_eq i 0 (by norm_num)) _ _ _ hv_1 v1
  obtain ⟨e0_2, e1_2, dq_2, hk_2, hv_2⟩ := tile1 b s1 (i 1).val hq hd1 hdt0 hdt1 (kernelRun0_C.sl.r_1 (F := Ideal) c arg2 harg2 x0) pr_1 (kernelRun0_C.sl.r_2 (F := Ideal) c arg2 harg2 x0) pr_2 (kernelRun0_C.sl.r_3 (F := Ideal) c arg2 harg2 x0) pr_3 (kernelRun0_C.sl.r_4 (F := Ideal) c arg2 harg2 x0) pr_4 (kernelRun0_C.sl.r_5 (F := Ideal) c arg6 harg6 x4) pr_5 (kernelRun0_C.sl.r_6 (F := Ideal) c arg6 harg6 x4) pr_6 (kernelRun0_C.sl.r_7 (F := Ideal) c arg6 harg6 x4) pr_7 (kernelRun0_C.sl.r_8 (F := Ideal) c arg6 harg6 x4) pr_8 (kernelRun0_C.sl.r_9 (F := Ideal) c arg5 harg5 x3) pr_9 (kernelRun0_C.sl.r_10 (F := Ideal) c arg5 harg5 x3) pr_10 (kernelRun0_C.sl.r_23 (F := Ideal) c i arg2 harg2 arg3 harg3 arg4 harg4 arg5 harg5 arg6 harg6 arg7 harg7 arg8 harg8 arg9 harg9 arg10 harg10 arg11 harg11 x0 x1 x2 x3 x4 xs0 xs1) e0_1 (kernelRun0_C.sl.r_28 (F := Ideal) c i arg2 harg2 arg3 harg3 arg4 harg4 arg5 harg5 arg6 harg6 arg7 harg7 arg8 harg8 arg9 harg9 arg10 harg10 arg11 harg11 x0 x1 x2 x3 x4 xs0 xs1) e1_1 (kernelRun0_C.sl.r_33 (F := Ideal) c i arg2 harg2 arg3 harg3 arg4 harg4 arg5 harg5 arg6 harg6 arg7 harg7 arg8 harg8 arg9 harg9 arg10 harg10 arg11 harg11 x0 x1 x2 x3 x4 xs0 xs1) dq_1 _ (readAt_up arg3.view (harg3.unread x1) b.K hK (k0_off5 i 1#32) (256 * (4 * (i 1).val + 1)) 0 (off5_eq i 1 (by norm_num)) _) _ (readAt_up arg4.view (harg4.unread x2) b.V hV (k0_off5 i 1#32) (256 * (4 * (i 1).val + 1)) 0 (off5_eq i 1 (by norm_num)) _) _ (readAt_upS arg10.view _ s1.sk R10_1 (k0_off6 i 1#32) _ (off6_eq i 1 (by norm_num)) _) _ (readAt_upS arg11.view _ s1.sv R11_1 (k0_off6 i 1#32) _ (off6_eq i 1 (by norm_num)) _)
    (kernelRun0_C.sl.r_34 (F := Ideal) i arg3 harg3 x1) (kernelRun0_C.sl.r_35 (F := Ideal) i arg3 harg3 x1) (kernelRun0_C.sl.r_36 (F := Ideal) i arg3 harg3 x1) (kernelRun0_C.sl.r_37 (F := Ideal) i arg4 harg4 x2) (kernelRun0_C.sl.r_38 i) (kernelRun0_C.sl.r_39 i) (kernelRun0_C.sl.r_40 i) (kernelRun0_C.sl.r_41 (F := Ideal) c i arg2 harg2 arg3 harg3 arg5 harg5 x0 x1 x3) (kernelRun0_C.sl.r_42 (F := Ideal) c i arg2 harg2 arg3 harg3 arg4 harg4 arg5 harg5 arg6 harg6 x0 x1 x2 x3 x4) (kernelRun0_C.sl.r_43 (F := Ideal) c i arg2 harg2 arg3 harg3 arg4 harg4 arg5 harg5 arg6 harg6 x0 x1 x2 x3 x4) (kernelRun0_C.sl.r_44 (F := Ideal) c i arg2 harg2 arg3 harg3 x0 x1) (kernelRun0_C.sl.r_45 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_46 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_47 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_48 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_49 (F := Ideal) c i arg2 harg2 arg3 harg3 arg5 harg5 arg6 harg6 x0 x1 x3 x4) (kernelRun0_C.sl.r_50 (F := Ideal) c i arg2 harg2 arg3 harg3 x0 x1) (kernelRun0_C.sl.r_51 (F := Ideal) c i arg2 harg2 arg3 harg3 x0 x1) (kernelRun0_C.sl.r_52 (F := Ideal) c i arg2 harg2 arg3 harg3 arg5 harg5 x0 x1 x3) (kernelRun0_C.sl.r_53 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_54 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_55 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_56 (F := Ideal) c i arg2 harg2 arg3 harg3 arg4 harg4 arg5 harg5 arg6 harg6 arg7 harg7 arg8 harg8 arg9 harg9 arg10 harg10 arg11 harg11 x0 x1 x2 x3 x4 xs0 xs1)
    rfl rfl rfl rfl rfl rfl rfl rfl rfl rfl rfl rfl rfl rfl rfl rfl rfl rfl rfl rfl rfl rfl rfl s2 hs2
  have R10_2 : arg10.view.read (Elt Ideal) (arg10.view.writes (Elt Ideal) (harg10.unread xs0) (kernelRun0_C.sl.HS0_2 (F := Ideal) c i arg2 harg2 arg3 harg3 arg4 harg4 arg5 harg5 arg6 harg6 arg7 harg7 arg8 harg8 arg9 harg9 arg10 harg10 arg11 harg11 x0 x1 x2 x3 x4 xs0 xs1)) = upS s2.sk :=
    read_store' arg10.view _ _ s1.sk _ R10_1 (k0_off6 i 1#32) _ (off6_eq i 1 (by norm_num)) _ _ _ hk_2 k2
  have R11_2 : arg11.view.read (Elt Ideal) (arg11.view.writes (Elt Ideal) (harg11.unread xs1) (kernelRun0_C.sl.HS1_2 (F := Ideal) c i arg2 harg2 arg3 harg3 arg4 harg4 arg5 harg5 arg6 harg6 arg7 harg7 arg8 harg8 arg9 harg9 arg10 harg10 arg11 harg11 x0 x1 x2 x3 x4 xs0 xs1)) = upS s2.sv :=
    read_store' arg11.view _ _ s1.sv _ R11_1 (k0_off6 i 1#32) _ (off6_eq i 1 (by norm_num)) _ _ _ hv_2 v2
  obtain ⟨e0_3, e1_3, dq_3, hk_3, hv_3⟩ := tile2 b s2 (i 1).val hq hd1 hdt0 hdt1 (kernelRun0_C.sl.r_1 (F := Ideal) c arg2 harg2 x0) pr_1 (kernelRun0_C.sl.r_2 (F := Ideal) c arg2 harg2 x0) pr_2 (kernelRun0_C.sl.r_3 (F := Ideal) c arg2 harg2 x0) pr_3 (kernelRun0_C.sl.r_4 (F := Ideal) c arg2 harg2 x0) pr_4 (kernelRun0_C.sl.r_5 (F := Ideal) c arg6 harg6 x4) pr_5 (kernelRun0_C.sl.r_6 (F := Ideal) c arg6 harg6 x4) pr_6 (kernelRun0_C.sl.r_7 (F := Ideal) c arg6 harg6 x4) pr_7 (kernelRun0_C.sl.r_8 (F := Ideal) c arg6 harg6 x4) pr_8 (kernelRun0_C.sl.r_9 (F := Ideal) c arg5 harg5 x3) pr_9 (kernelRun0_C.sl.r_10 (F := Ideal) c arg5 harg5 x3) pr_10 (kernelRun0_C.sl.r_46 (F := Ideal) c i arg2 harg2 arg3 harg3 arg4 harg4 arg5 harg5 arg6 harg6 arg7 harg7 arg8 harg8 arg9 harg9 arg10 harg10 arg11 harg11 x0 x1 x2 x3 x4 xs0 xs1) e0_2 (kernelRun0_C.sl.r_53 (F := Ideal) c i arg2 harg2 arg3 harg3 arg4 harg4 arg5 harg5 arg6 harg6 arg7 harg7 arg8 harg8 arg9 harg9 arg10 harg10 arg11 harg11 x0 x1 x2 x3 x4 xs0 xs1) e1_2 (kernelRun0_C.sl.r_56 (F := Ideal) c i arg2 harg2 arg3 harg3 arg4 harg4 arg5 harg5 arg6 harg6 arg7 harg7 arg8 harg8 arg9 harg9 arg10 harg10 arg11 harg11 x0 x1 x2 x3 x4 xs0 xs1) dq_2 _ (readAt_up arg3.view (harg3.unread x1) b.K hK (k0_off5 i 2#32) (256 * (4 * (i 1).val + 2)) 0 (off5_eq i 2 (by norm_num)) _) _ (readAt_up arg4.view (harg4.unread x2) b.V hV (k0_off5 i 2#32) (256 * (4 * (i 1).val + 2)) 0 (off5_eq i 2 (by norm_num)) _) _ (readAt_upS arg10.view _ s2.sk R10_2 (k0_off6 i 2#32) _ (off6_eq i 2 (by norm_num)) _) _ (readAt_upS arg11.view _ s2.sv R11_2 (k0_off6 i 2#32) _ (off6_eq i 2 (by norm_num)) _)
    (kernelRun0_C.sl.r_57 (F := Ideal) i arg3 harg3 x1) (kernelRun0_C.sl.r_58 (F := Ideal) i arg3 harg3 x1) (kernelRun0_C.sl.r_59 (F := Ideal) i arg3 harg3 x1) (kernelRun0_C.sl.r_60 (F := Ideal) i arg4 harg4 x2) (kernelRun0_C.sl.r_61 i) (kernelRun0_C.sl.r_62 (F := Ideal) c arg5 harg5 x3) (kernelRun0_C.sl.r_63 i) (kernelRun0_C.sl.r_64 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_65 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_66 (F := Ideal) c i arg2 harg2 arg3 harg3 arg5 harg5 x0 x1 x3) (kernelRun0_C.sl.r_67 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_68 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_69 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_70 (F := Ideal) c i arg2 harg2 arg3 harg3 arg5 harg5 arg6 harg6 x0 x1 x3 x4) (kernelRun0_C.sl.r_71 (F := Ideal) c i arg2 harg2 arg3 harg3 arg5 harg5 x0 x1 x3) (kernelRun0_C.sl.r_72 (F := Ideal) c i arg2 harg2 arg3 harg3 arg4 harg4 arg5 harg5 arg6 harg6 x0 x1 x2 x3 x4) (kernelRun0_C.sl.r_73 (F := Ideal) c i arg2 harg2 arg3 harg3 arg4 harg4 arg5 harg5 arg6 harg6 x0 x1 x2 x3 x4) (kernelRun0_C.sl.r_74 (F := Ideal) c i arg2 harg2 arg3 harg3 x0 x1) (kernelRun0_C.sl.r_75 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_76 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_77 (F := Ideal) c i arg2 harg2 arg3 harg3 arg4 harg4 arg5 harg5 arg6 harg6 arg7 harg7 arg8 harg8 arg9 harg9 arg10 harg10 arg11 harg11 x0 x1 x2 x3 x4 xs0 xs1)
    rfl rfl rfl rfl rfl rfl rfl rfl rfl rfl rfl rfl rfl rfl rfl rfl rfl rfl rfl rfl rfl s3 hs3
  have R10_3 : arg10.view.read (Elt Ideal) (arg10.view.writes (Elt Ideal) (harg10.unread xs0) (kernelRun0_C.sl.HS0_3 (F := Ideal) c i arg2 harg2 arg3 harg3 arg4 harg4 arg5 harg5 arg6 harg6 arg7 harg7 arg8 harg8 arg9 harg9 arg10 harg10 arg11 harg11 x0 x1 x2 x3 x4 xs0 xs1)) = upS s3.sk :=
    read_store' arg10.view _ _ s2.sk _ R10_2 (k0_off6 i 2#32) _ (off6_eq i 2 (by norm_num)) _ _ _ hk_3 k3
  have R11_3 : arg11.view.read (Elt Ideal) (arg11.view.writes (Elt Ideal) (harg11.unread xs1) (kernelRun0_C.sl.HS1_3 (F := Ideal) c i arg2 harg2 arg3 harg3 arg4 harg4 arg5 harg5 arg6 harg6 arg7 harg7 arg8 harg8 arg9 harg9 arg10 harg10 arg11 harg11 x0 x1 x2 x3 x4 xs0 xs1)) = upS s3.sv :=
    read_store' arg11.view _ _ s2.sv _ R11_2 (k0_off6 i 2#32) _ (off6_eq i 2 (by norm_num)) _ _ _ hv_3 v3
  obtain ⟨ho, hk_4, hv_4⟩ := tile3 b s3 (i 1).val hq hd1 hdt0 hdt1 (kernelRun0_C.sl.r_1 (F := Ideal) c arg2 harg2 x0) pr_1 (kernelRun0_C.sl.r_2 (F := Ideal) c arg2 harg2 x0) pr_2 (kernelRun0_C.sl.r_3 (F := Ideal) c arg2 harg2 x0) pr_3 (kernelRun0_C.sl.r_4 (F := Ideal) c arg2 harg2 x0) pr_4 (kernelRun0_C.sl.r_5 (F := Ideal) c arg6 harg6 x4) pr_5 (kernelRun0_C.sl.r_6 (F := Ideal) c arg6 harg6 x4) pr_6 (kernelRun0_C.sl.r_7 (F := Ideal) c arg6 harg6 x4) pr_7 (kernelRun0_C.sl.r_8 (F := Ideal) c arg6 harg6 x4) pr_8 (kernelRun0_C.sl.r_9 (F := Ideal) c arg5 harg5 x3) pr_9 (kernelRun0_C.sl.r_10 (F := Ideal) c arg5 harg5 x3) pr_10 (kernelRun0_C.sl.r_64 (F := Ideal) c i arg2 harg2 arg3 harg3 arg4 harg4 arg5 harg5 arg6 harg6 arg7 harg7 arg8 harg8 arg9 harg9 arg10 harg10 arg11 harg11 x0 x1 x2 x3 x4 xs0 xs1) e0_3 (kernelRun0_C.sl.r_76 (F := Ideal) c i arg2 harg2 arg3 harg3 arg4 harg4 arg5 harg5 arg6 harg6 arg7 harg7 arg8 harg8 arg9 harg9 arg10 harg10 arg11 harg11 x0 x1 x2 x3 x4 xs0 xs1) e1_3 (kernelRun0_C.sl.r_77 (F := Ideal) c i arg2 harg2 arg3 harg3 arg4 harg4 arg5 harg5 arg6 harg6 arg7 harg7 arg8 harg8 arg9 harg9 arg10 harg10 arg11 harg11 x0 x1 x2 x3 x4 xs0 xs1) dq_3 _ (readAt_up arg3.view (harg3.unread x1) b.K hK (k0_off5 i 3#32) (256 * (4 * (i 1).val + 3)) 0 (off5_eq i 3 (by norm_num)) _) _ (readAt_up arg4.view (harg4.unread x2) b.V hV (k0_off5 i 3#32) (256 * (4 * (i 1).val + 3)) 0 (off5_eq i 3 (by norm_num)) _) _ (readAt_upS arg10.view _ s3.sk R10_3 (k0_off6 i 3#32) _ (off6_eq i 3 (by norm_num)) _) _ (readAt_upS arg11.view _ s3.sv R11_3 (k0_off6 i 3#32) _ (off6_eq i 3 (by norm_num)) _)
    (kernelRun0_C.sl.r_78 (F := Ideal) i arg3 harg3 x1) (kernelRun0_C.sl.r_79 (F := Ideal) i arg3 harg3 x1) (kernelRun0_C.sl.r_80 (F := Ideal) i arg3 harg3 x1) (kernelRun0_C.sl.r_81 (F := Ideal) i arg4 harg4 x2) (kernelRun0_C.sl.r_82 i) (kernelRun0_C.sl.r_83 (F := Ideal) c i arg5 harg5 x3) (kernelRun0_C.sl.r_84 (F := Ideal) c i arg2 harg2 arg3 harg3 x0 x1) (kernelRun0_C.sl.r_85 (F := Ideal) c i arg2 harg2 arg3 harg3 x0 x1) (kernelRun0_C.sl.r_86 (F := Ideal) c i arg2 harg2 arg3 harg3 x0 x1) (kernelRun0_C.sl.r_87 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_88 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_89 (F := Ideal) c i arg2 harg2 arg3 harg3 arg5 harg5 arg6 harg6 x0 x1 x3 x4) (kernelRun0_C.sl.r_90 (F := Ideal) c i arg5 harg5 x3) (kernelRun0_C.sl.r_91 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_92 (F := Ideal) c i arg2 harg2 arg3 harg3 arg4 harg4 arg5 harg5 arg6 harg6 arg7 harg7 arg8 harg8 arg9 harg9 arg10 harg10 arg11 harg11 x0 x1 x2 x3 x4 xs0 xs1) (kernelRun0_C.sl.r_93 (F := Ideal) c i arg2 harg2 arg3 harg3 arg5 harg5 arg6 harg6 x0 x1 x3 x4)
    rfl rfl rfl rfl rfl rfl rfl rfl rfl rfl rfl rfl rfl rfl rfl rfl s' hs4
  have R10_4 : arg10.view.read (Elt Ideal) (arg10.view.writes (Elt Ideal) (harg10.unread xs0) (kernelRun0_C.sl.HS0_4 (F := Ideal) c i arg2 harg2 arg3 harg3 arg4 harg4 arg5 harg5 arg6 harg6 arg7 harg7 arg8 harg8 arg9 harg9 arg10 harg10 arg11 harg11 x0 x1 x2 x3 x4 xs0 xs1)) = upS s'.sk :=
    read_store' arg10.view _ _ s3.sk _ R10_3 (k0_off6 i 3#32) _ (off6_eq i 3 (by norm_num)) _ _ _ hk_4 k4
  have R11_4 : arg11.view.read (Elt Ideal) (arg11.view.writes (Elt Ideal) (harg11.unread xs1) (kernelRun0_C.sl.HS1_4 (F := Ideal) c i arg2 harg2 arg3 harg3 arg4 harg4 arg5 harg5 arg6 harg6 arg7 harg7 arg8 harg8 arg9 harg9 arg10 harg10 arg11 harg11 x0 x1 x2 x3 x4 xs0 xs1)) = upS s'.sv :=
    read_store' arg11.view _ _ s3.sv _ R11_3 (k0_off6 i 3#32) _ (off6_eq i 3 (by norm_num)) _ _ _ hv_4 v4
  refine ⟨read_block _ _ _ _ _ ho, R10_4, R11_4, ?_, ?_⟩
  · exact Rows.all _ _ _ _ (Rows.cons _ _ _ 3840 _ (Rows.cons _ _ _ 3584 _ (Rows.cons _ _ _ 3328 _ (Rows.cons _ _ _ 3072 _ (Rows.cons _ _ _ 2816 _ (Rows.cons _ _ _ 2560 _ (Rows.cons _ _ _ 2304 _ (Rows.cons _ _ _ 2048 _ (Rows.cons _ _ _ 1792 _ (Rows.cons _ _ _ 1536 _ (Rows.cons _ _ _ 1280 _ (Rows.cons _ _ _ 1024 _ (Rows.cons _ _ _ 768 _ (Rows.cons _ _ _ 512 _ (Rows.cons _ _ _ 256 _ (Rows.cons _ _ _ 0 _ (fun y hy => absurd hy (Nat.not_lt_zero _))
      _ _ _ ((congrArg (k0_pay113 (F := Ideal)) (readAt_upS arg10.view _ s'.sk R10_4 ![0, 0, 0] 0 rfl _)).trans (tr_k0_pay113 _)) (stackT_row s'.sk 0))
      _ _ _ ((congrArg (k0_pay115 (F := Ideal)) (readAt_upS arg10.view _ s'.sk R10_4 ![1, 0, 0] 1 rfl _)).trans (tr_k0_pay115 _)) (stackT_row s'.sk 1))
      _ _ _ ((congrArg (k0_pay117 (F := Ideal)) (readAt_upS arg10.view _ s'.sk R10_4 ![2, 0, 0] 2 rfl _)).trans (tr_k0_pay117 _)) (stackT_row s'.sk 2))
      _ _ _ ((congrArg (k0_pay120 (F := Ideal)) (readAt_upS arg10.view _ s'.sk R10_4 ![3, 0, 0] 3 rfl _)).trans (tr_k0_pay120 _)) (stackT_row s'.sk 3))
      _ _ _ ((congrArg (k0_pay122 (F := Ideal)) (readAt_upS arg10.view _ s'.sk R10_4 ![4, 0, 0] 4 rfl _)).trans (tr_k0_pay122 _)) (stackT_row s'.sk 4))
      _ _ _ ((congrArg (k0_pay124 (F := Ideal)) (readAt_upS arg10.view _ s'.sk R10_4 ![5, 0, 0] 5 rfl _)).trans (tr_k0_pay124 _)) (stackT_row s'.sk 5))
      _ _ _ ((congrArg (k0_pay126 (F := Ideal)) (readAt_upS arg10.view _ s'.sk R10_4 ![6, 0, 0] 6 rfl _)).trans (tr_k0_pay126 _)) (stackT_row s'.sk 6))
      _ _ _ ((congrArg (k0_pay128 (F := Ideal)) (readAt_upS arg10.view _ s'.sk R10_4 ![7, 0, 0] 7 rfl _)).trans (tr_k0_pay128 _)) (stackT_row s'.sk 7))
      _ _ _ ((congrArg (k0_pay130 (F := Ideal)) (readAt_upS arg10.view _ s'.sk R10_4 ![8, 0, 0] 8 rfl _)).trans (tr_k0_pay130 _)) (stackT_row s'.sk 8))
      _ _ _ ((congrArg (k0_pay132 (F := Ideal)) (readAt_upS arg10.view _ s'.sk R10_4 ![9, 0, 0] 9 rfl _)).trans (tr_k0_pay132 _)) (stackT_row s'.sk 9))
      _ _ _ ((congrArg (k0_pay134 (F := Ideal)) (readAt_upS arg10.view _ s'.sk R10_4 ![10, 0, 0] 10 rfl _)).trans (tr_k0_pay134 _)) (stackT_row s'.sk 10))
      _ _ _ ((congrArg (k0_pay136 (F := Ideal)) (readAt_upS arg10.view _ s'.sk R10_4 ![11, 0, 0] 11 rfl _)).trans (tr_k0_pay136 _)) (stackT_row s'.sk 11))
      _ _ _ ((congrArg (k0_pay138 (F := Ideal)) (readAt_upS arg10.view _ s'.sk R10_4 ![12, 0, 0] 12 rfl _)).trans (tr_k0_pay138 _)) (stackT_row s'.sk 12))
      _ _ _ ((congrArg (k0_pay140 (F := Ideal)) (readAt_upS arg10.view _ s'.sk R10_4 ![13, 0, 0] 13 rfl _)).trans (tr_k0_pay140 _)) (stackT_row s'.sk 13))
      _ _ _ ((congrArg (k0_pay314 (F := Ideal)) (readAt_upS arg10.view _ s'.sk R10_4 ![14, 0, 0] 14 rfl _)).trans (tr_k0_pay314 _)) (stackT_row s'.sk 14))
      _ _ _ ((congrArg (k0_pay316 (F := Ideal)) (readAt_upS arg10.view _ s'.sk R10_4 ![15, 0, 0] 15 rfl _)).trans (tr_k0_pay316 _)) (stackT_row s'.sk 15))
  · exact Rows.all _ _ _ _ (Rows.cons _ _ _ 3840 _ (Rows.cons _ _ _ 3584 _ (Rows.cons _ _ _ 3328 _ (Rows.cons _ _ _ 3072 _ (Rows.cons _ _ _ 2816 _ (Rows.cons _ _ _ 2560 _ (Rows.cons _ _ _ 2304 _ (Rows.cons _ _ _ 2048 _ (Rows.cons _ _ _ 1792 _ (Rows.cons _ _ _ 1536 _ (Rows.cons _ _ _ 1280 _ (Rows.cons _ _ _ 1024 _ (Rows.cons _ _ _ 768 _ (Rows.cons _ _ _ 512 _ (Rows.cons _ _ _ 256 _ (Rows.cons _ _ _ 0 _ (fun y hy => absurd hy (Nat.not_lt_zero _))
      _ _ _ ((congrArg (k0_pay114 (F := Ideal)) (readAt_upS arg11.view _ s'.sv R11_4 ![0, 0, 0] 0 rfl _)).trans (tr_k0_pay114 _)) (stackT_row s'.sv 0))
      _ _ _ ((congrArg (k0_pay116 (F := Ideal)) (readAt_upS arg11.view _ s'.sv R11_4 ![1, 0, 0] 1 rfl _)).trans (tr_k0_pay116 _)) (stackT_row s'.sv 1))
      _ _ _ ((congrArg (fun z => k0_pay119 (F := Ideal) (k0_pay118 (F := Ideal) z)) (readAt_upS arg11.view _ s'.sv R11_4 ![2, 0, 0] 2 rfl _)).trans (tr_k0_pay119 _)) (stackT_row s'.sv 2))
      _ _ _ ((congrArg (k0_pay121 (F := Ideal)) (readAt_upS arg11.view _ s'.sv R11_4 ![3, 0, 0] 3 rfl _)).trans (tr_k0_pay121 _)) (stackT_row s'.sv 3))
      _ _ _ ((congrArg (k0_pay123 (F := Ideal)) (readAt_upS arg11.view _ s'.sv R11_4 ![4, 0, 0] 4 rfl _)).trans (tr_k0_pay123 _)) (stackT_row s'.sv 4))
      _ _ _ ((congrArg (k0_pay125 (F := Ideal)) (readAt_upS arg11.view _ s'.sv R11_4 ![5, 0, 0] 5 rfl _)).trans (tr_k0_pay125 _)) (stackT_row s'.sv 5))
      _ _ _ ((congrArg (k0_pay127 (F := Ideal)) (readAt_upS arg11.view _ s'.sv R11_4 ![6, 0, 0] 6 rfl _)).trans (tr_k0_pay127 _)) (stackT_row s'.sv 6))
      _ _ _ ((congrArg (k0_pay129 (F := Ideal)) (readAt_upS arg11.view _ s'.sv R11_4 ![7, 0, 0] 7 rfl _)).trans (tr_k0_pay129 _)) (stackT_row s'.sv 7))
      _ _ _ ((congrArg (k0_pay131 (F := Ideal)) (readAt_upS arg11.view _ s'.sv R11_4 ![8, 0, 0] 8 rfl _)).trans (tr_k0_pay131 _)) (stackT_row s'.sv 8))
      _ _ _ ((congrArg (k0_pay133 (F := Ideal)) (readAt_upS arg11.view _ s'.sv R11_4 ![9, 0, 0] 9 rfl _)).trans (tr_k0_pay133 _)) (stackT_row s'.sv 9))
      _ _ _ ((congrArg (k0_pay135 (F := Ideal)) (readAt_upS arg11.view _ s'.sv R11_4 ![10, 0, 0] 10 rfl _)).trans (tr_k0_pay135 _)) (stackT_row s'.sv 10))
      _ _ _ ((congrArg (k0_pay137 (F := Ideal)) (readAt_upS arg11.view _ s'.sv R11_4 ![11, 0, 0] 11 rfl _)).trans (tr_k0_pay137 _)) (stackT_row s'.sv 11))
      _ _ _ ((congrArg (k0_pay139 (F := Ideal)) (readAt_upS arg11.view _ s'.sv R11_4 ![12, 0, 0] 12 rfl _)).trans (tr_k0_pay139 _)) (stackT_row s'.sv 12))
      _ _ _ ((congrArg (k0_pay313 (F := Ideal)) (readAt_upS arg11.view _ s'.sv R11_4 ![13, 0, 0] 13 rfl _)).trans (tr_k0_pay313 _)) (stackT_row s'.sv 13))
      _ _ _ ((congrArg (k0_pay315 (F := Ideal)) (readAt_upS arg11.view _ s'.sv R11_4 ![14, 0, 0] 14 rfl _)).trans (tr_k0_pay315 _)) (stackT_row s'.sv 14))
      _ _ _ ((congrArg (k0_pay317 (F := Ideal)) (readAt_upS arg11.view _ s'.sv R11_4 ![15, 0, 0] 15 rfl _)).trans (tr_k0_pay317 _)) (stackT_row s'.sv 15))

end Cert.KernelIdeal.Gen
end
-- ==== Proof.LeftC.lean ====
/-
  What the last points of a sweep leave.
-/
module

public import proofs.«01_k».proof.Proof.Left
public import proofs.«01_k».proof.Proof.CaseC

@[expose] public section

set_option maxRecDepth 16384

noncomputable section

open scoped BigOperators Classical
open Idealize.ShloMosaic Idealize.ShloMosaic.ValueIdx Idealize.ShloMosaic.TcCoe Idealize.SL Idealize.SL.Sem
open Cert.Arr Cert.Sem Cert.KernelIdeal Cert.KernelIdeal.Gen Cert.KernelIdeal.Value

namespace Cert.Grid

variable (m : (ℓ : Loc nD τ sig) → Buf (Elt Ideal) ℓ) (c : Dev nD) (P D : RMat) (C : ℕ → ℕ → RMat)

variable (A : FVec Ideal S4x2x4096x128 .f32)
  (hP : ∀ i : S4096x4096.Idx, (m ((c : Thread nD τ).loc main_arg0) : FVec Ideal S4096x4096 .f32) i = ((P (i 0).val (i 1).val : ℝ) : EReal))
  (hD : ∀ i : S4096x512.Idx, (m ((c : Thread nD τ).loc main_arg1) : FVec Ideal S4096x512 .bf16) i = ((D (i 0).val (i 1).val : ℝ) : EReal))
  (hC : V m c (Pipeline.arrRef spec0 3) = A) (hA : ∀ i : S4x2x4096x128.Idx, A i = ((C (i 0).val (i 1).val (i 2).val (i 3).val : ℝ) : EReal))
  (hcar : Carries P D C)
include hP hD hC hA hcar

set_option maxHeartbeats 4000000 in
theorem left_C (t : Fin cfg0.N) (h0 : ¬t.val % 4 = 0) (h1 : t.val % 4 = 3) (hp : Left P D (t.val - 1) (outsAt0 m c (t.val - 1) (Nat.lt_of_le_of_lt (Nat.sub_le _ _) t.isLt))) : Left P D t.val (outsAt0 m c t.val t.isLt) := by
  have hN : t.val < 16 := lt_of_lt_of_eq t.isLt (show cfg0.N = 16 from N_0)
  have e1 : (t.val - 1) / 4 = t.val / 4 := by omega
  have e2 : (t.val - 1) % 4 + 1 = t.val % 4 := by omega
  have hsk := hp.sk
  have hsv := hp.sv
  rw [e1, e2] at hsk hsv
  obtain ⟨s', hs'⟩ : ∃ s', s' = (Blk.of (fun r l => (pairOf P D (t.val / 4)).Q (1024 * (t.val % 4) + r) l) (fun r l => (pairOf P D (t.val / 4)).D (1024 * (t.val % 4) + r) l) (C (t.val / 4) 0 ∘ (1024 * (t.val % 4) + ·)) (C (t.val / 4) 1 ∘ (1024 * (t.val % 4) + ·)) (pairOf P D (t.val / 4)).K (pairOf P D (t.val / 4)).V).point (t.val % 4) ⟨constM 0, constM 0, constM 0, (fun i l x => (pairOf P D (t.val / 4)).gK (1024 * (t.val % 4)) l (256 * i + x)), (fun i l x => (pairOf P D (t.val / 4)).gV (1024 * (t.val % 4)) l (256 * i + x))⟩ := ⟨_, rfl⟩
  obtain ⟨q1, q2, q3⟩ := Pair.point_sem (point_pt P D C hcar t) (by omega) (fun i l x => (pairOf P D (t.val / 4)).gK (1024 * (t.val % 4)) l (256 * i + x)) (fun i l x => (pairOf P D (t.val / 4)).gV (1024 * (t.val % 4)) l (256 * i + x)) (fun i hi l x hx => rfl) (fun i hi l x hx => rfl) s' hs'
  obtain ⟨r5, r0, r1, r6, r7⟩ := case_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1)
    (iblk m c 0 t) (iblk m c 1 t) (iblk m c 2 t) (iblk m c 3 t) (iblk m c 4 t) _ _
    (fun r l => (pairOf P D (t.val / 4)).Q (1024 * (t.val % 4) + r) l) (fun r l => (pairOf P D (t.val / 4)).D (1024 * (t.val % 4) + r) l) (pairOf P D (t.val / 4)).K (pairOf P D (t.val / 4)).V
    (fun h r j => C (t.val / 4) h (1024 * (t.val % 4) + r) j) _ _
    (blk0 m c P D hP t) (blk1 m c P D hP t) (blk2 m c P D hP t) (blk3 m c C A hC hA t) (blk4 m c P D hD t) hsk hsv s' (by rw [coords_val]; exact hs')
  rw [outsAt0_C m c t h0 h1]
  refine ⟨r5.trans (up_congr _ _ fun r hr l _ => ?_), r0.trans (upS_congr _ _ q2), r1.trans (upS_congr _ _ q3), fun h => ?_, fun h => ?_⟩
  · show s'.dq r l * (1 / 8) = _
    rw [q1 r hr l]
  · exact r6.trans (stack_all _ _ fun i hi l x hx => by rw [q2 i hi l x hx, h])
  · exact r7.trans (stack_all _ _ fun i hi l x hx => by rw [q3 i hi l x hx, h])

end Cert.Grid
end
-- ==== Proof.Grid.lean ====
/-
  The grid: what each point leaves, by induction over the points, and the three arrays written back.
-/
module

public import proofs.«01_k».proof.Proof.LeftA
public import proofs.«01_k».proof.Proof.LeftB
public import proofs.«01_k».proof.Proof.LeftC

@[expose] public section

set_option maxRecDepth 16384

noncomputable section

open scoped BigOperators Classical
open Idealize.ShloMosaic Idealize.ShloMosaic.ValueIdx Idealize.ShloMosaic.TcCoe Idealize.SL Idealize.SL.Sem
open Cert.Arr Cert.Sem Cert.KernelIdeal Cert.KernelIdeal.Gen Cert.KernelIdeal.Value

namespace Cert.Grid

variable (m : (ℓ : Loc nD τ sig) → Buf (Elt Ideal) ℓ) (c : Dev nD) (P D : RMat) (C : ℕ → ℕ → RMat)

variable (A : FVec Ideal S4x2x4096x128 .f32)
  (hP : ∀ i : S4096x4096.Idx, (m ((c : Thread nD τ).loc main_arg0) : FVec Ideal S4096x4096 .f32) i = ((P (i 0).val (i 1).val : ℝ) : EReal))
  (hD : ∀ i : S4096x512.Idx, (m ((c : Thread nD τ).loc main_arg1) : FVec Ideal S4096x512 .bf16) i = ((D (i 0).val (i 1).val : ℝ) : EReal))
  (hC : V m c (Pipeline.arrRef spec0 3) = A) (hA : ∀ i : S4x2x4096x128.Idx, A i = ((C (i 0).val (i 1).val (i 2).val (i 3).val : ℝ) : EReal))
  (hcar : Carries P D C)
include hP hD hC hA hcar

theorem left_at (n : ℕ) (hn : n < cfg0.N) (hp : ∀ k (hk : k < cfg0.N), k + 1 = n → Left P D k (outsAt0 m c k hk)) : Left P D n (outsAt0 m c n hn) := by
  by_cases h0 : n % 4 = 0
  · exact left_A m c P D C A hP hD hC hA hcar ⟨n, hn⟩ h0 (by show ¬n % 4 = 3; omega)
  · have h := hp (n - 1) (by omega) (by omega)
    by_cases h1 : n % 4 = 3
    · exact left_C m c P D C A hP hD hC hA hcar ⟨n, hn⟩ h0 h1 h
    · exact left_B m c P D C A hP hD hC hA hcar ⟨n, hn⟩ h0 h1 h

/-- Every point leaves what it should. -/
theorem left_all (n : ℕ) : ∀ hn : n < cfg0.N, Left P D n (outsAt0 m c n hn) := by
  induction n with
  | zero => intro hn; exact left_at m c P D C A hP hD hC hA hcar 0 hn (fun k _ h => absurd h (Nat.succ_ne_zero k))
  | succ n ih => intro hn; exact left_at m c P D C A hP hD hC hA hcar (n + 1) hn (fun k hk h => by obtain rfl := Nat.succ.inj h; exact ih hk)

/-- The array window 5 writes back. -/
theorem arr5 : @Eq (FVec Ideal S4096x512 .bf16) ((dats m 0 c).arrAt 5 cfg0.N) (fun i : S4096x512.Idx => (((pairOf P D ((i 1).val / 128)).gQ 4096 (i 0).val ((i 1).val % 128) * (1 / 8) : ℝ) : EReal)) := by
  rw [final5]
  funext i
  have hi0 : (i 0).val < 4096 := (i 0).isLt
  have hi1 : (i 1).val < 512 := (i 1).isLt
  have hN : cfg0.N = 16 := N_0
  have hp : pt5Of i < cfg0.N := by show 1 * ((i 0).val / 1024 - 0) + 4 * ((i 1).val / 128 - 0) < cfg0.N; omega
  unfold G5
  rw [dif_pos hp]
  have e := outsAt0_sweep m c (pt5Of i) hp
  have L := (left_all m c P D C A hP hD hC hA hcar (pt5Of i) hp).dq
  rw [e] at L
  refine (congrFun L (loc5Of i)).trans ?_
  have a1 : (pt5Of i) / 4 = (i 1).val / 128 := by show (1 * ((i 0).val / 1024 - 0) + 4 * ((i 1).val / 128 - 0)) / 4 = _; omega
  have a2 : 1024 * ((pt5Of i) % 4) + (i 0).val % 1024 = (i 0).val := by show 1024 * ((1 * ((i 0).val / 1024 - 0) + 4 * ((i 1).val / 128 - 0)) % 4) + _ = _; omega
  show (((pairOf P D ((pt5Of i) / 4)).gQ 4096 (1024 * ((pt5Of i) % 4) + (i 0).val % 1024) ((i 1).val % 128) * (1 / 8) : ℝ) : EReal) = _
  rw [a1, a2]

/-- The array window 6 writes back. -/
theorem arr6 : @Eq (FVec Ideal S4096x512 .bf16) ((dats m 0 c).arrAt 6 cfg0.N) (fun i : S4096x512.Idx => (((pairOf P D ((i 1).val / 128)).gK 4096 ((i 1).val % 128) (i 0).val : ℝ) : EReal)) := by
  rw [final6]
  funext i
  have hi0 : (i 0).val < 4096 := (i 0).isLt
  have hi1 : (i 1).val < 512 := (i 1).isLt
  have hN : cfg0.N = 16 := N_0
  have hp : pt6Of i < cfg0.N := by show 4 * (4 * ((i 0).val / 4096 - 0) + 1 * ((i 1).val / 128 - 0)) + 3 < cfg0.N; omega
  unfold G6
  rw [dif_pos hp]
  have e := outsAt0_sweep m c (pt6Of i) hp
  have L := (left_all m c P D C A hP hD hC hA hcar (pt6Of i) hp).dk (by show (4 * (4 * ((i 0).val / 4096 - 0) + 1 * ((i 1).val / 128 - 0)) + 3) % 4 = 3; omega)
  rw [e] at L
  refine (congrFun L (loc6Of i)).trans ?_
  have a1 : (pt6Of i) / 4 = (i 1).val / 128 := by show (4 * (4 * ((i 0).val / 4096 - 0) + 1 * ((i 1).val / 128 - 0)) + 3) / 4 = _; omega
  show (((pairOf P D ((pt6Of i) / 4)).gK 4096 ((i 1).val % 128) ((i 0).val % 4096) : ℝ) : EReal) = _
  rw [a1, Nat.mod_eq_of_lt hi0]

/-- The array window 7 writes back. -/
theorem arr7 : @Eq (FVec Ideal S4096x512 .bf16) ((dats m 0 c).arrAt 7 cfg0.N) (fun i : S4096x512.Idx => (((pairOf P D ((i 1).val / 128)).gV 4096 ((i 1).val % 128) (i 0).val : ℝ) : EReal)) := by
  rw [final7]
  funext i
  have hi0 : (i 0).val < 4096 := (i 0).isLt
  have hi1 : (i 1).val < 512 := (i 1).isLt
  have hN : cfg0.N = 16 := N_0
  have hp : pt7Of i < cfg0.N := by show 4 * (4 * ((i 0).val / 4096 - 0) + 1 * ((i 1).val / 128 - 0)) + 3 < cfg0.N; omega
  unfold G7
  rw [dif_pos hp]
  have e := outsAt0_sweep m c (pt7Of i) hp
  have L := (left_all m c P D C A hP hD hC hA hcar (pt7Of i) hp).dv (by show (4 * (4 * ((i 0).val / 4096 - 0) + 1 * ((i 1).val / 128 - 0)) + 3) % 4 = 3; omega)
  rw [e] at L
  refine (congrFun L (loc7Of i)).trans ?_
  have a1 : (pt7Of i) / 4 = (i 1).val / 128 := by show (4 * (4 * ((i 0).val / 4096 - 0) + 1 * ((i 1).val / 128 - 0)) + 3) / 4 = _; omega
  show (((pairOf P D ((pt7Of i) / 4)).gV 4096 ((i 1).val % 128) ((i 0).val % 4096) : ℝ) : EReal) = _
  rw [a1, Nat.mod_eq_of_lt hi0]

end Cert.Grid
end
-- ==== Proof.Cum.lean ====
/-
  A sum over the windows along the last axis of a batch of matrices of finite numbers: the suffix sums, where the window
  is padded after the rows, and the prefix sums, where it is padded before them.
-/
module

public import proofs.«01_k».proof.Proof.Arr

@[expose] public section

set_option maxRecDepth 16384

noncomputable section

open scoped BigOperators Classical
open Idealize.ShloMosaic

namespace Cert.Cum

theorem foldl_add {α : Type} (f : α → EReal) (l : List α) (a : EReal) : l.foldl (fun r n => r + f n) a = a + (l.map f).sum := by
  induction l generalizing a with
  | nil => simp
  | cons x l ih => rw [List.foldl_cons, ih, List.map_cons, List.sum_cons, add_assoc]

/-- The window's positions, by the last coordinate. -/
theorem window_sum (G : ℕ → EReal) : ∑ k : (⟨3, ![1, 1, 4096]⟩ : Shape).Idx, G (k 2).val = ∑ x ∈ Finset.range 4096, G x := by
  refine Finset.sum_nbij (fun k => (k 2).val) (fun k _ => Finset.mem_range.2 (k 2).isLt) ?_ ?_ (fun _ _ => rfl)
  · intro a _ b _ h
    funext x
    match x with
    | ⟨0, _⟩ => exact Fin.ext (by have h1 : (a 0).val < 1 := (a 0).isLt; have h2 : (b 0).val < 1 := (b 0).isLt; show (a 0).val = (b 0).val; omega)
    | ⟨1, _⟩ => exact Fin.ext (by have h1 : (a 1).val < 1 := (a 1).isLt; have h2 : (b 1).val < 1 := (b 1).isLt; show (a 1).val = (b 1).val; omega)
    | ⟨2, _⟩ => exact Fin.ext h
  · intro x hx
    refine ⟨fun a => match a with | ⟨0, _⟩ => ⟨0, by norm_num⟩ | ⟨1, _⟩ => ⟨0, by norm_num⟩ | ⟨2, _⟩ => ⟨x, Finset.mem_range.1 hx⟩, Finset.mem_coe.2 (Finset.mem_univ _), rfl⟩

theorem coe_sum (n : ℕ) (f : ℕ → ℝ) : ∑ x ∈ Finset.range n, ((f x : ℝ) : EReal) = ((∑ x ∈ Finset.range n, f x : ℝ) : EReal) :=
  (map_sum (⟨⟨Real.toEReal, EReal.coe_zero⟩, EReal.coe_add⟩ : ℝ →+ EReal) _ _).symm

abbrev S3 : Shape := ⟨3, ![8, 4096, 4096]⟩

variable (x : FVec Ideal S3 .f32) (X : ℕ → ℕ → ℕ → ℝ) (hx : ∀ i : S3.Idx, x i = ((X (i 0).val (i 1).val (i 2).val : ℝ) : EReal))
include hx

omit hx in
/-- A windowed sum's entry is the sum over the window's positions. -/
theorem reduce_sum {s t u : Shape} (window strides lo hi : Fin s.rank → Nat) (x : FVec Ideal s .f32) (init : u.Idx → Ideal .f32)
    (h : s.ReduceWindows window strides lo hi t) (hu : 0 < u.numel) (hi0 : ∀ i, init i = (0 : EReal)) (j : t.Idx) :
    (Host.reduceWindowAdd (F := Ideal) (φ := .f32) window strides lo hi x init h hu j : EReal)
      = ∑ k : (⟨s.rank, window⟩ : Shape).Idx,
        (if hin : ∀ a, lo a ≤ (j (a.cast h.1.symm)).val * strides a + (k a).val ∧ (j (a.cast h.1.symm)).val * strides a + (k a).val - lo a < s.size a
          then (x (fun a => ⟨(j (a.cast h.1.symm)).val * strides a + (k a).val - lo a, (hin a).2⟩) : EReal) else 0) := by
  unfold Host.reduceWindowAdd
  rw [hi0]
  show Ideal.hostReduceWindowAdd window strides lo hi h x 0 j = _
  unfold Ideal.hostReduceWindowAdd Host.reduceWindow
  dsimp only
  rw [foldl_add (fun n => _), zero_add, ← Fin.sum_univ_def]
  refine Eq.trans ?_ (Equiv.sum_comp (⟨s.rank, window⟩ : Shape).rowMajor.symm (fun k : (⟨s.rank, window⟩ : Shape).Idx => (if hin : ∀ a, lo a ≤ (j (a.cast h.1.symm)).val * strides a + (k a).val ∧ (j (a.cast h.1.symm)).val * strides a + (k a).val - lo a < s.size a
          then (x (fun a => ⟨(j (a.cast h.1.symm)).val * strides a + (k a).val - lo a, (hin a).2⟩) : EReal) else 0)))
  refine Finset.sum_congr rfl fun i _ => ?_
  split_ifs <;> rfl

/-- Every entry's window sum, as a sum over the window's positions. -/
theorem window (lo hi : Fin 3 → ℕ) (init : (⟨0, ![]⟩ : Shape).Idx → Ideal .f32) (h : S3.ReduceWindows ![1, 1, 4096] ![1, 1, 1] lo hi S3) (hu : 0 < (⟨0, ![]⟩ : Shape).numel)
    (hi0 : ∀ i, init i = (0 : EReal)) (l : ℕ) (h0 : lo 0 = 0) (h1 : lo 1 = 0) (h2 : lo 2 = l) (j : S3.Idx) :
    (Host.reduceWindowAdd (F := Ideal) (φ := .f32) ![1, 1, 4096] ![1, 1, 1] lo hi x init h hu j : EReal)
      = ((∑ n ∈ Finset.range 4096, (if l ≤ (j 2).val + n ∧ (j 2).val + n - l < 4096 then X (j 0).val (j 1).val ((j 2).val + n - l) else 0) : ℝ) : EReal) := by
  refine (reduce_sum _ _ _ _ x init h hu hi0 j).trans ?_
  rw [← coe_sum, ← window_sum (fun n => (((if l ≤ (j 2).val + n ∧ (j 2).val + n - l < 4096 then X (j 0).val (j 1).val ((j 2).val + n - l) else 0 : ℝ)) : EReal))]
  refine Finset.sum_congr rfl fun k _ => ?_
  have j0 : (j 0).val < 8 := (j 0).isLt
  have j1 : (j 1).val < 4096 := (j 1).isLt
  have k0 : (k 0).val < 1 := (k 0).isLt
  have k1 : (k 1).val < 1 := (k 1).isLt
  by_cases hc : l ≤ (j 2).val + (k 2).val ∧ (j 2).val + (k 2).val - l < 4096
  · have hin : ∀ a : Fin 3, lo a ≤ (j a).val * (![1, 1, 1] : Fin 3 → ℕ) a + (k a).val ∧ (j a).val * (![1, 1, 1] : Fin 3 → ℕ) a + (k a).val - lo a < S3.size a := by
      intro a
      match a with
      | ⟨0, _⟩ => show lo 0 ≤ (j 0).val * 1 + (k 0).val ∧ (j 0).val * 1 + (k 0).val - lo 0 < 8; omega
      | ⟨1, _⟩ => show lo 1 ≤ (j 1).val * 1 + (k 1).val ∧ (j 1).val * 1 + (k 1).val - lo 1 < 4096; omega
      | ⟨2, _⟩ => show lo 2 ≤ (j 2).val * 1 + (k 2).val ∧ (j 2).val * 1 + (k 2).val - lo 2 < 4096; omega
    refine (dif_pos hin).trans ?_
    rw [if_pos hc]
    refine (hx _).trans ?_
    show ((X ((j 0).val * 1 + (k 0).val - lo 0) ((j 1).val * 1 + (k 1).val - lo 1) ((j 2).val * 1 + (k 2).val - lo 2) : ℝ) : EReal) = _
    rw [h0, h1, h2, show (j 0).val * 1 + (k 0).val - 0 = (j 0).val by omega, show (j 1).val * 1 + (k 1).val - 0 = (j 1).val by omega, Nat.mul_one]
  · refine (dif_neg ?_).trans (by rw [if_neg hc]; rfl)
    intro hin
    have := hin 2
    apply hc
    have e : lo 2 ≤ (j 2).val * 1 + (k 2).val ∧ (j 2).val * 1 + (k 2).val - lo 2 < 4096 := this
    omega

theorem suffix (init : (⟨0, ![]⟩ : Shape).Idx → Ideal .f32) (h : S3.ReduceWindows ![1, 1, 4096] ![1, 1, 1] ![0, 0, 0] ![0, 0, 4095] S3) (hu : 0 < (⟨0, ![]⟩ : Shape).numel)
    (hi0 : ∀ i, init i = (0 : EReal)) (j : S3.Idx) :
    (Host.reduceWindowAdd (F := Ideal) (φ := .f32) ![1, 1, 4096] ![1, 1, 1] ![0, 0, 0] ![0, 0, 4095] x init h hu j : EReal)
      = ((∑ n ∈ Finset.Ico (j 2).val 4096, X (j 0).val (j 1).val n : ℝ) : EReal) := by
  have j2 : (j 2).val < 4096 := (j 2).isLt
  rw [window x X hx _ _ init h hu hi0 0 rfl rfl rfl j]
  congr 1
  rw [Finset.sum_Ico_eq_sum_range, ← Finset.sum_filter]
  refine Finset.sum_congr ?_ (fun _ _ => rfl)
  ext k; simp only [Finset.mem_filter, Finset.mem_range]; omega

theorem prefix_ (init : (⟨0, ![]⟩ : Shape).Idx → Ideal .f32) (h : S3.ReduceWindows ![1, 1, 4096] ![1, 1, 1] ![0, 0, 4095] ![0, 0, 0] S3) (hu : 0 < (⟨0, ![]⟩ : Shape).numel)
    (hi0 : ∀ i, init i = (0 : EReal)) (j : S3.Idx) :
    (Host.reduceWindowAdd (F := Ideal) (φ := .f32) ![1, 1, 4096] ![1, 1, 1] ![0, 0, 4095] ![0, 0, 0] x init h hu j : EReal)
      = ((∑ n ∈ Finset.range ((j 2).val + 1), X (j 0).val (j 1).val n : ℝ) : EReal) := by
  have j2 : (j 2).val < 4096 := (j 2).isLt
  rw [window x X hx _ _ init h hu hi0 4095 rfl rfl rfl j]
  congr 1
  rw [← Finset.sum_filter]
  refine Finset.sum_nbij' (fun n => (j 2).val + n - 4095) (fun n => n + 4095 - (j 2).val) ?_ ?_ ?_ ?_ ?_
  · intro n; simp only [Finset.mem_filter, Finset.mem_range]; omega
  · intro n; simp only [Finset.mem_filter, Finset.mem_range]; omega
  · intro n; simp only [Finset.mem_filter, Finset.mem_range]; omega
  · intro n; simp only [Finset.mem_filter, Finset.mem_range]; omega
  · intro n _; rfl

end Cert.Cum
end
-- ==== Proof.Heads.lean ====
/-
  One head at a time: the gradient of stick-breaking attention over the reals, as the rows of a head's scores give it, and
  the two heads of a pair inside the pair's 128 lanes.
-/
module

public import proofs.«01_k».proof.Proof.Coord

@[expose] public section

set_option maxRecDepth 16384

noncomputable section

open scoped BigOperators Classical
open Cert.Arr Cert.Sem Cert.Grid

namespace Cert.Heads

/-- The softplus. -/
def sp (z : ℝ) : ℝ := max z 0 + Real.log (1 + Real.exp (0 - |z|))
/-- What the stick loses, from the scores. -/
def zsp (z : RMat) : RMat := fun t s => if s < t then sp (z t s) else 0
/-- The weights, from the scores. -/
def zw (z : RMat) : RMat := fun t s => if s < t then Real.exp (z t s - ∑ x ∈ Finset.Ico s 4096, zsp z t x) else 0
/-- The weights times their gradient. -/
def ze (z g : RMat) : RMat := fun t s => zw z t s * g t s
/-- The gradient of the scores, from the scores and the weights' gradient. -/
def zdz (z g : RMat) : RMat := fun t s =>
  if s < t then ze z g t s - Real.exp (z t s - zsp z t s) * ∑ x ∈ Finset.range (s + 1), ze z g t x else 0

theorem gsp_eq (q K : RMat) : gsp q K = zsp (gz q K) := rfl
theorem gw_eq (q K : RMat) : gw q K = zw (gz q K) := rfl
theorem gdz_eq (q K d V : RMat) : gdz q K d V = zdz (gz q K) (mmNT 128 d V) := rfl

theorem sp_eq (z : ℝ) : sp z = Real.log (1 + Real.exp z) := by
  unfold sp
  rcases le_total z 0 with h | h
  · rw [max_eq_right h, abs_of_nonpos h, zero_add, zero_sub, neg_neg]
  · rw [max_eq_left h, abs_of_nonneg h, zero_sub]
    have e : 1 + Real.exp z = Real.exp z * (1 + Real.exp (-z)) := by
      rw [mul_add, mul_one, ← Real.exp_add, add_neg_cancel, Real.exp_zero, add_comm]
    rw [e, Real.log_mul (Real.exp_pos z).ne' (by positivity), Real.log_exp]

theorem exp_sub_sp (z : ℝ) : Real.exp (z - sp z) = Real.exp z / (1 + Real.exp z) := by
  rw [sp_eq, Real.exp_sub, Real.exp_log (by positivity)]

/-- The softplus of the negative. -/
theorem neg_sp_neg (z : ℝ) : -sp (-z) = z - sp z := by
  unfold sp
  rw [abs_neg]
  rcases le_total z 0 with h | h
  · rw [max_eq_right h, max_eq_left (by linarith : (0:ℝ) ≤ -z)]; ring
  · rw [max_eq_left h, max_eq_right (by linarith : -z ≤ (0:ℝ))]; ring

/-- The logistic function and its mirror image sum to one. -/
theorem sigma_neg (z : ℝ) : Real.exp (-z - sp (-z)) = 1 - Real.exp (z - sp z) := by
  rw [exp_sub_sp, exp_sub_sp, Real.exp_neg]
  have h : Real.exp z > 0 := Real.exp_pos z
  field_simp
  ring

/-- Column `d` of head `h` among the columns from `o` on. -/
def hcol (P : RMat) (o h : ℕ) : RMat := fun t d => P t (o + (64 * h + d))
/-- The scores of head `h`. -/
def hz (P : RMat) (h : ℕ) : RMat := fun t s => (∑ d ∈ Finset.range 64, hcol P 2048 h t d * hcol P 2560 h s d) * (1 / 8)
/-- The weights' gradient of head `h`. -/
def hg (P D : RMat) (h : ℕ) : RMat := fun t s => ∑ d ∈ Finset.range 64, hcol D 0 h t d * hcol P 3072 h s d

theorem low_sum (f : ℕ → ℝ) : ∑ k ∈ Finset.range 128, (if k < 64 then f k else 0) = ∑ k ∈ Finset.range 64, f k := by
  rw [← Finset.sum_filter]
  refine Finset.sum_congr ?_ (fun _ _ => rfl)
  ext k; simp only [Finset.mem_filter, Finset.mem_range]; omega
theorem high_sum (f : ℕ → ℝ) : ∑ k ∈ Finset.range 128, (if k < 64 then 0 else f k) = ∑ k ∈ Finset.range 64, f (64 + k) := by
  rw [Finset.sum_range_add (fun k => if k < 64 then 0 else f k) 64 64]
  rw [Finset.sum_eq_zero (fun k hk => if_pos (Finset.mem_range.1 hk)), zero_add]
  exact Finset.sum_congr rfl fun k _ => if_neg (by omega)

theorem low_lt (A : RMat) (r c : ℕ) (h : c < 64) : lowM A r c = A r c := if_pos h
theorem low_ge (A : RMat) (r c : ℕ) (h : ¬c < 64) : lowM A r c = 0 := if_neg h
theorem high_lt (A : RMat) (r c : ℕ) (h : c < 64) : highM A r c = 0 := if_pos h
theorem high_ge (A : RMat) (r c : ℕ) (h : ¬c < 64) : highM A r c = A r c := if_neg h

theorem mm_low (A B : RMat) : mmNT 128 (lowM A) B = fun t s => ∑ d ∈ Finset.range 64, A t d * B s d := by
  funext t s
  rw [← low_sum fun d => A t d * B s d]
  refine Finset.sum_congr rfl fun k _ => ?_
  by_cases h : k < 64
  · rw [low_lt A t k h, if_pos h]
  · rw [low_ge A t k h, if_neg h, zero_mul]
theorem mm_high (A B : RMat) : mmNT 128 (highM A) B = fun t s => ∑ d ∈ Finset.range 64, A t (64 + d) * B s (64 + d) := by
  funext t s
  rw [← high_sum fun d => A t d * B s d]
  refine Finset.sum_congr rfl fun k _ => ?_
  by_cases h : k < 64
  · rw [high_lt A t k h, if_pos h, zero_mul]
  · rw [high_ge A t k h, if_neg h]

variable (P D : RMat) (p : ℕ)

theorem gz0 : gz (pairOf P D p).q0 (pairOf P D p).K = hz P (2 * p) := by
  unfold gz Pair.q0
  rw [mm_low]
  funext t s
  unfold hz
  rw [Finset.sum_mul]
  refine Finset.sum_congr rfl fun d _ => ?_
  show P t (2048 + (128 * p + d)) * (1 / 8) * P s (2560 + (128 * p + d)) = P t (2048 + (64 * (2 * p) + d)) * P s (2560 + (64 * (2 * p) + d)) * (1 / 8)
  rw [show 64 * (2 * p) + d = 128 * p + d by ring]; ring
theorem gz1 : gz (pairOf P D p).q1 (pairOf P D p).K = hz P (2 * p + 1) := by
  unfold gz Pair.q1
  rw [mm_high]
  funext t s
  unfold hz
  rw [Finset.sum_mul]
  refine Finset.sum_congr rfl fun d _ => ?_
  show P t (2048 + (128 * p + (64 + d))) * (1 / 8) * P s (2560 + (128 * p + (64 + d))) = P t (2048 + (64 * (2 * p + 1) + d)) * P s (2560 + (64 * (2 * p + 1) + d)) * (1 / 8)
  rw [show 64 * (2 * p + 1) + d = 128 * p + (64 + d) by ring]; ring
theorem gg0 : mmNT 128 (pairOf P D p).d0 (pairOf P D p).V = hg P D (2 * p) := by
  unfold Pair.d0
  rw [mm_low]
  funext t s
  refine Finset.sum_congr rfl fun d _ => ?_
  show D t (128 * p + d) * P s (3072 + (128 * p + d)) = D t (0 + (64 * (2 * p) + d)) * P s (3072 + (64 * (2 * p) + d))
  rw [show 64 * (2 * p) + d = 128 * p + d by ring, zero_add]
theorem gg1 : mmNT 128 (pairOf P D p).d1 (pairOf P D p).V = hg P D (2 * p + 1) := by
  unfold Pair.d1
  rw [mm_high]
  funext t s
  refine Finset.sum_congr rfl fun d _ => ?_
  show D t (128 * p + (64 + d)) * P s (3072 + (128 * p + (64 + d))) = D t (0 + (64 * (2 * p + 1) + d)) * P s (3072 + (64 * (2 * p + 1) + d))
  rw [show 64 * (2 * p + 1) + d = 128 * p + (64 + d) by ring, zero_add]

/-- Column `c` of the queries' gradient. -/
def refQ (t c : ℕ) : ℝ := ∑ x ∈ Finset.range 4096, zdz (hz P (c / 64)) (hg P D (c / 64)) t x * (1 / 8) * P x (2560 + c)
/-- Column `c` of the keys' gradient. -/
def refK (x c : ℕ) : ℝ := ∑ t ∈ Finset.range 4096, zdz (hz P (c / 64)) (hg P D (c / 64)) t x * (1 / 8) * P t (2048 + c)
/-- Column `c` of the values' gradient. -/
def refV (x c : ℕ) : ℝ := ∑ t ∈ Finset.range 4096, D t c * zw (hz P (c / 64)) t x

theorem col_eq (c : ℕ) : 128 * (c / 128) + c % 128 = c := Nat.div_add_mod c 128

theorem gQ_ref (t c : ℕ) : (pairOf P D (c / 128)).gQ 4096 t (c % 128) * (1 / 8) = refQ P D t c := by
  unfold Pair.gQ refQ
  rw [Finset.sum_mul, gdz_eq, gdz_eq, gz0, gz1, gg0, gg1]
  refine Finset.sum_congr rfl fun x _ => ?_
  by_cases h : c % 128 < 64
  · rw [low_lt _ _ _ h, high_lt _ _ _ h, show 2 * (c / 128) = c / 64 by omega]
    show (zdz _ _ t x * P x (2560 + (128 * (c / 128) + c % 128)) + _ * 0) * (1 / 8) = _
    rw [col_eq]; ring
  · rw [low_ge _ _ _ h, high_ge _ _ _ h, show 2 * (c / 128) + 1 = c / 64 by omega]
    show (_ * 0 + zdz _ _ t x * P x (2560 + (128 * (c / 128) + c % 128))) * (1 / 8) = _
    rw [col_eq]; ring
theorem gK_ref (x c : ℕ) : (pairOf P D (c / 128)).gK 4096 (c % 128) x = refK P D x c := by
  unfold Pair.gK refK
  rw [gdz_eq, gdz_eq, gz0, gz1, gg0, gg1]
  refine Finset.sum_congr rfl fun t _ => ?_
  unfold Pair.q0 Pair.q1
  by_cases h : c % 128 < 64
  · rw [low_lt _ _ _ h, high_lt _ _ _ h, show 2 * (c / 128) = c / 64 by omega]
    show P t (2048 + (128 * (c / 128) + c % 128)) * (1 / 8) * zdz _ _ t x + 0 * _ = _
    rw [col_eq]; ring
  · rw [low_ge _ _ _ h, high_ge _ _ _ h, show 2 * (c / 128) + 1 = c / 64 by omega]
    show 0 * _ + P t (2048 + (128 * (c / 128) + c % 128)) * (1 / 8) * zdz _ _ t x = _
    rw [col_eq]; ring
theorem gV_ref (x c : ℕ) : (pairOf P D (c / 128)).gV 4096 (c % 128) x = refV P D x c := by
  unfold Pair.gV refV
  rw [gw_eq, gw_eq, gz0, gz1]
  refine Finset.sum_congr rfl fun t _ => ?_
  unfold Pair.d0 Pair.d1
  by_cases h : c % 128 < 64
  · rw [low_lt _ _ _ h, high_lt _ _ _ h, show 2 * (c / 128) = c / 64 by omega]
    show D t (128 * (c / 128) + c % 128) * zw _ t x + 0 * _ = _
    rw [col_eq]; ring
  · rw [low_ge _ _ _ h, high_ge _ _ _ h, show 2 * (c / 128) + 1 = c / 64 by omega]
    show 0 * _ + D t (128 * (c / 128) + c % 128) * zw _ t x = _
    rw [col_eq]; ring

end Cert.Heads
end
-- ==== Proof.Ref.lean ====
/-
  The reference, read: each of its intermediate arrays over finite numbers, and its three results as the sums over whole
  rows.
-/
module

public import proofs.«01_k».proof.Proof.Cum
public import proofs.«01_k».proof.Proof.Heads
public import proofs.«01_k».proof.Proof.Gen.ReferenceIdeal.Read

@[expose] public section

set_option maxRecDepth 16384

noncomputable section

open scoped BigOperators Classical
open Idealize.ShloMosaic
open Cert.Arr Cert.Heads Cert.ReferenceIdeal Cert.ReferenceIdeal.Gen Cert.ReferenceIdeal.Read

namespace Cert.Ref

theorem zero_bits : Ideal.ofBits .f32 0x00000000#32 = (0 : EReal) := Ideal.ofBits_zero_f32
theorem inf_bits : Ideal.ofBits .f32 0x7F800000#32 = (⊤ : EReal) := by simp [Ideal.ofBits, Ideal.ieee]

/-- The host's softplus of a finite number. -/
theorem sp_scalar (z : ℝ) (o : EReal) (ho : o = 0) :
    (Scalar.select (Ideal.cmp .une ((z : EReal) - o) ((z : EReal) - o)) ((z : EReal) + o) (max (z : EReal) o + Ideal.log1p (Ideal.exp (-(max ((z : EReal) - o) (-((z : EReal) - o)))))) : EReal)
      = ((sp z : ℝ) : EReal) := by
  subst ho
  have hc : Ideal.cmp .une ((z : EReal) - 0) ((z : EReal) - 0) = 0#1 := by simp [Ideal.cmp]
  rw [hc, sub_zero]
  show max (z : EReal) 0 + Ideal.log (1 + Ideal.exp (-(max (z : EReal) (-(z : EReal))))) = _
  rw [← EReal.coe_neg, ← coe_max, ← EReal.coe_neg, ← EReal.coe_zero, ← coe_max]
  show ((max z 0 : ℝ) : EReal) + Ideal.log (((1 : ℝ) : EReal) + ((Real.exp (-max z (-z)) : ℝ) : EReal)) = _
  rw [← EReal.coe_add, Ideal.log_coe, if_neg (by have := Real.exp_pos (-max z (-z)); linarith), ← EReal.coe_add]
  unfold sp
  rw [zero_sub]; rfl

/-- The exponential of a difference of finite numbers, each first compared with infinity. -/
theorem exp_scalar (z y : ℝ) (o o' t t' : EReal) (ht : t = ⊤) (ht' : t' = ⊤) :
    (Ideal.exp ((Scalar.select (Ideal.cmp .oeq (z : EReal) t) o (z : EReal) : EReal) - (Scalar.select (Ideal.cmp .oeq (y : EReal) t') o' (y : EReal) : EReal)) : EReal)
      = ((Real.exp (z - y) : ℝ) : EReal) := by
  subst ht ht'
  have hc : ∀ x : ℝ, Ideal.cmp .oeq (x : EReal) ⊤ = 0#1 := by intro x; simp [Ideal.cmp]
  rw [hc, hc]
  show Ideal.exp ((z : EReal) - (y : EReal)) = _
  rw [← EReal.coe_sub]; rfl

theorem coe_sum_mul (n : ℕ) (f g : ℕ → ℝ) : ∑ k : Fin n, ((f k.val : ℝ) : EReal) * ((g k.val : ℝ) : EReal) = ((∑ k ∈ Finset.range n, f k * g k : ℝ) : EReal) := by
  rw [coe_sum_range]
  exact Finset.sum_congr rfl fun k _ => (EReal.coe_mul _ _).symm

theorem select_mask (p : Prop) [Decidable p] (a b : ℝ) : (Scalar.select (if p then 1#1 else 0#1) (a : EReal) (b : EReal) : EReal) = ((if p then a else b : ℝ) : EReal) := by
  split <;> rfl

variable (x0 : FVec Ideal S4096x4096 .f32) (x1 : FVec Ideal S4096x512 .bf16) (P D : RMat)
  (hP : ∀ i : S4096x4096.Idx, x0 i = ((P (i 0).val (i 1).val : ℝ) : EReal))
  (hD : ∀ i : S4096x512.Idx, x1 i = ((D (i 0).val (i 1).val : ℝ) : EReal))

section
include hP

theorem v2 (i : S8x4096x64.Idx) : (val_main_v2 (F := Ideal) x0 i : EReal) = ((hcol P 2048 (i 0).val (i 1).val (i 2).val : ℝ) : EReal) := by
  have h0 : (i 0).val < 8 := (i 0).isLt
  have h2 : (i 2).val < 64 := (i 2).isLt
  rw [val_main_v2_apply, val_main_v1_apply, val_main_v0_apply, hP]
  show ((P ((((i 1).val * 8 + (i 0).val) * 64 + (i 2).val) / 512) (2048 + (((i 1).val * 8 + (i 0).val) * 64 + (i 2).val) % 512) : ℝ) : EReal) = ((P (i 1).val (2048 + (64 * (i 0).val + (i 2).val)) : ℝ) : EReal)
  rw [show (((i 1).val * 8 + (i 0).val) * 64 + (i 2).val) / 512 = (i 1).val by omega, show (((i 1).val * 8 + (i 0).val) * 64 + (i 2).val) % 512 = 64 * (i 0).val + (i 2).val by omega]
theorem v5 (i : S8x4096x64.Idx) : (val_main_v5 (F := Ideal) x0 i : EReal) = ((hcol P 2560 (i 0).val (i 1).val (i 2).val : ℝ) : EReal) := by
  have h0 : (i 0).val < 8 := (i 0).isLt
  have h2 : (i 2).val < 64 := (i 2).isLt
  rw [val_main_v5_apply, val_main_v4_apply, val_main_v3_apply, hP]
  show ((P ((((i 1).val * 8 + (i 0).val) * 64 + (i 2).val) / 512) (2560 + (((i 1).val * 8 + (i 0).val) * 64 + (i 2).val) % 512) : ℝ) : EReal) = ((P (i 1).val (2560 + (64 * (i 0).val + (i 2).val)) : ℝ) : EReal)
  rw [show (((i 1).val * 8 + (i 0).val) * 64 + (i 2).val) / 512 = (i 1).val by omega, show (((i 1).val * 8 + (i 0).val) * 64 + (i 2).val) % 512 = 64 * (i 0).val + (i 2).val by omega]
theorem v8 (i : S8x4096x64.Idx) : (val_main_v8 (F := Ideal) x0 i : EReal) = ((hcol P 3072 (i 0).val (i 1).val (i 2).val : ℝ) : EReal) := by
  have h0 : (i 0).val < 8 := (i 0).isLt
  have h2 : (i 2).val < 64 := (i 2).isLt
  rw [val_main_v8_apply, val_main_v7_apply, val_main_v6_apply, hP]
  show ((P ((((i 1).val * 8 + (i 0).val) * 64 + (i 2).val) / 512) (3072 + (((i 1).val * 8 + (i 0).val) * 64 + (i 2).val) % 512) : ℝ) : EReal) = ((P (i 1).val (3072 + (64 * (i 0).val + (i 2).val)) : ℝ) : EReal)
  rw [show (((i 1).val * 8 + (i 0).val) * 64 + (i 2).val) / 512 = (i 1).val by omega, show (((i 1).val * 8 + (i 0).val) * 64 + (i 2).val) % 512 = 64 * (i 0).val + (i 2).val by omega]

theorem v11 (i : S8x4096x4096.Idx) : (val_main_v11 (F := Ideal) x0 i : EReal) = ((hz P (i 0).val (i 1).val (i 2).val : ℝ) : EReal) := by
  rw [val_main_v11_apply, val_main_v9_apply, val_main_v10_apply, val_main_cst_apply]
  simp only [v2 x0 P hP, v5 x0 P hP]
  show (∑ k : Fin 64, ((hcol P 2048 (i 0).val (i 1).val k.val : ℝ) : EReal) * ((hcol P 2560 (i 0).val (i 2).val k.val : ℝ) : EReal)) * Ideal.ofBits .f32 0x3E000000#32 = _
  rw [coe_sum_mul 64 (hcol P 2048 (i 0).val (i 1).val) (hcol P 2560 (i 0).val (i 2).val), ofBits_eighth, ← EReal.coe_mul]; rfl

omit hP in
theorem mask (i : S1x4096x4096.Idx) : val_main_v14 (F := Ideal) i = if (i 2).val < (i 1).val then 1#1 else 0#1 := by
  have h1 : (i 1).val < 4096 := (i 1).isLt
  have h2 : (i 2).val < 4096 := (i 2).isLt
  rw [val_main_v14_apply, val_main_v12_apply, val_main_v13_apply]
  exact word_slt _ _ (by omega) (by omega)
omit hP in
theorem mask17 (i : S8x4096x4096.Idx) : val_main_v17_1 (F := Ideal) i = if (i 2).val < (i 1).val then 1#1 else 0#1 := by
  rw [val_main_v17_1_apply, mask]
omit hP in
theorem mask23 (i : S8x4096x4096.Idx) : val_main_v23_1 (F := Ideal) i = if (i 2).val < (i 1).val then 1#1 else 0#1 := by
  rw [val_main_v23_1_apply, mask]

theorem v15_0 (i : S8x4096x4096.Idx) : (val_main_v15_0 (F := Ideal) x0 i : EReal) = ((sp (hz P (i 0).val (i 1).val (i 2).val) : ℝ) : EReal) := by
  simp only [val_main_v15_0_apply, val_main_call0_v4_apply, val_main_call0_v3_apply, val_main_call0_v2_apply, val_main_call0_cst_apply, val_main_call0_v6_apply,
    val_main_call0_v5_apply, val_main_call0_v11_apply, val_main_call0_v1_apply, val_main_call0_v0_apply, val_main_call0_v10_apply, val_main_call0_v9_apply,
    val_main_call0_v8_apply, val_main_call0_v7_apply, v11 x0 P hP]
  exact sp_scalar _ _ zero_bits

theorem v15_1 (i : S8x4096x4096.Idx) : (val_main_v15_1 (F := Ideal) x0 i : EReal) = ((Real.exp (hz P (i 0).val (i 1).val (i 2).val - sp (hz P (i 0).val (i 1).val (i 2).val)) : ℝ) : EReal) := by
  simp only [val_main_v15_1_apply, val_main_call0_v21_apply, val_main_call0_v16_apply, val_main_call0_v14_apply, val_main_call0_v13_apply, val_main_call0_cst_0_apply,
    val_main_call0_v20_apply, val_main_call0_v18_apply, val_main_call0_v17_apply, val_main_call0_cst_2_apply, v11 x0 P hP, v15_0 x0 P hP]
  exact exp_scalar _ _ (val_main_call0_v15 (F := Ideal) i) (val_main_call0_v19 (F := Ideal) i) _ _ inf_bits inf_bits

/-- What the stick loses, in logarithms. -/
theorem v17_0 (i : S8x4096x4096.Idx) : (val_main_v17_0 (F := Ideal) x0 i : EReal) = ((-zsp (hz P (i 0).val) (i 1).val (i 2).val : ℝ) : EReal) := by
  simp only [val_main_v17_0_apply, mask17, val_main_v16_apply, v15_0 x0 P hP, val_main_call1_v2_apply, val_main_call1_v0_apply, val_main_cst_0_apply]
  show (Scalar.select (if (i 2).val < (i 1).val then 1#1 else 0#1) (-((sp (hz P (i 0).val (i 1).val (i 2).val) : ℝ) : EReal)) (Ideal.ofBits .f32 0x00000000#32) : EReal) = _
  rw [zero_bits, ← EReal.coe_neg, ← EReal.coe_zero, select_mask]
  unfold zsp
  split <;> simp

theorem v18 (i : S8x4096x4096.Idx) : (val_main_v18 (F := Ideal) x0 i : EReal) = ((∑ x ∈ Finset.Ico (i 2).val 4096, -zsp (hz P (i 0).val) (i 1).val x : ℝ) : EReal) := by
  unfold val_main_v18
  exact Cum.suffix (val_main_v17_0 (F := Ideal) x0) (fun h t s => -zsp (hz P h) t s) (v17_0 x0 P hP) _ _ _ (fun j => by rw [val_main_call2_v0_apply, val_main_call2_cst_apply]; exact zero_bits) i

theorem v19 (i : S8x4096x4096.Idx) : (val_main_v19 (F := Ideal) x0 i : EReal) = ((-∑ x ∈ Finset.Ico ((i 2).val + 1) 4096, zsp (hz P (i 0).val) (i 1).val x : ℝ) : EReal) := by
  have h2 : (i 2).val < 4096 := (i 2).isLt
  rw [val_main_v19_apply, v18 x0 P hP, v17_0 x0 P hP]
  show ((_ : ℝ) : EReal) - ((_ : ℝ) : EReal) = _
  rw [← EReal.coe_sub, Finset.sum_neg_distrib, Finset.sum_eq_sum_Ico_succ_bot h2]
  congr 1; ring

theorem v1_0 (i : S8x4096x4096.Idx) : (val_main_call3_v1_0 (F := Ideal) x0 i : EReal) = ((sp (-hz P (i 0).val (i 1).val (i 2).val) : ℝ) : EReal) := by
  have hn : ∀ i, (val_main_call3_v0 (F := Ideal) x0 i : EReal) = ((-hz P (i 0).val (i 1).val (i 2).val : ℝ) : EReal) := by
    intro i; rw [val_main_call3_v0_apply, v11 x0 P hP]; rfl
  simp only [val_main_call3_v1_0_apply, val_main_call3_call0_v4_apply, val_main_call3_call0_v3_apply, val_main_call3_call0_v2_apply, val_main_call3_call0_cst_apply, val_main_call3_call0_v6_apply,
    val_main_call3_call0_v5_apply, val_main_call3_call0_v11_apply, val_main_call3_call0_v1_apply, val_main_call3_call0_v0_apply, val_main_call3_call0_v10_apply, val_main_call3_call0_v9_apply,
    val_main_call3_call0_v8_apply, val_main_call3_call0_v7_apply, hn]
  exact sp_scalar _ _ zero_bits

theorem v20_1 (i : S8x4096x4096.Idx) : (val_main_v20_1 (F := Ideal) x0 i : EReal) = ((1 - Real.exp (hz P (i 0).val (i 1).val (i 2).val - sp (hz P (i 0).val (i 1).val (i 2).val)) : ℝ) : EReal) := by
  have hn : ∀ i, (val_main_call3_v0 (F := Ideal) x0 i : EReal) = ((-hz P (i 0).val (i 1).val (i 2).val : ℝ) : EReal) := by
    intro i; rw [val_main_call3_v0_apply, v11 x0 P hP]; rfl
  simp only [val_main_v20_1_apply, val_main_call3_call0_v21_apply, val_main_call3_call0_v16_apply, val_main_call3_call0_v14_apply, val_main_call3_call0_v13_apply, val_main_call3_call0_cst_0_apply,
    val_main_call3_call0_v20_apply, val_main_call3_call0_v18_apply, val_main_call3_call0_v17_apply, val_main_call3_call0_cst_2_apply, hn, v1_0 x0 P hP]
  rw [← sigma_neg]
  exact exp_scalar _ _ (val_main_call3_call0_v15 (F := Ideal) i) (val_main_call3_call0_v19 (F := Ideal) i) _ _ inf_bits inf_bits

theorem v22 (i : S8x4096x4096.Idx) : (val_main_v22 (F := Ideal) x0 i : EReal)
    = ((Real.exp (hz P (i 0).val (i 1).val (i 2).val - sp (hz P (i 0).val (i 1).val (i 2).val) - ∑ x ∈ Finset.Ico ((i 2).val + 1) 4096, zsp (hz P (i 0).val) (i 1).val x) : ℝ) : EReal) := by
  simp only [val_main_v22_apply, val_main_v21_apply, val_main_v20_0_apply, v1_0 x0 P hP, v19 x0 P hP]
  show Ideal.exp (-((_ : ℝ) : EReal) + ((_ : ℝ) : EReal)) = _
  rw [← EReal.coe_neg, ← EReal.coe_add, neg_sp_neg]
  rfl

omit hP in
theorem weight_exp (t s : ℕ) (z : RMat) (h : s < t) (hs : s < 4096) :
    Real.exp (z t s - sp (z t s) - ∑ x ∈ Finset.Ico (s + 1) 4096, zsp z t x) = zw z t s := by
  unfold zw
  rw [if_pos h, Finset.sum_eq_sum_Ico_succ_bot hs]
  have e : zsp z t s = sp (z t s) := if_pos h
  rw [e, sub_sub]

theorem v23_0 (i : S8x4096x4096.Idx) : (val_main_v23_0 (F := Ideal) x0 i : EReal) = ((zw (hz P (i 0).val) (i 1).val (i 2).val : ℝ) : EReal) := by
  have h2 : (i 2).val < 4096 := (i 2).isLt
  simp only [val_main_v23_0_apply, mask23, v22 x0 P hP, val_main_call4_v2_apply, val_main_call4_v0_apply, val_main_cst_1_apply]
  show (Scalar.select (if (i 2).val < (i 1).val then 1#1 else 0#1) ((_ : ℝ) : EReal) (Ideal.ofBits .f32 0x00000000#32) : EReal) = _
  rw [zero_bits, ← EReal.coe_zero, select_mask]
  by_cases h : (i 2).val < (i 1).val
  · rw [if_pos h, weight_exp _ _ _ h h2]
  · rw [if_neg h]; unfold zw; rw [if_neg h]

end

section
include hD
theorem v27 (i : S8x4096x64.Idx) : (val_main_v27 (F := Ideal) x1 i : EReal) = ((hcol D 0 (i 0).val (i 1).val (i 2).val : ℝ) : EReal) := by
  have h0 : (i 0).val < 8 := (i 0).isLt
  have h2 : (i 2).val < 64 := (i 2).isLt
  rw [val_main_v27_apply, val_main_v26_apply, val_main_v25_apply, hD]
  show ((D ((((i 1).val * 8 + (i 0).val) * 64 + (i 2).val) / 512) ((((i 1).val * 8 + (i 0).val) * 64 + (i 2).val) % 512) : ℝ) : EReal) = ((D (i 1).val (0 + (64 * (i 0).val + (i 2).val)) : ℝ) : EReal)
  rw [show (((i 1).val * 8 + (i 0).val) * 64 + (i 2).val) / 512 = (i 1).val by omega, show (((i 1).val * 8 + (i 0).val) * 64 + (i 2).val) % 512 = 64 * (i 0).val + (i 2).val by omega, zero_add]
end

include hP hD

theorem v30 (i : S8x4096x4096.Idx) : (val_main_v30 (F := Ideal) x0 x1 i : EReal) = ((hg P D (i 0).val (i 1).val (i 2).val : ℝ) : EReal) := by
  rw [val_main_v30_apply]
  simp only [v27 x1 D hD, v8 x0 P hP]
  exact coe_sum_mul 64 (hcol D 0 (i 0).val (i 1).val) (hcol P 3072 (i 0).val (i 2).val)

theorem v32 (i : S8x4096x4096.Idx) : (val_main_v32 (F := Ideal) x0 x1 i : EReal) = ((ze (hz P (i 0).val) (hg P D (i 0).val) (i 1).val (i 2).val : ℝ) : EReal) := by
  have h2 : (i 2).val < 4096 := (i 2).isLt
  simp only [val_main_v32_apply, val_main_v31_apply, mask23, v30 x0 x1 P D hP hD, val_main_call5_v0_apply, val_main_call5_cst_apply, v22 x0 P hP]
  show (Scalar.select (if (i 2).val < (i 1).val then 1#1 else 0#1) ((_ : ℝ) : EReal) (Ideal.ofBits .f32 0x00000000#32) : EReal) * ((_ : ℝ) : EReal) = _
  rw [zero_bits, ← EReal.coe_zero, select_mask, ← EReal.coe_mul]
  unfold ze
  by_cases h : (i 2).val < (i 1).val
  · rw [if_pos h, weight_exp _ _ _ h h2, mul_comm]
  · rw [if_neg h, zero_mul]; unfold zw; rw [if_neg h, zero_mul]

theorem v35 (i : S8x4096x4096.Idx) : (val_main_v35 (F := Ideal) x0 x1 i : EReal) = ((∑ x ∈ Finset.range ((i 2).val + 1), ze (hz P (i 0).val) (hg P D (i 0).val) (i 1).val x : ℝ) : EReal) := by
  unfold val_main_v35
  exact Cum.prefix_ (val_main_v32 (F := Ideal) x0 x1) (fun h t s => ze (hz P h) (hg P D h) t s) (v32 x0 x1 P D hP hD) _ _ _ (fun j => by rw [val_main_call7_v0_apply, val_main_call7_cst_apply]; exact zero_bits) i

/-- The gradient of the scores before their scale. -/
theorem v40 (i : S8x4096x4096.Idx) : (val_main_v40 (F := Ideal) x0 x1 i : EReal) = ((zdz (hz P (i 0).val) (hg P D (i 0).val) (i 1).val (i 2).val : ℝ) : EReal) := by
  have h2 : (i 2).val < 4096 := (i 2).isLt
  simp only [val_main_v40_apply, val_main_v33_apply, val_main_call6_v1_apply, val_main_call6_v0_apply, v32 x0 x1 P D hP hD, v20_1 x0 P hP,
    val_main_v39_apply, val_main_v38_apply, val_main_v37_apply, mask17, val_main_v36_apply, val_main_v34_apply, v35 x0 x1 P D hP hD, v15_1 x0 P hP,
    val_main_call8_v0_apply, val_main_call8_cst_apply]
  show -(-((_ : ℝ) : EReal) * ((_ : ℝ) : EReal)) + -(Scalar.select (if (i 2).val < (i 1).val then 1#1 else 0#1) (-((_ : ℝ) : EReal) + ((_ : ℝ) : EReal)) (Ideal.ofBits .f32 0x00000000#32) : EReal) * ((_ : ℝ) : EReal) = _
  rw [zero_bits, ← EReal.coe_zero, ← EReal.coe_neg, ← EReal.coe_add, select_mask, ← EReal.coe_neg, ← EReal.coe_mul, ← EReal.coe_mul, ← EReal.coe_neg, ← EReal.coe_add]
  unfold zdz
  by_cases h : (i 2).val < (i 1).val
  · have e : zsp (hz P (i 0).val) (i 1).val (i 2).val = sp (hz P (i 0).val (i 1).val (i 2).val) := if_pos h
    rw [if_pos h, if_pos h, e]
    congr 1; rw [Finset.sum_range_succ]; ring
  · have e : ze (hz P (i 0).val) (hg P D (i 0).val) (i 1).val (i 2).val = 0 := by unfold ze zw; rw [if_neg h, zero_mul]
    rw [if_neg h, if_neg h, e]
    congr 1; ring

theorem v42 (i : S8x4096x4096.Idx) : (val_main_v42 (F := Ideal) x0 x1 i : EReal) = ((zdz (hz P (i 0).val) (hg P D (i 0).val) (i 1).val (i 2).val * (1 / 8) : ℝ) : EReal) := by
  rw [val_main_v42_apply, v40 x0 x1 P D hP hD, val_main_v41_apply, val_main_cst_2_apply]
  show ((_ : ℝ) : EReal) * Ideal.ofBits .f32 0x3E000000#32 = _
  rw [ofBits_eighth, ← EReal.coe_mul]

theorem out0 (i : S4096x512.Idx) : (val_main_v47 (F := Ideal) x0 x1 i : EReal) = ((refQ P D (i 0).val (i 1).val : ℝ) : EReal) := by
  have h0 : (i 0).val < 4096 := (i 0).isLt
  have h1 : (i 1).val < 512 := (i 1).isLt
  rw [val_main_v47_apply, val_main_v46_apply, val_main_v45_apply]
  refine (val_main_v44_apply x0 x1 _).trans ?_
  simp only [v42 x0 x1 P D hP hD, v5 x0 P hP]
  refine (coe_sum_mul 4096 (fun k => zdz (hz P (((i 0).val * 512 + (i 1).val) / 64 % 8)) (hg P D (((i 0).val * 512 + (i 1).val) / 64 % 8)) (((i 0).val * 512 + (i 1).val) / 512) k * (1 / 8))
    (fun k => P k (2560 + (64 * (((i 0).val * 512 + (i 1).val) / 64 % 8) + ((i 0).val * 512 + (i 1).val) % 64)))).trans ?_
  rw [show ((i 0).val * 512 + (i 1).val) / 64 % 8 = (i 1).val / 64 by omega, show ((i 0).val * 512 + (i 1).val) / 512 = (i 0).val by omega, show ((i 0).val * 512 + (i 1).val) % 64 = (i 1).val % 64 by omega,
    Nat.div_add_mod]
  rfl

theorem out1 (i : S4096x512.Idx) : (val_main_v50 (F := Ideal) x0 x1 i : EReal) = ((refK P D (i 0).val (i 1).val : ℝ) : EReal) := by
  have h0 : (i 0).val < 4096 := (i 0).isLt
  have h1 : (i 1).val < 512 := (i 1).isLt
  rw [val_main_v50_apply, val_main_v49_apply, val_main_v48_apply]
  refine (val_main_v43_apply x0 x1 _).trans ?_
  simp only [v42 x0 x1 P D hP hD, v2 x0 P hP]
  refine (coe_sum_mul 4096 (fun k => zdz (hz P (((i 0).val * 512 + (i 1).val) / 64 % 8)) (hg P D (((i 0).val * 512 + (i 1).val) / 64 % 8)) k (((i 0).val * 512 + (i 1).val) / 512) * (1 / 8))
    (fun k => P k (2048 + (64 * (((i 0).val * 512 + (i 1).val) / 64 % 8) + ((i 0).val * 512 + (i 1).val) % 64)))).trans ?_
  rw [show ((i 0).val * 512 + (i 1).val) / 64 % 8 = (i 1).val / 64 by omega, show ((i 0).val * 512 + (i 1).val) / 512 = (i 0).val by omega, show ((i 0).val * 512 + (i 1).val) % 64 = (i 1).val % 64 by omega,
    Nat.div_add_mod]
  rfl

theorem out2 (i : S4096x512.Idx) : (val_main_v53 (F := Ideal) x0 x1 i : EReal) = ((refV P D (i 0).val (i 1).val : ℝ) : EReal) := by
  have h0 : (i 0).val < 4096 := (i 0).isLt
  have h1 : (i 1).val < 512 := (i 1).isLt
  rw [val_main_v53_apply, val_main_v52_apply, val_main_v51_apply, val_main_v29_apply]
  refine (val_main_v28_apply x0 x1 _).trans ?_
  simp only [v27 x1 D hD, v23_0 x0 P hP]
  refine (coe_sum_mul 4096 (fun k => D k (0 + (64 * (((i 0).val * 512 + (i 1).val) / 64 % 8) + ((i 0).val * 512 + (i 1).val) % 64)))
    (fun k => zw (hz P (((i 0).val * 512 + (i 1).val) / 64 % 8)) k (((i 0).val * 512 + (i 1).val) / 512))).trans ?_
  rw [show ((i 0).val * 512 + (i 1).val) / 64 % 8 = (i 1).val / 64 by omega, show ((i 0).val * 512 + (i 1).val) / 512 = (i 0).val by omega, show ((i 0).val * 512 + (i 1).val) % 64 = (i 1).val % 64 by omega,
    Nat.div_add_mod, zero_add]
  rfl

end Cert.Ref
end
-- ==== Proof.Carry.lean ====
/-
  The carried sums the kernel is given: the host computes the running sums and keeps one of every two hundred and
  fifty-six.
-/
module

public import proofs.«01_k».proof.Proof.Ref
public import proofs.«01_k».proof.Proof.Left
public import proofs.«01_k».proof.Proof.Gen.KernelIdeal.Value
public import Idealize.ShloMosaic.Lib.KernelVsHost

@[expose] public section

set_option maxRecDepth 16384

noncomputable section

open scoped BigOperators Classical
open Idealize.ShloMosaic Idealize.ShloMosaic.TcCoe Idealize.SL.Sem Idealize.ShloMosaic.StableHlo
open Cert.KernelIdeal Cert.KernelIdeal.Gen Cert.Arr Cert.Heads

namespace Cert.Carry

/-- The kept sums, as an array. -/
def kept (x0 : FVec Ideal S4096x4096 .f32) : FVec Ideal S4x2x4096x128 .f32 :=
  shapeCast S4x2x4096x128 (pad S8x4096x128 ![0, 0, 0] ![0, 0, 112] ![0, 0, 0]
    (Host.slice S8x4096x16 ![0, 0, 255] ![1, 1, 256] (Cert.ReferenceIdeal.Read.val_main_v19 (F := Ideal) x0 : FVec Ideal S8x4096x4096 .f32) slicesBy_S8x4096x4096_S8x4096x16_0s1_0s1_255s256)
    (sitofp .f32 (constantI S_ 32 0#32)) pads_S8x4096x16_S8x4096x128_000_000_01120 h_S_) shapeCasts_S8x4096x128_S4x2x4096x128

set_option maxRecDepth 8192 in
set_option maxHeartbeats 20000000 in
theorem host (m : (ℓ : Loc nD τ sig) → Buf (Elt Ideal) ℓ) (c : Dev nD) :
    V m c main_v19 = kept (m ((c : Thread nD τ).loc main_arg0)) := by
  show StableHlo.after (List.flatten [hostOps0, hostOps0_1, hostOps0_2, hostOps0_3, hostOps0_4, hostOps0_5, hostOps0_6, hostOps0_7]) (fun b => m (c, b)) main_v19 = _
  simp only [List.flatten_cons, List.flatten_nil, List.cons_append, List.nil_append, List.append_nil, TRef.binary, TRef.nullary, TRef.ternary, TRef.unary, TRef.toBuf, TRef.ofBuf, cast_eq]
  after_results_simp <;> rfl

/-- The kept sums: the sum behind each column of blocks, nothing in the lanes that fill up. -/
def keptR (P : RMat) (p h t j : ℕ) : ℝ := if j < 16 then -∑ x ∈ Finset.Ico (256 * j + 256) 4096, zsp (hz P (2 * p + h)) t x else 0

theorem kept_apply (x0 : FVec Ideal S4096x4096 .f32) (P : RMat) (hP : ∀ i : S4096x4096.Idx, x0 i = ((P (i 0).val (i 1).val : ℝ) : EReal)) (i : S4x2x4096x128.Idx) :
    kept x0 i = ((keptR P (i 0).val (i 1).val (i 2).val (i 3).val : ℝ) : EReal) := by
  have h0 : (i 0).val < 4 := (i 0).isLt
  have h1 : (i 1).val < 2 := (i 1).isLt
  have h2 : (i 2).val < 4096 := (i 2).isLt
  have h3 : (i 3).val < 128 := (i 3).isLt
  have hv := Ref.v19 x0 P hP
  unfold kept
  generalize Cert.ReferenceIdeal.Read.val_main_v19 (F := Ideal) x0 = y at hv ⊢
  refine (shapeCast_apply _ shapeCasts_S8x4096x128_S4x2x4096x128 i
    (fun a => match a with | ⟨0, _⟩ => ⟨2 * (i 0).val + (i 1).val, by show _ < 8; omega⟩ | ⟨1, _⟩ => ⟨(i 2).val, h2⟩ | ⟨2, _⟩ => ⟨(i 3).val, h3⟩)
    (by rewrite [Shape.rowMajor_val_three, Shape.rowMajor_val_four]; show ((2 * (i 0).val + (i 1).val) * 4096 + (i 2).val) * 128 + (i 3).val = (((i 0).val * 2 + (i 1).val) * 4096 + (i 2).val) * 128 + (i 3).val; omega)).trans ?_
  unfold keptR
  by_cases hj : (i 3).val < 16
  · rw [if_pos hj]
    let k : S8x4096x16.Idx := fun a => match a with | ⟨0, _⟩ => ⟨2 * (i 0).val + (i 1).val, by show _ < 8; omega⟩ | ⟨1, _⟩ => ⟨(i 2).val, h2⟩ | ⟨2, _⟩ => ⟨(i 3).val, hj⟩
    refine (pad_apply_of_inside _ _ _ _ _ _ _ _ k
      (fun a => by
        match a with
        | ⟨0, _⟩ => show 2 * (i 0).val + (i 1).val = 0 + (2 * (i 0).val + (i 1).val) * (0 + 1); omega
        | ⟨1, _⟩ => show (i 2).val = 0 + (i 2).val * (0 + 1); omega
        | ⟨2, _⟩ => show (i 3).val = 0 + (i 3).val * (0 + 1); omega)).trans ?_
    refine (Host.slice_apply _ _ _ _ _).trans ?_
    refine (hv _).trans ?_
    show ((-∑ x ∈ Finset.Ico (255 + 256 * (i 3).val + 1) 4096, zsp (hz P (0 + 1 * (2 * (i 0).val + (i 1).val))) (0 + 1 * (i 2).val) x : ℝ) : EReal) = _
    rw [show 255 + 256 * (i 3).val + 1 = 256 * (i 3).val + 256 by omega, zero_add, one_mul, zero_add, one_mul]
  · rw [if_neg hj]
    refine (pad_apply_of_not_inside _ _ _ _ _ _ _ _ (2 : Fin 3) ?_).trans ?_
    · intro h
      have h' : ((i 3).val - 0) / (0 + 1) < 16 := h.2.2
      omega
    · exact sitofp_zero

theorem carries (P D : RMat) : Cert.Grid.Carries P D (keptR P) := by
  intro p hp t ht j hj
  unfold keptR
  rw [if_pos hj, if_pos hj]
  constructor
  · congr 1
    exact Finset.sum_congr rfl fun x _ => by rw [gsp_eq, gz0, add_zero]
  · congr 1
    exact Finset.sum_congr rfl fun x _ => by rw [gsp_eq, gz1]

end Cert.Carry
end
-- ==== Proof.Final.lean ====
/-
  The two programs end with the same three arrays.
-/
module

public import proofs.«01_k».proof.Defs
public import proofs.«01_k».proof.Proof.Grid
public import proofs.«01_k».proof.Proof.Carry

@[expose] public section

set_option maxRecDepth 16384

noncomputable section

open scoped BigOperators Classical
open Idealize.ShloMosaic Idealize.ShloMosaic.TcCoe Idealize.SL.Sem
open Cert.Arr Cert.Heads

namespace Cert.Final

/-- A number whose absolute value is below infinity is a real number. -/
theorem real_of_finite (x : EReal) (h : Ideal.cmp .olt (max x (-x)) (Ideal.ofBits .f32 0x7F800000#32) = 1#1) : x = ((x.toReal : ℝ) : EReal) := by
  have h' : max x (-x) < ⊤ := by
    by_contra hn
    rw [Ref.inf_bits] at h
    have : Ideal.cmp .olt (max x (-x)) ⊤ = 0#1 := by
      show BitVec.ofBool (decide (max x (-x) < ⊤)) = 0#1
      rw [decide_eq_false hn]; rfl
    rw [this] at h
    exact absurd h (by decide)
  have ht : x ≠ ⊤ := fun e => by rw [e] at h'; exact absurd h' (by simp)
  have hb : x ≠ ⊥ := fun e => by rw [e] at h'; exact absurd h' (by simp)
  exact (EReal.coe_toReal ht hb).symm

theorem facts : Cert.Pre_finite.Facts where
  bcast_S_S4096x4096 := by decide
  bitsLt_bf16_f32 := by decide
  bcast_S_S4096x512 := by decide

theorem idx_ext {a b : ℕ} (i j : (⟨2, ![a, b]⟩ : Shape).Idx) (h0 : (i 0).val = (j 0).val) (h1 : (i 1).val = (j 1).val) : i = j :=
  funext fun k => match k with
    | ⟨0, _⟩ => Fin.ext h0
    | ⟨1, _⟩ => Fin.ext h1

/-- The reals under an array of finite numbers. -/
theorem reals {a b : ℕ} (x : (⟨2, ![a, b]⟩ : Shape).Idx → EReal) (h : ∀ i, x i = (((x i).toReal : ℝ) : EReal)) :
    ∃ P : RMat, ∀ i, x i = ((P (i 0).val (i 1).val : ℝ) : EReal) := by
  refine ⟨fun r c => if g : ∃ i : (⟨2, ![a, b]⟩ : Shape).Idx, (i 0).val = r ∧ (i 1).val = c then (x g.choose).toReal else 0, fun i => ?_⟩
  have g : ∃ j : (⟨2, ![a, b]⟩ : Shape).Idx, (j 0).val = (i 0).val ∧ (j 1).val = (i 1).val := ⟨i, rfl, rfl⟩
  show x i = ((dite _ _ _ : ℝ) : EReal)
  rw [dif_pos g, idx_ext g.choose i g.choose_spec.1 g.choose_spec.2]
  exact h i

theorem reals_of_pre (m : (ℓ : Loc Cert.KernelIdeal.nD Cert.KernelIdeal.τ Cert.KernelIdeal.sig) → Buf (Elt Ideal) ℓ) (h : Cert.Pre_KernelIdeal_finite (hPre_finite := facts) m) (c : Dev Cert.KernelIdeal.nD) :
    (∃ P : RMat, ∀ i : Cert.KernelIdeal.S4096x4096.Idx, (m ((c : Thread Cert.KernelIdeal.nD Cert.KernelIdeal.τ).loc Cert.KernelIdeal.main_arg0) : FVec Ideal Cert.KernelIdeal.S4096x4096 .f32) i = ((P (i 0).val (i 1).val : ℝ) : EReal))
    ∧ ∃ D : RMat, ∀ i : Cert.KernelIdeal.S4096x512.Idx, (m ((c : Thread Cert.KernelIdeal.nD Cert.KernelIdeal.τ).loc Cert.KernelIdeal.main_arg1) : FVec Ideal Cert.KernelIdeal.S4096x512 .bf16) i = ((D (i 0).val (i 1).val : ℝ) : EReal) :=
  ⟨reals _ fun i => real_of_finite _ (congrFun (h c).1 i), reals _ fun i => real_of_finite _ (congrFun (h c).2 i)⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal_finite (hPre_finite := facts) m) (c : Dev Cert.KernelIdeal.nD)
  (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
  (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
include hpre h0 h1

theorem result0 : (Cert.ReferenceIdeal.Value.res_main_v47 m' c : FVec Ideal Cert.KernelIdeal.S4096x512 .bf16) = (Cert.KernelIdeal.Gen.dats m 0 c).arrAt 5 Cert.KernelIdeal.cfg0.N := by
  obtain ⟨⟨P, hP⟩, D, hD⟩ := reals_of_pre m hpre c
  refine (Cert.ReferenceIdeal.Read.val_main_v47_eq m' c).trans ?_
  refine (congrArg₂ _ h0 h1).trans ?_
  refine Eq.trans ?_ (Cert.Grid.arr5 m c P D (Carry.keptR P) _ hP hD (Carry.host m c) (Carry.kept_apply _ P hP) (Carry.carries P D)).symm
  funext i
  refine (Ref.out0 _ _ P D hP hD i).trans ?_
  rw [gQ_ref]

theorem result1 : (Cert.ReferenceIdeal.Value.res_main_v50 m' c : FVec Ideal Cert.KernelIdeal.S4096x512 .bf16) = (Cert.KernelIdeal.Gen.dats m 0 c).arrAt 6 Cert.KernelIdeal.cfg0.N := by
  obtain ⟨⟨P, hP⟩, D, hD⟩ := reals_of_pre m hpre c
  refine (Cert.ReferenceIdeal.Read.val_main_v50_eq m' c).trans ?_
  refine (congrArg₂ _ h0 h1).trans ?_
  refine Eq.trans ?_ (Cert.Grid.arr6 m c P D (Carry.keptR P) _ hP hD (Carry.host m c) (Carry.kept_apply _ P hP) (Carry.carries P D)).symm
  funext i
  refine (Ref.out1 _ _ P D hP hD i).trans ?_
  rw [gK_ref]

theorem result2 : (Cert.ReferenceIdeal.Value.res_main_v53 m' c : FVec Ideal Cert.KernelIdeal.S4096x512 .bf16) = (Cert.KernelIdeal.Gen.dats m 0 c).arrAt 7 Cert.KernelIdeal.cfg0.N := by
  obtain ⟨⟨P, hP⟩, D, hD⟩ := reals_of_pre m hpre c
  refine (Cert.ReferenceIdeal.Read.val_main_v53_eq m' c).trans ?_
  refine (congrArg₂ _ h0 h1).trans ?_
  refine Eq.trans ?_ (Cert.Grid.arr7 m c P D (Carry.keptR P) _ hP hD (Carry.host m c) (Carry.kept_apply _ P hP) (Carry.carries P D)).symm
  funext i
  refine (Ref.out2 _ _ P D hP hD i).trans ?_
  rw [gV_ref]
end

end Cert.Final
end
-- ==== Proof.Mul.lean ====
/-
  A block of a matrix product, read at an index, and a blocked sum put together.
-/
module

public import Idealize.ShloMosaic.Lib.MatmulPlain
public import Idealize.ShloMosaic.Lib.Pipeline.Value
public import Idealize.ShloMosaic.Lib.Pipeline.ValueKit.Tiles
public import Idealize.ShloMosaic.Lib.ValueIdx

@[expose] public section

noncomputable section

open scoped BigOperators
open Idealize.ShloMosaic Idealize.ShloMosaic.ValueIdx

namespace Cert.Mul

theorem zero2 : (![0, 0] : Fin 2 → Nat) = fun _ => 0 := funext fun a => match a with
  | ⟨0, _⟩ => rfl
  | ⟨1, _⟩ => rfl

theorem zero3 : (![0, 0, 0] : Fin 3 → Nat) = fun _ => 0 := funext fun a => match a with
  | ⟨0, _⟩ => rfl
  | ⟨1, _⟩ => rfl
  | ⟨2, _⟩ => rfl

/-- A load of a whole matrix. -/
theorem ld_whole {n m : ℕ} {e : EltTy} {Val : EltTy → Type} (X : (⟨2, ![n, m]⟩ : Shape).Idx → Val e) (inb) (y : (⟨2, ![n, m]⟩ : Shape).Idx) :
    View.ld X (Rect.unit (s := ⟨2, ![n, m]⟩) ![0, 0] ![n, m] inb) y = X y :=
  View.ld_unit_apply_of _ _ _ _ _ _ fun a => match a with
    | ⟨0, _⟩ => (Nat.zero_add (y 0).val).symm
    | ⟨1, _⟩ => (Nat.zero_add (y 1).val).symm

/-- Rows times columns, into zeros. -/
theorem plain_apply {M K N : ℕ} {φ ψ : FTy} (d : DotDims ⟨2, ![M, K]⟩ ⟨2, ![K, N]⟩ ⟨2, ![M, N]⟩) (hd : d = DotDims.plain M K N)
    (a : FVec Ideal ⟨2, ![M, K]⟩ φ) (b : FVec Ideal ⟨2, ![K, N]⟩ ψ) (i : (⟨2, ![M, N]⟩ : Shape).Idx) :
    matmul d none a b (constant ⟨2, ![M, N]⟩ .f32 0x00000000#32) i = ∑ k : Fin K, a (ix2 (i 0) k) * b (ix2 k (i 1)) := by
  subst hd
  obtain ⟨r, c, rfl⟩ : ∃ r c, i = ix2 r c := ⟨i 0, i 1, funext fun x => match x with
    | ⟨0, _⟩ => rfl
    | ⟨1, _⟩ => rfl⟩
  refine (Ideal.matmul_plain_apply ..).trans ?_
  show Ideal.ofBits .f32 0x00000000#32 + _ = _
  rw [Ideal.ofBits_zero_f32, zero_add]
  rfl

/-- Rows times rows, into zeros. -/
theorem rows_apply {M K N : ℕ} {φ ψ : FTy} (d : DotDims ⟨2, ![M, K]⟩ ⟨2, ![N, K]⟩ ⟨2, ![M, N]⟩) (hd : d = DotDims.transposedRhs M K N)
    (a : FVec Ideal ⟨2, ![M, K]⟩ φ) (b : FVec Ideal ⟨2, ![N, K]⟩ ψ) (i : (⟨2, ![M, N]⟩ : Shape).Idx) :
    matmul d none a b (constant ⟨2, ![M, N]⟩ .f32 0x00000000#32) i = ∑ k : Fin K, a (ix2 (i 0) k) * b (ix2 (i 1) k) := by
  subst hd
  obtain ⟨r, c, rfl⟩ : ∃ r c, i = ix2 r c := ⟨i 0, i 1, funext fun x => match x with
    | ⟨0, _⟩ => rfl
    | ⟨1, _⟩ => rfl⟩
  refine (Ideal.matmul_transposedRhs_apply ..).trans ?_
  show Ideal.ofBits .f32 0x00000000#32 + _ = _
  rw [Ideal.ofBits_zero_f32, zero_add]
  rfl

/-- Which positions meet when both operands are contracted along their rows. -/
def colsDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

/-- Columns times columns, into zeros. -/
theorem cols_apply {M K N : ℕ} {φ ψ : FTy} (d : DotDims ⟨2, ![K, M]⟩ ⟨2, ![K, N]⟩ ⟨2, ![M, N]⟩) (hd : d = colsDims M K N)
    (a : FVec Ideal ⟨2, ![K, M]⟩ φ) (b : FVec Ideal ⟨2, ![K, N]⟩ ψ) (i : (⟨2, ![M, N]⟩ : Shape).Idx) :
    matmul d none a b (constant ⟨2, ![M, N]⟩ .f32 0x00000000#32) i = ∑ k : Fin K, a (ix2 k (i 0)) * b (ix2 k (i 1)) := by
  subst hd
  refine (Ideal.matmul_apply ..).trans ?_
  show Ideal.ofBits .f32 0x00000000#32 + _ = _
  rw [Ideal.ofBits_zero_f32, zero_add, ← Equiv.sum_comp (contrEquiv1 (colsDims M K N) K rfl rfl).symm]
  refine Finset.sum_congr rfl fun k _ => ?_
  have hk := contrEquiv1_symm_val (colsDims M K N) K rfl rfl k
  refine congrArg₂ _ (congrArg a (funext fun x => Fin.ext ?_)) (congrArg b (funext fun x => Fin.ext ?_))
  · match x with
    | ⟨0, _⟩ => exact hk
    | ⟨1, _⟩ => rfl
  · match x with
    | ⟨0, _⟩ => exact hk
    | ⟨1, _⟩ => rfl

/-- One block of a stack, as a matrix. -/
theorem unstack_apply {n m : ℕ} {α : Type} (v : (⟨3, ![1, n, m]⟩ : Shape).Idx → α) (h : (⟨3, ![1, n, m]⟩ : Shape).ShapeCasts ⟨2, ![n, m]⟩) (r : Fin n) (c : Fin m) :
    shapeCast ⟨2, ![n, m]⟩ v h (ix2 r c) = v (ix3 0 r c) := by
  refine shapeCast_apply v h _ _ ?_
  rw [Shape.rowMajor_val_three, Shape.rowMajor_val_two]
  show (0 * n + r.val) * m + c.val = r.val * m + c.val
  rw [Nat.zero_mul, Nat.zero_add]

/-- A matrix as one block of a stack. -/
theorem stack_apply {n m : ℕ} {α : Type} (v : (⟨2, ![n, m]⟩ : Shape).Idx → α) (h : (⟨2, ![n, m]⟩ : Shape).ShapeCasts ⟨3, ![1, n, m]⟩) (b : Fin 1) (r : Fin n) (c : Fin m) :
    shapeCast ⟨3, ![1, n, m]⟩ v h (ix3 b r c) = v (ix2 r c) := by
  refine shapeCast_apply v h _ _ ?_
  rw [Shape.rowMajor_val_three, Shape.rowMajor_val_two]
  have hb : b.val = 0 := by omega
  show r.val * m + c.val = (b.val * n + r.val) * m + c.val
  rw [hb, Nat.zero_mul, Nat.zero_add]

/-- A sum over `n` blocks of `k`. -/
theorem sum_blocks (n k : ℕ) (f : Fin (n * k) → EReal) :
    ∑ x : Fin (n * k), f x = ∑ q : Fin n, ∑ j : Fin k, f ⟨k * q.val + j.val, by
      have := q.isLt; have := j.isLt
      calc k * q.val + j.val < k * q.val + k := by omega
        _ = k * (q.val + 1) := by ring
        _ ≤ k * n := Nat.mul_le_mul_left _ (by omega)
        _ = n * k := Nat.mul_comm _ _⟩ := by
  rw [← Equiv.sum_comp finProdFinEquiv f, Fintype.sum_prod_type]
  refine Finset.sum_congr rfl fun q _ => Finset.sum_congr rfl fun j _ => congrArg f (Fin.ext ?_)
  show j.val + k * q.val = k * q.val + j.val
  exact Nat.add_comm _ _

end Cert.Mul
end
-- ==== Proof.In3.lean ====
/-
  The product of the joined gradients with the stacked weights' transpose: what the kernel's eight kinds of points leave, and what the reference computes.
-/
module

public import proofs.«01_k».proof.Proof.Mul
public import proofs.«01_k».proof.Proof.Gen.Kernel3Ideal.Value
public import proofs.«01_k».proof.Proof.Gen.Reference3Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel3Ideal Cert.Kernel3Ideal.Gen Cert.Kernel3Ideal.Value

namespace Cert.In3

/-- A product of a block of rows with one block of the weights. -/
theorem pay1_apply (a : Vec Ideal S512x512 .bf16) (b : Vec Ideal S1x1024x512 .bf16) (y : S512x1024.Idx) :
    k0_pay1 (F := Ideal) a b y = ∑ k : Fin 512, a (ix2 (y 0) k) * b (ix3 0 (y 1) k) := by
  unfold k0_pay1
  exact (rows_apply _ rfl _ _ _).trans (Finset.sum_congr rfl fun k _ => congrArg₂ _ rfl (unstack_apply _ _ _ _))

/-- The same, added to what was there. -/
theorem pay2_apply (a : Vec Ideal S512x512 .bf16) (b : Vec Ideal S1x1024x512 .bf16) (s : Vec Ideal S512x1024 .f32) (y : S512x1024.Idx) :
    k0_pay2 (F := Ideal) a b s y = s y + ∑ k : Fin 512, a (ix2 (y 0) k) * b (ix3 0 (y 1) k) := by
  have e : k0_pay2 (F := Ideal) a b s = addf s (k0_pay1 (F := Ideal) a b) := by
    unfold k0_pay2 k0_pay1
    simp only [shapeCast_self]
  rw [e]
  exact congrArg (s y + ·) (pay1_apply a b y)

/-- A block of the weights, as the kernel loads it. -/
theorem load_apply (v : View sig .tc .vmem S8x1024x512 .bf16) (f) (x : Vec Ideal S8x1024x512 .bf16) (h : v.read (Elt Ideal) f = x) (q : ℕ) (hq : q < 8) (inb) (j : Fin 1024) (k : Fin 512) :
    (v.readAt (Elt Ideal) (Rect.unit (s := S8x1024x512) ![q, 0, 0] S1x1024x512.size inb).toLoadRect f : Vec Ideal S1x1024x512 .bf16) (ix3 0 j k) = x (ix3 ⟨q, hq⟩ j k) := by
  rw [View.readAt_eq_ld, h]
  refine View.ld_unit_apply_of _ _ _ _ _ _ fun a => ?_
  match a with
  | ⟨0, _⟩ => rfl
  | ⟨1, _⟩ => exact (Nat.zero_add j.val).symm
  | ⟨2, _⟩ => exact (Nat.zero_add k.val).symm

variable (m : (ℓ : Loc nD τ sig) → Buf (Elt Ideal) ℓ) (c : Dev nD)

/-- A point's block of rows times the block of weights numbered `q`. -/
def part (x : Vec Ideal S512x512 .bf16) (w : Vec Ideal S8x1024x512 .bf16) (q : Fin 8) (y : S512x1024.Idx) : EReal :=
  ∑ k : Fin 512, x (ix2 (y 0) k) * w (ix3 q (y 1) k)

set_option maxHeartbeats 1000000 in
theorem at_A (t : Fin cfg0.N) (h : t.val % 8 = 0) (y : S512x1024.Idx) :
    outsAt0 m c t.val t.isLt y = part (iblk m c 0 t) (iblk m c 8 t) 0 y := by
  rw [outsAt0_A m c t (by omega) (by omega) (by omega) (by omega) (by omega) (by omega) (by omega) (by omega)]
  unfold out0_A_9
  rw [View.read_writes_eq_canon _ _ _ (fun z => cover0_A_9 _ _ _ _ _ _ _ _ _ _ _ _ _ _ _ _ _ _ _ _ _ _ _ _ _ _ _ _ _ _ _ _ _ _ _ _ _ _ _ z)]
  unfold kernelRun0_A
  dsimp only
  rw [View.canon_unit_zero zero2]
  refine (pay1_apply _ _ _).trans (Finset.sum_congr rfl fun k _ => congrArg₂ _ ?_ ?_)
  · simp only [View.readAt_eq_ld, (hs0_0 t).read_unread]
    exact ld_whole (iblk m c 0 t) _ _
  · exact load_apply _ _ _ ((hs0_8 t).read_unread _) 0 (by omega) _ _ _

set_option maxHeartbeats 1000000 in
theorem at_B (t : Fin cfg0.N) (h : t.val % 8 = 1) (y : S512x1024.Idx) :
    outsAt0 m c t.val t.isLt y = outsAt0 m c (t.val - 1) (Nat.lt_of_le_of_lt (Nat.sub_le _ _) t.isLt) y + part (iblk m c 1 t) (iblk m c 8 t) 1 y := by
  rw [outsAt0_B m c t (by omega) (by omega) (by omega) (by omega) (by omega) (by omega) (by omega) (by omega)]
  unfold out0_B_9
  rw [View.read_writes_eq_canon _ _ _ (fun z => cover0_B_9 _ _ _ _ _ _ _ _ _ _ _ _ _ _ _ _ _ _ _ _ _ _ _ _ _ _ _ _ _ _ _ _ _ _ _ _ _ _ _ _ z)]
  unfold kernelRun0_B
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_1 t).read_unread]
    exact ld_whole (iblk m c 1 t) _ _
  · exact load_apply _ _ _ ((hs0_8 t).read_unread _) 1 (by omega) _ _ _

set_option maxHeartbeats 1000000 in
theorem at_C (t : Fin cfg0.N) (h : t.val % 8 = 2) (y : S512x1024.Idx) :
    outsAt0 m c t.val t.isLt y = outsAt0 m c (t.val - 1) (Nat.lt_of_le_of_lt (Nat.sub_le _ _) t.isLt) y + part (iblk m c 2 t) (iblk m c 8 t) 2 y := by
  rw [outsAt0_C m c t (by omega) (by omega) (by omega) (by omega) (by omega) (by omega) (by omega) (by omega)]
  unfold out0_C_9
  rw [View.read_writes_eq_canon _ _ _ (fun z => cover0_C_9 _ _ _ _ _ _ _ _ _ _ _ _ _ _ _ _ _ _ _ _ _ _ _ _ _ _ _ _ _ _ _ _ _ _ _ _ _ _ _ _ z)]
  unfold kernelRun0_C
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_2 t).read_unread]
    exact ld_whole (iblk m c 2 t) _ _
  · exact load_apply _ _ _ ((hs0_8 t).read_unread _) 2 (by omega) _ _ _

set_option maxHeartbeats 1000000 in
theorem at_D (t : Fin cfg0.N) (h : t.val % 8 = 3) (y : S512x1024.Idx) :
    outsAt0 m c t.val t.isLt y = outsAt0 m c (t.val - 1) (Nat.lt_of_le_of_lt (Nat.sub_le _ _) t.isLt) y + part (iblk m c 3 t) (iblk m c 8 t) 3 y := by
  rw [outsAt0_D m c t (by omega) (by omega) (by omega) (by omega) (by omega) (by omega) (by omega) (by omega)]
  unfold out0_D_9
  rw [View.read_writes_eq_canon _ _ _ (fun z => cover0_D_9 _ _ _ _ _ _ _ _ _ _ _ _ _ _ _ _ _ _ _ _ _ _ _ _ _ _ _ _ _ _ _ _ _ _ _ _ _ _ _ _ z)]
  unfold kernelRun0_D
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_3 t).read_unread]
    exact ld_whole (iblk m c 3 t) _ _
  · exact load_apply _ _ _ ((hs0_8 t).read_unread _) 3 (by omega) _ _ _

set_option maxHeartbeats 1000000 in
theorem at_E (t : Fin cfg0.N) (h : t.val % 8 = 4) (y : S512x1024.Idx) :
    outsAt0 m c t.val t.isLt y = outsAt0 m c (t.val - 1) (Nat.lt_of_le_of_lt (Nat.sub_le _ _) t.isLt) y + part (iblk m c 4 t) (iblk m c 8 t) 4 y := by
  rw [outsAt0_E m c t (by omega) (by omega) (by omega) (by omega) (by omega) (by omega) (by omega) (by omega)]
  unfold out0_E_9
  rw [View.read_writes_eq_canon _ _ _ (fun z => cover0_E_9 _ _ _ _ _ _ _ _ _ _ _ _ _ _ _ _ _ _ _ _ _ _ _ _ _ _ _ _ _ _ _ _ _ _ _ _ _ _ _ _ z)]
  unfold kernelRun0_E
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_4 t).read_unread]
    exact ld_whole (iblk m c 4 t) _ _
  · exact load_apply _ _ _ ((hs0_8 t).read_unread _) 4 (by omega) _ _ _

set_option maxHeartbeats 1000000 in
theorem at_F (t : Fin cfg0.N) (h : t.val % 8 = 5) (y : S512x1024.Idx) :
    outsAt0 m c t.val t.isLt y = outsAt0 m c (t.val - 1) (Nat.lt_of_le_of_lt (Nat.sub_le _ _) t.isLt) y + part (iblk m c 5 t) (iblk m c 8 t) 5 y := by
  rw [outsAt0_F m c t (by omega) (by omega) (by omega) (by omega) (by omega) (by omega) (by omega) (by omega)]
  unfold out0_F_9
  rw [View.read_writes_eq_canon _ _ _ (fun z => cover0_F_9 _ _ _ _ _ _ _ _ _ _ _ _ _ _ _ _ _ _ _ _ _ _ _ _ _ _ _ _ _ _ _ _ _ _ _ _ _ _ _ _ z)]
  unfold kernelRun0_F
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_5 t).read_unread]
    exact ld_whole (iblk m c 5 t) _ _
  · exact load_apply _ _ _ ((hs0_8 t).read_unread _) 5 (by omega) _ _ _

set_option maxHeartbeats 1000000 in
theorem at_G (t : Fin cfg0.N) (h : t.val % 8 = 6) (y : S512x1024.Idx) :
    outsAt0 m c t.val t.isLt y = outsAt0 m c (t.val - 1) (Nat.lt_of_le_of_lt (Nat.sub_le _ _) t.isLt) y + part (iblk m c 6 t) (iblk m c 8 t) 6 y := by
  rw [outsAt0_G m c t (by omega) (by omega) (by omega) (by omega) (by omega) (by omega) (by omega) (by omega)]
  unfold out0_G_9
  rw [View.read_writes_eq_canon _ _ _ (fun z => cover0_G_9 _ _ _ _ _ _ _ _ _ _ _ _ _ _ _ _ _ _ _ _ _ _ _ _ _ _ _ _ _ _ _ _ _ _ _ _ _ _ _ _ z)]
  unfold kernelRun0_G
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_6 t).read_unread]
    exact ld_whole (iblk m c 6 t) _ _
  · exact load_apply _ _ _ ((hs0_8 t).read_unread _) 6 (by omega) _ _ _

set_option maxHeartbeats 1000000 in
theorem at_H (t : Fin cfg0.N) (h : t.val % 8 = 7) (y : S512x1024.Idx) :
    outsAt0 m c t.val t.isLt y = outsAt0 m c (t.val - 1) (Nat.lt_of_le_of_lt (Nat.sub_le _ _) t.isLt) y + part (iblk m c 7 t) (iblk m c 8 t) 7 y := by
  rw [outsAt0_H m c t (by omega) (by omega) (by omega) (by omega) (by omega) (by omega) (by omega) (by omega)]
  unfold out0_H_9
  rw [View.read_writes_eq_canon _ _ _ (fun z => cover0_H_9 _ _ _ _ _ _ _ _ _ _ _ _ _ _ _ _ _ _ _ _ _ _ _ _ _ _ _ _ _ _ _ _ _ _ _ _ _ _ _ _ z)]
  unfold kernelRun0_H
  dsimp only
  rw [View.canon_unit_zero zero2]
  refine (pay2_apply _ _ _ _).trans (congrArg₂ _ ?_ (Finset.sum_congr rfl fun k _ => congrArg₂ _ ?_ ?_))
  · simp only [View.readAt_eq_ld, (hs0_9 t).read_unread]
    exact ld_whole (outsAt0 m c (t.val - 1) (Nat.lt_of_le_of_lt (Nat.sub_le _ _) t.isLt)) _ _
  · simp only [View.readAt_eq_ld, (hs0_7 t).read_unread]
    exact ld_whole (iblk m c 7 t) _ _
  · exact load_apply _ _ _ ((hs0_8 t).read_unread _) 7 (by omega) _ _ _

/-- What the last of a row block's points leaves: the eight products, added. -/
theorem at_last (X : Fin 8 → Vec Ideal S4096x512 .bf16) (W : Vec Ideal S8x1024x512 .bf16) (s : ℕ) (hs : s < 8)
    (hX : ∀ (q : Fin 8) (t : Fin cfg0.N), t.val / 8 = s → ∀ y : S512x1024.Idx, ∀ r : Fin 4096, r.val = 512 * s + (y 0).val →
      (match q with
      | ⟨0, _⟩ => part (iblk m c 0 t) (iblk m c 8 t) 0 y
      | ⟨1, _⟩ => part (iblk m c 1 t) (iblk m c 8 t) 1 y
      | ⟨2, _⟩ => part (iblk m c 2 t) (iblk m c 8 t) 2 y
      | ⟨3, _⟩ => part (iblk m c 3 t) (iblk m c 8 t) 3 y
      | ⟨4, _⟩ => part (iblk m c 4 t) (iblk m c 8 t) 4 y
      | ⟨5, _⟩ => part (iblk m c 5 t) (iblk m c 8 t) 5 y
      | ⟨6, _⟩ => part (iblk m c 6 t) (iblk m c 8 t) 6 y
      | ⟨7, _⟩ => part (iblk m c 7 t) (iblk m c 8 t) 7 y) = ∑ k : Fin 512, X q (ix2 r k) * W (ix3 q (y 1) k))
    (n : ℕ) (hn : n < cfg0.N) (h7 : n = 8 * s + 7) (y : S512x1024.Idx) (r : Fin 4096) (hr : r.val = 512 * s + (y 0).val) :
    outsAt0 m c n hn y = ∑ q : Fin 8, ∑ k : Fin 512, X q (ix2 r k) * W (ix3 q (y 1) k) := by
  have hN : cfg0.N = 64 := N_0
  have g0 := (at_A m c ⟨8 * s, by omega⟩ (by show (8 * s) % 8 = 0; omega) y).trans (hX 0 ⟨8 * s, by omega⟩ (by show (8 * s) / 8 = s; omega) y r hr)
  have g1 := (at_B m c ⟨8 * s + 1, by omega⟩ (by show (8 * s + 1) % 8 = 1; omega) y).trans (congrArg₂ _ g0 (hX 1 ⟨8 * s + 1, by omega⟩ (by show (8 * s + 1) / 8 = s; omega) y r hr))
  have g2 := (at_C m c ⟨8 * s + 2, by omega⟩ (by show (8 * s + 2) % 8 = 2; omega) y).trans (congrArg₂ _ g1 (hX 2 ⟨8 * s + 2, by omega⟩ (by show (8 * s + 2) / 8 = s; omega) y r hr))
  have g3 := (at_D m c ⟨8 * s + 3, by omega⟩ (by show (8 * s + 3) % 8 = 3; omega) y).trans (congrArg₂ _ g2 (hX 3 ⟨8 * s + 3, by omega⟩ (by show (8 * s + 3) / 8 = s; omega) y r hr))
  have g4 := (at_E m c ⟨8 * s + 4, by omega⟩ (by show (8 * s + 4) % 8 = 4; omega) y).trans (congrArg₂ _ g3 (hX 4 ⟨8 * s + 4, by omega⟩ (by show (8 * s + 4) / 8 = s; omega) y r hr))
  have g5 := (at_F m c ⟨8 * s + 5, by omega⟩ (by show (8 * s + 5) % 8 = 5; omega) y).trans (congrArg₂ _ g4 (hX 5 ⟨8 * s + 5, by omega⟩ (by show (8 * s + 5) / 8 = s; omega) y r hr))
  have g6 := (at_G m c ⟨8 * s + 6, by omega⟩ (by show (8 * s + 6) % 8 = 6; omega) y).trans (congrArg₂ _ g5 (hX 6 ⟨8 * s + 6, by omega⟩ (by show (8 * s + 6) / 8 = s; omega) y r hr))
  have g7 := (at_H m c ⟨8 * s + 7, by omega⟩ (by show (8 * s + 7) % 8 = 7; omega) y).trans (congrArg₂ _ g6 (hX 7 ⟨8 * s + 7, by omega⟩ (by show (8 * s + 7) / 8 = s; omega) y r hr))
  subst h7
  rw [Fin.sum_univ_eight]
  exact g7

theorem idxw : ∀ t : Fin cfg0.N, win0_8.index t (0 : Fin 3) = 0 ∧ win0_8.index t (1 : Fin 3) = 0 ∧ win0_8.index t (2 : Fin 3) = 0 :=
  (by decide +kernel : ∀ t : Fin grid0.N, _)
theorem idxo : ∀ t : Fin cfg0.N, win0_9.index t (0 : Fin 2) = t.val / 8 ∧ win0_9.index t (1 : Fin 2) = 0 :=
  (by decide +kernel : ∀ t : Fin grid0.N, _)

theorem blkw (t : Fin cfg0.N) (q : Fin 8) (j : Fin 1024) (k : Fin 512) :
    (iblk m c 8 t : FVec Ideal S8x1024x512 .bf16) (ix3 q j k) = (m ((c : Thread nD τ).loc main_arg0) : FVec Ideal S8x1024x512 .bf16) (ix3 q j k) := by
  obtain ⟨e0, e1, e2⟩ := idxw t
  unfold iblk
  rw [View.read_apply]
  have e : (V m c main_arg0 : FVec Ideal S8x1024x512 .bf16) = (m ((c : Thread nD τ).loc main_arg0) : FVec Ideal S8x1024x512 .bf16) := V_main_arg0 m c
  show (V m c main_arg0 : FVec Ideal S8x1024x512 .bf16) (((cfg0.win 8).blk t).view.emb (ix3 q j k)) = _
  rw [e]
  congr 1
  funext a
  apply Fin.ext
  match a with
  | ⟨0, _⟩ => show win0_8.index t (0 : Fin 3) * 8 + 1 * q.val = q.val; omega
  | ⟨1, _⟩ => show win0_8.index t (1 : Fin 3) * 1024 + 1 * j.val = j.val; omega
  | ⟨2, _⟩ => show win0_8.index t (2 : Fin 3) * 512 + 1 * k.val = k.val; omega

theorem idx0 : ∀ t : Fin cfg0.N, win0_0.index t (0 : Fin 2) = t.val / 8 ∧ win0_0.index t (1 : Fin 2) = 0 :=
  (by decide +kernel : ∀ t : Fin grid0.N, _)
theorem blk0 (t : Fin cfg0.N) (y : Fin 512) (k : Fin 512) (r : Fin 4096) (hr : r.val = 512 * (t.val / 8) + y.val) :
    (iblk m c 0 t : FVec Ideal S512x512 .bf16) (ix2 y k) = (m ((c : Thread nD τ).loc main_arg1) : FVec Ideal S4096x512 .bf16) (ix2 r k) := by
  obtain ⟨e0, e1⟩ := idx0 t
  unfold iblk
  rw [View.read_apply]
  have e : (V m c main_arg1 : FVec Ideal S4096x512 .bf16) = (m ((c : Thread nD τ).loc main_arg1) : FVec Ideal S4096x512 .bf16) := V_main_arg1 m c
  show (V m c main_arg1 : FVec Ideal S4096x512 .bf16) (((cfg0.win 0).blk t).view.emb (ix2 y k)) = _
  rw [e]
  congr 1
  funext a
  apply Fin.ext
  match a with
  | ⟨0, _⟩ => show win0_0.index t (0 : Fin 2) * 512 + 1 * y.val = r.val; omega
  | ⟨1, _⟩ => show win0_0.index t (1 : Fin 2) * 512 + 1 * k.val = k.val; omega

theorem idx1 : ∀ t : Fin cfg0.N, win0_1.index t (0 : Fin 2) = t.val / 8 ∧ win0_1.index t (1 : Fin 2) = 0 :=
  (by decide +kernel : ∀ t : Fin grid0.N, _)
theorem blk1 (t : Fin cfg0.N) (y : Fin 512) (k : Fin 512) (r : Fin 4096) (hr : r.val = 512 * (t.val / 8) + y.val) :
    (iblk m c 1 t : FVec Ideal S512x512 .bf16) (ix2 y k) = (m ((c : Thread nD τ).loc main_arg2) : FVec Ideal S4096x512 .bf16) (ix2 r k) := by
  obtain ⟨e0, e1⟩ := idx1 t
  unfold iblk
  rw [View.read_apply]
  have e : (V m c main_arg2 : FVec Ideal S4096x512 .bf16) = (m ((c : Thread nD τ).loc main_arg2) : FVec Ideal S4096x512 .bf16) := V_main_arg2 m c
  show (V m c main_arg2 : FVec Ideal S4096x512 .bf16) (((cfg0.win 1).blk t).view.emb (ix2 y k)) = _
  rw [e]
  congr 1
  funext a
  apply Fin.ext
  match a with
  | ⟨0, _⟩ => show win0_1.index t (0 : Fin 2) * 512 + 1 * y.val = r.val; omega
  | ⟨1, _⟩ => show win0_1.index t (1 : Fin 2) * 512 + 1 * k.val = k.val; omega

theorem idx2 : ∀ t : Fin cfg0.N, win0_2.index t (0 : Fin 2) = t.val / 8 ∧ win0_2.index t (1 : Fin 2) = 0 :=
  (by decide +kernel : ∀ t : Fin grid0.N, _)
theorem blk2 (t : Fin cfg0.N) (y : Fin 512) (k : Fin 512) (r : Fin 4096) (hr : r.val = 512 * (t.val / 8) + y.val) :
    (iblk m c 2 t : FVec Ideal S512x512 .bf16) (ix2 y k) = (m ((c : Thread nD τ).loc main_arg3) : FVec Ideal S4096x512 .bf16) (ix2 r k) := by
  obtain ⟨e0, e1⟩ := idx2 t
  unfold iblk
  rw [View.read_apply]
  have e : (V m c main_arg3 : FVec Ideal S4096x512 .bf16) = (m ((c : Thread nD τ).loc main_arg3) : FVec Ideal S4096x512 .bf16) := V_main_arg3 m c
  show (V m c main_arg3 : FVec Ideal S4096x512 .bf16) (((cfg0.win 2).blk t).view.emb (ix2 y k)) = _
  rw [e]
  congr 1
  funext a
  apply Fin.ext
  match a with
  | ⟨0, _⟩ => show win0_2.index t (0 : Fin 2) * 512 + 1 * y.val = r.val; omega
  | ⟨1, _⟩ => show win0_2.index t (1 : Fin 2) * 512 + 1 * k.val = k.val; omega

theorem idx3 : ∀ t : Fin cfg0.N, win0_3.index t (0 : Fin 2) = t.val / 8 ∧ win0_3.index t (1 : Fin 2) = 0 :=
  (by decide +kernel : ∀ t : Fin grid0.N, _)
theorem blk3 (t : Fin cfg0.N) (y : Fin 512) (k : Fin 512) (r : Fin 4096) (hr : r.val = 512 * (t.val / 8) + y.val) :
    (iblk m c 3 t : FVec Ideal S512x512 .bf16) (ix2 y k) = (m ((c : Thread nD τ).loc main_arg4) : FVec Ideal S4096x512 .bf16) (ix2 r k) := by
  obtain ⟨e0, e1⟩ := idx3 t
  unfold iblk
  rw [View.read_apply]
  have e : (V m c main_arg4 : FVec Ideal S4096x512 .bf16) = (m ((c : Thread nD τ).loc main_arg4) : FVec Ideal S4096x512 .bf16) := V_main_arg4 m c
  show (V m c main_arg4 : FVec Ideal S4096x512 .bf16) (((cfg0.win 3).blk t).view.emb (ix2 y k)) = _
  rw [e]
  congr 1
  funext a
  apply Fin.ext
  match a with
  | ⟨0, _⟩ => show win0_3.index t (0 : Fin 2) * 512 + 1 * y.val = r.val; omega
  | ⟨1, _⟩ => show win0_3.index t (1 : Fin 2) * 512 + 1 * k.val = k.val; omega

theorem idx4 : ∀ t : Fin cfg0.N, win0_4.index t (0 : Fin 2) = t.val / 8 ∧ win0_4.index t (1 : Fin 2) = 0 :=
  (by decide +kernel : ∀ t : Fin grid0.N, _)
theorem blk4 (t : Fin cfg0.N) (y : Fin 512) (k : Fin 512) (r : Fin 4096) (hr : r.val = 512 * (t.val / 8) + y.val) :
    (iblk m c 4 t : FVec Ideal S512x512 .bf16) (ix2 y k) = (m ((c : Thread nD τ).loc main_arg5) : FVec Ideal S4096x512 .bf16) (ix2 r k) := by
  obtain ⟨e0, e1⟩ := idx4 t
  unfold iblk
  rw [View.read_apply]
  have e : (V m c main_arg5 : FVec Ideal S4096x512 .bf16) = (m ((c : Thread nD τ).loc main_arg5) : FVec Ideal S4096x512 .bf16) := V_main_arg5 m c
  show (V m c main_arg5 : FVec Ideal S4096x512 .bf16) (((cfg0.win 4).blk t).view.emb (ix2 y k)) = _
  rw [e]
  congr 1
  funext a
  apply Fin.ext
  match a with
  | ⟨0, _⟩ => show win0_4.index t (0 : Fin 2) * 512 + 1 * y.val = r.val; omega
  | ⟨1, _⟩ => show win0_4.index t (1 : Fin 2) * 512 + 1 * k.val = k.val; omega

theorem idx5 : ∀ t : Fin cfg0.N, win0_5.index t (0 : Fin 2) = t.val / 8 ∧ win0_5.index t (1 : Fin 2) = 0 :=
  (by decide +kernel : ∀ t : Fin grid0.N, _)
theorem blk5 (t : Fin cfg0.N) (y : Fin 512) (k : Fin 512) (r : Fin 4096) (hr : r.val = 512 * (t.val / 8) + y.val) :
    (iblk m c 5 t : FVec Ideal S512x512 .bf16) (ix2 y k) = (m ((c : Thread nD τ).loc main_arg6) : FVec Ideal S4096x512 .bf16) (ix2 r k) := by
  obtain ⟨e0, e1⟩ := idx5 t
  unfold iblk
  rw [View.read_apply]
  have e : (V m c main_arg6 : FVec Ideal S4096x512 .bf16) = (m ((c : Thread nD τ).loc main_arg6) : FVec Ideal S4096x512 .bf16) := V_main_arg6 m c
  show (V m c main_arg6 : FVec Ideal S4096x512 .bf16) (((cfg0.win 5).blk t).view.emb (ix2 y k)) = _
  rw [e]
  congr 1
  funext a
  apply Fin.ext
  match a with
  | ⟨0, _⟩ => show win0_5.index t (0 : Fin 2) * 512 + 1 * y.val = r.val; omega
  | ⟨1, _⟩ => show win0_5.index t (1 : Fin 2) * 512 + 1 * k.val = k.val; omega

theorem idx6 : ∀ t : Fin cfg0.N, win0_6.index t (0 : Fin 2) = t.val / 8 ∧ win0_6.index t (1 : Fin 2) = 0 :=
  (by decide +kernel : ∀ t : Fin grid0.N, _)
theorem blk6 (t : Fin cfg0.N) (y : Fin 512) (k : Fin 512) (r : Fin 4096) (hr : r.val = 512 * (t.val / 8) + y.val) :
    (iblk m c 6 t : FVec Ideal S512x512 .bf16) (ix2 y k) = (m ((c : Thread nD τ).loc main_arg7) : FVec Ideal S4096x512 .bf16) (ix2 r k) := by
  obtain ⟨e0, e1⟩ := idx6 t
  unfold iblk
  rw [View.read_apply]
  have e : (V m c main_arg7 : FVec Ideal S4096x512 .bf16) = (m ((c : Thread nD τ).loc main_arg7) : FVec Ideal S4096x512 .bf16) := V_main_arg7 m c
  show (V m c main_arg7 : FVec Ideal S4096x512 .bf16) (((cfg0.win 6).blk t).view.emb (ix2 y k)) = _
  rw [e]
  congr 1
  funext a
  apply Fin.ext
  match a with
  | ⟨0, _⟩ => show win0_6.index t (0 : Fin 2) * 512 + 1 * y.val = r.val; omega
  | ⟨1, _⟩ => show win0_6.index t (1 : Fin 2) * 512 + 1 * k.val = k.val; omega

theorem idx7 : ∀ t : Fin cfg0.N, win0_7.index t (0 : Fin 2) = t.val / 8 ∧ win0_7.index t (1 : Fin 2) = 0 :=
  (by decide +kernel : ∀ t : Fin grid0.N, _)
theorem blk7 (t : Fin cfg0.N) (y : Fin 512) (k : Fin 512) (r : Fin 4096) (hr : r.val = 512 * (t.val / 8) + y.val) :
    (iblk m c 7 t : FVec Ideal S512x512 .bf16) (ix2 y k) = (m ((c : Thread nD τ).loc main_arg8) : FVec Ideal S4096x512 .bf16) (ix2 r k) := by
  obtain ⟨e0, e1⟩ := idx7 t
  unfold iblk
  rw [View.read_apply]
  have e : (V m c main_arg8 : FVec Ideal S4096x512 .bf16) = (m ((c : Thread nD τ).loc main_arg8) : FVec Ideal S4096x512 .bf16) := V_main_arg8 m c
  show (V m c main_arg8 : FVec Ideal S4096x512 .bf16) (((cfg0.win 7).blk t).view.emb (ix2 y k)) = _
  rw [e]
  congr 1
  funext a
  apply Fin.ext
  match a with
  | ⟨0, _⟩ => show win0_7.index t (0 : Fin 2) * 512 + 1 * y.val = r.val; omega
  | ⟨1, _⟩ => show win0_7.index t (1 : Fin 2) * 512 + 1 * k.val = k.val; omega

/-- The eight pieces, by number. -/
def pieces (x1 x2 x3 x4 x5 x6 x7 x8 : FVec Ideal S4096x512 .bf16) : Fin 8 → FVec Ideal S4096x512 .bf16
  | ⟨0, _⟩ => x1
  | ⟨1, _⟩ => x2
  | ⟨2, _⟩ => x3
  | ⟨3, _⟩ => x4
  | ⟨4, _⟩ => x5
  | ⟨5, _⟩ => x6
  | ⟨6, _⟩ => x7
  | ⟨7, _⟩ => x8

/-- A row of the joined pieces times a row of the stacked weights, block by block. -/
def prod (X : Fin 8 → FVec Ideal S4096x512 .bf16) (W : FVec Ideal S8x1024x512 .bf16) : FVec Ideal S4096x1024 .f32 := fun i =>
  ∑ q : Fin 8, ∑ k : Fin 512, X q (ix2 (i 0) k) * W (ix3 q (i 1) k)

/-- The pieces the kernel is given. -/
abbrev given : Fin 8 → FVec Ideal S4096x512 .bf16 :=
  pieces (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The array after the run. -/
theorem arr : @Eq (FVec Ideal S4096x1024 .f32) ((dats m 0 c).arrAt 9 cfg0.N) (prod (given m c) (m ((c : Thread nD τ).loc main_arg0))) := by
  have hN : cfg0.N = 64 := N_0
  refine (dats m 0 c).arrAt_eq_of_cover 9 (prod (given m c) (m ((c : Thread nD τ).loc main_arg0))) (fun t hf => ?_) (fun i => ?_)
  · have h7 : t.val % 8 = 7 := (flush0_9 t).mp hf
    obtain ⟨e0, e1⟩ := idxo t
    rw [flushed9]
    funext y
    have hy : (y 0).val < 512 := (y 0).isLt
    have ht : t.val < 64 := hN ▸ t.isLt
    rw [View.read_apply]
    have E := at_last m c (given m c) (m ((c : Thread nD τ).loc main_arg0)) (t.val / 8) (by omega) (fun q t' ht' y r hr => by
      match q with
      | ⟨0, _⟩ => exact Finset.sum_congr rfl fun k _ => congrArg₂ _ (blk0 m c t' (y 0) k r (by rw [ht']; exact hr)) (blkw m c t' 0 (y 1) k)
      | ⟨1, _⟩ => exact Finset.sum_congr rfl fun k _ => congrArg₂ _ (blk1 m c t' (y 0) k r (by rw [ht']; exact hr)) (blkw m c t' 1 (y 1) k)
      | ⟨2, _⟩ => exact Finset.sum_congr rfl fun k _ => congrArg₂ _ (blk2 m c t' (y 0) k r (by rw [ht']; exact hr)) (blkw m c t' 2 (y 1) k)
      | ⟨3, _⟩ => exact Finset.sum_congr rfl fun k _ => congrArg₂ _ (blk3 m c t' (y 0) k r (by rw [ht']; exact hr)) (blkw m c t' 3 (y 1) k)
      | ⟨4, _⟩ => exact Finset.sum_congr rfl fun k _ => congrArg₂ _ (blk4 m c t' (y 0) k r (by rw [ht']; exact hr)) (blkw m c t' 4 (y 1) k)
      | ⟨5, _⟩ => exact Finset.sum_congr rfl fun k _ => congrArg₂ _ (blk5 m c t' (y 0) k r (by rw [ht']; exact hr)) (blkw m c t' 5 (y 1) k)
      | ⟨6, _⟩ => exact Finset.sum_congr rfl fun k _ => congrArg₂ _ (blk6 m c t' (y 0) k r (by rw [ht']; exact hr)) (blkw m c t' 6 (y 1) k)
      | ⟨7, _⟩ => exact Finset.sum_congr rfl fun k _ => congrArg₂ _ (blk7 m c t' (y 0) k r (by rw [ht']; exact hr)) (blkw m c t' 7 (y 1) k)
      ) t.val t.isLt (by omega) y (((cfg0.win 9).blk t).view.emb y 0) (by
        show win0_9.index t (0 : Fin 2) * 512 + 1 * (y 0).val = _; omega)
    refine E.trans ?_
    have ec : (((cfg0.win 9).blk t).view.emb y 1 : Fin 1024) = y 1 := Fin.ext (by
      show win0_9.index t (1 : Fin 2) * 1024 + 1 * (y 1).val = (y 1).val; omega)
    show _ = ∑ q : Fin 8, ∑ k : Fin 512, given m c q (ix2 (((cfg0.win 9).blk t).view.emb y 0) k) * (m ((c : Thread nD τ).loc main_arg0) : FVec Ideal S8x1024x512 .bf16) (ix3 q (((cfg0.win 9).blk t).view.emb y 1 : Fin 1024) k)
    rw [ec]
  · have h0 : (i 0).val < 4096 := (i 0).isLt
    have h1 : (i 1).val < 1024 := (i 1).isLt
    obtain ⟨t, ht⟩ : ∃ t : Fin cfg0.N, t.val = 8 * ((i 0).val / 512) + 7 := ⟨⟨_, by omega⟩, rfl⟩
    obtain ⟨e0, e1⟩ := idxo t
    refine ⟨t, (flush0_9 t).mpr (by omega), ?_⟩
    show i ∈ ((View.whole main_v0).slice (win0_9.rect t)).set
    rw [View.set_slice_whole, Rect.mem_set_unit]
    intro a
    match a with
    | ⟨0, _⟩ => show win0_9.index t (0 : Fin 2) * 512 ≤ (i 0).val ∧ (i 0).val < win0_9.index t (0 : Fin 2) * 512 + 512; omega
    | ⟨1, _⟩ => show win0_9.index t (1 : Fin 2) * 1024 ≤ (i 1).val ∧ (i 1).val < win0_9.index t (1 : Fin 2) * 1024 + 1024; omega

/-- The joined pieces, at an index. -/
theorem joined (x1 x2 x3 x4 x5 x6 x7 x8 : FVec Ideal S4096x512 .bf16) (i : Cert.Reference3Ideal.S4096x4096.Idx) (q : Fin 8) (k : Fin 512) (h : (i 1).val = 512 * q.val + k.val) :
    Cert.Reference3Ideal.Read.val_main_v3 (F := Ideal) x1 x2 x3 x4 x5 x6 x7 x8 i = pieces x1 x2 x3 x4 x5 x6 x7 x8 q (ix2 (i 0) k) := by
  unfold Cert.Reference3Ideal.Read.val_main_v3
  match q with
  | ⟨0, _⟩ =>
    have hp : (i 1).val = 512 * 0 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 0 (by show 0 < 8; decide) S4096x512 x1 rfl rfl 0 rfl (ix2 (i 0) k) (fun b hb => ?_) (by show 0 + k.val = (i 1).val; omega)
    match b with
    | ⟨0, _⟩ => rfl
    | ⟨1, _⟩ => exact absurd rfl hb
  | ⟨1, _⟩ =>
    have hp : (i 1).val = 512 * 1 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 1 (by show 1 < 8; decide) S4096x512 x2 rfl rfl 512 rfl (ix2 (i 0) k) (fun b hb => ?_) (by show 512 + k.val = (i 1).val; omega)
    match b with
    | ⟨0, _⟩ => rfl
    | ⟨1, _⟩ => exact absurd rfl hb
  | ⟨2, _⟩ =>
    have hp : (i 1).val = 512 * 2 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 2 (by show 2 < 8; decide) S4096x512 x3 rfl rfl 1024 rfl (ix2 (i 0) k) (fun b hb => ?_) (by show 1024 + k.val = (i 1).val; omega)
    match b with
    | ⟨0, _⟩ => rfl
    | ⟨1, _⟩ => exact absurd rfl hb
  | ⟨3, _⟩ =>
    have hp : (i 1).val = 512 * 3 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 3 (by show 3 < 8; decide) S4096x512 x4 rfl rfl 1536 rfl (ix2 (i 0) k) (fun b hb => ?_) (by show 1536 + k.val = (i 1).val; omega)
    match b with
    | ⟨0, _⟩ => rfl
    | ⟨1, _⟩ => exact absurd rfl hb
  | ⟨4, _⟩ =>
    have hp : (i 1).val = 512 * 4 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 4 (by show 4 < 8; decide) S4096x512 x5 rfl rfl 2048 rfl (ix2 (i 0) k) (fun b hb => ?_) (by show 2048 + k.val = (i 1).val; omega)
    match b with
    | ⟨0, _⟩ => rfl
    | ⟨1, _⟩ => exact absurd rfl hb
  | ⟨5, _⟩ =>
    have hp : (i 1).val = 512 * 5 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 5 (by show 5 < 8; decide) S4096x512 x6 rfl rfl 2560 rfl (ix2 (i 0) k) (fun b hb => ?_) (by show 2560 + k.val = (i 1).val; omega)
    match b with
    | ⟨0, _⟩ => rfl
    | ⟨1, _⟩ => exact absurd rfl hb
  | ⟨6, _⟩ =>
    have hp : (i 1).val = 512 * 6 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 6 (by show 6 < 8; decide) S4096x512 x7 rfl rfl 3072 rfl (ix2 (i 0) k) (fun b hb => ?_) (by show 3072 + k.val = (i 1).val; omega)
    match b with
    | ⟨0, _⟩ => rfl
    | ⟨1, _⟩ => exact absurd rfl hb
  | ⟨7, _⟩ =>
    have hp : (i 1).val = 512 * 7 + k.val := h
    refine concatenate_apply_piece (1 : Fin 2) [⟨S4096x512, x1⟩, ⟨S4096x512, x2⟩, ⟨S4096x512, x3⟩, ⟨S4096x512, x4⟩, ⟨S4096x512, x5⟩, ⟨S4096x512, x6⟩, ⟨S4096x512, x7⟩, ⟨S4096x512, x8⟩] _ i 7 (by show 7 < 8; decide) S4096x512 x8 rfl rfl 3584 rfl (ix2 (i 0) k) (fun b hb => ?_) (by show 3584 + k.val = (i 1).val; omega)
    match b with
    | ⟨0, _⟩ => rfl
    | ⟨1, _⟩ => exact absurd rfl hb

/-- The reference: the same sums. -/
theorem ref (x0 : FVec Ideal S8x1024x512 .bf16) (x1 x2 x3 x4 x5 x6 x7 x8 : FVec Ideal S4096x512 .bf16) :
    @Eq (FVec Ideal S4096x1024 .f32) (Cert.Reference3Ideal.Read.val_main_v7 (F := Ideal) x0 x1 x2 x3 x4 x5 x6 x7 x8) (prod (pieces x1 x2 x3 x4 x5 x6 x7 x8) x0) := by
  funext i
  rw [Cert.Reference3Ideal.Read.val_main_v7_apply, sum_blocks 8 512]
  refine Finset.sum_congr rfl fun q _ => Finset.sum_congr rfl fun k _ => ?_
  have hq := q.isLt
  have hk := k.isLt
  have hi := (i 1).isLt
  rw [Cert.Reference3Ideal.Read.val_main_v6_apply, Cert.Reference3Ideal.Read.val_main_v2_apply, Cert.Reference3Ideal.Read.val_main_v1_apply, Cert.Reference3Ideal.Read.val_main_v0_apply]
  refine congrArg₂ _ ((joined x1 x2 x3 x4 x5 x6 x7 x8 _ q k rfl).trans rfl) (congrArg x0 (funext fun a => Fin.ext ?_))
  match a with
  | ⟨0, _⟩ => show ((i 1).val * 4096 + (512 * q.val + k.val)) / 512 % 8 = q.val; omega
  | ⟨1, _⟩ => show ((i 1).val * 4096 + (512 * q.val + k.val)) / 4096 = (i 1).val; omega
  | ⟨2, _⟩ => show ((i 1).val * 4096 + (512 * q.val + k.val)) % 512 = k.val; omega

end Cert.In3
end
-- ==== Proof.In4.lean ====
/-
  The forward product with the stacked weights: what the kernel writes and what the reference computes.
-/
module

public import proofs.«01_k».proof.Proof.Mul
public import proofs.«01_k».proof.Proof.Gen.Kernel4Ideal.Value
public import proofs.«01_k».proof.Proof.Gen.Reference4Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel4Ideal Cert.Kernel4Ideal.Gen Cert.Kernel4Ideal.Value

namespace Cert.In4

theorem off_eq (i : grid0.Coords) : k0_off1 i = ![512 * (i 1).val, 0] := by
  have h : (i 1).val < 8 := (i 1).isLt
  unfold k0_off1
  generalize (i 1).val = n at h
  interval_cases n <;> rfl

/-- What a point leaves: its rows times its block of the weights. -/
theorem point_apply (c : Dev nD) (i : grid0.Coords) (a2 : Memref sig .tc .vmem S4096x1024 .bf16) (h2 : a2.IsWhole) (a3 : Memref sig .tc .vmem S1x1024x512 .bf16) (h3 : a3.IsWhole)
    (a4 : Memref sig .tc .vmem S512x512 .f32) (h4 : a4.IsWhole) (x0 : Vec Ideal S4096x1024 .bf16) (x1 : Vec Ideal S1x1024x512 .bf16) (y : S512x512.Idx) (r : Fin 4096) (hr : r.val = 512 * (i 1).val + (y 0).val) :
    out0_A_2 (F := Ideal) c i a2 h2 a3 h3 a4 h4 x0 x1 y = ∑ k : Fin 1024, x0 (ix2 r k) * x1 (ix3 0 k (y 1)) := by
  unfold out0_A_2
  rw [View.read_writes_eq_canon _ _ _ (cover0_A_2 c i a2 h2 a3 h3 a4 h4 x0 x1)]
  unfold kernelRun0_A
  dsimp only
  rw [View.canon_unit_zero zero2]
  unfold k0_pay1
  refine (plain_apply _ rfl _ _ _).trans (Finset.sum_congr rfl fun k _ => ?_)
  refine congrArg₂ _ ?_ ((unstack_apply _ _ _ _).trans ?_)
  · simp only [View.readAt_eq_ld, h2.read_unread]
    refine View.ld_unit_apply_of _ _ _ _ _ _ fun a => ?_
    have ho := congrFun (off_eq i) a
    match a with
    | ⟨0, _⟩ => exact hr.trans (congrArg (· + (y 0).val) ho.symm)
    | ⟨1, _⟩ => exact (Nat.zero_add k.val).symm.trans (congrArg (· + k.val) ho.symm)
  · simp only [View.readAt_eq_ld, h3.read_unread]
    refine View.ld_unit_apply_of _ _ _ _ _ _ fun a => ?_
    match a with
    | ⟨0, _⟩ => rfl
    | ⟨1, _⟩ => exact (Nat.zero_add k.val).symm
    | ⟨2, _⟩ => exact (Nat.zero_add (y 1).val).symm

variable (m : (ℓ : Loc nD τ sig) → Buf (Elt Ideal) ℓ) (c : Dev nD)

theorem coords_val : ∀ t : Fin cfg0.N, (grid0.coords t 1).val = t.val % 8 :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val % 8 ∧ win0_2.index t (1 : Fin 2) = t.val / 8 :=
  (by decide +kernel : ∀ t : Fin grid0.N, _)

theorem blk0 (t : Fin cfg0.N) (r : Fin 4096) (k : Fin 1024) :
    (iblk m c 0 t : FVec Ideal S4096x1024 .bf16) (ix2 r k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 1024 + 1 * k.val = k.val; omega

theorem blk1 (t : Fin cfg0.N) (b : Fin 8) (hb : b.val = t.val / 8) (k : Fin 1024) (j : Fin 512) :
    (iblk m c 1 t : FVec Ideal S1x1024x512 .bf16) (ix3 0 k j) = (m ((c : Thread nD τ).loc main_arg1) : FVec Ideal S8x1024x512 .bf16) (ix3 b k j) := by
  obtain ⟨e0, e1, e2⟩ := idx1 t
  unfold iblk
  rw [View.read_apply]
  have e : (V m c main_arg1 : FVec Ideal S8x1024x512 .bf16) = (m ((c : Thread nD τ).loc main_arg1) : FVec Ideal S8x1024x512 .bf16) := V_main_arg1 m c
  show (V m c main_arg1 : FVec Ideal S8x1024x512 .bf16) (((cfg0.win 1).blk t).view.emb (ix3 0 k j)) = _
  rw [e]
  congr 1
  funext a
  apply Fin.ext
  match a with
  | ⟨0, _⟩ => show win0_1.index t (0 : Fin 3) * 1 + 1 * 0 = b.val; omega
  | ⟨1, _⟩ => show win0_1.index t (1 : Fin 3) * 1024 + 1 * k.val = k.val; omega
  | ⟨2, _⟩ => show win0_1.index t (2 : Fin 3) * 512 + 1 * j.val = j.val; omega

/-- A row of the input times a column of the stacked weights. -/
def prod (X : FVec Ideal S4096x1024 .bf16) (W : FVec Ideal S8x1024x512 .bf16) : FVec Ideal S4096x4096 .f32 := fun i =>
  ∑ k : Fin 1024, X (ix2 (i 0) k) * W (ix3 ⟨(i 1).val / 512, by have : (i 1).val < 4096 := (i 1).isLt; omega⟩ k ⟨(i 1).val % 512, Nat.mod_lt _ (by decide)⟩)

/-- The array after the run. -/
theorem arr : @Eq (FVec Ideal S4096x4096 .f32) ((dats m 0 c).arrAt 2 cfg0.N)
    (prod (m ((c : Thread nD τ).loc main_arg0)) (m ((c : Thread nD τ).loc main_arg1))) := by
  funext i
  have hi0 : (i 0).val < 4096 := (i 0).isLt
  have hi1 : (i 1).val < 4096 := (i 1).isLt
  have hN : cfg0.N = 64 := N_0
  obtain ⟨t, ht⟩ : ∃ t : Fin cfg0.N, t.val = 8 * ((i 1).val / 512) + (i 0).val / 512 := ⟨⟨_, by omega⟩, rfl⟩
  have hw := blocks2 m c t (flush0_2 t)
  rw [flushed2_A] at hw
  obtain ⟨e0, e1⟩ := idx2 t
  let y : S512x512.Idx := fun a => match a with
    | ⟨0, _⟩ => ⟨(i 0).val % 512, Nat.mod_lt _ (by decide)⟩
    | ⟨1, _⟩ => ⟨(i 1).val % 512, Nat.mod_lt _ (by decide)⟩
  have hy := congrFun hw y
  have hemb : ((cfg0.win 2).blk t).view.emb y = i := by
    funext a
    apply Fin.ext
    match a with
    | ⟨0, _⟩ => show win0_2.index t (0 : Fin 2) * 512 + 1 * ((i 0).val % 512) = (i 0).val; omega
    | ⟨1, _⟩ => show win0_2.index t (1 : Fin 2) * 512 + 1 * ((i 1).val % 512) = (i 1).val; omega
  have hc := coords_val t
  refine Eq.trans ?_ (hy.trans (((point_apply c (grid0.coords t) _ _ _ _ _ _ _ _ y (i 0) ?_)).trans (Finset.sum_congr rfl fun k _ => ?_)))
  · rw [View.read_apply, hemb]; rfl
  · show (i 0).val = 512 * (grid0.coords t 1).val + (i 0).val % 512
    rw [hc]; omega
  · exact congrArg₂ _ (blk0 m c t _ k) (blk1 m c t ⟨(i 1).val / 512, by omega⟩ (by show (i 1).val / 512 = _; omega) k _)

/-- The reference: the same sums. -/
theorem ref (x0 : FVec Ideal S4096x1024 .bf16) (x1 : FVec Ideal S8x1024x512 .bf16) :
    @Eq (FVec Ideal S4096x4096 .f32) (Cert.Reference4Ideal.Read.val_main_v4 (F := Ideal) x0 x1) (prod x0 x1) := by
  funext i
  have hi1 : (i 1).val < 4096 := (i 1).isLt
  rw [Cert.Reference4Ideal.Read.val_main_v4_apply]
  refine Finset.sum_congr rfl fun k _ => ?_
  have hk := k.isLt
  rw [Cert.Reference4Ideal.Read.val_main_v0_apply, Cert.Reference4Ideal.Read.val_main_v3_apply, Cert.Reference4Ideal.Read.val_main_v2_apply, Cert.Reference4Ideal.Read.val_main_v1_apply]
  refine congrArg₂ _ (congrArg x0 (funext fun a => Fin.ext ?_)) (congrArg x1 (funext fun a => Fin.ext ?_))
  · match a with
    | ⟨0, _⟩ => rfl
    | ⟨1, _⟩ => rfl
  · match a with
    | ⟨0, _⟩ => show (k.val * 4096 + (i 1).val) / 512 % 8 = (i 1).val / 512; omega
    | ⟨1, _⟩ => show (k.val * 4096 + (i 1).val) / 4096 = k.val; omega
    | ⟨2, _⟩ => show (k.val * 4096 + (i 1).val) % 512 = (i 1).val % 512; omega

end Cert.In4
end
-- ==== Proof.GateDx.lean ====
/-
  A product with one square of weights turned round: what the kernel writes and what the reference computes.
-/
module

public import proofs.«01_k».proof.Proof.Mul
public import proofs.«01_k».proof.Proof.Gen.Kernel5Ideal.Value
public import proofs.«01_k».proof.Proof.Gen.Reference5Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel5Ideal Cert.Kernel5Ideal.Gen Cert.Kernel5Ideal.Value

namespace Cert.GateDx

/-- What a point leaves: its rows times the rows of the weights. -/
theorem point_apply (c : Dev nD) (i : grid0.Coords) (a2 : Memref sig .tc .vmem S512x1024 .bf16) (h2 : a2.IsWhole) (a3 : Memref sig .tc .vmem S1x1024x1024 .bf16) (h3 : a3.IsWhole)
    (a4 : Memref sig .tc .vmem S512x1024 .f32) (h4 : a4.IsWhole) (hc : cond0_0 i) (x0 : Vec Ideal S512x1024 .bf16) (x1 : Vec Ideal S1x1024x1024 .bf16) (y : S512x1024.Idx) :
    out0_A_2 (F := Ideal) c i a2 h2 a3 h3 a4 h4 hc x0 x1 y = (∑ k : Fin 1024, x0 (ix2 (y 0) k) * x1 (ix3 0 (y 1) k) : EReal) := by
  unfold out0_A_2
  rw [View.read_writes_eq_canon _ _ _ (cover0_A_2 c i a2 h2 a3 h3 a4 h4 hc x0 x1)]
  unfold kernelRun0_A
  dsimp only
  rw [View.canon_unit_zero zero2]
  unfold k0_pay1
  refine (rows_apply _ rfl _ _ _).trans (Finset.sum_congr rfl fun k _ => ?_)
  refine congrArg₂ _ ?_ ((unstack_apply _ _ _ _).trans ?_)
  · simp only [View.readAt_eq_ld, h2.read_unread]
    exact ld_whole x0 _ _
  · simp only [View.readAt_eq_ld, h3.read_unread]
    refine View.ld_unit_apply_of _ _ _ _ _ _ fun a => ?_
    match a with
    | ⟨0, _⟩ => rfl
    | ⟨1, _⟩ => exact (Nat.zero_add (y 1).val).symm
    | ⟨2, _⟩ => exact (Nat.zero_add k.val).symm

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem blk0 (t : Fin cfg0.N) (q : Fin 512) (r : Fin 4096) (k : Fin 1024) (hr : r.val = 512 * t.val + q.val) :
    (iblk m c 0 t : FVec Ideal S512x1024 .bf16) (ix2 q k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 q k)) = _
  rw [e]
  congr 1
  funext a
  apply Fin.ext
  match a with
  | ⟨0, _⟩ => show win0_0.index t (0 : Fin 2) * 512 + 1 * q.val = r.val; omega
  | ⟨1, _⟩ => show win0_0.index t (1 : Fin 2) * 1024 + 1 * k.val = k.val; omega

theorem blk1 (t : Fin cfg0.N) (k j : Fin 1024) :
    (iblk m c 1 t : FVec Ideal S1x1024x1024 .bf16) (ix3 0 k j) = (m ((c : Thread nD τ).loc main_arg1) : FVec Ideal S1x1024x1024 .bf16) (ix3 0 k j) := by
  obtain ⟨e0, e1, e2⟩ := idx1 t
  unfold iblk
  rw [View.read_apply]
  have e : (V m c main_arg1 : FVec Ideal S1x1024x1024 .bf16) = (m ((c : Thread nD τ).loc main_arg1) : FVec Ideal S1x1024x1024 .bf16) := V_main_arg1 m c
  show (V m c main_arg1 : FVec Ideal S1x1024x1024 .bf16) (((cfg0.win 1).blk t).view.emb (ix3 0 k j)) = _
  rw [e]
  congr 1
  funext a
  apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * j.val = j.val; omega

/-- A row of the cotangent times a row of the weights. -/
def prod (X : FVec Ideal S4096x1024 .bf16) (W : FVec Ideal S1x1024x1024 .bf16) : FVec Ideal S4096x1024 .f32 := fun i =>
  (∑ k : Fin 1024, X (ix2 (i 0) k) * W (ix3 0 (i 1) k) : EReal)

/-- The array after the run. -/
theorem arr : @Eq (FVec Ideal S4096x1024 .f32) ((dats m 0 c).arrAt 2 cfg0.N)
    (prod (m ((c : Thread nD τ).loc main_arg0)) (m ((c : Thread nD τ).loc main_arg1))) := by
  funext i
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨_, by omega⟩, rfl⟩
  have hw := blocks2 m c t (flush0_2 t)
  rw [flushed2_A] at hw
  obtain ⟨e0, e1⟩ := idx2 t
  let y : S512x1024.Idx := ix2 ⟨(i 0).val % 512, Nat.mod_lt _ (by decide)⟩ (i 1)
  have hy := congrFun hw y
  have hemb : ((cfg0.win 2).blk t).view.emb y = i := by
    funext a
    apply Fin.ext
    match a with
    | ⟨0, _⟩ => show win0_2.index t (0 : Fin 2) * 512 + 1 * ((i 0).val % 512) = (i 0).val; omega
    | ⟨1, _⟩ => show win0_2.index t (1 : Fin 2) * 1024 + 1 * (i 1).val = (i 1).val; omega
  refine Eq.trans ?_ (hy.trans (((point_apply c (grid0.coords t) _ _ _ _ _ _ _ _ _ y)).trans (Finset.sum_congr rfl fun k _ => ?_)))
  · rw [View.read_apply, hemb]; rfl
  · exact congrArg₂ _ (blk0 m c t _ (i 0) k (by show (i 0).val = 512 * t.val + (i 0).val % 512; omega)) (blk1 m c t _ k)

/-- The reference: the same sums. -/
theorem ref (x0 : FVec Ideal S4096x1024 .bf16) (x1 : FVec Ideal S1x1024x1024 .bf16) :
    @Eq (FVec Ideal S4096x1024 .f32) (Cert.Reference5Ideal.Read.val_main_v5 (F := Ideal) x0 x1) (prod x0 x1) := by
  funext i
  have hi1 : (i 1).val < 1024 := (i 1).isLt
  rw [Cert.Reference5Ideal.Read.val_main_v5_apply]
  refine Finset.sum_congr rfl fun k _ => ?_
  have hk := k.isLt
  rw [Cert.Reference5Ideal.Read.val_main_v4_apply, Cert.Reference5Ideal.Read.val_main_v1_apply, Cert.Reference5Ideal.Read.val_main_v0_apply]
  refine congrArg₂ _ (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show ((i 1).val * 1024 + k.val) / 1024 % 1024 = (i 1).val; omega
    | ⟨2, _⟩ => show ((i 1).val * 1024 + k.val) % 1024 = k.val; omega

end Cert.GateDx
end
-- ==== Proof.OutDx.lean ====
/-
  A product with one square of weights turned round: what the kernel writes and what the reference computes.
-/
module

public import proofs.«01_k».proof.Proof.Mul
public import proofs.«01_k».proof.Proof.Gen.Kernel6Ideal.Value
public import proofs.«01_k».proof.Proof.Gen.Reference6Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel6Ideal Cert.Kernel6Ideal.Gen Cert.Kernel6Ideal.Value

namespace Cert.OutDx

/-- What a point leaves: its rows times the rows of the weights. -/
theorem point_apply (c : Dev nD) (i : grid0.Coords) (a2 : Memref sig .tc .vmem S512x1024 .f32) (h2 : a2.IsWhole) (a3 : Memref sig .tc .vmem S1x1024x1024 .bf16) (h3 : a3.IsWhole)
    (a4 : Memref sig .tc .vmem S512x1024 .f32) (h4 : a4.IsWhole) (hc : cond0_0 i) (x0 : Vec Ideal S512x1024 .f32) (x1 : Vec Ideal S1x1024x1024 .bf16) (y : S512x1024.Idx) :
    out0_A_2 (F := Ideal) c i a2 h2 a3 h3 a4 h4 hc x0 x1 y = (∑ k : Fin 1024, x0 (ix2 (y 0) k) * x1 (ix3 0 (y 1) k) : EReal) := by
  unfold out0_A_2
  rw [View.read_writes_eq_canon _ _ _ (cover0_A_2 c i a2 h2 a3 h3 a4 h4 hc x0 x1)]
  unfold kernelRun0_A
  dsimp only
  rw [View.canon_unit_zero zero2]
  unfold k0_pay1
  refine (rows_apply _ rfl _ _ _).trans (Finset.sum_congr rfl fun k _ => ?_)
  refine congrArg₂ _ ?_ ((unstack_apply _ _ _ _).trans ?_)
  · simp only [View.readAt_eq_ld, h2.read_unread]
    exact ld_whole x0 _ _
  · simp only [View.readAt_eq_ld, h3.read_unread]
    refine View.ld_unit_apply_of _ _ _ _ _ _ fun a => ?_
    match a with
    | ⟨0, _⟩ => rfl
    | ⟨1, _⟩ => exact (Nat.zero_add (y 1).val).symm
    | ⟨2, _⟩ => exact (Nat.zero_add k.val).symm

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem blk0 (t : Fin cfg0.N) (q : Fin 512) (r : Fin 4096) (k : Fin 1024) (hr : r.val = 512 * t.val + q.val) :
    (iblk m c 0 t : FVec Ideal S512x1024 .f32) (ix2 q k) = (m ((c : Thread nD τ).loc main_arg0) : FVec Ideal S4096x1024 .f32) (ix2 r k) := by
  obtain ⟨e0, e1⟩ := idx0 t
  unfold iblk
  rw [View.read_apply]
  have e : (V m c main_arg0 : FVec Ideal S4096x1024 .f32) = (m ((c : Thread nD τ).loc main_arg0) : FVec Ideal S4096x1024 .f32) := V_main_arg0 m c
  show (V m c main_arg0 : FVec Ideal S4096x1024 .f32) (((cfg0.win 0).blk t).view.emb (ix2 q k)) = _
  rw [e]
  congr 1
  funext a
  apply Fin.ext
  match a with
  | ⟨0, _⟩ => show win0_0.index t (0 : Fin 2) * 512 + 1 * q.val = r.val; omega
  | ⟨1, _⟩ => show win0_0.index t (1 : Fin 2) * 1024 + 1 * k.val = k.val; omega

theorem blk1 (t : Fin cfg0.N) (k j : Fin 1024) :
    (iblk m c 1 t : FVec Ideal S1x1024x1024 .bf16) (ix3 0 k j) = (m ((c : Thread nD τ).loc main_arg1) : FVec Ideal S1x1024x1024 .bf16) (ix3 0 k j) := by
  obtain ⟨e0, e1, e2⟩ := idx1 t
  unfold iblk
  rw [View.read_apply]
  have e : (V m c main_arg1 : FVec Ideal S1x1024x1024 .bf16) = (m ((c : Thread nD τ).loc main_arg1) : FVec Ideal S1x1024x1024 .bf16) := V_main_arg1 m c
  show (V m c main_arg1 : FVec Ideal S1x1024x1024 .bf16) (((cfg0.win 1).blk t).view.emb (ix3 0 k j)) = _
  rw [e]
  congr 1
  funext a
  apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * j.val = j.val; omega

/-- A row of the cotangent times a row of the weights. -/
def prod (X : FVec Ideal S4096x1024 .f32) (W : FVec Ideal S1x1024x1024 .bf16) : FVec Ideal S4096x1024 .f32 := fun i =>
  (∑ k : Fin 1024, X (ix2 (i 0) k) * W (ix3 0 (i 1) k) : EReal)

/-- The array after the run. -/
theorem arr : @Eq (FVec Ideal S4096x1024 .f32) ((dats m 0 c).arrAt 2 cfg0.N)
    (prod (m ((c : Thread nD τ).loc main_arg0)) (m ((c : Thread nD τ).loc main_arg1))) := by
  funext i
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨_, by omega⟩, rfl⟩
  have hw := blocks2 m c t (flush0_2 t)
  rw [flushed2_A] at hw
  obtain ⟨e0, e1⟩ := idx2 t
  let y : S512x1024.Idx := ix2 ⟨(i 0).val % 512, Nat.mod_lt _ (by decide)⟩ (i 1)
  have hy := congrFun hw y
  have hemb : ((cfg0.win 2).blk t).view.emb y = i := by
    funext a
    apply Fin.ext
    match a with
    | ⟨0, _⟩ => show win0_2.index t (0 : Fin 2) * 512 + 1 * ((i 0).val % 512) = (i 0).val; omega
    | ⟨1, _⟩ => show win0_2.index t (1 : Fin 2) * 1024 + 1 * (i 1).val = (i 1).val; omega
  refine Eq.trans ?_ (hy.trans (((point_apply c (grid0.coords t) _ _ _ _ _ _ _ _ _ y)).trans (Finset.sum_congr rfl fun k _ => ?_)))
  · rw [View.read_apply, hemb]; rfl
  · exact congrArg₂ _ (blk0 m c t _ (i 0) k (by show (i 0).val = 512 * t.val + (i 0).val % 512; omega)) (blk1 m c t _ k)

/-- The reference: the same sums. -/
theorem ref (x0 : FVec Ideal S4096x1024 .f32) (x1 : FVec Ideal S1x1024x1024 .bf16) :
    @Eq (FVec Ideal S4096x1024 .f32) (Cert.Reference6Ideal.Read.val_main_v4 (F := Ideal) x0 x1) (prod x0 x1) := by
  funext i
  have hi1 : (i 1).val < 1024 := (i 1).isLt
  rw [Cert.Reference6Ideal.Read.val_main_v4_apply]
  refine Finset.sum_congr rfl fun k _ => ?_
  have hk := k.isLt
  rw [Cert.Reference6Ideal.Read.val_main_v1_apply, Cert.Reference6Ideal.Read.val_main_v0_apply]
  refine congrArg₂ _ (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show ((i 1).val * 1024 + k.val) / 1024 % 1024 = (i 1).val; omega
    | ⟨2, _⟩ => show ((i 1).val * 1024 + k.val) % 1024 = k.val; omega

end Cert.OutDx
end
-- ==== Proof.GateDw.lean ====
/-
  The gradient of one square of weights, summed over blocks of rows: what the kernel writes and what the reference computes.
-/
module

public import Idealize.ShloMosaic.Lib.VecWindow
public import proofs.«01_k».proof.Proof.Mul
public import proofs.«01_k».proof.Proof.Gen.Kernel7Ideal.Value
public import proofs.«01_k».proof.Proof.Gen.Reference7Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel7Ideal Cert.Kernel7Ideal.Gen Cert.Kernel7Ideal.Value

namespace Cert.GateDw

theorem off_eq (i : grid0.Coords) : k0_off1 i = ![512 * (i 1).val, 0] := by
  have h : (i 1).val < 8 := (i 1).isLt
  unfold k0_off1
  generalize (i 1).val = n at h
  interval_cases n <;> rfl

/-- One block's product: the columns of some rows times the columns of a block. -/
def step (x0 : FVec Ideal S4096x1024 .bf16) (x1 : FVec Ideal S512x1024 .bf16) (r : Fin 512 → Fin 4096) (y : S1024x1024.Idx) : EReal :=
  ∑ j : Fin 512, x0 (ix2 (r j) (y 0)) * x1 (ix2 j (y 1))

theorem mul_apply (v : FVec Ideal S512x1024 .bf16) (w : FVec Ideal S512x1024 .bf16) (y : S1024x1024.Idx) :
    k0_pay1 (F := Ideal) v w y = (∑ j : Fin 512, v (ix2 j (y 0)) * w (ix2 j (y 1)) : EReal) := by
  unfold k0_pay1
  exact cols_apply _ rfl _ _ _

theorem pay_apply (i : grid0.Coords) (x0 : FVec Ideal S4096x1024 .bf16) (x1 : FVec Ideal S512x1024 .bf16) (o : Fin 2 → Nat) (ho : o = ![512 * (i 1).val, 0]) (io : ∀ a, o a + S512x1024.size a ≤ S4096x1024.size a)
    (ib : ∀ a, (![0, 0] : Fin 2 → Nat) a + S512x1024.size a ≤ S512x1024.size a) (y : S1024x1024.Idx) (r : Fin 512 → Fin 4096) (hr : ∀ j : Fin 512, (r j).val = 512 * (i 1).val + j.val) :
    k0_pay1 (F := Ideal) (View.ld (Val := Elt Ideal) (e' := .bf16) x0 (Rect.unit (s := S4096x1024) o S512x1024.size io)) (View.ld (Val := Elt Ideal) (e' := .bf16) x1 (Rect.unit (s := S512x1024) ![0, 0] S512x1024.size ib)) y = step x0 x1 r y := by
  subst ho
  refine (mul_apply _ _ y).trans (Finset.sum_congr rfl fun k _ => congrArg₂ (fun p q : EReal => p * q) ?_ (ld_whole (Val := Elt Ideal) (e := .bf16) x1 ib _))
  refine View.ld_unit_apply_of _ _ _ _ _ _ fun a => ?_
  match a with
  | ⟨0, _⟩ => exact hr k
  | ⟨1, _⟩ => exact (Nat.zero_add (y 0).val).symm

/-- What a point of case A leaves in the running sum. -/
theorem sum_A (c : Dev nD) (i : grid0.Coords) (a2 : Memref sig .tc .vmem S4096x1024 .bf16) (h2 : a2.IsWhole) (a3 : Memref sig .tc .vmem S512x1024 .bf16) (h3 : a3.IsWhole)
    (a4 : Memref sig .tc .vmem S1x1024x1024 .bf16) (h4 : a4.IsWhole) (a5 : Memref sig .tc .vmem S1024x1024 .f32) (h5 : a5.IsWhole) (c0 : cond0_0 i) (c1 : cond0_1 i) (c2 : ¬cond0_2 i) (c3 : ¬cond0_3 i) (x0 : Vec Ideal S4096x1024 .bf16) (x1 : Vec Ideal S512x1024 .bf16) (y : S1024x1024.Idx) (r : Fin 512 → Fin 4096) (hr : ∀ j : Fin 512, (r j).val = 512 * (i 1).val + j.val) :
    sout0_A_0 (F := Ideal) c i a2 h2 a3 h3 a4 h4 a5 h5 c0 c1 c2 c3 x0 x1 y = step x0 x1 r y := by
  unfold sout0_A_0
  rw [View.read_writes_eq_canon _ _ _ (scover0_A_0 c i a2 h2 a3 h3 a4 h4 a5 h5 c0 c1 c2 c3 x0 x1)]
  unfold kernelRun0_A
  dsimp only
  rw [View.canon_unit_zero zero2]
  unfold k0_pay2
  refine (congrFun (shapeCast_self _ _) y).trans ?_
  simp only [View.readAt_eq_ld, h2.read_unread, h3.read_unread]
  exact pay_apply i x0 x1 _ (off_eq i) _ _ y r hr

/-- What a point of case B leaves in the running sum. -/
theorem sum_B (c : Dev nD) (i : grid0.Coords) (a2 : Memref sig .tc .vmem S4096x1024 .bf16) (h2 : a2.IsWhole) (a3 : Memref sig .tc .vmem S512x1024 .bf16) (h3 : a3.IsWhole)
    (a4 : Memref sig .tc .vmem S1x1024x1024 .bf16) (h4 : a4.IsWhole) (a5 : Memref sig .tc .vmem S1024x1024 .f32) (h5 : a5.IsWhole) (c0 : cond0_0 i) (c1 : ¬cond0_1 i) (c2 : cond0_2 i) (c3 : ¬cond0_3 i) (x0 : Vec Ideal S4096x1024 .bf16) (x1 : Vec Ideal S512x1024 .bf16) (xs : Vec Ideal S1024x1024 .f32) (y : S1024x1024.Idx) (r : Fin 512 → Fin 4096) (hr : ∀ j : Fin 512, (r j).val = 512 * (i 1).val + j.val) :
    sout0_B_0 (F := Ideal) c i a2 h2 a3 h3 a4 h4 a5 h5 c0 c1 c2 c3 x0 x1 xs y = xs y + step x0 x1 r y := by
  unfold sout0_B_0
  rw [View.read_writes_eq_canon _ _ _ (scover0_B_0 c i a2 h2 a3 h3 a4 h4 a5 h5 c0 c1 c2 c3 x0 x1 xs)]
  unfold kernelRun0_B
  dsimp only
  rw [View.canon_unit_zero zero2]
  unfold k0_pay3
  refine (congrFun (shapeCast_self _ _) y).trans ?_
  simp only [View.readAt_eq_ld, h2.read_unread, h3.read_unread, h5.read_unread]
  exact congrArg₂ (fun p q : EReal => p + q) (ld_whole xs _ y) (pay_apply i x0 x1 _ (off_eq i) _ _ y r hr)

/-- What a point of case C leaves in the running sum. -/
theorem sum_C (c : Dev nD) (i : grid0.Coords) (a2 : Memref sig .tc .vmem S4096x1024 .bf16) (h2 : a2.IsWhole) (a3 : Memref sig .tc .vmem S512x1024 .bf16) (h3 : a3.IsWhole)
    (a4 : Memref sig .tc .vmem S1x1024x1024 .bf16) (h4 : a4.IsWhole) (a5 : Memref sig .tc .vmem S1024x1024 .f32) (h5 : a5.IsWhole) (c0 : cond0_0 i) (c1 : ¬cond0_1 i) (c2 : cond0_2 i) (c3 : cond0_3 i) (x0 : Vec Ideal S4096x1024 .bf16) (x1 : Vec Ideal S512x1024 .bf16) (xs : Vec Ideal S1024x1024 .f32) (y : S1024x1024.Idx) (r : Fin 512 → Fin 4096) (hr : ∀ j : Fin 512, (r j).val = 512 * (i 1).val + j.val) :
    sout0_C_0 (F := Ideal) c i a2 h2 a3 h3 a4 h4 a5 h5 c0 c1 c2 c3 x0 x1 xs y = xs y + step x0 x1 r y := by
  unfold sout0_C_0
  rw [View.read_writes_eq_canon _ _ _ (scover0_C_0 c i a2 h2 a3 h3 a4 h4 a5 h5 c0 c1 c2 c3 x0 x1 xs)]
  unfold kernelRun0_C
  dsimp only
  unfold kernelRun0_C.sl.HS0_1
  rw [View.canon_unit_zero zero2]
  unfold k0_pay3
  refine (congrFun (shapeCast_self _ _) y).trans ?_
  simp only [View.readAt_eq_ld, h2.read_unread, h3.read_unread, h5.read_unread]
  exact congrArg₂ (fun p q : EReal => p + q) (ld_whole xs _ y) (pay_apply i x0 x1 _ (off_eq i) _ _ y r hr)

/-- What the last point leaves in the result: the running sum. -/
theorem out_C (c : Dev nD) (i : grid0.Coords) (a2 : Memref sig .tc .vmem S4096x1024 .bf16) (h2 : a2.IsWhole) (a3 : Memref sig .tc .vmem S512x1024 .bf16) (h3 : a3.IsWhole)
    (a4 : Memref sig .tc .vmem S1x1024x1024 .bf16) (h4 : a4.IsWhole) (a5 : Memref sig .tc .vmem S1024x1024 .f32) (h5 : a5.IsWhole) (c0 : cond0_0 i) (c1 : ¬cond0_1 i) (c2 : cond0_2 i) (c3 : cond0_3 i) (x0 : Vec Ideal S4096x1024 .bf16) (x1 : Vec Ideal S512x1024 .bf16) (xs : Vec Ideal S1024x1024 .f32) (y : S1024x1024.Idx) (b : Fin 1) (r : Fin 512 → Fin 4096) (hr : ∀ j : Fin 512, (r j).val = 512 * (i 1).val + j.val) :
    out0_C_2 (F := Ideal) c i a2 h2 a3 h3 a4 h4 a5 h5 c0 c1 c2 c3 x0 x1 xs (ix3 b (y 0) (y 1)) = xs y + step x0 x1 r y := by
  unfold out0_C_2
  rw [View.read_writes_eq_canon _ _ _ (cover0_C_2 c i a2 h2 a3 h3 a4 h4 a5 h5 c0 c1 c2 c3 x0 x1 xs)]
  unfold kernelRun0_C
  dsimp only
  rw [View.canon_unit_zero zero3]
  unfold k0_pay4
  refine (stack_apply _ _ b (y 0) (y 1)).trans ?_
  show (kernelRun0_C.sl.v8 c i a2 h2 a3 h3 a5 h5 c0 x0 x1 xs : FVec Ideal S1024x1024 .f32) (ix2 (y 0) (y 1)) = _
  unfold kernelRun0_C.sl.v8 kernelRun0_C.sl.HS0_1
  rw [View.readCov_full]
  unfold k0_pay3
  refine (congrFun (shapeCast_self _ _) _).trans ?_
  simp only [View.readAt_eq_ld, h2.read_unread, h3.read_unread, h5.read_unread]
  have hy : (ix2 (y 0) (y 1) : S1024x1024.Idx) = y := funext fun a => match a with
    | ⟨0, _⟩ => rfl
    | ⟨1, _⟩ => rfl
  rw [hy]
  exact congrArg₂ (fun p q : EReal => p + q) (ld_whole xs _ y) (pay_apply i x0 x1 _ (off_eq i) _ _ y r hr)

variable (m : (ℓ : Loc nD τ sig) → Buf (Elt Ideal) ℓ) (c : Dev nD)

theorem coords_val : ∀ t : Fin cfg0.N, (grid0.coords t 1).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

theorem blk0 (t : Fin cfg0.N) (r : Fin 4096) (k : Fin 1024) :
    (iblk m c 0 t : FVec Ideal S4096x1024 .bf16) (ix2 r k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 1024 + 1 * k.val = k.val; omega

theorem blk1 (t : Fin cfg0.N) (q : Fin 512) (r : Fin 4096) (k : Fin 1024) (hr : r.val = 512 * t.val + q.val) :
    (iblk m c 1 t : FVec Ideal S512x1024 .bf16) (ix2 q k) = (m ((c : Thread nD τ).loc main_arg1) : FVec Ideal S4096x1024 .bf16) (ix2 r k) := by
  obtain ⟨e0, e1⟩ := idx1 t
  unfold iblk
  rw [View.read_apply]
  have e : (V m c main_arg1 : FVec Ideal S4096x1024 .bf16) = (m ((c : Thread nD τ).loc main_arg1) : FVec Ideal S4096x1024 .bf16) := V_main_arg1 m c
  show (V m c main_arg1 : FVec Ideal S4096x1024 .bf16) (((cfg0.win 1).blk t).view.emb (ix2 q k)) = _
  rw [e]
  congr 1
  funext a
  apply Fin.ext
  match a with
  | ⟨0, _⟩ => show win0_1.index t (0 : Fin 2) * 512 + 1 * q.val = r.val; omega
  | ⟨1, _⟩ => show win0_1.index t (1 : Fin 2) * 1024 + 1 * k.val = k.val; omega

/-- Row `512 n + j` of the input, the number of the block taken round. -/
def row (n : ℕ) (j : Fin 512) : Fin 4096 := ⟨(512 * n + j.val) % 4096, Nat.mod_lt _ (by decide)⟩

theorem row_val (n : ℕ) (hn : n < 8) (j : Fin 512) : (row n j).val = 512 * n + j.val :=
  Nat.mod_eq_of_lt (by omega)

/-- Block `n` of the sum. -/
def part (X : FVec Ideal S4096x1024 .bf16) (D : FVec Ideal S4096x1024 .bf16) (n : ℕ) (y : S1024x1024.Idx) : EReal :=
  ∑ j : Fin 512, X (ix2 (row n j) (y 0)) * D (ix2 (row n j) (y 1))

/-- A column of the input times a column of the cotangent. -/
def prod (X : FVec Ideal S4096x1024 .bf16) (D : FVec Ideal S4096x1024 .bf16) : FVec Ideal S1x1024x1024 .bf16 := fun i =>
  (∑ k : Fin 4096, X (ix2 k (i 1)) * D (ix2 k (i 2)) : EReal)

/-- What a point adds, read off the arrays. -/
theorem part_eq (t : Fin cfg0.N) (y : S1024x1024.Idx) :
    step (iblk m c 0 t) (iblk m c 1 t) (row t.val) y
      = part (m ((c : Thread nD τ).loc main_arg0)) (m ((c : Thread nD τ).loc main_arg1)) t.val y :=
  Finset.sum_congr rfl fun j _ => congrArg₂ (fun p q : EReal => p * q) (blk0 m c t _ _) (blk1 m c t j _ _ (row_val _ (lt_of_lt_of_eq t.isLt N_0) j))

theorem row_coords (t : Fin cfg0.N) (j : Fin 512) : (row t.val j).val = 512 * (grid0.coords t 1).val + j.val := by
  rw [coords_val]
  exact row_val _ (lt_of_lt_of_eq t.isLt N_0) j

/-- The running sum after each point. -/
theorem sums : ∀ (n : ℕ) (hn : n < cfg0.N) (y : S1024x1024.Idx), (outsAt0 m c n hn).2 y
    = ∑ q ∈ Finset.range (n + 1), part (m ((c : Thread nD τ).loc main_arg0)) (m ((c : Thread nD τ).loc main_arg1)) q y
  | 0, hn, y => by
    rw [outsAt0_zero, stAt0_A m c ⟨0, hn⟩ _ rfl (by show ¬1 ≤ 0; decide) (by show ¬0 % 8 = 7; decide), Finset.sum_range_one]
    dsimp only
    exact (sum_A c _ _ _ _ _ _ _ _ _ _ _ _ _ _ _ y (row 0) (row_coords ⟨0, hn⟩)).trans (part_eq m c ⟨0, hn⟩ y)
  | n + 1, hn, y => by
    have hN : n + 1 < 8 := lt_of_lt_of_eq hn N_0
    have ih := sums n (Nat.lt_of_succ_lt hn) y
    rw [outsAt0_succ, Finset.sum_range_succ, ← ih]
    by_cases h7 : n + 1 = 7
    · rw [stAt0_C m c ⟨n + 1, hn⟩ _ (by show ¬(n + 1) % 8 = 0; omega) (by show 1 ≤ n + 1; omega) (by show (n + 1) % 8 = 7; omega)]
      dsimp only
      exact (sum_C c _ _ _ _ _ _ _ _ _ _ _ _ _ _ _ _ y (row (n + 1)) (row_coords ⟨n + 1, hn⟩)).trans (congrArg (fun q : EReal => (outsAt0 m c n (Nat.lt_of_succ_lt hn)).2 y + q) (part_eq m c ⟨n + 1, hn⟩ y))
    · rw [stAt0_B m c ⟨n + 1, hn⟩ _ (by show ¬(n + 1) % 8 = 0; omega) (by show 1 ≤ n + 1; omega) (by show ¬(n + 1) % 8 = 7; omega)]
      dsimp only
      exact (sum_B c _ _ _ _ _ _ _ _ _ _ _ _ _ _ _ _ y (row (n + 1)) (row_coords ⟨n + 1, hn⟩)).trans (congrArg (fun q : EReal => (outsAt0 m c n (Nat.lt_of_succ_lt hn)).2 y + q) (part_eq m c ⟨n + 1, hn⟩ y))

/-- The eight blocks are the whole sum. -/
theorem parts (X : FVec Ideal S4096x1024 .bf16) (D : FVec Ideal S4096x1024 .bf16) (i : S1x1024x1024.Idx) :
    ∑ q ∈ Finset.range 8, part X D q (ix2 (i 1) (i 2)) = prod X D i := by
  rw [Finset.sum_range]
  unfold prod
  refine Eq.trans ?_ (sum_blocks 8 512 (fun k : Fin 4096 => (X (ix2 k (i 1)) * D (ix2 k (i 2)) : EReal))).symm
  refine Finset.sum_congr rfl fun q _ => Finset.sum_congr rfl fun j _ => ?_
  have e : row q.val j = ⟨512 * q.val + j.val, by omega⟩ := Fin.ext (row_val _ q.isLt j)
  show (X (ix2 (row q.val j) (i 1)) * D (ix2 (row q.val j) (i 2)) : EReal) = _
  rw [e]

/-- The array after the run. -/
theorem arr : @Eq (FVec Ideal S1x1024x1024 .bf16) (G2 m c)
    (prod (m ((c : Thread nD τ).loc main_arg0)) (m ((c : Thread nD τ).loc main_arg1))) := by
  have h7 : 7 < cfg0.N := lt_of_lt_of_eq (by decide) N_0.symm
  have h6 : 6 < cfg0.N := lt_of_lt_of_eq (by decide) N_0.symm
  have hG := G2_last m c
  rw [← outsAt0_sweep m c 7 h7, outsAt0_succ m c 6 h7, stAt0_C m c ⟨7, h7⟩ _ (by show ¬7 % 8 = 0; decide) (by show 1 ≤ 7; decide) (by show 7 % 8 = 7; decide)] at hG
  dsimp only at hG
  funext i
  refine (congrFun hG i).trans ?_
  have hi : (i : S1x1024x1024.Idx) = ix3 (i 0) (i 1) (i 2) := funext fun a => match a with
    | ⟨0, _⟩ => rfl
    | ⟨1, _⟩ => rfl
    | ⟨2, _⟩ => rfl
  have hp := parts (m ((c : Thread nD τ).loc main_arg0)) (m ((c : Thread nD τ).loc main_arg1)) i
  rw [Finset.sum_range_succ, ← sums m c 6 h6, ← part_eq m c ⟨7, h7⟩] at hp
  refine Eq.trans ?_ hp
  refine (congrArg _ hi).trans ?_
  exact out_C c _ _ _ _ _ _ _ _ _ _ _ _ _ _ _ _ (ix2 (i 1) (i 2)) (i 0) (row 7) (row_coords ⟨7, h7⟩)

/-- The reference: the same sums. -/
theorem ref (x0 : FVec Ideal S4096x1024 .bf16) (x1 : FVec Ideal S4096x1024 .bf16) :
    @Eq (FVec Ideal S1x1024x1024 .bf16) (Cert.Reference7Ideal.Read.val_main_v7 (F := Ideal) x0 x1) (prod x0 x1) := by
  funext i
  have hi0 : (i 0).val < 1 := (i 0).isLt
  have hi1 : (i 1).val < 1024 := (i 1).isLt
  have hi2 : (i 2).val < 1024 := (i 2).isLt
  rw [Cert.Reference7Ideal.Read.val_main_v7_apply, Cert.Reference7Ideal.Read.val_main_v6_apply]
  show Cert.Reference7Ideal.Read.val_main_v5 (F := Ideal) x0 x1 _ = _
  rw [Cert.Reference7Ideal.Read.val_main_v5_apply, Cert.Reference7Ideal.Read.val_main_v4_apply]
  refine Finset.sum_congr rfl fun k _ => ?_
  have hk := k.isLt
  rw [Cert.Reference7Ideal.Read.val_main_v3_apply, Cert.Reference7Ideal.Read.val_main_v1_apply]
  refine (mul_comm (G := EReal) _ _).trans ?_
  refine congrArg₂ (fun p q : EReal => p * q) (congrArg x0 (funext fun a => Fin.ext ?_)) (congrArg x1 (funext fun a => Fin.ext ?_))
  · match a with
    | ⟨0, _⟩ => rfl
    | ⟨1, _⟩ => show (((i 0).val * 1024 + (i 1).val) * 1024 + (i 2).val) / 1024 = (i 1).val; omega
  · match a with
    | ⟨0, _⟩ => rfl
    | ⟨1, _⟩ => show (((i 0).val * 1024 + (i 1).val) * 1024 + (i 2).val) % 1024 = (i 2).val; omega

end Cert.GateDw
end
-- ==== Proof.Ple.lean ====
/-
  The product of the per-layer input with its weights: what the kernel writes and what the reference computes.
-/
module

public import proofs.«01_k».proof.Proof.Mul
public import proofs.«01_k».proof.Proof.Gen.Kernel11Ideal.Value
public import proofs.«01_k».proof.Proof.Gen.Reference11Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel11Ideal Cert.Kernel11Ideal.Gen Cert.Kernel11Ideal.Value

namespace Cert.Ple

theorem off_eq (i : grid0.Coords) : k0_off1 i = ![512 * (i 1).val, 0] := by
  have h : (i 1).val < 8 := (i 1).isLt
  unfold k0_off1
  generalize (i 1).val = n at h
  interval_cases n <;> rfl

theorem mul_apply (v : FVec Ideal S512x256 .f32) (w : FVec Ideal S1x256x1024 .bf16) (y : S512x1024.Idx) :
    k0_pay1 (F := Ideal) v w y = (∑ k : Fin 256, v (ix2 (y 0) k) * w (ix3 0 k (y 1)) : EReal) := by
  unfold k0_pay1
  exact (plain_apply _ rfl _ _ _).trans (Finset.sum_congr rfl fun k _ => congrArg₂ _ rfl (unstack_apply _ _ _ _))

/-- What a point leaves: its rows times the weights. -/
theorem point_apply (c : Dev nD) (i : grid0.Coords) (a2 : Memref sig .tc .vmem S4096x256 .f32) (h2 : a2.IsWhole) (a3 : Memref sig .tc .vmem S1x256x1024 .bf16) (h3 : a3.IsWhole)
    (a4 : Memref sig .tc .vmem S512x1024 .f32) (h4 : a4.IsWhole) (x0 : Vec Ideal S4096x256 .f32) (x1 : Vec Ideal S1x256x1024 .bf16) (y : S512x1024.Idx) (r : Fin 4096) (hr : r.val = 512 * (i 1).val + (y 0).val) :
    out0_A_2 (F := Ideal) c i a2 h2 a3 h3 a4 h4 x0 x1 y = (∑ k : Fin 256, x0 (ix2 r k) * x1 (ix3 0 k (y 1)) : EReal) := by
  unfold out0_A_2
  rw [View.read_writes_eq_canon _ _ _ (cover0_A_2 c i a2 h2 a3 h3 a4 h4 x0 x1)]
  unfold kernelRun0_A
  dsimp only
  rw [View.canon_unit_zero zero2]
  refine (mul_apply _ _ y).trans (Finset.sum_congr rfl fun k _ => ?_)
  refine congrArg₂ _ ?_ ?_
  · simp only [View.readAt_eq_ld, h2.read_unread]
    refine View.ld_unit_apply_of _ _ _ _ _ _ fun a => ?_
    have ho := congrFun (off_eq i) a
    match a with
    | ⟨0, _⟩ => exact hr.trans (congrArg (· + (y 0).val) ho.symm)
    | ⟨1, _⟩ => exact (Nat.zero_add k.val).symm.trans (congrArg (· + k.val) ho.symm)
  · simp only [View.readAt_eq_ld, h3.read_unread]
    refine View.ld_unit_apply_of _ _ _ _ _ _ fun a => ?_
    match a with
    | ⟨0, _⟩ => rfl
    | ⟨1, _⟩ => exact (Nat.zero_add k.val).symm
    | ⟨2, _⟩ => exact (Nat.zero_add (y 1).val).symm

variable (m : (ℓ : Loc nD τ sig) → Buf (Elt Ideal) ℓ) (c : Dev nD)

theorem coords_val : ∀ t : Fin cfg0.N, (grid0.coords t 1).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem blk0 (t : Fin cfg0.N) (r : Fin 4096) (k : Fin 256) :
    (iblk m c 0 t : FVec Ideal S4096x256 .f32) (ix2 r k) = (m ((c : Thread nD τ).loc main_arg0) : FVec Ideal S4096x256 .f32) (ix2 r k) := by
  obtain ⟨e0, e1⟩ := idx0 t
  unfold iblk
  rw [View.read_apply]
  have e : (V m c main_arg0 : FVec Ideal S4096x256 .f32) = (m ((c : Thread nD τ).loc main_arg0) : FVec Ideal S4096x256 .f32) := V_main_arg0 m c
  show (V m c main_arg0 : FVec Ideal S4096x256 .f32) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 256 + 1 * k.val = k.val; omega

theorem blk1 (t : Fin cfg0.N) (k : Fin 256) (j : Fin 1024) :
    (iblk m c 1 t : FVec Ideal S1x256x1024 .bf16) (ix3 0 k j) = (m ((c : Thread nD τ).loc main_arg1) : FVec Ideal S1x256x1024 .bf16) (ix3 0 k j) := by
  obtain ⟨e0, e1, e2⟩ := idx1 t
  unfold iblk
  rw [View.read_apply]
  have e : (V m c main_arg1 : FVec Ideal S1x256x1024 .bf16) = (m ((c : Thread nD τ).loc main_arg1) : FVec Ideal S1x256x1024 .bf16) := V_main_arg1 m c
  show (V m c main_arg1 : FVec Ideal S1x256x1024 .bf16) (((cfg0.win 1).blk t).view.emb (ix3 0 k j)) = _
  rw [e]
  congr 1
  funext a
  apply Fin.ext
  match a with
  | ⟨0, _⟩ => show win0_1.index t (0 : Fin 3) * 1 + 1 * 0 = 0; omega
  | ⟨1, _⟩ => show win0_1.index t (1 : Fin 3) * 256 + 1 * k.val = k.val; omega
  | ⟨2, _⟩ => show win0_1.index t (2 : Fin 3) * 1024 + 1 * j.val = j.val; omega

/-- A row of the input times a column of the weights. -/
def prod (X : FVec Ideal S4096x256 .f32) (W : FVec Ideal S1x256x1024 .bf16) : FVec Ideal S4096x1024 .f32 := fun i =>
  (∑ k : Fin 256, X (ix2 (i 0) k) * W (ix3 0 k (i 1)) : EReal)

/-- The array after the run. -/
theorem arr : @Eq (FVec Ideal S4096x1024 .f32) ((dats m 0 c).arrAt 2 cfg0.N)
    (prod (m ((c : Thread nD τ).loc main_arg0)) (m ((c : Thread nD τ).loc main_arg1))) := by
  funext i
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨_, by omega⟩, rfl⟩
  have hw := blocks2 m c t (flush0_2 t)
  rw [flushed2_A] at hw
  obtain ⟨e0, e1⟩ := idx2 t
  let y : S512x1024.Idx := ix2 ⟨(i 0).val % 512, Nat.mod_lt _ (by decide)⟩ (i 1)
  have hy := congrFun hw y
  have hemb : ((cfg0.win 2).blk t).view.emb y = i := by
    funext a
    apply Fin.ext
    match a with
    | ⟨0, _⟩ => show win0_2.index t (0 : Fin 2) * 512 + 1 * ((i 0).val % 512) = (i 0).val; omega
    | ⟨1, _⟩ => show win0_2.index t (1 : Fin 2) * 1024 + 1 * (i 1).val = (i 1).val; omega
  have hc := coords_val t
  refine Eq.trans ?_ (hy.trans (((point_apply c (grid0.coords t) _ _ _ _ _ _ _ _ y (i 0) ?_)).trans (Finset.sum_congr rfl fun k _ => ?_)))
  · rw [View.read_apply, hemb]; rfl
  · show (i 0).val = 512 * (grid0.coords t 1).val + (i 0).val % 512
    rw [hc]; omega
  · exact congrArg₂ _ (blk0 m c t _ k) (blk1 m c t k _)

/-- The reference: the same sums. -/
theorem ref (x0 : FVec Ideal S4096x256 .f32) (x1 : FVec Ideal S1x256x1024 .bf16) :
    @Eq (FVec Ideal S4096x1024 .f32) (Cert.Reference11Ideal.Read.val_main_v2 (F := Ideal) x0 x1) (prod x0 x1) := by
  funext i
  have hi1 : (i 1).val < 1024 := (i 1).isLt
  rw [Cert.Reference11Ideal.Read.val_main_v2_apply]
  refine Finset.sum_congr rfl fun k _ => ?_
  have hk := k.isLt
  rw [Cert.Reference11Ideal.Read.val_main_v1_apply, Cert.Reference11Ideal.Read.val_main_v0_apply]
  refine congrArg₂ _ (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 1024 + (i 1).val) / 1024 % 256 = k.val; omega
    | ⟨2, _⟩ => show (k.val * 1024 + (i 1).val) % 1024 = (i 1).val; omega

end Cert.Ple
end
-- ==== Proof.PleDw.lean ====
/-
  The gradient of the weights of the per-layer input, summed over blocks of rows: what the kernel writes and what the reference computes.
-/
module

public import Idealize.ShloMosaic.Lib.VecWindow
public import proofs.«01_k».proof.Proof.Mul
public import proofs.«01_k».proof.Proof.Gen.Kernel12Ideal.Value
public import proofs.«01_k».proof.Proof.Gen.Reference12Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel12Ideal Cert.Kernel12Ideal.Gen Cert.Kernel12Ideal.Value

namespace Cert.PleDw

theorem off_eq (i : grid0.Coords) : k0_off1 i = ![512 * (i 1).val, 0] := by
  have h : (i 1).val < 8 := (i 1).isLt
  unfold k0_off1
  generalize (i 1).val = n at h
  interval_cases n <;> rfl

/-- One block's product: the columns of some rows times the columns of a block. -/
def step (x0 : FVec Ideal S4096x256 .f32) (x1 : FVec Ideal S512x1024 .bf16) (r : Fin 512 → Fin 4096) (y : S256x1024.Idx) : EReal :=
  ∑ j : Fin 512, x0 (ix2 (r j) (y 0)) * x1 (ix2 j (y 1))

theorem mul_apply (v : FVec Ideal S512x256 .f32) (w : FVec Ideal S512x1024 .bf16) (y : S256x1024.Idx) :
    k0_pay1 (F := Ideal) v w y = (∑ j : Fin 512, v (ix2 j (y 0)) * w (ix2 j (y 1)) : EReal) := by
  unfold k0_pay1
  exact cols_apply _ rfl _ _ _

theorem pay_apply (i : grid0.Coords) (x0 : FVec Ideal S4096x256 .f32) (x1 : FVec Ideal S512x1024 .bf16) (o : Fin 2 → Nat) (ho : o = ![512 * (i 1).val, 0]) (io : ∀ a, o a + S512x256.size a ≤ S4096x256.size a)
    (ib : ∀ a, (![0, 0] : Fin 2 → Nat) a + S512x1024.size a ≤ S512x1024.size a) (y : S256x1024.Idx) (r : Fin 512 → Fin 4096) (hr : ∀ j : Fin 512, (r j).val = 512 * (i 1).val + j.val) :
    k0_pay1 (F := Ideal) (View.ld (Val := Elt Ideal) (e' := .f32) x0 (Rect.unit (s := S4096x256) o S512x256.size io)) (View.ld (Val := Elt Ideal) (e' := .bf16) x1 (Rect.unit (s := S512x1024) ![0, 0] S512x1024.size ib)) y = step x0 x1 r y := by
  subst ho
  refine (mul_apply _ _ y).trans (Finset.sum_congr rfl fun k _ => congrArg₂ (fun p q : EReal => p * q) ?_ (ld_whole (Val := Elt Ideal) (e := .bf16) x1 ib _))
  refine View.ld_unit_apply_of _ _ _ _ _ _ fun a => ?_
  match a with
  | ⟨0, _⟩ => exact hr k
  | ⟨1, _⟩ => exact (Nat.zero_add (y 0).val).symm

/-- What a point of case A leaves in the running sum. -/
theorem sum_A (c : Dev nD) (i : grid0.Coords) (a2 : Memref sig .tc .vmem S4096x256 .f32) (h2 : a2.IsWhole) (a3 : Memref sig .tc .vmem S512x1024 .bf16) (h3 : a3.IsWhole)
    (a4 : Memref sig .tc .vmem S1x256x1024 .bf16) (h4 : a4.IsWhole) (a5 : Memref sig .tc .vmem S256x1024 .f32) (h5 : a5.IsWhole) (c0 : cond0_0 i) (c1 : cond0_1 i) (c2 : ¬cond0_2 i) (c3 : ¬cond0_3 i) (x0 : Vec Ideal S4096x256 .f32) (x1 : Vec Ideal S512x1024 .bf16) (y : S256x1024.Idx) (r : Fin 512 → Fin 4096) (hr : ∀ j : Fin 512, (r j).val = 512 * (i 1).val + j.val) :
    sout0_A_0 (F := Ideal) c i a2 h2 a3 h3 a4 h4 a5 h5 c0 c1 c2 c3 x0 x1 y = step x0 x1 r y := by
  unfold sout0_A_0
  rw [View.read_writes_eq_canon _ _ _ (scover0_A_0 c i a2 h2 a3 h3 a4 h4 a5 h5 c0 c1 c2 c3 x0 x1)]
  unfold kernelRun0_A
  dsimp only
  rw [View.canon_unit_zero zero2]
  unfold k0_pay2
  refine (congrFun (shapeCast_self _ _) y).trans ?_
  simp only [View.readAt_eq_ld, h2.read_unread, h3.read_unread]
  exact pay_apply i x0 x1 _ (off_eq i) _ _ y r hr

/-- What a point of case B leaves in the running sum. -/
theorem sum_B (c : Dev nD) (i : grid0.Coords) (a2 : Memref sig .tc .vmem S4096x256 .f32) (h2 : a2.IsWhole) (a3 : Memref sig .tc .vmem S512x1024 .bf16) (h3 : a3.IsWhole)
    (a4 : Memref sig .tc .vmem S1x256x1024 .bf16) (h4 : a4.IsWhole) (a5 : Memref sig .tc .vmem S256x1024 .f32) (h5 : a5.IsWhole) (c0 : cond0_0 i) (c1 : ¬cond0_1 i) (c2 : cond0_2 i) (c3 : ¬cond0_3 i) (x0 : Vec Ideal S4096x256 .f32) (x1 : Vec Ideal S512x1024 .bf16) (xs : Vec Ideal S256x1024 .f32) (y : S256x1024.Idx) (r : Fin 512 → Fin 4096) (hr : ∀ j : Fin 512, (r j).val = 512 * (i 1).val + j.val) :
    sout0_B_0 (F := Ideal) c i a2 h2 a3 h3 a4 h4 a5 h5 c0 c1 c2 c3 x0 x1 xs y = xs y + step x0 x1 r y := by
  unfold sout0_B_0
  rw [View.read_writes_eq_canon _ _ _ (scover0_B_0 c i a2 h2 a3 h3 a4 h4 a5 h5 c0 c1 c2 c3 x0 x1 xs)]
  unfold kernelRun0_B
  dsimp only
  rw [View.canon_unit_zero zero2]
  unfold k0_pay3
  refine (congrFun (shapeCast_self _ _) y).trans ?_
  simp only [View.readAt_eq_ld, h2.read_unread, h3.read_unread, h5.read_unread]
  exact congrArg₂ (fun p q : EReal => p + q) (ld_whole xs _ y) (pay_apply i x0 x1 _ (off_eq i) _ _ y r hr)

/-- What a point of case C leaves in the running sum. -/
theorem sum_C (c : Dev nD) (i : grid0.Coords) (a2 : Memref sig .tc .vmem S4096x256 .f32) (h2 : a2.IsWhole) (a3 : Memref sig .tc .vmem S512x1024 .bf16) (h3 : a3.IsWhole)
    (a4 : Memref sig .tc .vmem S1x256x1024 .bf16) (h4 : a4.IsWhole) (a5 : Memref sig .tc .vmem S256x1024 .f32) (h5 : a5.IsWhole) (c0 : cond0_0 i) (c1 : ¬cond0_1 i) (c2 : cond0_2 i) (c3 : cond0_3 i) (x0 : Vec Ideal S4096x256 .f32) (x1 : Vec Ideal S512x1024 .bf16) (xs : Vec Ideal S256x1024 .f32) (y : S256x1024.Idx) (r : Fin 512 → Fin 4096) (hr : ∀ j : Fin 512, (r j).val = 512 * (i 1).val + j.val) :
    sout0_C_0 (F := Ideal) c i a2 h2 a3 h3 a4 h4 a5 h5 c0 c1 c2 c3 x0 x1 xs y = xs y + step x0 x1 r y := by
  unfold sout0_C_0
  rw [View.read_writes_eq_canon _ _ _ (scover0_C_0 c i a2 h2 a3 h3 a4 h4 a5 h5 c0 c1 c2 c3 x0 x1 xs)]
  unfold kernelRun0_C
  dsimp only
  unfold kernelRun0_C.sl.HS0_1
  rw [View.canon_unit_zero zero2]
  unfold k0_pay3
  refine (congrFun (shapeCast_self _ _) y).trans ?_
  simp only [View.readAt_eq_ld, h2.read_unread, h3.read_unread, h5.read_unread]
  exact congrArg₂ (fun p q : EReal => p + q) (ld_whole xs _ y) (pay_apply i x0 x1 _ (off_eq i) _ _ y r hr)

/-- What the last point leaves in the result: the running sum. -/
theorem out_C (c : Dev nD) (i : grid0.Coords) (a2 : Memref sig .tc .vmem S4096x256 .f32) (h2 : a2.IsWhole) (a3 : Memref sig .tc .vmem S512x1024 .bf16) (h3 : a3.IsWhole)
    (a4 : Memref sig .tc .vmem S1x256x1024 .bf16) (h4 : a4.IsWhole) (a5 : Memref sig .tc .vmem S256x1024 .f32) (h5 : a5.IsWhole) (c0 : cond0_0 i) (c1 : ¬cond0_1 i) (c2 : cond0_2 i) (c3 : cond0_3 i) (x0 : Vec Ideal S4096x256 .f32) (x1 : Vec Ideal S512x1024 .bf16) (xs : Vec Ideal S256x1024 .f32) (y : S256x1024.Idx) (b : Fin 1) (r : Fin 512 → Fin 4096) (hr : ∀ j : Fin 512, (r j).val = 512 * (i 1).val + j.val) :
    out0_C_2 (F := Ideal) c i a2 h2 a3 h3 a4 h4 a5 h5 c0 c1 c2 c3 x0 x1 xs (ix3 b (y 0) (y 1)) = xs y + step x0 x1 r y := by
  unfold out0_C_2
  rw [View.read_writes_eq_canon _ _ _ (cover0_C_2 c i a2 h2 a3 h3 a4 h4 a5 h5 c0 c1 c2 c3 x0 x1 xs)]
  unfold kernelRun0_C
  dsimp only
  rw [View.canon_unit_zero zero3]
  unfold k0_pay4
  refine (stack_apply _ _ b (y 0) (y 1)).trans ?_
  show (kernelRun0_C.sl.v8 c i a2 h2 a3 h3 a5 h5 c0 x0 x1 xs : FVec Ideal S256x1024 .f32) (ix2 (y 0) (y 1)) = _
  unfold kernelRun0_C.sl.v8 kernelRun0_C.sl.HS0_1
  rw [View.readCov_full]
  unfold k0_pay3
  refine (congrFun (shapeCast_self _ _) _).trans ?_
  simp only [View.readAt_eq_ld, h2.read_unread, h3.read_unread, h5.read_unread]
  have hy : (ix2 (y 0) (y 1) : S256x1024.Idx) = y := funext fun a => match a with
    | ⟨0, _⟩ => rfl
    | ⟨1, _⟩ => rfl
  rw [hy]
  exact congrArg₂ (fun p q : EReal => p + q) (ld_whole xs _ y) (pay_apply i x0 x1 _ (off_eq i) _ _ y r hr)

variable (m : (ℓ : Loc nD τ sig) → Buf (Elt Ideal) ℓ) (c : Dev nD)

theorem coords_val : ∀ t : Fin cfg0.N, (grid0.coords t 1).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

theorem blk0 (t : Fin cfg0.N) (r : Fin 4096) (k : Fin 256) :
    (iblk m c 0 t : FVec Ideal S4096x256 .f32) (ix2 r k) = (m ((c : Thread nD τ).loc main_arg0) : FVec Ideal S4096x256 .f32) (ix2 r k) := by
  obtain ⟨e0, e1⟩ := idx0 t
  unfold iblk
  rw [View.read_apply]
  have e : (V m c main_arg0 : FVec Ideal S4096x256 .f32) = (m ((c : Thread nD τ).loc main_arg0) : FVec Ideal S4096x256 .f32) := V_main_arg0 m c
  show (V m c main_arg0 : FVec Ideal S4096x256 .f32) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 256 + 1 * k.val = k.val; omega

theorem blk1 (t : Fin cfg0.N) (q : Fin 512) (r : Fin 4096) (k : Fin 1024) (hr : r.val = 512 * t.val + q.val) :
    (iblk m c 1 t : FVec Ideal S512x1024 .bf16) (ix2 q k) = (m ((c : Thread nD τ).loc main_arg1) : FVec Ideal S4096x1024 .bf16) (ix2 r k) := by
  obtain ⟨e0, e1⟩ := idx1 t
  unfold iblk
  rw [View.read_apply]
  have e : (V m c main_arg1 : FVec Ideal S4096x1024 .bf16) = (m ((c : Thread nD τ).loc main_arg1) : FVec Ideal S4096x1024 .bf16) := V_main_arg1 m c
  show (V m c main_arg1 : FVec Ideal S4096x1024 .bf16) (((cfg0.win 1).blk t).view.emb (ix2 q k)) = _
  rw [e]
  congr 1
  funext a
  apply Fin.ext
  match a with
  | ⟨0, _⟩ => show win0_1.index t (0 : Fin 2) * 512 + 1 * q.val = r.val; omega
  | ⟨1, _⟩ => show win0_1.index t (1 : Fin 2) * 1024 + 1 * k.val = k.val; omega

/-- Row `512 n + j` of the input, the number of the block taken round. -/
def row (n : ℕ) (j : Fin 512) : Fin 4096 := ⟨(512 * n + j.val) % 4096, Nat.mod_lt _ (by decide)⟩

theorem row_val (n : ℕ) (hn : n < 8) (j : Fin 512) : (row n j).val = 512 * n + j.val :=
  Nat.mod_eq_of_lt (by omega)

/-- Block `n` of the sum. -/
def part (X : FVec Ideal S4096x256 .f32) (D : FVec Ideal S4096x1024 .bf16) (n : ℕ) (y : S256x1024.Idx) : EReal :=
  ∑ j : Fin 512, X (ix2 (row n j) (y 0)) * D (ix2 (row n j) (y 1))

/-- A column of the input times a column of the cotangent. -/
def prod (X : FVec Ideal S4096x256 .f32) (D : FVec Ideal S4096x1024 .bf16) : FVec Ideal S1x256x1024 .bf16 := fun i =>
  (∑ k : Fin 4096, X (ix2 k (i 1)) * D (ix2 k (i 2)) : EReal)

/-- What a point adds, read off the arrays. -/
theorem part_eq (t : Fin cfg0.N) (y : S256x1024.Idx) :
    step (iblk m c 0 t) (iblk m c 1 t) (row t.val) y
      = part (m ((c : Thread nD τ).loc main_arg0)) (m ((c : Thread nD τ).loc main_arg1)) t.val y :=
  Finset.sum_congr rfl fun j _ => congrArg₂ (fun p q : EReal => p * q) (blk0 m c t _ _) (blk1 m c t j _ _ (row_val _ (lt_of_lt_of_eq t.isLt N_0) j))

theorem row_coords (t : Fin cfg0.N) (j : Fin 512) : (row t.val j).val = 512 * (grid0.coords t 1).val + j.val := by
  rw [coords_val]
  exact row_val _ (lt_of_lt_of_eq t.isLt N_0) j

/-- The running sum after each point. -/
theorem sums : ∀ (n : ℕ) (hn : n < cfg0.N) (y : S256x1024.Idx), (outsAt0 m c n hn).2 y
    = ∑ q ∈ Finset.range (n + 1), part (m ((c : Thread nD τ).loc main_arg0)) (m ((c : Thread nD τ).loc main_arg1)) q y
  | 0, hn, y => by
    rw [outsAt0_zero, stAt0_A m c ⟨0, hn⟩ _ rfl (by show ¬1 ≤ 0; decide) (by show ¬0 % 8 = 7; decide), Finset.sum_range_one]
    dsimp only
    exact (sum_A c _ _ _ _ _ _ _ _ _ _ _ _ _ _ _ y (row 0) (row_coords ⟨0, hn⟩)).trans (part_eq m c ⟨0, hn⟩ y)
  | n + 1, hn, y => by
    have hN : n + 1 < 8 := lt_of_lt_of_eq hn N_0
    have ih := sums n (Nat.lt_of_succ_lt hn) y
    rw [outsAt0_succ, Finset.sum_range_succ, ← ih]
    by_cases h7 : n + 1 = 7
    · rw [stAt0_C m c ⟨n + 1, hn⟩ _ (by show ¬(n + 1) % 8 = 0; omega) (by show 1 ≤ n + 1; omega) (by show (n + 1) % 8 = 7; omega)]
      dsimp only
      exact (sum_C c _ _ _ _ _ _ _ _ _ _ _ _ _ _ _ _ y (row (n + 1)) (row_coords ⟨n + 1, hn⟩)).trans (congrArg (fun q : EReal => (outsAt0 m c n (Nat.lt_of_succ_lt hn)).2 y + q) (part_eq m c ⟨n + 1, hn⟩ y))
    · rw [stAt0_B m c ⟨n + 1, hn⟩ _ (by show ¬(n + 1) % 8 = 0; omega) (by show 1 ≤ n + 1; omega) (by show ¬(n + 1) % 8 = 7; omega)]
      dsimp only
      exact (sum_B c _ _ _ _ _ _ _ _ _ _ _ _ _ _ _ _ y (row (n + 1)) (row_coords ⟨n + 1, hn⟩)).trans (congrArg (fun q : EReal => (outsAt0 m c n (Nat.lt_of_succ_lt hn)).2 y + q) (part_eq m c ⟨n + 1, hn⟩ y))

/-- The eight blocks are the whole sum. -/
theorem parts (X : FVec Ideal S4096x256 .f32) (D : FVec Ideal S4096x1024 .bf16) (i : S1x256x1024.Idx) :
    ∑ q ∈ Finset.range 8, part X D q (ix2 (i 1) (i 2)) = prod X D i := by
  rw [Finset.sum_range]
  unfold prod
  refine Eq.trans ?_ (sum_blocks 8 512 (fun k : Fin 4096 => (X (ix2 k (i 1)) * D (ix2 k (i 2)) : EReal))).symm
  refine Finset.sum_congr rfl fun q _ => Finset.sum_congr rfl fun j _ => ?_
  have e : row q.val j = ⟨512 * q.val + j.val, by omega⟩ := Fin.ext (row_val _ q.isLt j)
  show (X (ix2 (row q.val j) (i 1)) * D (ix2 (row q.val j) (i 2)) : EReal) = _
  rw [e]

/-- The array after the run. -/
theorem arr : @Eq (FVec Ideal S1x256x1024 .bf16) (G2 m c)
    (prod (m ((c : Thread nD τ).loc main_arg0)) (m ((c : Thread nD τ).loc main_arg1))) := by
  have h7 : 7 < cfg0.N := lt_of_lt_of_eq (by decide) N_0.symm
  have h6 : 6 < cfg0.N := lt_of_lt_of_eq (by decide) N_0.symm
  have hG := G2_last m c
  rw [← outsAt0_sweep m c 7 h7, outsAt0_succ m c 6 h7, stAt0_C m c ⟨7, h7⟩ _ (by show ¬7 % 8 = 0; decide) (by show 1 ≤ 7; decide) (by show 7 % 8 = 7; decide)] at hG
  dsimp only at hG
  funext i
  refine (congrFun hG i).trans ?_
  have hi : (i : S1x256x1024.Idx) = ix3 (i 0) (i 1) (i 2) := funext fun a => match a with
    | ⟨0, _⟩ => rfl
    | ⟨1, _⟩ => rfl
    | ⟨2, _⟩ => rfl
  have hp := parts (m ((c : Thread nD τ).loc main_arg0)) (m ((c : Thread nD τ).loc main_arg1)) i
  rw [Finset.sum_range_succ, ← sums m c 6 h6, ← part_eq m c ⟨7, h7⟩] at hp
  refine Eq.trans ?_ hp
  refine (congrArg _ hi).trans ?_
  exact out_C c _ _ _ _ _ _ _ _ _ _ _ _ _ _ _ _ (ix2 (i 1) (i 2)) (i 0) (row 7) (row_coords ⟨7, h7⟩)

/-- The reference: the same sums. -/
theorem ref (x0 : FVec Ideal S4096x256 .f32) (x1 : FVec Ideal S4096x1024 .bf16) :
    @Eq (FVec Ideal S1x256x1024 .bf16) (Cert.Reference12Ideal.Read.val_main_v6 (F := Ideal) x0 x1) (prod x0 x1) := by
  funext i
  have hi0 : (i 0).val < 1 := (i 0).isLt
  have hi1 : (i 1).val < 256 := (i 1).isLt
  have hi2 : (i 2).val < 1024 := (i 2).isLt
  rw [Cert.Reference12Ideal.Read.val_main_v6_apply, Cert.Reference12Ideal.Read.val_main_v5_apply]
  show Cert.Reference12Ideal.Read.val_main_v4 (F := Ideal) x0 x1 _ = _
  rw [Cert.Reference12Ideal.Read.val_main_v4_apply, Cert.Reference12Ideal.Read.val_main_v3_apply]
  refine Finset.sum_congr rfl fun k _ => ?_
  have hk := k.isLt
  rw [Cert.Reference12Ideal.Read.val_main_v2_apply]
  refine (mul_comm (G := EReal) _ _).trans ?_
  refine congrArg₂ (fun p q : EReal => p * q) (congrArg x0 (funext fun a => Fin.ext ?_)) (congrArg x1 (funext fun a => Fin.ext ?_))
  · match a with
    | ⟨0, _⟩ => rfl
    | ⟨1, _⟩ => show (((i 0).val * 256 + (i 1).val) * 1024 + (i 2).val) / 1024 = (i 1).val; omega
  · match a with
    | ⟨0, _⟩ => rfl
    | ⟨1, _⟩ => show (((i 0).val * 256 + (i 1).val) * 1024 + (i 2).val) % 1024 = (i 2).val; omega

end Cert.PleDw
end
-- ==== Proof.OutDw.lean ====
/-
  The gradient of one square of weights, summed over blocks of rows: what the kernel writes and what the reference computes.
-/
module

public import Idealize.ShloMosaic.Lib.VecWindow
public import proofs.«01_k».proof.Proof.Mul
public import proofs.«01_k».proof.Proof.Gen.Kernel8Ideal.Value
public import proofs.«01_k».proof.Proof.Gen.Reference8Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel8Ideal Cert.Kernel8Ideal.Gen Cert.Kernel8Ideal.Value

namespace Cert.OutDw

theorem off_eq (i : grid0.Coords) : k0_off1 i = ![512 * (i 1).val, 0] := by
  have h : (i 1).val < 8 := (i 1).isLt
  unfold k0_off1
  generalize (i 1).val = n at h
  interval_cases n <;> rfl

/-- One block's product: the columns of some rows times the columns of a block. -/
def step (x0 : FVec Ideal S4096x1024 .bf16) (x1 : FVec Ideal S512x1024 .f32) (r : Fin 512 → Fin 4096) (y : S1024x1024.Idx) : EReal :=
  ∑ j : Fin 512, x0 (ix2 (r j) (y 0)) * x1 (ix2 j (y 1))

theorem mul_apply (v : FVec Ideal S512x1024 .bf16) (w : FVec Ideal S512x1024 .f32) (y : S1024x1024.Idx) :
    k0_pay1 (F := Ideal) v w y = (∑ j : Fin 512, v (ix2 j (y 0)) * w (ix2 j (y 1)) : EReal) := by
  unfold k0_pay1
  exact cols_apply _ rfl _ _ _

theorem pay_apply (i : grid0.Coords) (x0 : FVec Ideal S4096x1024 .bf16) (x1 : FVec Ideal S512x1024 .f32) (o : Fin 2 → Nat) (ho : o = ![512 * (i 1).val, 0]) (io : ∀ a, o a + S512x1024.size a ≤ S4096x1024.size a)
    (ib : ∀ a, (![0, 0] : Fin 2 → Nat) a + S512x1024.size a ≤ S512x1024.size a) (y : S1024x1024.Idx) (r : Fin 512 → Fin 4096) (hr : ∀ j : Fin 512, (r j).val = 512 * (i 1).val + j.val) :
    k0_pay1 (F := Ideal) (View.ld (Val := Elt Ideal) (e' := .bf16) x0 (Rect.unit (s := S4096x1024) o S512x1024.size io)) (View.ld (Val := Elt Ideal) (e' := .f32) x1 (Rect.unit (s := S512x1024) ![0, 0] S512x1024.size ib)) y = step x0 x1 r y := by
  subst ho
  refine (mul_apply _ _ y).trans (Finset.sum_congr rfl fun k _ => congrArg₂ (fun p q : EReal => p * q) ?_ (ld_whole (Val := Elt Ideal) (e := .f32) x1 ib _))
  refine View.ld_unit_apply_of _ _ _ _ _ _ fun a => ?_
  match a with
  | ⟨0, _⟩ => exact hr k
  | ⟨1, _⟩ => exact (Nat.zero_add (y 0).val).symm

/-- What a point of case A leaves in the running sum. -/
theorem sum_A (c : Dev nD) (i : grid0.Coords) (a2 : Memref sig .tc .vmem S4096x1024 .bf16) (h2 : a2.IsWhole) (a3 : Memref sig .tc .vmem S512x1024 .f32) (h3 : a3.IsWhole)
    (a4 : Memref sig .tc .vmem S1x1024x1024 .bf16) (h4 : a4.IsWhole) (a5 : Memref sig .tc .vmem S1024x1024 .f32) (h5 : a5.IsWhole) (c0 : cond0_0 i) (c1 : cond0_1 i) (c2 : ¬cond0_2 i) (c3 : ¬cond0_3 i) (x0 : Vec Ideal S4096x1024 .bf16) (x1 : Vec Ideal S512x1024 .f32) (y : S1024x1024.Idx) (r : Fin 512 → Fin 4096) (hr : ∀ j : Fin 512, (r j).val = 512 * (i 1).val + j.val) :
    sout0_A_0 (F := Ideal) c i a2 h2 a3 h3 a4 h4 a5 h5 c0 c1 c2 c3 x0 x1 y = step x0 x1 r y := by
  unfold sout0_A_0
  rw [View.read_writes_eq_canon _ _ _ (scover0_A_0 c i a2 h2 a3 h3 a4 h4 a5 h5 c0 c1 c2 c3 x0 x1)]
  unfold kernelRun0_A
  dsimp only
  rw [View.canon_unit_zero zero2]
  unfold k0_pay2
  refine (congrFun (shapeCast_self _ _) y).trans ?_
  simp only [View.readAt_eq_ld, h2.read_unread, h3.read_unread]
  exact pay_apply i x0 x1 _ (off_eq i) _ _ y r hr

/-- What a point of case B leaves in the running sum. -/
theorem sum_B (c : Dev nD) (i : grid0.Coords) (a2 : Memref sig .tc .vmem S4096x1024 .bf16) (h2 : a2.IsWhole) (a3 : Memref sig .tc .vmem S512x1024 .f32) (h3 : a3.IsWhole)
    (a4 : Memref sig .tc .vmem S1x1024x1024 .bf16) (h4 : a4.IsWhole) (a5 : Memref sig .tc .vmem S1024x1024 .f32) (h5 : a5.IsWhole) (c0 : cond0_0 i) (c1 : ¬cond0_1 i) (c2 : cond0_2 i) (c3 : ¬cond0_3 i) (x0 : Vec Ideal S4096x1024 .bf16) (x1 : Vec Ideal S512x1024 .f32) (xs : Vec Ideal S1024x1024 .f32) (y : S1024x1024.Idx) (r : Fin 512 → Fin 4096) (hr : ∀ j : Fin 512, (r j).val = 512 * (i 1).val + j.val) :
    sout0_B_0 (F := Ideal) c i a2 h2 a3 h3 a4 h4 a5 h5 c0 c1 c2 c3 x0 x1 xs y = xs y + step x0 x1 r y := by
  unfold sout0_B_0
  rw [View.read_writes_eq_canon _ _ _ (scover0_B_0 c i a2 h2 a3 h3 a4 h4 a5 h5 c0 c1 c2 c3 x0 x1 xs)]
  unfold kernelRun0_B
  dsimp only
  rw [View.canon_unit_zero zero2]
  unfold k0_pay3
  refine (congrFun (shapeCast_self _ _) y).trans ?_
  simp only [View.readAt_eq_ld, h2.read_unread, h3.read_unread, h5.read_unread]
  exact congrArg₂ (fun p q : EReal => p + q) (ld_whole xs _ y) (pay_apply i x0 x1 _ (off_eq i) _ _ y r hr)

/-- What a point of case C leaves in the running sum. -/
theorem sum_C (c : Dev nD) (i : grid0.Coords) (a2 : Memref sig .tc .vmem S4096x1024 .bf16) (h2 : a2.IsWhole) (a3 : Memref sig .tc .vmem S512x1024 .f32) (h3 : a3.IsWhole)
    (a4 : Memref sig .tc .vmem S1x1024x1024 .bf16) (h4 : a4.IsWhole) (a5 : Memref sig .tc .vmem S1024x1024 .f32) (h5 : a5.IsWhole) (c0 : cond0_0 i) (c1 : ¬cond0_1 i) (c2 : cond0_2 i) (c3 : cond0_3 i) (x0 : Vec Ideal S4096x1024 .bf16) (x1 : Vec Ideal S512x1024 .f32) (xs : Vec Ideal S1024x1024 .f32) (y : S1024x1024.Idx) (r : Fin 512 → Fin 4096) (hr : ∀ j : Fin 512, (r j).val = 512 * (i 1).val + j.val) :
    sout0_C_0 (F := Ideal) c i a2 h2 a3 h3 a4 h4 a5 h5 c0 c1 c2 c3 x0 x1 xs y = xs y + step x0 x1 r y := by
  unfold sout0_C_0
  rw [View.read_writes_eq_canon _ _ _ (scover0_C_0 c i a2 h2 a3 h3 a4 h4 a5 h5 c0 c1 c2 c3 x0 x1 xs)]
  unfold kernelRun0_C
  dsimp only
  unfold kernelRun0_C.sl.HS0_1
  rw [View.canon_unit_zero zero2]
  unfold k0_pay3
  refine (congrFun (shapeCast_self _ _) y).trans ?_
  simp only [View.readAt_eq_ld, h2.read_unread, h3.read_unread, h5.read_unread]
  exact congrArg₂ (fun p q : EReal => p + q) (ld_whole xs _ y) (pay_apply i x0 x1 _ (off_eq i) _ _ y r hr)

/-- What the last point leaves in the result: the running sum. -/
theorem out_C (c : Dev nD) (i : grid0.Coords) (a2 : Memref sig .tc .vmem S4096x1024 .bf16) (h2 : a2.IsWhole) (a3 : Memref sig .tc .vmem S512x1024 .f32) (h3 : a3.IsWhole)
    (a4 : Memref sig .tc .vmem S1x1024x1024 .bf16) (h4 : a4.IsWhole) (a5 : Memref sig .tc .vmem S1024x1024 .f32) (h5 : a5.IsWhole) (c0 : cond0_0 i) (c1 : ¬cond0_1 i) (c2 : cond0_2 i) (c3 : cond0_3 i) (x0 : Vec Ideal S4096x1024 .bf16) (x1 : Vec Ideal S512x1024 .f32) (xs : Vec Ideal S1024x1024 .f32) (y : S1024x1024.Idx) (b : Fin 1) (r : Fin 512 → Fin 4096) (hr : ∀ j : Fin 512, (r j).val = 512 * (i 1).val + j.val) :
    out0_C_2 (F := Ideal) c i a2 h2 a3 h3 a4 h4 a5 h5 c0 c1 c2 c3 x0 x1 xs (ix3 b (y 0) (y 1)) = xs y + step x0 x1 r y := by
  unfold out0_C_2
  rw [View.read_writes_eq_canon _ _ _ (cover0_C_2 c i a2 h2 a3 h3 a4 h4 a5 h5 c0 c1 c2 c3 x0 x1 xs)]
  unfold kernelRun0_C
  dsimp only
  rw [View.canon_unit_zero zero3]
  unfold k0_pay4
  refine (stack_apply _ _ b (y 0) (y 1)).trans ?_
  show (kernelRun0_C.sl.v8 c i a2 h2 a3 h3 a5 h5 c0 x0 x1 xs : FVec Ideal S1024x1024 .f32) (ix2 (y 0) (y 1)) = _
  unfold kernelRun0_C.sl.v8 kernelRun0_C.sl.HS0_1
  rw [View.readCov_full]
  unfold k0_pay3
  refine (congrFun (shapeCast_self _ _) _).trans ?_
  simp only [View.readAt_eq_ld, h2.read_unread, h3.read_unread, h5.read_unread]
  have hy : (ix2 (y 0) (y 1) : S1024x1024.Idx) = y := funext fun a => match a with
    | ⟨0, _⟩ => rfl
    | ⟨1, _⟩ => rfl
  rw [hy]
  exact congrArg₂ (fun p q : EReal => p + q) (ld_whole xs _ y) (pay_apply i x0 x1 _ (off_eq i) _ _ y r hr)

variable (m : (ℓ : Loc nD τ sig) → Buf (Elt Ideal) ℓ) (c : Dev nD)

theorem coords_val : ∀ t : Fin cfg0.N, (grid0.coords t 1).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

theorem blk0 (t : Fin cfg0.N) (r : Fin 4096) (k : Fin 1024) :
    (iblk m c 0 t : FVec Ideal S4096x1024 .bf16) (ix2 r k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 1024 + 1 * k.val = k.val; omega

theorem blk1 (t : Fin cfg0.N) (q : Fin 512) (r : Fin 4096) (k : Fin 1024) (hr : r.val = 512 * t.val + q.val) :
    (iblk m c 1 t : FVec Ideal S512x1024 .f32) (ix2 q k) = (m ((c : Thread nD τ).loc main_arg1) : FVec Ideal S4096x1024 .f32) (ix2 r k) := by
  obtain ⟨e0, e1⟩ := idx1 t
  unfold iblk
  rw [View.read_apply]
  have e : (V m c main_arg1 : FVec Ideal S4096x1024 .f32) = (m ((c : Thread nD τ).loc main_arg1) : FVec Ideal S4096x1024 .f32) := V_main_arg1 m c
  show (V m c main_arg1 : FVec Ideal S4096x1024 .f32) (((cfg0.win 1).blk t).view.emb (ix2 q k)) = _
  rw [e]
  congr 1
  funext a
  apply Fin.ext
  match a with
  | ⟨0, _⟩ => show win0_1.index t (0 : Fin 2) * 512 + 1 * q.val = r.val; omega
  | ⟨1, _⟩ => show win0_1.index t (1 : Fin 2) * 1024 + 1 * k.val = k.val; omega

/-- Row `512 n + j` of the input, the number of the block taken round. -/
def row (n : ℕ) (j : Fin 512) : Fin 4096 := ⟨(512 * n + j.val) % 4096, Nat.mod_lt _ (by decide)⟩

theorem row_val (n : ℕ) (hn : n < 8) (j : Fin 512) : (row n j).val = 512 * n + j.val :=
  Nat.mod_eq_of_lt (by omega)

/-- Block `n` of the sum. -/
def part (X : FVec Ideal S4096x1024 .bf16) (D : FVec Ideal S4096x1024 .f32) (n : ℕ) (y : S1024x1024.Idx) : EReal :=
  ∑ j : Fin 512, X (ix2 (row n j) (y 0)) * D (ix2 (row n j) (y 1))

/-- A column of the input times a column of the cotangent. -/
def prod (X : FVec Ideal S4096x1024 .bf16) (D : FVec Ideal S4096x1024 .f32) : FVec Ideal S1x1024x1024 .bf16 := fun i =>
  (∑ k : Fin 4096, X (ix2 k (i 1)) * D (ix2 k (i 2)) : EReal)

/-- What a point adds, read off the arrays. -/
theorem part_eq (t : Fin cfg0.N) (y : S1024x1024.Idx) :
    step (iblk m c 0 t) (iblk m c 1 t) (row t.val) y
      = part (m ((c : Thread nD τ).loc main_arg0)) (m ((c : Thread nD τ).loc main_arg1)) t.val y :=
  Finset.sum_congr rfl fun j _ => congrArg₂ (fun p q : EReal => p * q) (blk0 m c t _ _) (blk1 m c t j _ _ (row_val _ (lt_of_lt_of_eq t.isLt N_0) j))

theorem row_coords (t : Fin cfg0.N) (j : Fin 512) : (row t.val j).val = 512 * (grid0.coords t 1).val + j.val := by
  rw [coords_val]
  exact row_val _ (lt_of_lt_of_eq t.isLt N_0) j

/-- The running sum after each point. -/
theorem sums : ∀ (n : ℕ) (hn : n < cfg0.N) (y : S1024x1024.Idx), (outsAt0 m c n hn).2 y
    = ∑ q ∈ Finset.range (n + 1), part (m ((c : Thread nD τ).loc main_arg0)) (m ((c : Thread nD τ).loc main_arg1)) q y
  | 0, hn, y => by
    rw [outsAt0_zero, stAt0_A m c ⟨0, hn⟩ _ rfl (by show ¬1 ≤ 0; decide) (by show ¬0 % 8 = 7; decide), Finset.sum_range_one]
    dsimp only
    exact (sum_A c _ _ _ _ _ _ _ _ _ _ _ _ _ _ _ y (row 0) (row_coords ⟨0, hn⟩)).trans (part_eq m c ⟨0, hn⟩ y)
  | n + 1, hn, y => by
    have hN : n + 1 < 8 := lt_of_lt_of_eq hn N_0
    have ih := sums n (Nat.lt_of_succ_lt hn) y
    rw [outsAt0_succ, Finset.sum_range_succ, ← ih]
    by_cases h7 : n + 1 = 7
    · rw [stAt0_C m c ⟨n + 1, hn⟩ _ (by show ¬(n + 1) % 8 = 0; omega) (by show 1 ≤ n + 1; omega) (by show (n + 1) % 8 = 7; omega)]
      dsimp only
      exact (sum_C c _ _ _ _ _ _ _ _ _ _ _ _ _ _ _ _ y (row (n + 1)) (row_coords ⟨n + 1, hn⟩)).trans (congrArg (fun q : EReal => (outsAt0 m c n (Nat.lt_of_succ_lt hn)).2 y + q) (part_eq m c ⟨n + 1, hn⟩ y))
    · rw [stAt0_B m c ⟨n + 1, hn⟩ _ (by show ¬(n + 1) % 8 = 0; omega) (by show 1 ≤ n + 1; omega) (by show ¬(n + 1) % 8 = 7; omega)]
      dsimp only
      exact (sum_B c _ _ _ _ _ _ _ _ _ _ _ _ _ _ _ _ y (row (n + 1)) (row_coords ⟨n + 1, hn⟩)).trans (congrArg (fun q : EReal => (outsAt0 m c n (Nat.lt_of_succ_lt hn)).2 y + q) (part_eq m c ⟨n + 1, hn⟩ y))

/-- The eight blocks are the whole sum. -/
theorem parts (X : FVec Ideal S4096x1024 .bf16) (D : FVec Ideal S4096x1024 .f32) (i : S1x1024x1024.Idx) :
    ∑ q ∈ Finset.range 8, part X D q (ix2 (i 1) (i 2)) = prod X D i := by
  rw [Finset.sum_range]
  unfold prod
  refine Eq.trans ?_ (sum_blocks 8 512 (fun k : Fin 4096 => (X (ix2 k (i 1)) * D (ix2 k (i 2)) : EReal))).symm
  refine Finset.sum_congr rfl fun q _ => Finset.sum_congr rfl fun j _ => ?_
  have e : row q.val j = ⟨512 * q.val + j.val, by omega⟩ := Fin.ext (row_val _ q.isLt j)
  show (X (ix2 (row q.val j) (i 1)) * D (ix2 (row q.val j) (i 2)) : EReal) = _
  rw [e]

/-- The array after the run. -/
theorem arr : @Eq (FVec Ideal S1x1024x1024 .bf16) (G2 m c)
    (prod (m ((c : Thread nD τ).loc main_arg0)) (m ((c : Thread nD τ).loc main_arg1))) := by
  have h7 : 7 < cfg0.N := lt_of_lt_of_eq (by decide) N_0.symm
  have h6 : 6 < cfg0.N := lt_of_lt_of_eq (by decide) N_0.symm
  have hG := G2_last m c
  rw [← outsAt0_sweep m c 7 h7, outsAt0_succ m c 6 h7, stAt0_C m c ⟨7, h7⟩ _ (by show ¬7 % 8 = 0; decide) (by show 1 ≤ 7; decide) (by show 7 % 8 = 7; decide)] at hG
  dsimp only at hG
  funext i
  refine (congrFun hG i).trans ?_
  have hi : (i : S1x1024x1024.Idx) = ix3 (i 0) (i 1) (i 2) := funext fun a => match a with
    | ⟨0, _⟩ => rfl
    | ⟨1, _⟩ => rfl
    | ⟨2, _⟩ => rfl
  have hp := parts (m ((c : Thread nD τ).loc main_arg0)) (m ((c : Thread nD τ).loc main_arg1)) i
  rw [Finset.sum_range_succ, ← sums m c 6 h6, ← part_eq m c ⟨7, h7⟩] at hp
  refine Eq.trans ?_ hp
  refine (congrArg _ hi).trans ?_
  exact out_C c _ _ _ _ _ _ _ _ _ _ _ _ _ _ _ _ (ix2 (i 1) (i 2)) (i 0) (row 7) (row_coords ⟨7, h7⟩)

/-- The reference: the same sums. -/
theorem ref (x0 : FVec Ideal S4096x1024 .bf16) (x1 : FVec Ideal S4096x1024 .f32) :
    @Eq (FVec Ideal S1x1024x1024 .bf16) (Cert.Reference8Ideal.Read.val_main_v6 (F := Ideal) x0 x1) (prod x0 x1) := by
  funext i
  have hi0 : (i 0).val < 1 := (i 0).isLt
  have hi1 : (i 1).val < 1024 := (i 1).isLt
  have hi2 : (i 2).val < 1024 := (i 2).isLt
  rw [Cert.Reference8Ideal.Read.val_main_v6_apply, Cert.Reference8Ideal.Read.val_main_v5_apply]
  show Cert.Reference8Ideal.Read.val_main_v4 (F := Ideal) x0 x1 _ = _
  rw [Cert.Reference8Ideal.Read.val_main_v4_apply, Cert.Reference8Ideal.Read.val_main_v3_apply]
  refine Finset.sum_congr rfl fun k _ => ?_
  have hk := k.isLt
  rw [Cert.Reference8Ideal.Read.val_main_v1_apply]
  refine (mul_comm (G := EReal) _ _).trans ?_
  refine congrArg₂ (fun p q : EReal => p * q) (congrArg x0 (funext fun a => Fin.ext ?_)) (congrArg x1 (funext fun a => Fin.ext ?_))
  · match a with
    | ⟨0, _⟩ => rfl
    | ⟨1, _⟩ => show (((i 0).val * 1024 + (i 1).val) * 1024 + (i 2).val) / 1024 = (i 1).val; omega
  · match a with
    | ⟨0, _⟩ => rfl
    | ⟨1, _⟩ => show (((i 0).val * 1024 + (i 1).val) * 1024 + (i 2).val) % 1024 = (i 2).val; omega

end Cert.OutDw
end
-- ==== Proof.Gate.lean ====
/-
  A forward product with one square of weights: what the kernel writes and what the reference computes.
-/
module

public import proofs.«01_k».proof.Proof.Mul
public import proofs.«01_k».proof.Proof.Gen.Kernel9Ideal.Value
public import proofs.«01_k».proof.Proof.Gen.Reference9Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel9Ideal Cert.Kernel9Ideal.Gen Cert.Kernel9Ideal.Value

namespace Cert.Gate

theorem off_eq (i : grid0.Coords) : k0_off1 i = ![512 * (i 1).val, 0] := by
  have h : (i 1).val < 8 := (i 1).isLt
  unfold k0_off1
  generalize (i 1).val = n at h
  interval_cases n <;> rfl

/-- What a point leaves: its rows times the weights. -/
theorem point_apply (c : Dev nD) (i : grid0.Coords) (a2 : Memref sig .tc .vmem S4096x1024 .bf16) (h2 : a2.IsWhole) (a3 : Memref sig .tc .vmem S1x1024x1024 .bf16) (h3 : a3.IsWhole)
    (a4 : Memref sig .tc .vmem S512x1024 .f32) (h4 : a4.IsWhole) (x0 : Vec Ideal S4096x1024 .bf16) (x1 : Vec Ideal S1x1024x1024 .bf16) (y : S512x1024.Idx) (r : Fin 4096) (hr : r.val = 512 * (i 1).val + (y 0).val) :
    out0_A_2 (F := Ideal) c i a2 h2 a3 h3 a4 h4 x0 x1 y = (∑ k : Fin 1024, x0 (ix2 r k) * x1 (ix3 0 k (y 1)) : EReal) := by
  unfold out0_A_2
  rw [View.read_writes_eq_canon _ _ _ (cover0_A_2 c i a2 h2 a3 h3 a4 h4 x0 x1)]
  unfold kernelRun0_A
  dsimp only
  rw [View.canon_unit_zero zero2]
  unfold k0_pay1
  refine (plain_apply _ rfl _ _ _).trans (Finset.sum_congr rfl fun k _ => ?_)
  refine congrArg₂ _ ?_ ((unstack_apply _ _ _ _).trans ?_)
  · simp only [View.readAt_eq_ld, h2.read_unread]
    refine View.ld_unit_apply_of _ _ _ _ _ _ fun a => ?_
    have ho := congrFun (off_eq i) a
    match a with
    | ⟨0, _⟩ => exact hr.trans (congrArg (· + (y 0).val) ho.symm)
    | ⟨1, _⟩ => exact (Nat.zero_add k.val).symm.trans (congrArg (· + k.val) ho.symm)
  · simp only [View.readAt_eq_ld, h3.read_unread]
    refine View.ld_unit_apply_of _ _ _ _ _ _ fun a => ?_
    match a with
    | ⟨0, _⟩ => rfl
    | ⟨1, _⟩ => exact (Nat.zero_add k.val).symm
    | ⟨2, _⟩ => exact (Nat.zero_add (y 1).val).symm

variable (m : (ℓ : Loc nD τ sig) → Buf (Elt Ideal) ℓ) (c : Dev nD)

theorem coords_val : ∀ t : Fin cfg0.N, (grid0.coords t 1).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem blk0 (t : Fin cfg0.N) (r : Fin 4096) (k : Fin 1024) :
    (iblk m c 0 t : FVec Ideal S4096x1024 .bf16) (ix2 r k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 1024 + 1 * k.val = k.val; omega

theorem blk1 (t : Fin cfg0.N) (k j : Fin 1024) :
    (iblk m c 1 t : FVec Ideal S1x1024x1024 .bf16) (ix3 0 k j) = (m ((c : Thread nD τ).loc main_arg1) : FVec Ideal S1x1024x1024 .bf16) (ix3 0 k j) := by
  obtain ⟨e0, e1, e2⟩ := idx1 t
  unfold iblk
  rw [View.read_apply]
  have e : (V m c main_arg1 : FVec Ideal S1x1024x1024 .bf16) = (m ((c : Thread nD τ).loc main_arg1) : FVec Ideal S1x1024x1024 .bf16) := V_main_arg1 m c
  show (V m c main_arg1 : FVec Ideal S1x1024x1024 .bf16) (((cfg0.win 1).blk t).view.emb (ix3 0 k j)) = _
  rw [e]
  congr 1
  funext a
  apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * j.val = j.val; omega

/-- A row of the input times a column of the weights. -/
def prod (X : FVec Ideal S4096x1024 .bf16) (W : FVec Ideal S1x1024x1024 .bf16) : FVec Ideal S4096x1024 .f32 := fun i =>
  (∑ k : Fin 1024, X (ix2 (i 0) k) * W (ix3 0 k (i 1)) : EReal)

/-- The array after the run. -/
theorem arr : @Eq (FVec Ideal S4096x1024 .f32) ((dats m 0 c).arrAt 2 cfg0.N)
    (prod (m ((c : Thread nD τ).loc main_arg0)) (m ((c : Thread nD τ).loc main_arg1))) := by
  funext i
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨_, by omega⟩, rfl⟩
  have hw := blocks2 m c t (flush0_2 t)
  rw [flushed2_A] at hw
  obtain ⟨e0, e1⟩ := idx2 t
  let y : S512x1024.Idx := ix2 ⟨(i 0).val % 512, Nat.mod_lt _ (by decide)⟩ (i 1)
  have hy := congrFun hw y
  have hemb : ((cfg0.win 2).blk t).view.emb y = i := by
    funext a
    apply Fin.ext
    match a with
    | ⟨0, _⟩ => show win0_2.index t (0 : Fin 2) * 512 + 1 * ((i 0).val % 512) = (i 0).val; omega
    | ⟨1, _⟩ => show win0_2.index t (1 : Fin 2) * 1024 + 1 * (i 1).val = (i 1).val; omega
  have hc := coords_val t
  refine Eq.trans ?_ (hy.trans (((point_apply c (grid0.coords t) _ _ _ _ _ _ _ _ y (i 0) ?_)).trans (Finset.sum_congr rfl fun k _ => ?_)))
  · rw [View.read_apply, hemb]; rfl
  · show (i 0).val = 512 * (grid0.coords t 1).val + (i 0).val % 512
    rw [hc]; omega
  · exact congrArg₂ _ (blk0 m c t _ k) (blk1 m c t k _)

/-- The reference: the same sums. -/
theorem ref (x0 : FVec Ideal S4096x1024 .bf16) (x1 : FVec Ideal S1x1024x1024 .bf16) :
    @Eq (FVec Ideal S4096x1024 .f32) (Cert.Reference9Ideal.Read.val_main_v3 (F := Ideal) x0 x1) (prod x0 x1) := by
  funext i
  have hi1 : (i 1).val < 1024 := (i 1).isLt
  rw [Cert.Reference9Ideal.Read.val_main_v3_apply]
  refine Finset.sum_congr rfl fun k _ => ?_
  have hk := k.isLt
  rw [Cert.Reference9Ideal.Read.val_main_v0_apply, Cert.Reference9Ideal.Read.val_main_v2_apply, Cert.Reference9Ideal.Read.val_main_v1_apply]
  refine congrArg₂ _ (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 1024 + (i 1).val) / 1024 % 1024 = k.val; omega
    | ⟨2, _⟩ => show (k.val * 1024 + (i 1).val) % 1024 = (i 1).val; omega

end Cert.Gate
end
-- ==== Proof.Out.lean ====
/-
  A forward product with one square of weights, and the array added to it: what the kernel writes and what the reference computes.
-/
module

public import proofs.«01_k».proof.Proof.Mul
public import proofs.«01_k».proof.Proof.Gen.Kernel10Ideal.Value
public import proofs.«01_k».proof.Proof.Gen.Reference10Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel10Ideal Cert.Kernel10Ideal.Gen Cert.Kernel10Ideal.Value

namespace Cert.Out

theorem off_eq (i : grid0.Coords) : k0_off1 i = ![512 * (i 1).val, 0] := by
  have h : (i 1).val < 8 := (i 1).isLt
  unfold k0_off1
  generalize (i 1).val = n at h
  interval_cases n <;> rfl

/-- What a point leaves: its rows times the weights, and its block of the array added. -/
theorem point_apply (c : Dev nD) (i : grid0.Coords) (a2 : Memref sig .tc .vmem S4096x1024 .bf16) (h2 : a2.IsWhole) (a3 : Memref sig .tc .vmem S1x1024x1024 .bf16) (h3 : a3.IsWhole)
    (a4 : Memref sig .tc .vmem S512x1024 .f32) (h4 : a4.IsWhole) (a5 : Memref sig .tc .vmem S512x1024 .f32) (h5 : a5.IsWhole) (x0 : Vec Ideal S4096x1024 .bf16) (x1 : Vec Ideal S1x1024x1024 .bf16) (x2 : Vec Ideal S512x1024 .f32) (y : S512x1024.Idx) (r : Fin 4096) (hr : r.val = 512 * (i 1).val + (y 0).val) :
    out0_A_3 (F := Ideal) c i a2 h2 a3 h3 a4 h4 a5 h5 x0 x1 x2 y = (∑ k : Fin 1024, x0 (ix2 r k) * x1 (ix3 0 k (y 1)) : EReal) + x2 y := by
  unfold out0_A_3
  rw [View.read_writes_eq_canon _ _ _ (cover0_A_3 c i a2 h2 a3 h3 a4 h4 a5 h5 x0 x1 x2)]
  unfold kernelRun0_A
  dsimp only
  rw [View.canon_unit_zero zero2]
  unfold k0_pay1
  refine congrArg₂ (fun p q : EReal => p + q) ?_ ?_
  · refine (plain_apply _ rfl _ _ _).trans (Finset.sum_congr rfl fun k _ => ?_)
    refine congrArg₂ _ ?_ ((unstack_apply _ _ _ _).trans ?_)
    · simp only [View.readAt_eq_ld, h2.read_unread]
      refine View.ld_unit_apply_of _ _ _ _ _ _ fun a => ?_
      have ho := congrFun (off_eq i) a
      match a with
      | ⟨0, _⟩ => exact hr.trans (congrArg (· + (y 0).val) ho.symm)
      | ⟨1, _⟩ => exact (Nat.zero_add k.val).symm.trans (congrArg (· + k.val) ho.symm)
    · simp only [View.readAt_eq_ld, h3.read_unread]
      refine View.ld_unit_apply_of _ _ _ _ _ _ fun a => ?_
      match a with
      | ⟨0, _⟩ => rfl
      | ⟨1, _⟩ => exact (Nat.zero_add k.val).symm
      | ⟨2, _⟩ => exact (Nat.zero_add (y 1).val).symm
  · simp only [View.readAt_eq_ld, h4.read_unread]
    exact ld_whole x2 _ _

variable (m : (ℓ : Loc nD τ sig) → Buf (Elt Ideal) ℓ) (c : Dev nD)

theorem coords_val : ∀ t : Fin cfg0.N, (grid0.coords t 1).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem blk0 (t : Fin cfg0.N) (r : Fin 4096) (k : Fin 1024) :
    (iblk m c 0 t : FVec Ideal S4096x1024 .bf16) (ix2 r k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 1024 + 1 * k.val = k.val; omega

theorem blk1 (t : Fin cfg0.N) (k j : Fin 1024) :
    (iblk m c 1 t : FVec Ideal S1x1024x1024 .bf16) (ix3 0 k j) = (m ((c : Thread nD τ).loc main_arg1) : FVec Ideal S1x1024x1024 .bf16) (ix3 0 k j) := by
  obtain ⟨e0, e1, e2⟩ := idx1 t
  unfold iblk
  rw [View.read_apply]
  have e : (V m c main_arg1 : FVec Ideal S1x1024x1024 .bf16) = (m ((c : Thread nD τ).loc main_arg1) : FVec Ideal S1x1024x1024 .bf16) := V_main_arg1 m c
  show (V m c main_arg1 : FVec Ideal S1x1024x1024 .bf16) (((cfg0.win 1).blk t).view.emb (ix3 0 k j)) = _
  rw [e]
  congr 1
  funext a
  apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * j.val = j.val; omega

theorem blk2 (t : Fin cfg0.N) (q : Fin 512) (r : Fin 4096) (k : Fin 1024) (hr : r.val = 512 * t.val + q.val) :
    (iblk m c 2 t : FVec Ideal S512x1024 .f32) (ix2 q k) = (m ((c : Thread nD τ).loc main_arg2) : FVec Ideal S4096x1024 .f32) (ix2 r k) := by
  obtain ⟨e0, e1⟩ := idx2 t
  unfold iblk
  rw [View.read_apply]
  have e : (V m c main_arg2 : FVec Ideal S4096x1024 .f32) = (m ((c : Thread nD τ).loc main_arg2) : FVec Ideal S4096x1024 .f32) := V_main_arg2 m c
  show (V m c main_arg2 : FVec Ideal S4096x1024 .f32) (((cfg0.win 2).blk t).view.emb (ix2 q k)) = _
  rw [e]
  congr 1
  funext a
  apply Fin.ext
  match a with
  | ⟨0, _⟩ => show win0_2.index t (0 : Fin 2) * 512 + 1 * q.val = r.val; omega
  | ⟨1, _⟩ => show win0_2.index t (1 : Fin 2) * 1024 + 1 * k.val = k.val; omega

/-- A row of the input times a column of the weights, and the array added. -/
def prod (X : FVec Ideal S4096x1024 .bf16) (W : FVec Ideal S1x1024x1024 .bf16) (H : FVec Ideal S4096x1024 .f32) : FVec Ideal S4096x1024 .f32 := fun i =>
  (∑ k : Fin 1024, X (ix2 (i 0) k) * W (ix3 0 k (i 1)) : EReal) + H i

/-- The array after the run. -/
theorem arr : @Eq (FVec Ideal S4096x1024 .f32) ((dats m 0 c).arrAt 3 cfg0.N)
    (prod (m ((c : Thread nD τ).loc main_arg0)) (m ((c : Thread nD τ).loc main_arg1)) (m ((c : Thread nD τ).loc main_arg2))) := by
  funext i
  have hi0 : (i 0).val < 4096 := (i 0).isLt
  have hi1 : (i 1).val < 1024 := (i 1).isLt
  have hN : cfg0.N = 8 := N_0
  obtain ⟨t, ht⟩ : ∃ t : Fin cfg0.N, t.val = (i 0).val / 512 := ⟨⟨_, by omega⟩, rfl⟩
  have hw := blocks3 m c t (flush0_3 t)
  rw [flushed3_A] at hw
  obtain ⟨e0, e1⟩ := idx3 t
  let y : S512x1024.Idx := ix2 ⟨(i 0).val % 512, Nat.mod_lt _ (by decide)⟩ (i 1)
  have hy := congrFun hw y
  have hemb : ((cfg0.win 3).blk t).view.emb y = i := by
    funext a
    apply Fin.ext
    match a with
    | ⟨0, _⟩ => show win0_3.index t (0 : Fin 2) * 512 + 1 * ((i 0).val % 512) = (i 0).val; omega
    | ⟨1, _⟩ => show win0_3.index t (1 : Fin 2) * 1024 + 1 * (i 1).val = (i 1).val; omega
  have hc := coords_val t
  refine Eq.trans ?_ (hy.trans (((point_apply c (grid0.coords t) _ _ _ _ _ _ _ _ _ _ _ y (i 0) ?_)).trans (congrArg₂ (fun p q : EReal => p + q) (Finset.sum_congr rfl fun k _ => ?_) ?_)))
  · rw [View.read_apply, hemb]; rfl
  · show (i 0).val = 512 * (grid0.coords t 1).val + (i 0).val % 512
    rw [hc]; omega
  · exact congrArg₂ _ (blk0 m c t _ k) (blk1 m c t k _)
  · refine (blk2 m c t ⟨(i 0).val % 512, Nat.mod_lt _ (by decide)⟩ (i 0) (i 1) (by show (i 0).val = 512 * t.val + (i 0).val % 512; omega)).trans (congrArg _ (funext fun a => ?_))
    match a with
    | ⟨0, _⟩ => rfl
    | ⟨1, _⟩ => rfl

/-- The reference: the same sums. -/
theorem ref (x0 : FVec Ideal S4096x1024 .bf16) (x1 : FVec Ideal S1x1024x1024 .bf16) (x2 : FVec Ideal S4096x1024 .f32) :
    @Eq (FVec Ideal S4096x1024 .f32) (Cert.Reference10Ideal.Read.val_main_v4 (F := Ideal) x0 x1 x2) (prod x0 x1 x2) := by
  funext i
  have hi1 : (i 1).val < 1024 := (i 1).isLt
  rw [Cert.Reference10Ideal.Read.val_main_v4_apply, Cert.Reference10Ideal.Read.val_main_v3_apply]
  refine Eq.trans ?_ (add_comm (x2 i : EReal) _)
  refine congrArg (fun q : EReal => (x2 i : EReal) + q) (Finset.sum_congr rfl fun k _ => ?_)
  have hk := k.isLt
  rw [Cert.Reference10Ideal.Read.val_main_v0_apply, Cert.Reference10Ideal.Read.val_main_v2_apply, Cert.Reference10Ideal.Read.val_main_v1_apply]
  refine congrArg₂ _ (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 1024 + (i 1).val) / 1024 % 1024 = k.val; omega
    | ⟨2, _⟩ => show (k.val * 1024 + (i 1).val) % 1024 = (i 1).val; omega

end Cert.Out
end
-- ==== Proof.Norm.lean ====
/-
  The root-mean-square norm of the rows: what the kernel writes and what the reference computes.
-/
module

public import proofs.«01_k».proof.Proof.Mul
public import proofs.«01_k».proof.Proof.Gen.Kernel13Ideal.Value
public import proofs.«01_k».proof.Proof.Gen.Reference13Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel13Ideal Cert.Kernel13Ideal.Gen Cert.Kernel13Ideal.Value

namespace Cert.Norm

/-- An element over the root of its row's mean square, times its gain. -/
def unit (x s g : Ideal .f32) : Ideal .f32 :=
  FloatOps.mulf (FloatOps.mulf x (FloatOps.rsqrt (FloatOps.addf (FloatOps.divf s (Scalar.ofBits .f32 0x44800000#32)) (Scalar.ofBits .f32 0x358637BD#32)))) g

/-- The squares of a row, added up. -/
def squares {n : ℕ} (X : FVec Ideal ⟨2, ![n, 1024]⟩ .f32) (r : Fin n) : Ideal .f32 :=
  (∑ k : Fin 1024, (X (ix2 r k) : EReal) * X (ix2 r k) : EReal)

theorem reduce_apply (X : FVec Ideal S512x1024 .f32) (h : S512x1024.Reduces [1] S512) (hf : FKind.Formats .f32) (hn : (0x00000000#32 : BitVec (FTy.bits .f32)) = FKind.add.neutral .f32 hf) (y : S512.Idx) :
    multiReduction .add [1] S512 (mulf X X) 0x00000000#32 h hf hn y = squares X (y 0) := by
  refine (Ideal.multiReduction_add_single (mulf X X) _ h hf hn y).trans (Finset.sum_congr rfl fun k _ => ?_)
  have e : h.lift y k = ix2 (y 0) k := funext fun a => Fin.ext (by
    match a with
    | ⟨0, _⟩ => rfl
    | ⟨1, _⟩ => rfl)
  exact congrArg (mulf X X) e

/-- What a point leaves. -/
theorem point_apply (x0 : Vec Ideal S512x1024 .f32) (x1 : Vec Ideal S1x1024 .f32) (y : S512x1024.Idx) :
    out0_2 (F := Ideal) x0 x1 y = unit (x0 y) (squares x0 (y 0)) (x1 (ix2 0 (y 1))) := by
  have e0 : View.ld x0 r0_0 = x0 := funext fun z => ld_whole x0 _ z
  have e1 : View.ld x1 r0_1 = x1 := funext fun z => ld_whole x1 _ z
  unfold out0_2
  rw [e0, e1]
  refine (canon2_eq x0 x1 y).trans ?_
  have i0 : ix2_0 y = y := funext fun a => match a with
    | ⟨0, _⟩ => rfl
    | ⟨1, _⟩ => rfl
  have i2 : ix2_2 y = ix2 0 (y 1) := funext fun a => match a with
    | ⟨0, _⟩ => rfl
    | ⟨1, _⟩ => rfl
  show unit (x0 (ix2_0 y)) (multiReduction .add [1] S512 (mulf x0 x0) 0x00000000#32 reduces_S512x1024_S512 (.inl rfl) rfl (ix2_1 y)) (x1 (ix2_2 y)) = _
  rw [i0, i2]
  exact congrArg (fun s => unit (x0 y) s (x1 (ix2 0 (y 1)))) (reduce_apply x0 _ _ _ (ix2_1 y))

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem blk0 (t : Fin cfg0.N) (p : Fin 512) (k : Fin 1024) (r : Fin 4096) (hr : r.val = 512 * t.val + p.val) :
    (iblk m c 0 t : FVec Ideal S512x1024 .f32) (ix2 p k) = (m ((c : Thread nD τ).loc main_arg0) : FVec Ideal S4096x1024 .f32) (ix2 r k) := by
  obtain ⟨e0, e1⟩ := idx0 t
  unfold iblk
  rw [View.read_apply]
  have e : (V m c main_arg0 : FVec Ideal S4096x1024 .f32) = (m ((c : Thread nD τ).loc main_arg0) : FVec Ideal S4096x1024 .f32) := V_main_arg0 m c
  show (V m c main_arg0 : FVec Ideal S4096x1024 .f32) (((cfg0.win 0).blk t).view.emb (ix2 p k)) = _
  rw [e]
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

theorem blk1 (t : Fin cfg0.N) (j : Fin 1024) :
    (iblk m c 1 t : FVec Ideal S1x1024 .f32) (ix2 0 j) = (m ((c : Thread nD τ).loc main_arg1) : FVec Ideal S1x1024 .f32) (ix2 0 j) := by
  obtain ⟨e0, e1⟩ := idx1 t
  unfold iblk
  rw [View.read_apply]
  have e : (V m c main_arg1 : FVec Ideal S1x1024 .f32) = (m ((c : Thread nD τ).loc main_arg1) : FVec Ideal S1x1024 .f32) := V_main_arg1 m c
  show (V m c main_arg1 : FVec Ideal S1x1024 .f32) (((cfg0.win 1).blk t).view.emb (ix2 0 j)) = _
  rw [e]
  congr 1
  funext a
  apply Fin.ext
  match a with
  | ⟨0, _⟩ => show win0_1.index t (0 : Fin 2) * 1 + 1 * 0 = 0; omega
  | ⟨1, _⟩ => show win0_1.index t (1 : Fin 2) * 1024 + 1 * j.val = j.val; omega

/-- The normed rows. -/
def norm (X : FVec Ideal S4096x1024 .f32) (G : FVec Ideal S1x1024 .f32) : FVec Ideal S4096x1024 .f32 := fun i =>
  unit (X (ix2 (i 0) (i 1))) (squares X (i 0)) (G (ix2 0 (i 1)))

/-- The array after the run. -/
theorem arr : @Eq (FVec Ideal S4096x1024 .bf16) ((dats m 0 c).arrAt 2 cfg0.N)
    (norm (m ((c : Thread nD τ).loc main_arg0)) (m ((c : Thread nD τ).loc main_arg1))) := by
  funext i
  have hi0 : (i 0).val < 4096 := (i 0).isLt
  have hN : cfg0.N = 8 := N_0
  obtain ⟨t, ht⟩ : ∃ t : Fin cfg0.N, t.val = (i 0).val / 512 := ⟨⟨_, by omega⟩, rfl⟩
  have hw := blocks2 m c t (flush0_2 t)
  rw [flushed2] at hw
  obtain ⟨e0, e1⟩ := idx2 t
  let p : Fin 512 := ⟨(i 0).val % 512, Nat.mod_lt _ (by decide)⟩
  have hp : (i 0).val = 512 * t.val + p.val := by show _ = 512 * t.val + (i 0).val % 512; omega
  have hemb : ((cfg0.win 2).blk t).view.emb (ix2 p (i 1)) = i := by
    funext a
    apply Fin.ext
    match a with
    | ⟨0, _⟩ => show win0_2.index t (0 : Fin 2) * 512 + 1 * p.val = (i 0).val; omega
    | ⟨1, _⟩ => show win0_2.index t (1 : Fin 2) * 1024 + 1 * (i 1).val = (i 1).val; omega
  refine Eq.trans ?_ ((congrFun hw (ix2 p (i 1))).trans ((point_apply _ _ (ix2 p (i 1))).trans ?_))
  · rw [View.read_apply, hemb]; rfl
  · have hs : squares (iblk m c 0 t : FVec Ideal S512x1024 .f32) p = squares (m ((c : Thread nD τ).loc main_arg0) : FVec Ideal S4096x1024 .f32) (i 0) :=
      Finset.sum_congr rfl fun k _ => by rw [blk0 m c t p k (i 0) hp]
    show unit ((iblk m c 0 t : FVec Ideal S512x1024 .f32) (ix2 p (i 1))) (squares (iblk m c 0 t : FVec Ideal S512x1024 .f32) p) ((iblk m c 1 t : FVec Ideal S1x1024 .f32) (ix2 0 (i 1))) = _
    rw [hs, blk0 m c t p (i 1) (i 0) hp]
    exact congrArg (unit _ _) (blk1 m c t (i 1))

/-- The reference: the same. -/
theorem ref (x0 : FVec Ideal S4096x1024 .f32) (x1 : FVec Ideal S1x1024 .f32) :
    @Eq (FVec Ideal S4096x1024 .bf16) (Cert.Reference13Ideal.Read.val_main_v14 (F := Ideal) x0 x1) (norm x0 x1) := by
  funext i
  have hi1 : (i 1).val < 1024 := (i 1).isLt
  open Cert.Reference13Ideal.Read in
  rw [val_main_v14_apply, val_main_v13_apply, val_main_v12_apply, val_main_v11_apply, val_main_v0_apply, val_main_v10_apply, val_main_v9_apply, val_main_v8_apply,
    val_main_v7_apply, val_main_v6_apply, val_main_v5_apply, val_main_v4_apply, val_main_v3_apply, val_main_v2_apply]
  have hz : (Cert.Reference13Ideal.Read.val_main_cst (F := Ideal)) (Shape.Idx.first Cert.Reference13Ideal.Gen.h_S_) = (0 : EReal) := Ideal.ofBits_zero_f32
  have hx : x0 i = x0 (ix2 (i 0) (i 1)) := congrArg x0 (funext fun a => match a with
    | ⟨0, _⟩ => rfl
    | ⟨1, _⟩ => rfl)
  have hs : (∑ k : Fin 1024, (Cert.Reference13Ideal.Read.val_main_v1 (F := Ideal) x0) (Cert.Reference13Ideal.Read.idx_main_v2 (Cert.Reference13Ideal.Read.idx_main_v3 (Cert.Reference13Ideal.Read.idx_main_v9 i)) k) : EReal) = squares x0 (i 0) :=
    Finset.sum_congr rfl fun k _ => by
      rw [Cert.Reference13Ideal.Read.val_main_v1_apply]
      have e : Cert.Reference13Ideal.Read.idx_main_v2 (Cert.Reference13Ideal.Read.idx_main_v3 (Cert.Reference13Ideal.Read.idx_main_v9 i)) k = ix2 (i 0) k := funext fun a => match a with
        | ⟨0, _⟩ => rfl
        | ⟨1, _⟩ => rfl
      exact congrArg (fun j => (x0 j * x0 j : EReal)) e
  have hg : x1 (Cert.Reference13Ideal.Read.idx_main_v0 (Cert.Reference13Ideal.Read.idx_main_v11 (Cert.Reference13Ideal.Read.idx_main_v12 i))) = x1 (ix2 0 (i 1)) := congrArg x1 (funext fun a => Fin.ext (match a with
    | ⟨0, _⟩ => rfl
    | ⟨1, _⟩ => Nat.mod_eq_of_lt hi1))
  rw [hz, hs, hg, hx, zero_add]
  rfl

end Cert.Norm
end
-- ==== Proof.PleFwd.lean ====
/-
  The gated projection, normed and added to the residual: what the kernel writes and what the reference computes.
-/
module

public import proofs.«01_k».proof.Proof.Norm
public import proofs.«01_k».proof.Proof.Gen.Kernel14Ideal.Value
public import proofs.«01_k».proof.Proof.Gen.Reference14Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel14Ideal Cert.Kernel14Ideal.Gen Cert.Kernel14Ideal.Value

namespace Cert.PleFwd

open Cert.Norm (unit squares)

/-- An element of the residual, its gate, and its normed projection. -/
def elem (h p x s g : Ideal .f32) : Ideal .f32 := (h + Ideal.logistic p * unit x s g : EReal)

theorem one_eq : (FloatOps.ofBits .f32 0x3F800000#32 : Ideal .f32) = (1 : EReal) := by
  show Ideal.ofBits .f32 0x3F800000#32 = 1
  simp [Ideal.ofBits, Ideal.ieee]
  rw [← EReal.coe_mul]
  norm_num

/-- What a point leaves. -/
theorem point_apply (x0 x1 x2 : Vec Ideal S512x1024 .f32) (x3 : Vec Ideal S1x1024 .f32) (y : S512x1024.Idx) :
    out0_4 (F := Ideal) x0 x1 x2 x3 y = elem (x0 y) (x1 y) (x2 y) (squares x2 (y 0)) (x3 (ix2 0 (y 1))) := by
  have e0 : ∀ x : Vec Ideal S512x1024 .f32, View.ld x r0_0 = x := fun x => funext fun z => ld_whole x _ z
  have e1 : View.ld x3 r0_1 = x3 := funext fun z => ld_whole x3 _ z
  unfold out0_4
  rw [e0, e0, e0, e1]
  refine (canon4_eq x0 x1 x2 x3 y).trans ?_
  have i0 : ix4_0 y = y := funext fun a => match a with
    | ⟨0, _⟩ => rfl
    | ⟨1, _⟩ => rfl
  have i4 : ix4_4 y = ix2 0 (y 1) := funext fun a => match a with
    | ⟨0, _⟩ => rfl
    | ⟨1, _⟩ => rfl
  show elem (x0 (ix4_0 y)) (x1 (ix4_0 y)) (x2 (ix4_0 y)) (multiReduction .add [1] S512 (mulf x2 x2) 0x00000000#32 reduces_S512x1024_S512 (.inl rfl) rfl (ix4_3 y)) (x3 (ix4_4 y)) = _
  rw [i0, i4]
  exact congrArg (fun s => elem (x0 y) (x1 y) (x2 y) s (x3 (ix2 0 (y 1)))) (Cert.Norm.reduce_apply x2 _ _ _ (ix4_3 y))

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

theorem emb (t : Fin cfg0.N) (p : Fin 512) (k : Fin 1024) (r : Fin 4096) (hr : r.val = 512 * t.val + p.val) :
    ((cfg0.win 0).blk t).view.emb (ix2 p k) = ix2 r k := by
  obtain ⟨e0, e1⟩ := idx0 t
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

theorem blk0 (t : Fin cfg0.N) (p : Fin 512) (k : Fin 1024) (r : Fin 4096) (hr : r.val = 512 * t.val + p.val) :
    (iblk m c 0 t : FVec Ideal S512x1024 .f32) (ix2 p k) = (m ((c : Thread nD τ).loc main_arg0) : FVec Ideal S4096x1024 .f32) (ix2 r k) := by
  unfold iblk
  rw [View.read_apply]
  exact ((congrFun (V_main_arg0 m c) _).trans (congrArg _ (emb t p k r hr)))

theorem blk1 (t : Fin cfg0.N) (p : Fin 512) (k : Fin 1024) (r : Fin 4096) (hr : r.val = 512 * t.val + p.val) :
    (iblk m c 1 t : FVec Ideal S512x1024 .f32) (ix2 p k) = (m ((c : Thread nD τ).loc main_arg1) : FVec Ideal S4096x1024 .f32) (ix2 r k) := by
  unfold iblk
  rw [View.read_apply]
  exact ((congrFun (V_main_arg1 m c) _).trans (congrArg _ (emb t p k r hr)))

theorem blk2 (t : Fin cfg0.N) (p : Fin 512) (k : Fin 1024) (r : Fin 4096) (hr : r.val = 512 * t.val + p.val) :
    (iblk m c 2 t : FVec Ideal S512x1024 .f32) (ix2 p k) = (m ((c : Thread nD τ).loc main_arg2) : FVec Ideal S4096x1024 .f32) (ix2 r k) := by
  unfold iblk
  rw [View.read_apply]
  exact ((congrFun (V_main_arg2 m c) _).trans (congrArg _ (emb t p k r hr)))

theorem blk3 (t : Fin cfg0.N) (j : Fin 1024) :
    (iblk m c 3 t : FVec Ideal S1x1024 .f32) (ix2 0 j) = (m ((c : Thread nD τ).loc main_arg3) : FVec Ideal S1x1024 .f32) (ix2 0 j) := by
  obtain ⟨e0, e1⟩ := idx3 t
  unfold iblk
  rw [View.read_apply]
  have e : (V m c main_arg3 : FVec Ideal S1x1024 .f32) = (m ((c : Thread nD τ).loc main_arg3) : FVec Ideal S1x1024 .f32) := V_main_arg3 m c
  show (V m c main_arg3 : FVec Ideal S1x1024 .f32) (((cfg0.win 3).blk t).view.emb (ix2 0 j)) = _
  rw [e]
  congr 1
  funext a
  apply Fin.ext
  match a with
  | ⟨0, _⟩ => show win0_3.index t (0 : Fin 2) * 1 + 1 * 0 = 0; omega
  | ⟨1, _⟩ => show win0_3.index t (1 : Fin 2) * 1024 + 1 * j.val = j.val; omega

/-- The residual and the gated, normed projection. -/
def added (H P X : FVec Ideal S4096x1024 .f32) (G : FVec Ideal S1x1024 .f32) : FVec Ideal S4096x1024 .f32 := fun i =>
  elem (H (ix2 (i 0) (i 1))) (P (ix2 (i 0) (i 1))) (X (ix2 (i 0) (i 1))) (squares X (i 0)) (G (ix2 0 (i 1)))

/-- The array after the run. -/
theorem arr : @Eq (FVec Ideal S4096x1024 .f32) ((dats m 0 c).arrAt 4 cfg0.N)
    (added (m ((c : Thread nD τ).loc main_arg0)) (m ((c : Thread nD τ).loc main_arg1)) (m ((c : Thread nD τ).loc main_arg2)) (m ((c : Thread nD τ).loc main_arg3))) := by
  funext i
  have hi0 : (i 0).val < 4096 := (i 0).isLt
  have hN : cfg0.N = 8 := N_0
  obtain ⟨t, ht⟩ : ∃ t : Fin cfg0.N, t.val = (i 0).val / 512 := ⟨⟨_, by omega⟩, rfl⟩
  have hw := blocks4 m c t (flush0_4 t)
  rw [flushed4] at hw
  let p : Fin 512 := ⟨(i 0).val % 512, Nat.mod_lt _ (by decide)⟩
  have hp : (i 0).val = 512 * t.val + p.val := by show _ = 512 * t.val + (i 0).val % 512; omega
  have hemb : ((cfg0.win 4).blk t).view.emb (ix2 p (i 1)) = i := (emb t p (i 1) (i 0) hp).trans (funext fun a => match a with
    | ⟨0, _⟩ => rfl
    | ⟨1, _⟩ => rfl)
  refine Eq.trans ?_ ((congrFun hw (ix2 p (i 1))).trans ((point_apply _ _ _ _ (ix2 p (i 1))).trans ?_))
  · rw [View.read_apply, hemb]; rfl
  · have hs : squares (iblk m c 2 t : FVec Ideal S512x1024 .f32) p = squares (m ((c : Thread nD τ).loc main_arg2) : FVec Ideal S4096x1024 .f32) (i 0) :=
      Finset.sum_congr rfl fun k _ => by rw [blk2 m c t p k (i 0) hp]
    show elem ((iblk m c 0 t : FVec Ideal S512x1024 .f32) (ix2 p (i 1))) ((iblk m c 1 t : FVec Ideal S512x1024 .f32) (ix2 p (i 1))) ((iblk m c 2 t : FVec Ideal S512x1024 .f32) (ix2 p (i 1))) (squares (iblk m c 2 t : FVec Ideal S512x1024 .f32) p) ((iblk m c 3 t : FVec Ideal S1x1024 .f32) (ix2 0 (i 1))) = _
    rw [hs, blk0 m c t p (i 1) (i 0) hp, blk1 m c t p (i 1) (i 0) hp, blk2 m c t p (i 1) (i 0) hp]
    exact congrArg (elem _ _ _ _) (blk3 m c t (i 1))

section
open Cert.Reference14Ideal.Read

/-- The reference: the same. -/
theorem ref (x0 x1 x2 : FVec Ideal S4096x1024 .f32) (x3 : FVec Ideal S1x1024 .f32) :
    @Eq (FVec Ideal S4096x1024 .f32) (val_main_v21 (F := Ideal) x0 x1 x2 x3) (added x0 x1 x2 x3) := by
  funext i
  have hi1 : (i 1).val < 1024 := (i 1).isLt
  rw [val_main_v21_apply, val_main_v20_apply, val_main_v19_apply, val_main_v18_apply, val_main_v17_apply, val_main_v6_apply, val_main_v16_apply, val_main_v15_apply, val_main_v14_apply,
    val_main_v13_apply, val_main_v12_apply, val_main_v11_apply, val_main_v10_apply, val_main_v9_apply, val_main_v8_apply, val_main_v5_apply, val_main_v4_apply, val_main_v3_apply, val_main_v2_apply, val_main_v1_apply, val_main_v0_apply]
  have hz : (val_main_cst_1 (F := Ideal)) (Shape.Idx.first Cert.Reference14Ideal.Gen.h_S_) = (0 : EReal) := Ideal.ofBits_zero_f32
  have hx : i = ix2 (i 0) (i 1) := funext fun a => match a with
    | ⟨0, _⟩ => rfl
    | ⟨1, _⟩ => rfl
  have hs : (∑ k : Fin 1024, (val_main_v7 (F := Ideal) x2) (idx_main_v8 (idx_main_v9 (idx_main_v15 i)) k) : EReal) = squares x2 (i 0) :=
    Finset.sum_congr rfl fun k _ => by
      rw [val_main_v7_apply]
      have e : idx_main_v8 (idx_main_v9 (idx_main_v15 i)) k = ix2 (i 0) k := funext fun a => match a with
        | ⟨0, _⟩ => rfl
        | ⟨1, _⟩ => rfl
      exact congrArg (fun j => (x2 j * x2 j : EReal)) e
  have hg : x3 (idx_main_v6 (idx_main_v17 (idx_main_v18 i))) = x3 (ix2 0 (i 1)) := congrArg x3 (funext fun a => Fin.ext (match a with
    | ⟨0, _⟩ => rfl
    | ⟨1, _⟩ => Nat.mod_eq_of_lt hi1))
  rw [hz, hs, hg, zero_add, val_main_cst_apply, val_main_cst_0_apply, one_eq, hx]
  rfl

end

end Cert.PleFwd
end
-- ==== Proof.Rest.lean ====
/- The other products: every program runs, and the kernel and the reference end the same. -/
module

public import proofs.«01_k».proof.Defs
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.In3
public import proofs.«01_k».proof.Proof.In4
public import proofs.«01_k».proof.Proof.GateDx
public import proofs.«01_k».proof.Proof.OutDx
public import proofs.«01_k».proof.Proof.GateDw
public import proofs.«01_k».proof.Proof.Ple
public import proofs.«01_k».proof.Proof.PleDw
public import proofs.«01_k».proof.Proof.OutDw
public import proofs.«01_k».proof.Proof.Gate
public import proofs.«01_k».proof.Proof.Out
public import proofs.«01_k».proof.Proof.PleFwd
public import Idealize.ShloMosaic.Lib.QuiescentFlight

@[expose] public section

noncomputable section

namespace Cert.Rest

open Idealize.ShloMosaic Idealize.SL.Sem

/-! ## The gradient of the input, for the eight stacked weights -/

theorem frame3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := by
  intro m ρ _
  exact (θ_run Cert.Reference3Ideal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.Reference3Ideal.Value.run m ρ)

theorem same3 : Cert.algebraic_Kernel3Ideal_Reference3Ideal := by
  intro m ρ m' ρ' hpre hargs
  refine ⟨fun c => (Cert.Kernel3Ideal.Gen.dats m 0 c).arrAt 9 Cert.Kernel3Ideal.cfg0.N, Cert.Kernel3Ideal.Value.run_blocks m ρ, ?_⟩
  refine (θ_run Cert.Reference3Ideal.defs _ _).mono (fun r h c => ⟨(h c).1.trans ?_, (h c).2⟩) (Cert.Reference3Ideal.Value.run m' ρ')
  refine (Cert.Reference3Ideal.Read.val_main_v7_eq _ _ _ _ _ _ _ _ _).trans ?_
  refine (Cert.In3.ref _ _ _ _ _ _ _ _ _).trans ?_
  rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2]
  exact (Cert.In3.arr m c).symm

/-! ## The forward product with the stacked weights -/

theorem frame4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := by
  intro m ρ _
  exact (θ_run Cert.Reference4Ideal.defs _ _).mono
    (fun r h => ⟨fun c => ⟨(h c).2.1, (h c).2.2⟩, sem_eq_zero_of_no_sems (by decide) r.2⟩)
    (Cert.Reference4Ideal.Value.run m ρ)

theorem same4 : Cert.algebraic_Kernel4Ideal_Reference4Ideal := by
  intro m ρ m' ρ' hpre hargs
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun r h c => ⟨(h c).1.trans ?_, (h c).2⟩) (Cert.Reference4Ideal.Value.run m' ρ')
  refine (Cert.Reference4Ideal.Read.val_main_v4_eq _ _).trans ?_
  refine (Cert.In4.ref _ _).trans ?_
  rw [(hargs c).1, (hargs c).2]
  exact (Cert.In4.arr m c).symm

/-! ## The gradient through the gate weights -/

theorem frame5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := by
  intro m ρ _
  exact (θ_run Cert.Reference5Ideal.defs _ _).mono
    (fun r h => ⟨fun c => ⟨(h c).2.1, (h c).2.2⟩, sem_eq_zero_of_no_sems (by decide) r.2⟩)
    (Cert.Reference5Ideal.Value.run m ρ)

theorem same5 : Cert.algebraic_Kernel5Ideal_Reference5Ideal := by
  intro m ρ m' ρ' hpre hargs
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun r h c => ⟨(h c).1.trans ?_, (h c).2⟩) (Cert.Reference5Ideal.Value.run m' ρ')
  refine (Cert.Reference5Ideal.Read.val_main_v5_eq _ _).trans ?_
  refine (Cert.GateDx.ref _ _).trans ?_
  rw [(hargs c).1, (hargs c).2]
  exact (Cert.GateDx.arr m c).symm

/-! ## The gradient through the output weights -/

theorem frame6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := by
  intro m ρ _
  exact (θ_run Cert.Reference6Ideal.defs _ _).mono
    (fun r h => ⟨fun c => ⟨(h c).2.1, (h c).2.2⟩, sem_eq_zero_of_no_sems (by decide) r.2⟩)
    (Cert.Reference6Ideal.Value.run m ρ)

theorem same6 : Cert.algebraic_Kernel6Ideal_Reference6Ideal := by
  intro m ρ m' ρ' hpre hargs
  refine ⟨fun c => (Cert.Kernel6Ideal.Gen.dats m 0 c).arrAt 2 Cert.Kernel6Ideal.cfg0.N, Cert.Kernel6Ideal.Value.run_blocks m ρ, ?_⟩
  refine (θ_run Cert.Reference6Ideal.defs _ _).mono (fun r h c => ⟨(h c).1.trans ?_, (h c).2⟩) (Cert.Reference6Ideal.Value.run m' ρ')
  refine (Cert.Reference6Ideal.Read.val_main_v4_eq _ _).trans ?_
  refine (Cert.OutDx.ref _ _).trans ?_
  rw [(hargs c).1, (hargs c).2]
  exact (Cert.OutDx.arr m c).symm

/-! ## The gradient of the gate weights -/

theorem frame7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := by
  intro m ρ _
  exact (θ_run Cert.Reference7Ideal.defs _ _).mono
    (fun r h => ⟨fun c => ⟨(h c).2.1, (h c).2.2⟩, sem_eq_zero_of_no_sems (by decide) r.2⟩)
    (Cert.Reference7Ideal.Value.run m ρ)

theorem same7 : Cert.algebraic_Kernel7Ideal_Reference7Ideal := by
  intro m ρ m' ρ' hpre hargs
  refine ⟨fun c => Cert.Kernel7Ideal.Value.G2 m c, Cert.Kernel7Ideal.Value.run m ρ, ?_⟩
  refine (θ_run Cert.Reference7Ideal.defs _ _).mono (fun r h c => ⟨(h c).1.trans ?_, (h c).2⟩) (Cert.Reference7Ideal.Value.run m' ρ')
  refine (Cert.Reference7Ideal.Read.val_main_v7_eq _ _).trans ?_
  refine (Cert.GateDw.ref _ _).trans ?_
  rw [(hargs c).1, (hargs c).2]
  exact (Cert.GateDw.arr m c).symm

/-! ## The gradient of the output weights -/

theorem frame8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := by
  intro m ρ _
  exact (θ_run Cert.Reference8Ideal.defs _ _).mono
    (fun r h => ⟨fun c => ⟨(h c).2.1, (h c).2.2⟩, sem_eq_zero_of_no_sems (by decide) r.2⟩)
    (Cert.Reference8Ideal.Value.run m ρ)

theorem same8 : Cert.algebraic_Kernel8Ideal_Reference8Ideal := by
  intro m ρ m' ρ' hpre hargs
  refine ⟨fun c => Cert.Kernel8Ideal.Value.G2 m c, Cert.Kernel8Ideal.Value.run m ρ, ?_⟩
  refine (θ_run Cert.Reference8Ideal.defs _ _).mono (fun r h c => ⟨(h c).1.trans ?_, (h c).2⟩) (Cert.Reference8Ideal.Value.run m' ρ')
  refine (Cert.Reference8Ideal.Read.val_main_v6_eq _ _).trans ?_
  refine (Cert.OutDw.ref _ _).trans ?_
  rw [(hargs c).1, (hargs c).2]
  exact (Cert.OutDw.arr m c).symm

/-! ## The forward product with the gate weights -/

theorem frame9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := by
  intro m ρ _
  exact (θ_run Cert.Reference9Ideal.defs _ _).mono
    (fun r h => ⟨fun c => ⟨(h c).2.1, (h c).2.2⟩, sem_eq_zero_of_no_sems (by decide) r.2⟩)
    (Cert.Reference9Ideal.Value.run m ρ)

theorem same9 : Cert.algebraic_Kernel9Ideal_Reference9Ideal := by
  intro m ρ m' ρ' hpre hargs
  refine ⟨fun c => (Cert.Kernel9Ideal.Gen.dats m 0 c).arrAt 2 Cert.Kernel9Ideal.cfg0.N, Cert.Kernel9Ideal.Value.run_blocks m ρ, ?_⟩
  refine (θ_run Cert.Reference9Ideal.defs _ _).mono (fun r h c => ⟨(h c).1.trans ?_, (h c).2⟩) (Cert.Reference9Ideal.Value.run m' ρ')
  refine (Cert.Reference9Ideal.Read.val_main_v3_eq _ _).trans ?_
  refine (Cert.Gate.ref _ _).trans ?_
  rw [(hargs c).1, (hargs c).2]
  exact (Cert.Gate.arr m c).symm

/-! ## The forward product with the output weights, added to the residual -/

theorem frame10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := by
  intro m ρ _
  exact (θ_run Cert.Reference10Ideal.defs _ _).mono
    (fun r h => ⟨fun c => ⟨(h c).2.1, (h c).2.2.1, (h c).2.2.2⟩, sem_eq_zero_of_no_sems (by decide) r.2⟩)
    (Cert.Reference10Ideal.Value.run m ρ)

theorem same10 : Cert.algebraic_Kernel10Ideal_Reference10Ideal := by
  intro m ρ m' ρ' hpre hargs
  refine ⟨fun c => (Cert.Kernel10Ideal.Gen.dats m 0 c).arrAt 3 Cert.Kernel10Ideal.cfg0.N, Cert.Kernel10Ideal.Value.run_blocks m ρ, ?_⟩
  refine (θ_run Cert.Reference10Ideal.defs _ _).mono (fun r h c => ⟨(h c).1.trans ?_, (h c).2⟩) (Cert.Reference10Ideal.Value.run m' ρ')
  refine (Cert.Reference10Ideal.Read.val_main_v4_eq _ _ _).trans ?_
  refine (Cert.Out.ref _ _ _).trans ?_
  rw [(hargs c).1, (hargs c).2.1, (hargs c).2.2]
  exact (Cert.Out.arr m c).symm

/-! ## The product of the per-layer input with its weights -/

theorem frame11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := by
  intro m ρ _
  exact (θ_run Cert.Reference11Ideal.defs _ _).mono
    (fun r h => ⟨fun c => ⟨(h c).2.1, (h c).2.2⟩, sem_eq_zero_of_no_sems (by decide) r.2⟩)
    (Cert.Reference11Ideal.Value.run m ρ)

theorem same11 : Cert.algebraic_Kernel11Ideal_Reference11Ideal := by
  intro m ρ m' ρ' hpre hargs
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun r h c => ⟨(h c).1.trans ?_, (h c).2⟩) (Cert.Reference11Ideal.Value.run m' ρ')
  refine (Cert.Reference11Ideal.Read.val_main_v2_eq _ _).trans ?_
  refine (Cert.Ple.ref _ _).trans ?_
  rw [(hargs c).1, (hargs c).2]
  exact (Cert.Ple.arr m c).symm

/-! ## The gradient of the weights of the per-layer input -/

theorem frame12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := by
  intro m ρ _
  exact (θ_run Cert.Reference12Ideal.defs _ _).mono
    (fun r h => ⟨fun c => ⟨(h c).2.1, (h c).2.2⟩, sem_eq_zero_of_no_sems (by decide) r.2⟩)
    (Cert.Reference12Ideal.Value.run m ρ)

theorem same12 : Cert.algebraic_Kernel12Ideal_Reference12Ideal := by
  intro m ρ m' ρ' hpre hargs
  refine ⟨fun c => Cert.Kernel12Ideal.Value.G2 m c, Cert.Kernel12Ideal.Value.run m ρ, ?_⟩
  refine (θ_run Cert.Reference12Ideal.defs _ _).mono (fun r h c => ⟨(h c).1.trans ?_, (h c).2⟩) (Cert.Reference12Ideal.Value.run m' ρ')
  refine (Cert.Reference12Ideal.Read.val_main_v6_eq _ _).trans ?_
  refine (Cert.PleDw.ref _ _).trans ?_
  rw [(hargs c).1, (hargs c).2]
  exact (Cert.PleDw.arr m c).symm

/-! ## The norm of the rows -/

theorem frame13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := by
  intro m ρ _
  exact (θ_run Cert.Reference13Ideal.defs _ _).mono
    (fun r h => ⟨fun c => ⟨(h c).2.1, (h c).2.2⟩, sem_eq_zero_of_no_sems (by decide) r.2⟩)
    (Cert.Reference13Ideal.Value.run m ρ)

theorem same13 : Cert.algebraic_Kernel13Ideal_Reference13Ideal := by
  intro m ρ m' ρ' hpre hargs
  refine ⟨fun c => (Cert.Kernel13Ideal.Gen.dats m 0 c).arrAt 2 Cert.Kernel13Ideal.cfg0.N, Cert.Kernel13Ideal.Value.run_blocks m ρ, ?_⟩
  refine (θ_run Cert.Reference13Ideal.defs _ _).mono (fun r h c => ⟨(h c).1.trans ?_, (h c).2⟩) (Cert.Reference13Ideal.Value.run m' ρ')
  refine (Cert.Reference13Ideal.Read.val_main_v14_eq _ _).trans ?_
  refine (Cert.Norm.ref _ _).trans ?_
  rw [(hargs c).1, (hargs c).2]
  exact (Cert.Norm.arr m c).symm

/-! ## The gated projection, normed and added to the residual -/

theorem frame14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := by
  intro m ρ _
  exact (θ_run Cert.Reference14Ideal.defs _ _).mono
    (fun r h => ⟨fun c => ⟨(h c).2.1, (h c).2.2⟩, sem_eq_zero_of_no_sems (by decide) r.2⟩)
    (Cert.Reference14Ideal.Value.run m ρ)

theorem same14 : Cert.algebraic_Kernel14Ideal_Reference14Ideal := by
  intro m ρ m' ρ' hpre hargs
  refine ⟨fun c => (Cert.Kernel14Ideal.Gen.dats m 0 c).arrAt 4 Cert.Kernel14Ideal.cfg0.N, Cert.Kernel14Ideal.Value.run_blocks m ρ, ?_⟩
  refine (θ_run Cert.Reference14Ideal.defs _ _).mono (fun r h c => ⟨(h c).1.trans ?_, (h c).2⟩) (Cert.Reference14Ideal.Value.run m' ρ')
  refine (Cert.Reference14Ideal.Read.val_main_v21_eq _ _ _ _).trans ?_
  refine (Cert.PleFwd.ref _ _ _ _).trans ?_
  rw [(hargs c).1, (hargs c).2.1, (hargs c).2.2.1, (hargs c).2.2.2]
  exact (Cert.PleFwd.arr m c).symm

end Cert.Rest
end
-- ==== Proof.In2.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.Value

/-! The weight gradient of the first product over its grid of eight pieces and eight steps: what one call of its body does, and the conditions it branches on. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

theorem zeros2 : (![0, 0] : Fin 2 → Nat) = fun _ => 0 := by decide
theorem zeros3 : (![0, 0, 0] : Fin 3 → Nat) = fun _ => 0 := by decide

/-- The rows of a block are rows of the input. -/
theorem rows_in (i : grid0.Coords) : ∀ a, k0_off1 i a + S512x1024.size a ≤ S4096x1024.size a := by
  have h : (i 1).val < 8 := (i 1).isLt
  unfold k0_off1
  generalize (i 1).val = n at h
  revert n
  decide

/-- The rows of the input that a point takes. -/
def rows (i : grid0.Coords) (x : Vec F S4096x1024 .bf16) : Vec F S512x1024 .bf16 :=
  View.ld x (Rect.unit (s := S4096x1024) (k0_off1 i) S512x1024.size (rows_in i))

/-- The sum after a point: the block's product alone at the first block of a piece, otherwise added to the sum. -/
def next (i : grid0.Coords) (x : Vec F S4096x1024 .bf16) (g : Vec F S512x512 .bf16) (a : Vec F S1024x512 .f32) : Vec F S1024x512 .f32 :=
  if (i 1).val = 0 then k0_pay2 (rows i x) g else k0_pay3 (rows i x) g a

/-- The result's block after a point: the sum, at the last block of a piece. -/
def left (i : grid0.Coords) (a : Vec F S1024x512 .f32) (o : Vec F S1x1024x512 .bf16) : Vec F S1x1024x512 .bf16 :=
  if (i 1).val = 7 then k0_pay25 a else o

/-- The piece of the cotangent that a point takes. -/
def pick (n : ℕ) (g0 g1 g2 g3 g4 g5 g6 g7 : Vec F S512x512 .bf16) : Vec F S512x512 .bf16 :=
  match n with
  | 0 => g0 | 1 => g1 | 2 => g2 | 3 => g3 | 4 => g4 | 5 => g5 | 6 => g6 | _ => g7

theorem cond1 (i : grid0.Coords) : k0_cond1 i = 1#1 ↔ (i 0).val = 0 := by
  have h : (i 0).val < 8 := (i 0).isLt
  unfold k0_cond1
  generalize (i 0).val = n at h
  revert n
  decide
theorem cond4 (i : grid0.Coords) : k0_cond4 i = 1#1 ↔ (i 0).val = 1 := by
  have h : (i 0).val < 8 := (i 0).isLt
  unfold k0_cond4
  generalize (i 0).val = n at h
  revert n
  decide
theorem cond7 (i : grid0.Coords) : k0_cond7 i = 1#1 ↔ (i 0).val = 2 := by
  have h : (i 0).val < 8 := (i 0).isLt
  unfold k0_cond7
  generalize (i 0).val = n at h
  revert n
  decide
theorem cond10 (i : grid0.Coords) : k0_cond10 i = 1#1 ↔ (i 0).val = 3 := by
  have h : (i 0).val < 8 := (i 0).isLt
  unfold k0_cond10
  generalize (i 0).val = n at h
  revert n
  decide
theorem cond13 (i : grid0.Coords) : k0_cond13 i = 1#1 ↔ (i 0).val = 4 := by
  have h : (i 0).val < 8 := (i 0).isLt
  unfold k0_cond13
  generalize (i 0).val = n at h
  revert n
  decide
theorem cond16 (i : grid0.Coords) : k0_cond16 i = 1#1 ↔ (i 0).val = 5 := by
  have h : (i 0).val < 8 := (i 0).isLt
  unfold k0_cond16
  generalize (i 0).val = n at h
  revert n
  decide
theorem cond19 (i : grid0.Coords) : k0_cond19 i = 1#1 ↔ (i 0).val = 6 := by
  have h : (i 0).val < 8 := (i 0).isLt
  unfold k0_cond19
  generalize (i 0).val = n at h
  revert n
  decide
theorem cond22 (i : grid0.Coords) : k0_cond22 i = 1#1 ↔ (i 0).val = 7 := by
  have h : (i 0).val < 8 := (i 0).isLt
  unfold k0_cond22
  generalize (i 0).val = n at h
  revert n
  decide
theorem cond25 (i : grid0.Coords) : k0_cond25 i = 1#1 ↔ (i 1).val = 7 := by
  have h : (i 1).val < 8 := (i 1).isLt
  unfold k0_cond25
  generalize (i 1).val = n at h
  revert n
  decide

/-- The printed condition of the first block of a piece. -/
abbrev isFirst (i : grid0.Coords) : Prop := (Scalar.cmpi .ne (Scalar.extui (Scalar.cmpi .eq (BitVec.ofNat 32 (i 1).val) 0#32)) 0#32) = 1#1
/-- The printed condition of the other blocks. -/
abbrev isLater (i : grid0.Coords) : Prop := (Scalar.cmpi .ne (Scalar.extui (Scalar.cmpi .ne (BitVec.ofNat 32 (i 1).val) 0#32)) 0#32) = 1#1
theorem first_iff (i : grid0.Coords) : isFirst i ↔ (i 1).val = 0 := by
  have h : (i 1).val < 8 := (i 1).isLt
  unfold isFirst
  generalize (i 1).val = n at h
  revert n
  decide
theorem later_iff (i : grid0.Coords) : isLater i ↔ ¬(i 1).val = 0 := by
  have h : (i 1).val < 8 := (i 1).isLt
  unfold isLater
  generalize (i 1).val = n at h
  revert n
  decide
theorem at0 (i : grid0.Coords) (h : (i 0).val = 0) : k0_cond1 i = 1#1 ∧ ¬k0_cond4 i = 1#1 ∧ ¬k0_cond7 i = 1#1 ∧ ¬k0_cond10 i = 1#1 ∧ ¬k0_cond13 i = 1#1 ∧ ¬k0_cond16 i = 1#1 ∧ ¬k0_cond19 i = 1#1 ∧ ¬k0_cond22 i = 1#1 := by
  simp only [cond1, cond4, cond7, cond10, cond13, cond16, cond19, cond22, h]; decide
theorem at1 (i : grid0.Coords) (h : (i 0).val = 1) : ¬k0_cond1 i = 1#1 ∧ k0_cond4 i = 1#1 ∧ ¬k0_cond7 i = 1#1 ∧ ¬k0_cond10 i = 1#1 ∧ ¬k0_cond13 i = 1#1 ∧ ¬k0_cond16 i = 1#1 ∧ ¬k0_cond19 i = 1#1 ∧ ¬k0_cond22 i = 1#1 := by
  simp only [cond1, cond4, cond7, cond10, cond13, cond16, cond19, cond22, h]; decide
theorem at2 (i : grid0.Coords) (h : (i 0).val = 2) : ¬k0_cond1 i = 1#1 ∧ ¬k0_cond4 i = 1#1 ∧ k0_cond7 i = 1#1 ∧ ¬k0_cond10 i = 1#1 ∧ ¬k0_cond13 i = 1#1 ∧ ¬k0_cond16 i = 1#1 ∧ ¬k0_cond19 i = 1#1 ∧ ¬k0_cond22 i = 1#1 := by
  simp only [cond1, cond4, cond7, cond10, cond13, cond16, cond19, cond22, h]; decide
theorem at3 (i : grid0.Coords) (h : (i 0).val = 3) : ¬k0_cond1 i = 1#1 ∧ ¬k0_cond4 i = 1#1 ∧ ¬k0_cond7 i = 1#1 ∧ k0_cond10 i = 1#1 ∧ ¬k0_cond13 i = 1#1 ∧ ¬k0_cond16 i = 1#1 ∧ ¬k0_cond19 i = 1#1 ∧ ¬k0_cond22 i = 1#1 := by
  simp only [cond1, cond4, cond7, cond10, cond13, cond16, cond19, cond22, h]; decide
theorem at4 (i : grid0.Coords) (h : (i 0).val = 4) : ¬k0_cond1 i = 1#1 ∧ ¬k0_cond4 i = 1#1 ∧ ¬k0_cond7 i = 1#1 ∧ ¬k0_cond10 i = 1#1 ∧ k0_cond13 i = 1#1 ∧ ¬k0_cond16 i = 1#1 ∧ ¬k0_cond19 i = 1#1 ∧ ¬k0_cond22 i = 1#1 := by
  simp only [cond1, cond4, cond7, cond10, cond13, cond16, cond19, cond22, h]; decide
theorem at5 (i : grid0.Coords) (h : (i 0).val = 5) : ¬k0_cond1 i = 1#1 ∧ ¬k0_cond4 i = 1#1 ∧ ¬k0_cond7 i = 1#1 ∧ ¬k0_cond10 i = 1#1 ∧ ¬k0_cond13 i = 1#1 ∧ k0_cond16 i = 1#1 ∧ ¬k0_cond19 i = 1#1 ∧ ¬k0_cond22 i = 1#1 := by
  simp only [cond1, cond4, cond7, cond10, cond13, cond16, cond19, cond22, h]; decide
theorem at6 (i : grid0.Coords) (h : (i 0).val = 6) : ¬k0_cond1 i = 1#1 ∧ ¬k0_cond4 i = 1#1 ∧ ¬k0_cond7 i = 1#1 ∧ ¬k0_cond10 i = 1#1 ∧ ¬k0_cond13 i = 1#1 ∧ ¬k0_cond16 i = 1#1 ∧ k0_cond19 i = 1#1 ∧ ¬k0_cond22 i = 1#1 := by
  simp only [cond1, cond4, cond7, cond10, cond13, cond16, cond19, cond22, h]; decide
theorem at7 (i : grid0.Coords) (h : (i 0).val = 7) : ¬k0_cond1 i = 1#1 ∧ ¬k0_cond4 i = 1#1 ∧ ¬k0_cond7 i = 1#1 ∧ ¬k0_cond10 i = 1#1 ∧ ¬k0_cond13 i = 1#1 ∧ ¬k0_cond16 i = 1#1 ∧ ¬k0_cond19 i = 1#1 ∧ k0_cond22 i = 1#1 := by
  simp only [cond1, cond4, cond7, cond10, cond13, cond16, cond19, cond22, h]; decide

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

/-- The buffers of a call of the body, with what they hold. -/
def held (o : Vec F S1x1024x512 .bf16) (a : Vec F S1024x512 .f32) : sProp 𝕄 :=
  iprop(owns (c : Thread nD τ) arg2 fullShare x ∗ owns (c : Thread nD τ) arg3 fullShare g0 ∗ owns (c : Thread nD τ) arg4 fullShare g1 ∗ owns (c : Thread nD τ) arg5 fullShare g2 ∗ owns (c : Thread nD τ) arg6 fullShare g3 ∗ owns (c : Thread nD τ) arg7 fullShare g4 ∗ owns (c : Thread nD τ) arg8 fullShare g5 ∗ owns (c : Thread nD τ) arg9 fullShare g6 ∗ owns (c : Thread nD τ) arg10 fullShare g7
    ∗ owns (c : Thread nD τ) arg11 fullShare o ∗ owns (c : Thread nD τ) arg12 fullShare a)

/-- The same buffers, cell by cell, the last two with any contents. -/
def cells (f : arg11.view.ty.Contents (Elt F)) (h : arg12.view.ty.Contents (Elt F)) : sProp 𝕄 :=
  iprop((arg2.view.loc (c : Thread nD τ) ↦[arg2.view.set]{fullShare} (harg2.unread x)) ∗ (arg3.view.loc (c : Thread nD τ) ↦[arg3.view.set]{fullShare} (harg3.unread g0)) ∗ (arg4.view.loc (c : Thread nD τ) ↦[arg4.view.set]{fullShare} (harg4.unread g1)) ∗ (arg5.view.loc (c : Thread nD τ) ↦[arg5.view.set]{fullShare} (harg5.unread g2)) ∗ (arg6.view.loc (c : Thread nD τ) ↦[arg6.view.set]{fullShare} (harg6.unread g3)) ∗ (arg7.view.loc (c : Thread nD τ) ↦[arg7.view.set]{fullShare} (harg7.unread g4)) ∗ (arg8.view.loc (c : Thread nD τ) ↦[arg8.view.set]{fullShare} (harg8.unread g5)) ∗ (arg9.view.loc (c : Thread nD τ) ↦[arg9.view.set]{fullShare} (harg9.unread g6)) ∗ (arg10.view.loc (c : Thread nD τ) ↦[arg10.view.set]{fullShare} (harg10.unread g7)) ∗ (arg11.view.loc (c : Thread nD τ) ↦[arg11.view.set]{fullShare} f) ∗ (arg12.view.loc (c : Thread nD τ) ↦[arg12.view.set]{fullShare} h))

theorem opened : held c arg2 arg3 arg4 arg5 arg6 arg7 arg8 arg9 arg10 arg11 arg12 x g0 g1 g2 g3 g4 g5 g6 g7 o a ⊢ cells c arg2 harg2 arg3 harg3 arg4 harg4 arg5 harg5 arg6 harg6 arg7 harg7 arg8 harg8 arg9 harg9 arg10 harg10 arg11 arg12 x g0 g1 g2 g3 g4 g5 g6 g7 (harg11.unread o) (harg12.unread a) := by
  unfold held owns cells
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩⟩
  obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12
  iframe

theorem closed {f : arg11.view.ty.Contents (Elt F)} {h : arg12.view.ty.Contents (Elt F)} :
    iprop(cells c arg2 harg2 arg3 harg3 arg4 harg4 arg5 harg5 arg6 harg6 arg7 harg7 arg8 harg8 arg9 harg9 arg10 harg10 arg11 arg12 x g0 g1 g2 g3 g4 g5 g6 g7 f h ∗ ⌜arg11.view.read (Elt F) f = o ∧ arg12.view.read (Elt F) h = a⌝) ⊢ held c arg2 arg3 arg4 arg5 arg6 arg7 arg8 arg9 arg10 arg11 arg12 x g0 g1 g2 g3 g4 g5 g6 g7 o a := by
  unfold held owns cells
  iintro ⟨⟨H2, H3, H4, H5, H6, H7, H8, H9, H10, H11, H12⟩, %e⟩
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact e.1
    iexact H11
  iexists _; isplitr; · ipureintro; exact e.2
  iexact H12

/-- What a call of the body does when the piece of the cotangent it takes is `g`. -/
def Runs (g : Vec F S512x512 .bf16) : Prop :=
  ∀ (E : Set ℕ) (K : PUnit → sProp 𝕄),
    iprop(held c arg2 arg3 arg4 arg5 arg6 arg7 arg8 arg9 arg10 arg11 arg12 x g0 g1 g2 g3 g4 g5 g6 g7 o a ∗ (held c arg2 arg3 arg4 arg5 arg6 arg7 arg8 arg9 arg10 arg11 arg12 x g0 g1 g2 g3 g4 g5 g6 g7 (left i (next i x g a) o) (next i x g a) -∗ K ⟨⟩))
      ⊢ wp frame (wpE (defs₀ (F := F)) Variants.none c none) E (cc0_mm_in_dw i arg2 harg2 arg3 harg3 arg4 harg4 arg5 harg5 arg6 harg6 arg7 harg7 arg8 harg8 arg9 harg9 arg10 harg10 arg11 harg11 arg12 harg12) K

/-- It is enough to run the body from the cells. -/
theorem starts (g : Vec F S512x512 .bf16)
    (h : ∀ (E : Set ℕ) (K : PUnit → sProp 𝕄),
      iprop(cells c arg2 harg2 arg3 harg3 arg4 harg4 arg5 harg5 arg6 harg6 arg7 harg7 arg8 harg8 arg9 harg9 arg10 harg10 arg11 arg12 x g0 g1 g2 g3 g4 g5 g6 g7 (harg11.unread o) (harg12.unread a) ∗ (held c arg2 arg3 arg4 arg5 arg6 arg7 arg8 arg9 arg10 arg11 arg12 x g0 g1 g2 g3 g4 g5 g6 g7 (left i (next i x g a) o) (next i x g a) -∗ K ⟨⟩))
        ⊢ wp frame (wpE (defs₀ (F := F)) Variants.none c none) E (cc0_mm_in_dw_skel i arg2 harg2 arg3 harg3 arg4 harg4 arg5 harg5 arg6 harg6 arg7 harg7 arg8 harg8 arg9 harg9 arg10 harg10 arg11 harg11 arg12 harg12) K) :
    Runs c i arg2 harg2 arg3 harg3 arg4 harg4 arg5 harg5 arg6 harg6 arg7 harg7 arg8 harg8 arg9 harg9 arg10 harg10 arg11 harg11 arg12 harg12 x g0 g1 g2 g3 g4 g5 g6 g7 o a g := by
  intro E K
  simp only [cc0_mm_in_dw_eq_skeleton]
  exact (sep_mono (opened c arg2 harg2 arg3 harg3 arg4 harg4 arg5 harg5 arg6 harg6 arg7 harg7 arg8 harg8 arg9 harg9 arg10 harg10 arg11 harg11 arg12 harg12 x g0 g1 g2 g3 g4 g5 g6 g7 o a) .rfl).trans (h E K)

end Cert.Kernel2Ideal.Dw
end
-- ==== Proof.In2P0.lean ====
module

public import proofs.«01_k».proof.Proof.In2

/-! The calls of the body at the steps of piece 0. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first0 (h0 : (i 0).val = 0) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g0 := by
  obtain ⟨c0, c1, c2, c3, c4, c5, c6, c7⟩ := at0 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g0 a) o) (next i x g0 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg3.read_unread, harg12.read_unread]
    rw [View.ld_unit_zero zeros2]
    rfl

set_option maxHeartbeats 1000000 in
theorem middle0 (h0 : (i 0).val = 0) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g0 := by
  obtain ⟨c0, c1, c2, c3, c4, c5, c6, c7⟩ := at0 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g0 a) o) (next i x g0 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg3.read_unread, harg12.read_unread]
    rw [View.ld_unit_zero zeros2, View.ld_unit_zero zeros2]
    rfl

set_option maxHeartbeats 1000000 in
theorem last0 (h0 : (i 0).val = 0) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g0 := by
  obtain ⟨c0, c1, c2, c3, c4, c5, c6, c7⟩ := at0 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g0 a) o) (next i x g0 a)
  isplitl [H2 H3 H4 H5 H6 H7 H8 H9 H10 H11 H12]
  · unfold cells
    iframe
  ipureintro
  constructor
  · rw [View.read_writes_full]
    unfold left next
    rw [if_pos h7, if_neg h1]
    unfold last0.sl.v29 last0.sl.H12_1
    rw [View.readCov_full]
    simp only [View.readAt_eq_ld, harg2.read_unread, harg3.read_unread, harg12.read_unread]
    rw [View.ld_unit_zero zeros2, View.ld_unit_zero zeros2]
    rfl
  · unfold last0.sl.H12_1
    rw [View.read_writes_full]
    unfold next
    rw [if_neg h1]
    simp only [View.readAt_eq_ld, harg2.read_unread, harg3.read_unread, harg12.read_unread]
    rw [View.ld_unit_zero zeros2, View.ld_unit_zero zeros2]
    rfl

end Cert.Kernel2Ideal.Dw
end
-- ==== Proof.In2P1.lean ====
module

public import proofs.«01_k».proof.Proof.In2

/-! The calls of the body at the steps of piece 1. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first1 (h0 : (i 0).val = 1) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g1 := by
  obtain ⟨c0, c1, c2, c3, c4, c5, c6, c7⟩ := at1 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g1 a) o) (next i x g1 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg4.read_unread, harg12.read_unread]
    rw [View.ld_unit_zero zeros2]
    rfl

set_option maxHeartbeats 1000000 in
theorem middle1 (h0 : (i 0).val = 1) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g1 := by
  obtain ⟨c0, c1, c2, c3, c4, c5, c6, c7⟩ := at1 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g1 a) o) (next i x g1 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg4.read_unread, harg12.read_unread]
    rw [View.ld_unit_zero zeros2, View.ld_unit_zero zeros2]
    rfl

set_option maxHeartbeats 1000000 in
theorem last1 (h0 : (i 0).val = 1) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g1 := by
  obtain ⟨c0, c1, c2, c3, c4, c5, c6, c7⟩ := at1 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g1 a) o) (next i x g1 a)
  isplitl [H2 H3 H4 H5 H6 H7 H8 H9 H10 H11 H12]
  · unfold cells
    iframe
  ipureintro
  constructor
  · rw [View.read_writes_full]
    unfold left next
    rw [if_pos h7, if_neg h1]
    unfold last1.sl.v29 last1.sl.H12_1
    rw [View.readCov_full]
    simp only [View.readAt_eq_ld, harg2.read_unread, harg4.read_unread, harg12.read_unread]
    rw [View.ld_unit_zero zeros2, View.ld_unit_zero zeros2]
    rfl
  · unfold last1.sl.H12_1
    rw [View.read_writes_full]
    unfold next
    rw [if_neg h1]
    simp only [View.readAt_eq_ld, harg2.read_unread, harg4.read_unread, harg12.read_unread]
    rw [View.ld_unit_zero zeros2, View.ld_unit_zero zeros2]
    rfl

end Cert.Kernel2Ideal.Dw
end
-- ==== Proof.In2P2.lean ====
module

public import proofs.«01_k».proof.Proof.In2

/-! The calls of the body at the steps of piece 2. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first2 (h0 : (i 0).val = 2) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g2 := by
  obtain ⟨c0, c1, c2, c3, c4, c5, c6, c7⟩ := at2 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g2 a) o) (next i x g2 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg5.read_unread, harg12.read_unread]
    rw [View.ld_unit_zero zeros2]
    rfl

set_option maxHeartbeats 1000000 in
theorem middle2 (h0 : (i 0).val = 2) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g2 := by
  obtain ⟨c0, c1, c2, c3, c4, c5, c6, c7⟩ := at2 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g2 a) o) (next i x g2 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg5.read_unread, harg12.read_unread]
    rw [View.ld_unit_zero zeros2, View.ld_unit_zero zeros2]
    rfl

set_option maxHeartbeats 1000000 in
theorem last2 (h0 : (i 0).val = 2) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g2 := by
  obtain ⟨c0, c1, c2, c3, c4, c5, c6, c7⟩ := at2 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g2 a) o) (next i x g2 a)
  isplitl [H2 H3 H4 H5 H6 H7 H8 H9 H10 H11 H12]
  · unfold cells
    iframe
  ipureintro
  constructor
  · rw [View.read_writes_full]
    unfold left next
    rw [if_pos h7, if_neg h1]
    unfold last2.sl.v29 last2.sl.H12_1
    rw [View.readCov_full]
    simp only [View.readAt_eq_ld, harg2.read_unread, harg5.read_unread, harg12.read_unread]
    rw [View.ld_unit_zero zeros2, View.ld_unit_zero zeros2]
    rfl
  · unfold last2.sl.H12_1
    rw [View.read_writes_full]
    unfold next
    rw [if_neg h1]
    simp only [View.readAt_eq_ld, harg2.read_unread, harg5.read_unread, harg12.read_unread]
    rw [View.ld_unit_zero zeros2, View.ld_unit_zero zeros2]
    rfl

end Cert.Kernel2Ideal.Dw
end
-- ==== Proof.In2P3.lean ====
module

public import proofs.«01_k».proof.Proof.In2

/-! The calls of the body at the steps of piece 3. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first3 (h0 : (i 0).val = 3) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g3 := by
  obtain ⟨c0, c1, c2, c3, c4, c5, c6, c7⟩ := at3 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g3 a) o) (next i x g3 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg6.read_unread, harg12.read_unread]
    rw [View.ld_unit_zero zeros2]
    rfl

set_option maxHeartbeats 1000000 in
theorem middle3 (h0 : (i 0).val = 3) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g3 := by
  obtain ⟨c0, c1, c2, c3, c4, c5, c6, c7⟩ := at3 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g3 a) o) (next i x g3 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg6.read_unread, harg12.read_unread]
    rw [View.ld_unit_zero zeros2, View.ld_unit_zero zeros2]
    rfl

set_option maxHeartbeats 1000000 in
theorem last3 (h0 : (i 0).val = 3) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g3 := by
  obtain ⟨c0, c1, c2, c3, c4, c5, c6, c7⟩ := at3 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g3 a) o) (next i x g3 a)
  isplitl [H2 H3 H4 H5 H6 H7 H8 H9 H10 H11 H12]
  · unfold cells
    iframe
  ipureintro
  constructor
  · rw [View.read_writes_full]
    unfold left next
    rw [if_pos h7, if_neg h1]
    unfold last3.sl.v29 last3.sl.H12_1
    rw [View.readCov_full]
    simp only [View.readAt_eq_ld, harg2.read_unread, harg6.read_unread, harg12.read_unread]
    rw [View.ld_unit_zero zeros2, View.ld_unit_zero zeros2]
    rfl
  · unfold last3.sl.H12_1
    rw [View.read_writes_full]
    unfold next
    rw [if_neg h1]
    simp only [View.readAt_eq_ld, harg2.read_unread, harg6.read_unread, harg12.read_unread]
    rw [View.ld_unit_zero zeros2, View.ld_unit_zero zeros2]
    rfl

end Cert.Kernel2Ideal.Dw
end
-- ==== Proof.In2P4.lean ====
module

public import proofs.«01_k».proof.Proof.In2

/-! The calls of the body at the steps of piece 4. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first4 (h0 : (i 0).val = 4) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g4 := by
  obtain ⟨c0, c1, c2, c3, c4, c5, c6, c7⟩ := at4 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g4 a) o) (next i x g4 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg7.read_unread, harg12.read_unread]
    rw [View.ld_unit_zero zeros2]
    rfl

set_option maxHeartbeats 1000000 in
theorem middle4 (h0 : (i 0).val = 4) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g4 := by
  obtain ⟨c0, c1, c2, c3, c4, c5, c6, c7⟩ := at4 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g4 a) o) (next i x g4 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg7.read_unread, harg12.read_unread]
    rw [View.ld_unit_zero zeros2, View.ld_unit_zero zeros2]
    rfl

set_option maxHeartbeats 1000000 in
theorem last4 (h0 : (i 0).val = 4) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g4 := by
  obtain ⟨c0, c1, c2, c3, c4, c5, c6, c7⟩ := at4 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g4 a) o) (next i x g4 a)
  isplitl [H2 H3 H4 H5 H6 H7 H8 H9 H10 H11 H12]
  · unfold cells
    iframe
  ipureintro
  constructor
  · rw [View.read_writes_full]
    unfold left next
    rw [if_pos h7, if_neg h1]
    unfold last4.sl.v29 last4.sl.H12_1
    rw [View.readCov_full]
    simp only [View.readAt_eq_ld, harg2.read_unread, harg7.read_unread, harg12.read_unread]
    rw [View.ld_unit_zero zeros2, View.ld_unit_zero zeros2]
    rfl
  · unfold last4.sl.H12_1
    rw [View.read_writes_full]
    unfold next
    rw [if_neg h1]
    simp only [View.readAt_eq_ld, harg2.read_unread, harg7.read_unread, harg12.read_unread]
    rw [View.ld_unit_zero zeros2, View.ld_unit_zero zeros2]
    rfl

end Cert.Kernel2Ideal.Dw
end
-- ==== Proof.In2P5.lean ====
module

public import proofs.«01_k».proof.Proof.In2

/-! The calls of the body at the steps of piece 5. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first5 (h0 : (i 0).val = 5) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g5 := by
  obtain ⟨c0, c1, c2, c3, c4, c5, c6, c7⟩ := at5 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g5 a) o) (next i x g5 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg8.read_unread, harg12.read_unread]
    rw [View.ld_unit_zero zeros2]
    rfl

set_option maxHeartbeats 1000000 in
theorem middle5 (h0 : (i 0).val = 5) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g5 := by
  obtain ⟨c0, c1, c2, c3, c4, c5, c6, c7⟩ := at5 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g5 a) o) (next i x g5 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg8.read_unread, harg12.read_unread]
    rw [View.ld_unit_zero zeros2, View.ld_unit_zero zeros2]
    rfl

set_option maxHeartbeats 1000000 in
theorem last5 (h0 : (i 0).val = 5) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g5 := by
  obtain ⟨c0, c1, c2, c3, c4, c5, c6, c7⟩ := at5 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g5 a) o) (next i x g5 a)
  isplitl [H2 H3 H4 H5 H6 H7 H8 H9 H10 H11 H12]
  · unfold cells
    iframe
  ipureintro
  constructor
  · rw [View.read_writes_full]
    unfold left next
    rw [if_pos h7, if_neg h1]
    unfold last5.sl.v29 last5.sl.H12_1
    rw [View.readCov_full]
    simp only [View.readAt_eq_ld, harg2.read_unread, harg8.read_unread, harg12.read_unread]
    rw [View.ld_unit_zero zeros2, View.ld_unit_zero zeros2]
    rfl
  · unfold last5.sl.H12_1
    rw [View.read_writes_full]
    unfold next
    rw [if_neg h1]
    simp only [View.readAt_eq_ld, harg2.read_unread, harg8.read_unread, harg12.read_unread]
    rw [View.ld_unit_zero zeros2, View.ld_unit_zero zeros2]
    rfl

end Cert.Kernel2Ideal.Dw
end
-- ==== Proof.In2P6.lean ====
module

public import proofs.«01_k».proof.Proof.In2

/-! The calls of the body at the steps of piece 6. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first6 (h0 : (i 0).val = 6) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g6 := by
  obtain ⟨c0, c1, c2, c3, c4, c5, c6, c7⟩ := at6 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g6 a) o) (next i x g6 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg9.read_unread, harg12.read_unread]
    rw [View.ld_unit_zero zeros2]
    rfl

set_option maxHeartbeats 1000000 in
theorem middle6 (h0 : (i 0).val = 6) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g6 := by
  obtain ⟨c0, c1, c2, c3, c4, c5, c6, c7⟩ := at6 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g6 a) o) (next i x g6 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg9.read_unread, harg12.read_unread]
    rw [View.ld_unit_zero zeros2, View.ld_unit_zero zeros2]
    rfl

set_option maxHeartbeats 1000000 in
theorem last6 (h0 : (i 0).val = 6) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g6 := by
  obtain ⟨c0, c1, c2, c3, c4, c5, c6, c7⟩ := at6 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g6 a) o) (next i x g6 a)
  isplitl [H2 H3 H4 H5 H6 H7 H8 H9 H10 H11 H12]
  · unfold cells
    iframe
  ipureintro
  constructor
  · rw [View.read_writes_full]
    unfold left next
    rw [if_pos h7, if_neg h1]
    unfold last6.sl.v29 last6.sl.H12_1
    rw [View.readCov_full]
    simp only [View.readAt_eq_ld, harg2.read_unread, harg9.read_unread, harg12.read_unread]
    rw [View.ld_unit_zero zeros2, View.ld_unit_zero zeros2]
    rfl
  · unfold last6.sl.H12_1
    rw [View.read_writes_full]
    unfold next
    rw [if_neg h1]
    simp only [View.readAt_eq_ld, harg2.read_unread, harg9.read_unread, harg12.read_unread]
    rw [View.ld_unit_zero zeros2, View.ld_unit_zero zeros2]
    rfl

end Cert.Kernel2Ideal.Dw
end
-- ==== Proof.In2P7.lean ====
module

public import proofs.«01_k».proof.Proof.In2

/-! The calls of the body at the steps of piece 7. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (c : Dev nD) (i : grid0.Coords) (arg2 : Memref sig .tc .vmem S4096x1024 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S1x1024x512 .bf16) (harg11 : arg11.IsWhole) (arg12 : Memref sig .tc .vmem S1024x512 .f32) (harg12 : arg12.IsWhole)
  (x : Vec F S4096x1024 .bf16) (g0 g1 g2 g3 g4 g5 g6 g7 : Vec F S512x512 .bf16) (o : Vec F S1x1024x512 .bf16) (a : Vec F S1024x512 .f32)

set_option maxHeartbeats 1000000 in
theorem first7 (h0 : (i 0).val = 7) (h1 : (i 1).val = 0) : Runs c i arg2 harg2 arg3 harg3 arg4 harg4 arg5 harg5 arg6 harg6 arg7 harg7 arg8 harg8 arg9 harg9 arg10 harg10 arg11 harg11 arg12 harg12 x g0 g1 g2 g3 g4 g5 g6 g7 o a g7 := by
  obtain ⟨c0, c1, c2, c3, c4, c5, c6, c7⟩ := at7 i h0
  have d1 : isFirst i := (first_iff i).mpr h1
  have d2 : ¬isLater i := fun e => (later_iff i).mp e h1
  have d3 : ¬k0_cond25 i = 1#1 := fun e => by have := (cond25 i).mp e; omega
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g7 a) o) (next i x g7 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_pos h1]
    simp only [View.readAt_eq_ld, harg2.read_unread, harg10.read_unread, harg12.read_unread]
    rw [View.ld_unit_zero zeros2]
    rfl

set_option maxHeartbeats 1000000 in
theorem middle7 (h0 : (i 0).val = 7) (h1 : ¬(i 1).val = 0) (h7 : ¬(i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g7 := by
  obtain ⟨c0, c1, c2, c3, c4, c5, c6, c7⟩ := at7 i h0
  have d1 : ¬isFirst i := fun e => h1 ((first_iff i).mp e)
  have d2 : isLater i := (later_iff i).mpr h1
  have d3 : ¬k0_cond25 i = 1#1 := fun e => h7 ((cond25 i).mp e)
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g7 a) o) (next i x g7 a)
  isplitl [H2 H3 H4 H5 H6 H7 H8 H9 H10 H11 H12]
  · unfold cells
    iframe
  ipureintro
  constructor
  · unfold left
    rw [if_neg (by omega)]
    exact harg11.read_unread _
  · rw [View.read_writes_full]
    unfold next
    rw [if_neg h1]
    simp only [View.readAt_eq_ld, harg2.read_unread, harg10.read_unread, harg12.read_unread]
    rw [View.ld_unit_zero zeros2, View.ld_unit_zero zeros2]
    rfl

set_option maxHeartbeats 1000000 in
theorem last7 (h0 : (i 0).val = 7) (h1 : ¬(i 1).val = 0) (h7 : (i 1).val = 7) : Runs c i arg2 harg2 arg3 harg3 arg4 harg4 arg5 harg5 arg6 harg6 arg7 harg7 arg8 harg8 arg9 harg9 arg10 harg10 arg11 harg11 arg12 harg12 x g0 g1 g2 g3 g4 g5 g6 g7 o a g7 := by
  obtain ⟨c0, c1, c2, c3, c4, c5, c6, c7⟩ := at7 i h0
  have d1 : ¬isFirst i := fun e => h1 ((first_iff i).mp e)
  have d2 : isLater i := (later_iff i).mpr h1
  have d3 : k0_cond25 i = 1#1 := (cond25 i).mpr h7
  apply starts; intro E K
  unfold cc0_mm_in_dw_skel cells
  iintro ⟨⟨H2, H3, H4, H5, H6, H7, H8, H9, H10, H11, H12⟩, Hk⟩
  sl_exec (disch := first | sl_exact c0 | sl_exact c1 | sl_exact c2 | sl_exact c3 | sl_exact c4 | sl_exact c5 | sl_exact c6 | sl_exact c7 | sl_exact d1 | sl_exact d2 | sl_exact d3)
  sl_step
  iapply Hk
  iapply closed c arg2 harg2 arg3 harg3 arg4 harg4 arg5 harg5 arg6 harg6 arg7 harg7 arg8 harg8 arg9 harg9 arg10 harg10 arg11 arg12 x g0 g1 g2 g3 g4 g5 g6 g7 (left i (next i x g7 a) o) (next i x g7 a)
  isplitl [H2 H3 H4 H5 H6 H7 H8 H9 H10 H11 H12]
  · unfold cells
    iframe
  ipureintro
  constructor
  · rw [View.read_writes_full]
    unfold left next
    rw [if_pos h7, if_neg h1]
    unfold last7.sl.v29 last7.sl.H12_1
    rw [View.readCov_full]
    simp only [View.readAt_eq_ld, harg2.read_unread, harg10.read_unread, harg12.read_unread]
    rw [View.ld_unit_zero zeros2, View.ld_unit_zero zeros2]
    rfl
  · unfold last7.sl.H12_1
    rw [View.read_writes_full]
    unfold next
    rw [if_neg h1]
    simp only [View.readAt_eq_ld, harg2.read_unread, harg10.read_unread, harg12.read_unread]
    rw [View.ld_unit_zero zeros2, View.ld_unit_zero zeros2]
    rfl

end Cert.Kernel2Ideal.Dw
end
-- ==== Proof.In2Run.lean ====
module

public import proofs.«01_k».proof.Proof.In2P0
public import proofs.«01_k».proof.Proof.In2P1
public import proofs.«01_k».proof.Proof.In2P2
public import proofs.«01_k».proof.Proof.In2P3
public import proofs.«01_k».proof.Proof.In2P4
public import proofs.«01_k».proof.Proof.In2P5
public import proofs.«01_k».proof.Proof.In2P6
public import proofs.«01_k».proof.Proof.In2P7
public import Idealize.ShloMosaic.Lib.Claim

/-! The run of the weight gradient of the first product: its sums point by point, the proof data, and its frame. -/

@[expose] public section

set_option maxRecDepth 16384

noncomputable section

namespace Cert.Kernel2Ideal.Dw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- Any call of the body. -/
theorem runs (c : Dev nD) (i : grid0.Coords) (arg2 : Memref sig .tc .vmem S4096x1024 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x1024x512 .bf16) (harg11 : arg11.IsWhole) (arg12 : Memref sig .tc .vmem S1024x512 .f32) (harg12 : arg12.IsWhole)
    (x : Vec F S4096x1024 .bf16) (g0 g1 g2 g3 g4 g5 g6 g7 : Vec F S512x512 .bf16) (o : Vec F S1x1024x512 .bf16) (a : Vec F S1024x512 .f32) :
    Runs c i arg2 harg2 arg3 harg3 arg4 harg4 arg5 harg5 arg6 harg6 arg7 harg7 arg8 harg8 arg9 harg9 arg10 harg10 arg11 harg11 arg12 harg12 x g0 g1 g2 g3 g4 g5 g6 g7 o a (pick (i 0).val g0 g1 g2 g3 g4 g5 g6 g7) := by
  have h : (i 0).val < 8 := (i 0).isLt
  by_cases h1 : (i 1).val = 0
  · obtain h0 | h0 | h0 | h0 | h0 | h0 | h0 | h0 : (i 0).val = 0 ∨ (i 0).val = 1 ∨ (i 0).val = 2 ∨ (i 0).val = 3 ∨ (i 0).val = 4 ∨ (i 0).val = 5 ∨ (i 0).val = 6 ∨ (i 0).val = 7 := by omega
    · rw [h0]; exact first0 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first1 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first2 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first3 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first4 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first5 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first6 c i arg2 harg2 arg3 harg3 arg4 harg4 arg5 harg5 arg6 harg6 arg7 harg7 arg8 harg8 arg9 harg9 arg10 harg10 arg11 harg11 arg12 harg12 x g0 g1 g2 g3 g4 g5 g6 g7 o a h0 h1
    · rw [h0]; exact first7 c i arg2 harg2 arg3 harg3 arg4 harg4 arg5 harg5 arg6 harg6 arg7 harg7 arg8 harg8 arg9 harg9 arg10 harg10 arg11 harg11 arg12 harg12 x g0 g1 g2 g3 g4 g5 g6 g7 o a h0 h1
  by_cases h7 : (i 1).val = 7
  · obtain h0 | h0 | h0 | h0 | h0 | h0 | h0 | h0 : (i 0).val = 0 ∨ (i 0).val = 1 ∨ (i 0).val = 2 ∨ (i 0).val = 3 ∨ (i 0).val = 4 ∨ (i 0).val = 5 ∨ (i 0).val = 6 ∨ (i 0).val = 7 := by omega
    · rw [h0]; exact last0 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last1 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last2 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last3 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last4 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last5 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last6 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact last7 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
  · obtain h0 | h0 | h0 | h0 | h0 | h0 | h0 | h0 : (i 0).val = 0 ∨ (i 0).val = 1 ∨ (i 0).val = 2 ∨ (i 0).val = 3 ∨ (i 0).val = 4 ∨ (i 0).val = 5 ∨ (i 0).val = 6 ∨ (i 0).val = 7 := by omega
    · rw [h0]; exact middle0 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle1 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle2 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle3 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle4 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle5 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle6 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7
    · rw [h0]; exact middle7 c i arg2 harg2 arg3 harg3 arg4 harg4 arg5 harg5 arg6 harg6 arg7 harg7 arg8 harg8 arg9 harg9 arg10 harg10 arg11 harg11 arg12 harg12 x g0 g1 g2 g3 g4 g5 g6 g7 o a h0 h1 h7

variable (m : (ℓ : Loc nD τ sig) → Buf (Elt F) ℓ) (ρ : Dev nD → PrngReg)

theorem piece_at (t : Fin cfg0.N) : (grid0.coords t 0).val = t.val / 8 := by
  have e : (grid0.coords t 0).val = t.val / 8 % 8 := Pipeline.Grid.coords_val t 0 (by decide) rfl
  have ht : t.val < 64 := Nat.lt_of_lt_of_eq t.isLt N_0
  omega
theorem step_at (t : Fin cfg0.N) : (grid0.coords t 1).val = t.val % 8 := by
  have e : (grid0.coords t 1).val = t.val / 1 % 8 := Pipeline.Grid.coords_val t 1 (by decide) rfl
  omega

/-- The block of the cotangent that a point takes. -/
def taken (c : Dev nD) (t : Fin cfg0.N) : Vec F S512x512 .bf16 :=
  pick (grid0.coords t 0).val (iblk m c 1 t) (iblk m c 2 t) (iblk m c 3 t) (iblk m c 4 t) (iblk m c 5 t) (iblk m c 6 t) (iblk m c 7 t) (iblk m c 8 t)

/-- The sum after each point. -/
def sums (c : Dev nD) : (n : ℕ) → n < cfg0.N → Vec F S1024x512 .f32
  | 0, hn => k0_pay2 (rows (grid0.coords ⟨0, hn⟩) (iblk m c 0 ⟨0, hn⟩)) (taken m c ⟨0, hn⟩)
  | n + 1, hn => next (grid0.coords ⟨n + 1, hn⟩) (iblk m c 0 ⟨n + 1, hn⟩) (taken m c ⟨n + 1, hn⟩) (sums c n (Nat.lt_of_succ_lt hn))

/-- The first point's sum, whatever was there. -/
theorem sums_first (c : Dev nD) (t : Fin cfg0.N) (hz : t.val = 0) (a : Vec F S1024x512 .f32) :
    next (grid0.coords t) (iblk m c 0 t) (taken m c t) a = sums m c t.val t.isLt := by
  obtain ⟨n, hn⟩ := t
  subst hz
  unfold next
  rw [if_pos ((step_at ⟨0, hn⟩).trans (Nat.zero_mod 8))]
  rfl

/-- A later point's sum. -/
theorem sums_later (c : Dev nD) (t : Fin cfg0.N) (hz : t.val ≠ 0) :
    next (grid0.coords t) (iblk m c 0 t) (taken m c t) (sums m c (t.val - 1) (Nat.lt_of_le_of_lt (Nat.sub_le _ _) t.isLt)) = sums m c t.val t.isLt := by
  obtain ⟨n, hn⟩ := t
  cases n with
  | zero => exact absurd rfl hz
  | succ n => rfl

/-- The sum's buffer, a whole one. -/
abbrev sumM : Memref sig .tc .vmem S1024x512 .f32 := Memref.whole cc0_scratch0

/-- What is kept between points: at the start anything, afterwards the sum of the point before. -/
def kept (c : Dev nD) : (n : ℕ) → n ≤ cfg0.N → sProp 𝕄
  | 0, _ => Pipeline.ΦA spec0 c
  | n + 1, hn => iprop(owns (c : Thread nD τ) sumM fullShare (sums m c n hn) ∗ (∃ r, prngReg c r))

theorem kept_zero (c : Dev nD) (n : ℕ) (h : n ≤ cfg0.N) (hz : n = 0) : kept m c n h = Pipeline.ΦA spec0 c := by
  subst hz; rfl
theorem kept_succ (c : Dev nD) (n : ℕ) (hn : n < cfg0.N) :
    kept m c (n + 1) hn = iprop(owns (c : Thread nD τ) sumM fullShare (sums m c n hn) ∗ (∃ r, prngReg c r)) := rfl
theorem kept_pos (c : Dev nD) (n : ℕ) (h : n ≤ cfg0.N) (hz : n ≠ 0) :
    kept m c n h = iprop(owns (c : Thread nD τ) sumM fullShare (sums m c (n - 1) (by omega)) ∗ (∃ r, prngReg c r)) := by
  cases n with
  | zero => exact absurd rfl hz
  | succ n => rfl
theorem start_eq (c : Dev nD) :
    (Pipeline.ΦA spec0 c : sProp 𝕄) = iprop((∃ d, owns (c : Thread nD τ) sumM fullShare d) ∗ (∃ r, prngReg c r)) := by
  unfold Pipeline.ΦA; rw [scopedRest0_eq]; simp only [sumM, owns_whole]; try rfl

/-- The proof data: each input's buffer keeps its block, the result's block is the rounded sum. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay25 (sums m c t.val t.isLt)
  Φ t := kept m c t.val (Nat.le_of_lt_succ t.isLt)
  q _ := fullShare
  owed _ := 0

theorem data_A (c : Dev nD) (w : Fin cfg0.W) : (data m 0 c).A w = V m c (Pipeline.arrRef spec0 w) := by dsimp only [data]
theorem data_kept (c : Dev nD) (t : Fin cfg0.N) : (data m 0 c).Φ t.castSucc = kept m c t.val (Nat.le_of_lt t.isLt) := by
  dsimp only [data]; exact Pipeline.Dat.Φ_castSucc (kept m c) t
theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = iblk m c 7 t := by dsimp only [data]
theorem after8 (c : Dev nD) (t : Fin cfg0.N) : (data m 0 c).after 8 t = iblk m c 8 t := by dsimp only [data]
theorem after9 (c : Dev nD) (t : Fin cfg0.N) : (data m 0 c).after 9 t = k0_pay25 (sums m c t.val t.isLt) := by dsimp only [data]
theorem before0 (c : Dev nD) (t : Fin cfg0.N) (d) : (data m 0 c).before 0 t d = iblk m c 0 t :=
  before0_0_of m (data m 0 c) (data_A m c 0) (after0 m c) t d
theorem before1 (c : Dev nD) (t : Fin cfg0.N) (d) : (data m 0 c).before 1 t d = iblk m c 1 t :=
  before0_1_of m (data m 0 c) (data_A m c 1) (after1 m c) t d
theorem before2 (c : Dev nD) (t : Fin cfg0.N) (d) : (data m 0 c).before 2 t d = iblk m c 2 t :=
  before0_2_of m (data m 0 c) (data_A m c 2) (after2 m c) t d
theorem before3 (c : Dev nD) (t : Fin cfg0.N) (d) : (data m 0 c).before 3 t d = iblk m c 3 t :=
  before0_3_of m (data m 0 c) (data_A m c 3) (after3 m c) t d
theorem before4 (c : Dev nD) (t : Fin cfg0.N) (d) : (data m 0 c).before 4 t d = iblk m c 4 t :=
  before0_4_of m (data m 0 c) (data_A m c 4) (after4 m c) t d
theorem before5 (c : Dev nD) (t : Fin cfg0.N) (d) : (data m 0 c).before 5 t d = iblk m c 5 t :=
  before0_5_of m (data m 0 c) (data_A m c 5) (after5 m c) t d
theorem before6 (c : Dev nD) (t : Fin cfg0.N) (d) : (data m 0 c).before 6 t d = iblk m c 6 t :=
  before0_6_of m (data m 0 c) (data_A m c 6) (after6 m c) t d
theorem before7 (c : Dev nD) (t : Fin cfg0.N) (d) : (data m 0 c).before 7 t d = iblk m c 7 t :=
  before0_7_of m (data m 0 c) (data_A m c 7) (after7 m c) t d
theorem before8 (c : Dev nD) (t : Fin cfg0.N) (d) : (data m 0 c).before 8 t d = iblk m c 8 t :=
  before0_8_of m (data m 0 c) (data_A m c 8) (after8 m c) t d
abbrev bufM0 (t : Fin cfg0.N) : Memref sig .tc .vmem S4096x1024 .bf16 := win0_0.stage (cfg0.slots t 0)
abbrev bufM1 (t : Fin cfg0.N) : Memref sig .tc .vmem S512x512 .bf16 := win0_1.stage (cfg0.slots t 1)
abbrev bufM2 (t : Fin cfg0.N) : Memref sig .tc .vmem S512x512 .bf16 := win0_2.stage (cfg0.slots t 2)
abbrev bufM3 (t : Fin cfg0.N) : Memref sig .tc .vmem S512x512 .bf16 := win0_3.stage (cfg0.slots t 3)
abbrev bufM4 (t : Fin cfg0.N) : Memref sig .tc .vmem S512x512 .bf16 := win0_4.stage (cfg0.slots t 4)
abbrev bufM5 (t : Fin cfg0.N) : Memref sig .tc .vmem S512x512 .bf16 := win0_5.stage (cfg0.slots t 5)
abbrev bufM6 (t : Fin cfg0.N) : Memref sig .tc .vmem S512x512 .bf16 := win0_6.stage (cfg0.slots t 6)
abbrev bufM7 (t : Fin cfg0.N) : Memref sig .tc .vmem S512x512 .bf16 := win0_7.stage (cfg0.slots t 7)
abbrev bufM8 (t : Fin cfg0.N) : Memref sig .tc .vmem S512x512 .bf16 := win0_8.stage (cfg0.slots t 8)
abbrev bufM9 (t : Fin cfg0.N) : Memref sig .tc .vmem S1x1024x512 .bf16 := win0_9.stage (cfg0.slots t 9)
theorem leaves0 (c : Dev nD) (t : Fin cfg0.N) : (data m 0 c).leavesExact 0 t = owns (c : Thread nD τ) (bufM0 t) fullShare (iblk m c 0 t) := by
  unfold Dat.leavesExact; rw [show cfg0.idle 0 (grid0.coords t) = false from rfl, after0]
theorem leaves1 (c : Dev nD) (t : Fin cfg0.N) : (data m 0 c).leavesExact 1 t = owns (c : Thread nD τ) (bufM1 t) fullShare (iblk m c 1 t) := by
  unfold Dat.leavesExact; rw [show cfg0.idle 1 (grid0.coords t) = false from rfl, after1]
theorem leaves2 (c : Dev nD) (t : Fin cfg0.N) : (data m 0 c).leavesExact 2 t = owns (c : Thread nD τ) (bufM2 t) fullShare (iblk m c 2 t) := by
  unfold Dat.leavesExact; rw [show cfg0.idle 2 (grid0.coords t) = false from rfl, after2]
theorem leaves3 (c : Dev nD) (t : Fin cfg0.N) : (data m 0 c).leavesExact 3 t = owns (c : Thread nD τ) (bufM3 t) fullShare (iblk m c 3 t) := by
  unfold Dat.leavesExact; rw [show cfg0.idle 3 (grid0.coords t) = false from rfl, after3]
theorem leaves4 (c : Dev nD) (t : Fin cfg0.N) : (data m 0 c).leavesExact 4 t = owns (c : Thread nD τ) (bufM4 t) fullShare (iblk m c 4 t) := by
  unfold Dat.leavesExact; rw [show cfg0.idle 4 (grid0.coords t) = false from rfl, after4]
theorem leaves5 (c : Dev nD) (t : Fin cfg0.N) : (data m 0 c).leavesExact 5 t = owns (c : Thread nD τ) (bufM5 t) fullShare (iblk m c 5 t) := by
  unfold Dat.leavesExact; rw [show cfg0.idle 5 (grid0.coords t) = false from rfl, after5]
theorem leaves6 (c : Dev nD) (t : Fin cfg0.N) : (data m 0 c).leavesExact 6 t = owns (c : Thread nD τ) (bufM6 t) fullShare (iblk m c 6 t) := by
  unfold Dat.leavesExact; rw [show cfg0.idle 6 (grid0.coords t) = false from rfl, after6]
theorem leaves7 (c : Dev nD) (t : Fin cfg0.N) : (data m 0 c).leavesExact 7 t = owns (c : Thread nD τ) (bufM7 t) fullShare (iblk m c 7 t) := by
  unfold Dat.leavesExact; rw [show cfg0.idle 7 (grid0.coords t) = false from rfl, after7]
theorem leaves8 (c : Dev nD) (t : Fin cfg0.N) : (data m 0 c).leavesExact 8 t = owns (c : Thread nD τ) (bufM8 t) fullShare (iblk m c 8 t) := by
  unfold Dat.leavesExact; rw [show cfg0.idle 8 (grid0.coords t) = false from rfl, after8]
theorem idle_at (t : Fin cfg0.N) (h : ¬t.val % 8 = 7) : cfg0.idle 9 (grid0.coords t) = true := by
  show (!(k0_cond25 (grid0.coords t) == 1#1)) = true
  rw [Bool.not_eq_true', beq_eq_false_iff_ne]
  intro e
  exact h ((step_at t).symm.trans ((cond25 _).mp e))
theorem live_at (t : Fin cfg0.N) (h : t.val % 8 = 7) : cfg0.idle 9 (grid0.coords t) = false := by
  show (!(k0_cond25 (grid0.coords t) == 1#1)) = false
  rw [Bool.not_eq_false', beq_iff_eq]
  exact (cond25 _).mpr ((step_at t).trans h)
theorem leaves9_idle (c : Dev nD) (t : Fin cfg0.N) (h : ¬t.val % 8 = 7) :
    (data m 0 c).leavesExact 9 t = iprop(∃ d, owns (c : Thread nD τ) (bufM9 t) fullShare ((data m 0 c).before 9 t d)) :=
  Dat.leavesExact_idle (data m 0 c) 9 t (idle_at t h) (by rw [Bool.eq_false_iff]; exact fun e => h ((flush0_9 t).mp e))
theorem leaves9_live (c : Dev nD) (t : Fin cfg0.N) (h : t.val % 8 = 7) :
    (data m 0 c).leavesExact 9 t = owns (c : Thread nD τ) (bufM9 t) fullShare (k0_pay25 (sums m c t.val t.isLt)) := by
  unfold Dat.leavesExact; rw [live_at t h, after9]

/-- What the body is called with at a point. -/
def pre (c : Dev nD) (t : Fin cfg0.N) : sProp 𝕄 :=
  iprop((data m 0 c).Φ t.castSucc ∗ (data m 0 c).owesAt () t.castSucc
    ∗ (∃ d, owns (c : Thread nD τ) (bufM0 t) fullShare ((data m 0 c).before 0 t d))
    ∗ (∃ d, owns (c : Thread nD τ) (bufM1 t) fullShare ((data m 0 c).before 1 t d))
    ∗ (∃ d, owns (c : Thread nD τ) (bufM2 t) fullShare ((data m 0 c).before 2 t d))
    ∗ (∃ d, owns (c : Thread nD τ) (bufM3 t) fullShare ((data m 0 c).before 3 t d))
    ∗ (∃ d, owns (c : Thread nD τ) (bufM4 t) fullShare ((data m 0 c).before 4 t d))
    ∗ (∃ d, owns (c : Thread nD τ) (bufM5 t) fullShare ((data m 0 c).before 5 t d))
    ∗ (∃ d, owns (c : Thread nD τ) (bufM6 t) fullShare ((data m 0 c).before 6 t d))
    ∗ (∃ d, owns (c : Thread nD τ) (bufM7 t) fullShare ((data m 0 c).before 7 t d))
    ∗ (∃ d, owns (c : Thread nD τ) (bufM8 t) fullShare ((data m 0 c).before 8 t d))
    ∗ (∃ d, owns (c : Thread nD τ) (bufM9 t) fullShare ((data m 0 c).before 9 t d)))
/-- What it returns. -/
def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t)

set_option maxHeartbeats 4000000 in
/-- The body at any point. -/
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8]
  rw [show (data m 0 c).owesAt () t.succ = (data m 0 c).owesAt () t.castSucc from rfl]
  rw [show (data m 0 c).Φ t.succ = kept m c (t.val + 1) t.isLt from rfl, kept_succ, data_kept]
  rw [leaves0, leaves1, leaves2, leaves3, leaves4, leaves5, leaves6, leaves7, leaves8]
  by_cases hz : t.val = 0
  · have h7 : ¬t.val % 8 = 7 := by omega
    rw [kept_zero m c _ _ hz, start_eq, leaves9_idle m c t h7]
    iintro ⟨⟨⟨%a, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have e := sums_first m c t hz a
    unfold taken at e
    iapply (runs c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((data m 0 c).before 9 t d9) a Set.univ _)
    rw [e]
    unfold left held
    rw [if_neg (fun e => h7 ((step_at t).symm.trans e))]
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h7 : t.val % 8 = 7
  · skip
    rw [kept_pos m c _ _ hz, leaves9_live m c t h7]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have e := sums_later m c t hz
    unfold taken at e
    iapply (runs c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((data m 0 c).before 9 t d9) (sums m c (t.val - 1) (Nat.lt_of_le_of_lt (Nat.sub_le _ _) t.isLt)) Set.univ _)
    rw [e]
    unfold left held
    rw [if_pos ((step_at t).trans h7)]
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · skip
    rw [kept_pos m c _ _ hz, leaves9_idle m c t h7]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have e := sums_later m c t hz
    unfold taken at e
    iapply (runs c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((data m 0 c).before 9 t d9) (sums m c (t.val - 1) (Nat.lt_of_le_of_lt (Nat.sub_le _ _) t.isLt)) Set.univ _)
    rw [e]
    unfold left held
    rw [if_neg (fun e => h7 ((step_at t).symm.trans e))]
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body m c t) rfl .rfl fun _ => .rfl

theorem enter (c : Dev nD) : Pipeline.ΦA spec0 c ⊢ (data m 0 c).Φ 0 := by
  rw [show (data m 0 c).Φ 0 = kept m c 0 (Nat.zero_le _) from rfl, kept_zero m c 0 _ rfl]
  try exact Idealize.SL.BI.Entails.refl _

theorem leave (c : Dev nD) : (data m 0 c).Φ (Fin.last cfg0.N) ⊢ Pipeline.ΦA spec0 c := by
  rw [show (data m 0 c).Φ (Fin.last cfg0.N) = kept m c cfg0.N (Nat.le_refl _) from rfl,
    kept_pos m c _ _ (by have : cfg0.N = 64 := N_0; omega), start_eq]
  iintro ⟨HS, Hg⟩
  isplitl [HS]
  · iexists _; iexact HS
  iexact Hg

set_option backward.isDefEq.respectTransparency.types false in
/-- The whole run: every array ends at what the data say, and every semaphore at zero. -/
theorem whole : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enter m) (hout := leave m)

/-- The frame: the arguments end unchanged, and every semaphore at zero. -/
theorem unmoved : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  θ_run_and (frame_of m ρ (data m) (data_A m) ((θ_run defs _ _).mono (fun _ h => h.1) (whole m ρ)))
    ((θ_run defs _ _).mono (fun _ h => h.2) (whole m ρ))

end Cert.Kernel2Ideal.Dw
end
-- ==== Proof.In2Value.lean ====
/-
  The gradient of the stacked weights of the first product, summed over blocks of rows: what the kernel writes and what the reference computes.
-/
module

public import Idealize.ShloMosaic.Lib.VecWindow
public import proofs.«01_k».proof.Proof.Mul
public import proofs.«01_k».proof.Proof.In3
public import proofs.«01_k».proof.Proof.In2Run
public import proofs.«01_k».proof.Proof.Gen.Reference2Ideal.Read

@[expose] public section

set_option maxRecDepth 16384

noncomputable section

open scoped BigOperators
open Idealize.ShloMosaic Idealize.ShloMosaic.ValueIdx Idealize.ShloMosaic.TcCoe Idealize.SL Idealize.SL.Sem
open Cert.Mul Cert.Kernel2Ideal Cert.Kernel2Ideal.Gen Cert.Kernel2Ideal.Dw

namespace Cert.In2

theorem off_eq (i : grid0.Coords) : k0_off1 i = ![512 * (i 1).val, 0] := by
  have h : (i 1).val < 8 := (i 1).isLt
  unfold k0_off1
  generalize (i 1).val = n at h
  interval_cases n <;> rfl

theorem ld_rows (o : Fin 2 → Nat) (n : ℕ) (ho : o = ![512 * n, 0]) (io : ∀ a, o a + S512x1024.size a ≤ S4096x1024.size a) (x : FVec Ideal S4096x1024 .bf16)
    (j : Fin 512) (k : Fin 1024) (r : Fin 4096) (hr : r.val = 512 * n + j.val) :
    View.ld (Val := Elt Ideal) (e' := .bf16) x (Rect.unit (s := S4096x1024) o S512x1024.size io) (ix2 j k) = x (ix2 r k) := by
  subst ho
  refine View.ld_unit_apply_of _ _ _ _ _ _ fun a => ?_
  match a with
  | ⟨0, _⟩ => exact hr
  | ⟨1, _⟩ => exact (Nat.zero_add k.val).symm

/-- The rows a point takes, at an index. -/
theorem block_apply (i : grid0.Coords) (x : FVec Ideal S4096x1024 .bf16) (j : Fin 512) (k : Fin 1024) (r : Fin 4096) (hr : r.val = 512 * (i 1).val + j.val) :
    rows (F := Ideal) i x (ix2 j k) = x (ix2 r k) :=
  ld_rows _ (i 1).val (off_eq i) (rows_in i) x j k r hr

/-- One block's product. -/
theorem mul_apply (v : FVec Ideal S512x1024 .bf16) (w : FVec Ideal S512x512 .bf16) (y : S1024x512.Idx) :
    k0_pay1 (F := Ideal) v w y = (∑ j : Fin 512, v (ix2 j (y 0)) * w (ix2 j (y 1)) : EReal) := by
  unfold k0_pay1
  exact cols_apply _ rfl _ _ _

/-- Row `512 n + j` of the input, the number of the block taken round. -/
def row (n : ℕ) (j : Fin 512) : Fin 4096 := ⟨(512 * n + j.val) % 4096, Nat.mod_lt _ (by decide)⟩

theorem row_val (n : ℕ) (hn : n < 8) (j : Fin 512) : (row n j).val = 512 * n + j.val :=
  Nat.mod_eq_of_lt (by omega)

/-- Block `n` of the sum. -/
def part (X : FVec Ideal S4096x1024 .bf16) (D : FVec Ideal S4096x512 .bf16) (n : ℕ) (y : S1024x512.Idx) : EReal :=
  ∑ j : Fin 512, X (ix2 (row n j) (y 0)) * D (ix2 (row n j) (y 1))

/-- A column of the input times a column of one piece. -/
def col (X : FVec Ideal S4096x1024 .bf16) (D : FVec Ideal S4096x512 .bf16) (y : Fin 1024) (k : Fin 512) : EReal :=
  ∑ r : Fin 4096, X (ix2 r y) * D (ix2 r k)

/-- A column of the input times a column of a piece of the cotangent. -/
def prod (X : FVec Ideal S4096x1024 .bf16) (D : Fin 8 → FVec Ideal S4096x512 .bf16) : FVec Ideal S8x1024x512 .bf16 := fun i =>
  col X (D (i 0)) (i 1) (i 2)

/-- The eight blocks are the whole sum. -/
theorem parts (X : FVec Ideal S4096x1024 .bf16) (D : FVec Ideal S4096x512 .bf16) (y : S1024x512.Idx) :
    ∑ q ∈ Finset.range 8, part X D q y = col X D (y 0) (y 1) := by
  rw [Finset.sum_range]
  refine Eq.trans ?_ (sum_blocks 8 512 (fun k : Fin 4096 => (X (ix2 k (y 0)) * D (ix2 k (y 1)) : EReal))).symm
  refine Finset.sum_congr rfl fun q _ => Finset.sum_congr rfl fun j _ => ?_
  have e : row q.val j = ⟨512 * q.val + j.val, by omega⟩ := Fin.ext (row_val _ q.isLt j)
  show (X (ix2 (row q.val j) (y 0)) * D (ix2 (row q.val j) (y 1)) : EReal) = _
  rw [e]

variable (m : (ℓ : Loc nD τ sig) → Buf (Elt Ideal) ℓ) (c : Dev nD)

/-- The pieces of the cotangent that the kernel is given. -/
abbrev given : Fin 8 → FVec Ideal S4096x512 .bf16 :=
  Cert.In3.pieces (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem idx0 : ∀ t : Fin cfg0.N, win0_0.index t (0 : Fin 2) = 0 ∧ win0_0.index t (1 : Fin 2) = 0 :=
  (by decide +kernel : ∀ t : Fin grid0.N, _)
theorem idxo : ∀ t : Fin cfg0.N, win0_9.index t (0 : Fin 3) = t.val / 8 ∧ win0_9.index t (1 : Fin 3) = 0 ∧ win0_9.index t (2 : Fin 3) = 0 :=
  (by decide +kernel : ∀ t : Fin grid0.N, _)

theorem blk0 (t : Fin cfg0.N) (r : Fin 4096) (k : Fin 1024) :
    (iblk m c 0 t : FVec Ideal S4096x1024 .bf16) (ix2 r k) = (m ((c : Thread nD τ).loc main_arg0) : FVec Ideal S4096x1024 .bf16) (ix2 r k) := by
  obtain ⟨e0, e1⟩ := idx0 t
  unfold iblk
  rw [View.read_apply]
  have e : (V m c main_arg0 : FVec Ideal S4096x1024 .bf16) = (m ((c : Thread nD τ).loc main_arg0) : FVec Ideal S4096x1024 .bf16) := V_main_arg0 m c
  show (V m c main_arg0 : FVec Ideal S4096x1024 .bf16) (((cfg0.win 0).blk t).view.emb (ix2 r k)) = _
  rw [e]
  congr 1
  funext a
  apply Fin.ext
  match a with
  | ⟨0, _⟩ => show win0_0.index t (0 : Fin 2) * 4096 + 1 * r.val = r.val; omega
  | ⟨1, _⟩ => show win0_0.index t (1 : Fin 2) * 1024 + 1 * k.val = k.val; omega

theorem idx1 : ∀ t : Fin cfg0.N, t.val / 8 = 0 → win0_1.index t (0 : Fin 2) = t.val % 8 ∧ win0_1.index t (1 : Fin 2) = 0 :=
  (by decide +kernel : ∀ t : Fin grid0.N, _)
theorem blk1 (t : Fin cfg0.N) (ht : t.val / 8 = 0) (q : Fin 512) (r : Fin 4096) (k : Fin 512) (hr : r.val = 512 * (t.val % 8) + q.val) :
    (iblk m c 1 t : FVec Ideal S512x512 .bf16) (ix2 q k) = (m ((c : Thread nD τ).loc main_arg1) : FVec Ideal S4096x512 .bf16) (ix2 r k) := by
  obtain ⟨e0, e1⟩ := idx1 t ht
  unfold iblk
  rw [View.read_apply]
  have e : (V m c main_arg1 : FVec Ideal S4096x512 .bf16) = (m ((c : Thread nD τ).loc main_arg1) : FVec Ideal S4096x512 .bf16) := V_main_arg1 m c
  show (V m c main_arg1 : FVec Ideal S4096x512 .bf16) (((cfg0.win 1).blk t).view.emb (ix2 q k)) = _
  rw [e]
  congr 1
  funext a
  apply Fin.ext
  match a with
  | ⟨0, _⟩ => show win0_1.index t (0 : Fin 2) * 512 + 1 * q.val = r.val; omega
  | ⟨1, _⟩ => show win0_1.index t (1 : Fin 2) * 512 + 1 * k.val = k.val; omega

theorem idx2 : ∀ t : Fin cfg0.N, t.val / 8 = 1 → win0_2.index t (0 : Fin 2) = t.val % 8 ∧ win0_2.index t (1 : Fin 2) = 0 :=
  (by decide +kernel : ∀ t : Fin grid0.N, _)
theorem blk2 (t : Fin cfg0.N) (ht : t.val / 8 = 1) (q : Fin 512) (r : Fin 4096) (k : Fin 512) (hr : r.val = 512 * (t.val % 8) + q.val) :
    (iblk m c 2 t : FVec Ideal S512x512 .bf16) (ix2 q k) = (m ((c : Thread nD τ).loc main_arg2) : FVec Ideal S4096x512 .bf16) (ix2 r k) := by
  obtain ⟨e0, e1⟩ := idx2 t ht
  unfold iblk
  rw [View.read_apply]
  have e : (V m c main_arg2 : FVec Ideal S4096x512 .bf16) = (m ((c : Thread nD τ).loc main_arg2) : FVec Ideal S4096x512 .bf16) := V_main_arg2 m c
  show (V m c main_arg2 : FVec Ideal S4096x512 .bf16) (((cfg0.win 2).blk t).view.emb (ix2 q k)) = _
  rw [e]
  congr 1
  funext a
  apply Fin.ext
  match a with
  | ⟨0, _⟩ => show win0_2.index t (0 : Fin 2) * 512 + 1 * q.val = r.val; omega
  | ⟨1, _⟩ => show win0_2.index t (1 : Fin 2) * 512 + 1 * k.val = k.val; omega

theorem idx3 : ∀ t : Fin cfg0.N, t.val / 8 = 2 → win0_3.index t (0 : Fin 2) = t.val % 8 ∧ win0_3.index t (1 : Fin 2) = 0 :=
  (by decide +kernel : ∀ t : Fin grid0.N, _)
theorem blk3 (t : Fin cfg0.N) (ht : t.val / 8 = 2) (q : Fin 512) (r : Fin 4096) (k : Fin 512) (hr : r.val = 512 * (t.val % 8) + q.val) :
    (iblk m c 3 t : FVec Ideal S512x512 .bf16) (ix2 q k) = (m ((c : Thread nD τ).loc main_arg3) : FVec Ideal S4096x512 .bf16) (ix2 r k) := by
  obtain ⟨e0, e1⟩ := idx3 t ht
  unfold iblk
  rw [View.read_apply]
  have e : (V m c main_arg3 : FVec Ideal S4096x512 .bf16) = (m ((c : Thread nD τ).loc main_arg3) : FVec Ideal S4096x512 .bf16) := V_main_arg3 m c
  show (V m c main_arg3 : FVec Ideal S4096x512 .bf16) (((cfg0.win 3).blk t).view.emb (ix2 q k)) = _
  rw [e]
  congr 1
  funext a
  apply Fin.ext
  match a with
  | ⟨0, _⟩ => show win0_3.index t (0 : Fin 2) * 512 + 1 * q.val = r.val; omega
  | ⟨1, _⟩ => show win0_3.index t (1 : Fin 2) * 512 + 1 * k.val = k.val; omega

theorem idx4 : ∀ t : Fin cfg0.N, t.val / 8 = 3 → win0_4.index t (0 : Fin 2) = t.val % 8 ∧ win0_4.index t (1 : Fin 2) = 0 :=
  (by decide +kernel : ∀ t : Fin grid0.N, _)
theorem blk4 (t : Fin cfg0.N) (ht : t.val / 8 = 3) (q : Fin 512) (r : Fin 4096) (k : Fin 512) (hr : r.val = 512 * (t.val % 8) + q.val) :
    (iblk m c 4 t : FVec Ideal S512x512 .bf16) (ix2 q k) = (m ((c : Thread nD τ).loc main_arg4) : FVec Ideal S4096x512 .bf16) (ix2 r k) := by
  obtain ⟨e0, e1⟩ := idx4 t ht
  unfold iblk
  rw [View.read_apply]
  have e : (V m c main_arg4 : FVec Ideal S4096x512 .bf16) = (m ((c : Thread nD τ).loc main_arg4) : FVec Ideal S4096x512 .bf16) := V_main_arg4 m c
  show (V m c main_arg4 : FVec Ideal S4096x512 .bf16) (((cfg0.win 4).blk t).view.emb (ix2 q k)) = _
  rw [e]
  congr 1
  funext a
  apply Fin.ext
  match a with
  | ⟨0, _⟩ => show win0_4.index t (0 : Fin 2) * 512 + 1 * q.val = r.val; omega
  | ⟨1, _⟩ => show win0_4.index t (1 : Fin 2) * 512 + 1 * k.val = k.val; omega

theorem idx5 : ∀ t : Fin cfg0.N, t.val / 8 = 4 → win0_5.index t (0 : Fin 2) = t.val % 8 ∧ win0_5.index t (1 : Fin 2) = 0 :=
  (by decide +kernel : ∀ t : Fin grid0.N, _)
theorem blk5 (t : Fin cfg0.N) (ht : t.val / 8 = 4) (q : Fin 512) (r : Fin 4096) (k : Fin 512) (hr : r.val = 512 * (t.val % 8) + q.val) :
    (iblk m c 5 t : FVec Ideal S512x512 .bf16) (ix2 q k) = (m ((c : Thread nD τ).loc main_arg5) : FVec Ideal S4096x512 .bf16) (ix2 r k) := by
  obtain ⟨e0, e1⟩ := idx5 t ht
  unfold iblk
  rw [View.read_apply]
  have e : (V m c main_arg5 : FVec Ideal S4096x512 .bf16) = (m ((c : Thread nD τ).loc main_arg5) : FVec Ideal S4096x512 .bf16) := V_main_arg5 m c
  show (V m c main_arg5 : FVec Ideal S4096x512 .bf16) (((cfg0.win 5).blk t).view.emb (ix2 q k)) = _
  rw [e]
  congr 1
  funext a
  apply Fin.ext
  match a with
  | ⟨0, _⟩ => show win0_5.index t (0 : Fin 2) * 512 + 1 * q.val = r.val; omega
  | ⟨1, _⟩ => show win0_5.index t (1 : Fin 2) * 512 + 1 * k.val = k.val; omega

theorem idx6 : ∀ t : Fin cfg0.N, t.val / 8 = 5 → win0_6.index t (0 : Fin 2) = t.val % 8 ∧ win0_6.index t (1 : Fin 2) = 0 :=
  (by decide +kernel : ∀ t : Fin grid0.N, _)
theorem blk6 (t : Fin cfg0.N) (ht : t.val / 8 = 5) (q : Fin 512) (r : Fin 4096) (k : Fin 512) (hr : r.val = 512 * (t.val % 8) + q.val) :
    (iblk m c 6 t : FVec Ideal S512x512 .bf16) (ix2 q k) = (m ((c : Thread nD τ).loc main_arg6) : FVec Ideal S4096x512 .bf16) (ix2 r k) := by
  obtain ⟨e0, e1⟩ := idx6 t ht
  unfold iblk
  rw [View.read_apply]
  have e : (V m c main_arg6 : FVec Ideal S4096x512 .bf16) = (m ((c : Thread nD τ).loc main_arg6) : FVec Ideal S4096x512 .bf16) := V_main_arg6 m c
  show (V m c main_arg6 : FVec Ideal S4096x512 .bf16) (((cfg0.win 6).blk t).view.emb (ix2 q k)) = _
  rw [e]
  congr 1
  funext a
  apply Fin.ext
  match a with
  | ⟨0, _⟩ => show win0_6.index t (0 : Fin 2) * 512 + 1 * q.val = r.val; omega
  | ⟨1, _⟩ => show win0_6.index t (1 : Fin 2) * 512 + 1 * k.val = k.val; omega

theorem idx7 : ∀ t : Fin cfg0.N, t.val / 8 = 6 → win0_7.index t (0 : Fin 2) = t.val % 8 ∧ win0_7.index t (1 : Fin 2) = 0 :=
  (by decide +kernel : ∀ t : Fin grid0.N, _)
theorem blk7 (t : Fin cfg0.N) (ht : t.val / 8 = 6) (q : Fin 512) (r : Fin 4096) (k : Fin 512) (hr : r.val = 512 * (t.val % 8) + q.val) :
    (iblk m c 7 t : FVec Ideal S512x512 .bf16) (ix2 q k) = (m ((c : Thread nD τ).loc main_arg7) : FVec Ideal S4096x512 .bf16) (ix2 r k) := by
  obtain ⟨e0, e1⟩ := idx7 t ht
  unfold iblk
  rw [View.read_apply]
  have e : (V m c main_arg7 : FVec Ideal S4096x512 .bf16) = (m ((c : Thread nD τ).loc main_arg7) : FVec Ideal S4096x512 .bf16) := V_main_arg7 m c
  show (V m c main_arg7 : FVec Ideal S4096x512 .bf16) (((cfg0.win 7).blk t).view.emb (ix2 q k)) = _
  rw [e]
  congr 1
  funext a
  apply Fin.ext
  match a with
  | ⟨0, _⟩ => show win0_7.index t (0 : Fin 2) * 512 + 1 * q.val = r.val; omega
  | ⟨1, _⟩ => show win0_7.index t (1 : Fin 2) * 512 + 1 * k.val = k.val; omega

theorem idx8 : ∀ t : Fin cfg0.N, t.val / 8 = 7 → win0_8.index t (0 : Fin 2) = t.val % 8 ∧ win0_8.index t (1 : Fin 2) = 0 :=
  (by decide +kernel : ∀ t : Fin grid0.N, _)
theorem blk8 (t : Fin cfg0.N) (ht : t.val / 8 = 7) (q : Fin 512) (r : Fin 4096) (k : Fin 512) (hr : r.val = 512 * (t.val % 8) + q.val) :
    (iblk m c 8 t : FVec Ideal S512x512 .bf16) (ix2 q k) = (m ((c : Thread nD τ).loc main_arg8) : FVec Ideal S4096x512 .bf16) (ix2 r k) := by
  obtain ⟨e0, e1⟩ := idx8 t ht
  unfold iblk
  rw [View.read_apply]
  have e : (V m c main_arg8 : FVec Ideal S4096x512 .bf16) = (m ((c : Thread nD τ).loc main_arg8) : FVec Ideal S4096x512 .bf16) := V_main_arg8 m c
  show (V m c main_arg8 : FVec Ideal S4096x512 .bf16) (((cfg0.win 8).blk t).view.emb (ix2 q k)) = _
  rw [e]
  congr 1
  funext a
  apply Fin.ext
  match a with
  | ⟨0, _⟩ => show win0_8.index t (0 : Fin 2) * 512 + 1 * q.val = r.val; omega
  | ⟨1, _⟩ => show win0_8.index t (1 : Fin 2) * 512 + 1 * k.val = k.val; omega

/-- The block of the cotangent that a point takes, read off its piece. -/
theorem taken_apply (t : Fin cfg0.N) (p : Fin 8) (hp : t.val / 8 = p.val) (q : Fin 512) (r : Fin 4096) (k : Fin 512) (hr : r.val = 512 * (t.val % 8) + q.val) :
    (taken m c t : FVec Ideal S512x512 .bf16) (ix2 q k) = given m c p (ix2 r k) := by
  unfold taken
  rw [piece_at t, hp]
  match p, hp with
  | ⟨0, _⟩, hp => exact blk1 m c t hp q r k hr
  | ⟨1, _⟩, hp => exact blk2 m c t hp q r k hr
  | ⟨2, _⟩, hp => exact blk3 m c t hp q r k hr
  | ⟨3, _⟩, hp => exact blk4 m c t hp q r k hr
  | ⟨4, _⟩, hp => exact blk5 m c t hp q r k hr
  | ⟨5, _⟩, hp => exact blk6 m c t hp q r k hr
  | ⟨6, _⟩, hp => exact blk7 m c t hp q r k hr
  | ⟨7, _⟩, hp => exact blk8 m c t hp q r k hr

/-- What a point's product is, read off the arrays. -/
theorem part_eq (t : Fin cfg0.N) (p : Fin 8) (hp : t.val / 8 = p.val) (y : S1024x512.Idx) :
    k0_pay1 (F := Ideal) (rows (grid0.coords t) (iblk m c 0 t)) (taken m c t) y = part (m ((c : Thread nD τ).loc main_arg0)) (given m c p) (t.val % 8) y := by
  refine (mul_apply _ _ y).trans (Finset.sum_congr rfl fun j _ => congrArg₂ (fun p q : EReal => p * q) ?_ ?_)
  · refine (block_apply (grid0.coords t) _ j (y 0) (row (t.val % 8) j) ?_).trans (blk0 m c t _ _)
    rw [step_at t]
    exact row_val _ (Nat.mod_lt _ (by decide)) j
  · exact taken_apply m c t p hp j _ _ (row_val _ (Nat.mod_lt _ (by decide)) j)

theorem sum_first (t : Fin cfg0.N) (p : Fin 8) (hp : t.val / 8 = p.val) (y : S1024x512.Idx) :
    k0_pay2 (F := Ideal) (rows (grid0.coords t) (iblk m c 0 t)) (taken m c t) y = part (m ((c : Thread nD τ).loc main_arg0)) (given m c p) (t.val % 8) y := by
  unfold k0_pay2
  exact (congrFun (shapeCast_self _ _) y).trans (part_eq m c t p hp y)

theorem sum_later (t : Fin cfg0.N) (p : Fin 8) (hp : t.val / 8 = p.val) (a : FVec Ideal S1024x512 .f32) (y : S1024x512.Idx) :
    k0_pay3 (F := Ideal) (rows (grid0.coords t) (iblk m c 0 t)) (taken m c t) a y = (a y + part (m ((c : Thread nD τ).loc main_arg0)) (given m c p) (t.val % 8) y : EReal) := by
  unfold k0_pay3
  exact (congrFun (shapeCast_self _ _) y).trans (congrArg (fun q : EReal => a y + q) (part_eq m c t p hp y))

/-- The sum after each point: the blocks of its piece so far. -/
theorem sums_eq : ∀ (n : ℕ) (hn : n < cfg0.N) (p : Fin 8), n / 8 = p.val → ∀ y : S1024x512.Idx, (sums m c n hn : FVec Ideal S1024x512 .f32) y
    = ∑ q ∈ Finset.range (n % 8 + 1), part (m ((c : Thread nD τ).loc main_arg0)) (given m c p) q y
  | 0, hn, p, hp, y => by
    rw [show 0 % 8 + 1 = 1 from rfl, Finset.sum_range_one]
    exact sum_first m c ⟨0, hn⟩ p hp y
  | n + 1, hn, p, hp, y => by
    show next (F := Ideal) (grid0.coords ⟨n + 1, hn⟩) (iblk m c 0 ⟨n + 1, hn⟩) (taken m c ⟨n + 1, hn⟩) (sums m c n (Nat.lt_of_succ_lt hn)) y = _
    unfold next
    by_cases h0 : (n + 1) % 8 = 0
    · rw [if_pos ((step_at ⟨n + 1, hn⟩).trans h0), h0, Finset.sum_range_one]
      refine (sum_first m c ⟨n + 1, hn⟩ p hp y).trans ?_
      show part _ _ ((n + 1) % 8) y = _
      rw [h0]
    · rw [if_neg (fun e => h0 ((step_at ⟨n + 1, hn⟩).symm.trans e)), Finset.sum_range_succ]
      refine (sum_later m c ⟨n + 1, hn⟩ p hp _ y).trans ?_
      have ih := sums_eq n (Nat.lt_of_succ_lt hn) p (by omega) y
      rw [show n % 8 + 1 = (n + 1) % 8 by omega] at ih
      exact congrArg (fun q : EReal => q + part (m ((c : Thread nD τ).loc main_arg0)) (given m c p) ((n + 1) % 8) y) ih

/-- What a last point leaves in the result's block. -/
theorem out_eq (t : Fin cfg0.N) (h7 : t.val % 8 = 7) (p : Fin 8) (hp : t.val / 8 = p.val) (b : Fin 1) (y : Fin 1024) (k : Fin 512) :
    k0_pay25 (F := Ideal) (sums m c t.val t.isLt) (ix3 b y k) = col (m ((c : Thread nD τ).loc main_arg0)) (given m c p) y k := by
  unfold k0_pay25
  refine (stack_apply _ _ b y k).trans ?_
  refine (sums_eq m c t.val t.isLt p hp (ix2 y k)).trans ?_
  rw [h7]
  exact parts _ _ (ix2 y k)

/-- The array after the run. -/
theorem arr : @Eq (FVec Ideal S8x1024x512 .bf16) ((data m 0 c).arrAt 9 cfg0.N) (prod (m ((c : Thread nD τ).loc main_arg0)) (given m c)) := by
  have hN : cfg0.N = 64 := N_0
  refine (data m 0 c).arrAt_eq_of_cover 9 (prod (m ((c : Thread nD τ).loc main_arg0)) (given m c)) (fun t hf => ?_) (fun i => ?_)
  · have h7 : t.val % 8 = 7 := (flush0_9 t).mp hf
    obtain ⟨e0, e1, e2⟩ := idxo t
    have ht : t.val < 64 := lt_of_lt_of_eq t.isLt hN
    have ef : (data m 0 c).flushed 9 t = (cfg0.win 9).cut (grid0.coords t) (k0_pay25 (sums m c t.val t.isLt)) := by
      show (cfg0.win 9).cut (grid0.coords t) ((data m 0 c).after 9 t) = _
      rw [after9]
    rw [ef]
    funext y
    rw [View.read_apply]
    have hy : (y : S1x1024x512.Idx) = ix3 (y 0) (y 1) (y 2) := funext fun a => match a with
      | ⟨0, _⟩ => rfl
      | ⟨1, _⟩ => rfl
      | ⟨2, _⟩ => rfl
    have hy0 : (y (0 : Fin 3)).val < 1 := (y (0 : Fin 3)).isLt
    have h8 : t.val / 8 < 8 := by omega
    have ep : (((cfg0.win 9).blk t).view.emb y 0 : Fin 8) = ⟨t.val / 8, h8⟩ := Fin.ext (by
      show win0_9.index t (0 : Fin 3) * 1 + 1 * (y (0 : Fin 3)).val = t.val / 8
      omega)
    have ey : (((cfg0.win 9).blk t).view.emb y 1 : Fin 1024) = y 1 := Fin.ext (by
      show win0_9.index t (1 : Fin 3) * 1024 + 1 * (y 1).val = (y 1).val; omega)
    have ek : (((cfg0.win 9).blk t).view.emb y 2 : Fin 512) = y 2 := Fin.ext (by
      show win0_9.index t (2 : Fin 3) * 512 + 1 * (y 2).val = (y 2).val; omega)
    refine (congrArg (k0_pay25 (F := Ideal) (sums m c t.val t.isLt)) hy).trans ?_
    refine (out_eq m c t h7 ⟨t.val / 8, h8⟩ rfl (y 0) (y 1) (y 2)).trans ?_
    show _ = col (m ((c : Thread nD τ).loc main_arg0)) (given m c (((cfg0.win 9).blk t).view.emb y 0 : Fin 8)) (((cfg0.win 9).blk t).view.emb y 1 : Fin 1024) (((cfg0.win 9).blk t).view.emb y 2 : Fin 512)
    rw [ep, ey, ek]
    rfl
  · have h0 : (i 0).val < 8 := (i 0).isLt
    have h1 : (i 1).val < 1024 := (i 1).isLt
    have h2 : (i 2).val < 512 := (i 2).isLt
    obtain ⟨t, ht⟩ : ∃ t : Fin cfg0.N, t.val = 8 * (i 0).val + 7 := ⟨⟨_, by omega⟩, rfl⟩
    obtain ⟨e0, e1, e2⟩ := idxo t
    refine ⟨t, (flush0_9 t).mpr (by omega), ?_⟩
    show i ∈ ((View.whole main_v0).slice (win0_9.rect t)).set
    rw [View.set_slice_whole, Rect.mem_set_unit]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 1024 ≤ (i 1).val ∧ (i 1).val < win0_9.index t (1 : Fin 3) * 1024 + 1024; omega
    | ⟨2, _⟩ => show win0_9.index t (2 : Fin 3) * 512 ≤ (i 2).val ∧ (i 2).val < win0_9.index t (2 : Fin 3) * 512 + 512; omega

/-- The reference: the same sums. -/
theorem ref (x0 : FVec Ideal S4096x1024 .bf16) (x1 x2 x3 x4 x5 x6 x7 x8 : FVec Ideal S4096x512 .bf16) :
    @Eq (FVec Ideal S8x1024x512 .bf16) (Cert.Reference2Ideal.Read.val_main_v9 (F := Ideal) x0 x1 x2 x3 x4 x5 x6 x7 x8) (prod x0 (Cert.In3.pieces x1 x2 x3 x4 x5 x6 x7 x8)) := by
  funext i
  have hi0 : (i 0).val < 8 := (i 0).isLt
  have hi1 : (i 1).val < 1024 := (i 1).isLt
  have hi2 : (i 2).val < 512 := (i 2).isLt
  rw [Cert.Reference2Ideal.Read.val_main_v9_apply]
  show Cert.Reference2Ideal.Read.val_main_v8 (F := Ideal) x0 x1 x2 x3 x4 x5 x6 x7 x8 i = _
  rw [Cert.Reference2Ideal.Read.val_main_v8_apply, Cert.Reference2Ideal.Read.val_main_v7_apply, Cert.Reference2Ideal.Read.val_main_v6_apply, Cert.Reference2Ideal.Read.val_main_v5_apply]
  show _ = (∑ k : Fin 4096, x0 (ix2 k (i 1)) * Cert.In3.pieces x1 x2 x3 x4 x5 x6 x7 x8 (i 0) (ix2 k (i 2)) : EReal)
  refine Finset.sum_congr rfl fun k _ => ?_
  have hk := k.isLt
  rw [Cert.Reference2Ideal.Read.val_main_v4_apply, Cert.Reference2Ideal.Read.val_main_v2_apply]
  refine (mul_comm (G := EReal) _ _).trans ?_
  refine congrArg₂ (fun p q : EReal => p * q) (congrArg x0 (funext fun a => Fin.ext ?_)) ?_
  · match a with
    | ⟨0, _⟩ => rfl
    | ⟨1, _⟩ => show (((i 1).val * 8 + (i 0).val) * 512 + (i 2).val) / 4096 = (i 1).val; omega
  · refine (Cert.In3.joined x1 x2 x3 x4 x5 x6 x7 x8 _ (i 0) (i 2) ?_).trans rfl
    show (((i 1).val * 8 + (i 0).val) * 512 + (i 2).val) % 4096 = 512 * (i 0).val + (i 2).val
    omega

end Cert.In2
end
-- ==== Proof.Rest2.lean ====
/- The gradient of the stacked weights of the first product: every program runs, and the kernel and the reference end the same. -/
module

public import proofs.«01_k».proof.Defs
public import proofs.«01_k».proof.Proof.Gen.Kernel2
public import proofs.«01_k».proof.Proof.In2Value
public import Idealize.ShloMosaic.Lib.QuiescentFlight

@[expose] public section

set_option maxRecDepth 65536
set_option maxHeartbeats 4000000

noncomputable section

namespace Cert.Rest

open Idealize.ShloMosaic Idealize.ShloMosaic.TcCoe Idealize.SL.Sem

/-- The two kernels have the same body. -/
theorem body2 : @Cert.Kernel2.cc0_mm_in_dw Bits _ _ = @Cert.Kernel2Ideal.cc0_mm_in_dw Bits _ _ := by
  delta Cert.Kernel2.cc0_mm_in_dw Cert.Kernel2Ideal.cc0_mm_in_dw
  rfl

/-- So they have the same table of bodies. -/
theorem table2 : Cert.Kernel2.defs₀ (F := Bits) = Cert.Kernel2Ideal.defs₀ (F := Bits) := by
  delta Cert.Kernel2.defs₀ Cert.Kernel2Ideal.defs₀
  rw [body2]
  refine congrArg Defs.onTc ?_
  funext l a
  match l, a with
  | 0, (t, s) => rfl
  | ⟨_ + 1, h⟩, _ => exact absurd h (Nat.not_lt.2 (Nat.le_add_left _ _))

theorem defs2 : Cert.Kernel2.defs (F := Bits) = Cert.Kernel2Ideal.defs (F := Bits) := by
  delta Cert.Kernel2.defs Cert.Kernel2Ideal.defs
  rw [table2]
  rfl

/-- The run of the kernel read with exact operations carries over: the two programs have the same text. -/
theorem frame2 : Cert.quiescent_Kernel2 := fun m ρ _ => by
  rw [defs2]
  exact Cert.Kernel2Ideal.Dw.unmoved (F := Bits) m ρ

theorem frame_ideal2 : Cert.quiescent_Kernel2Ideal := fun m ρ _ => Cert.Kernel2Ideal.Dw.unmoved m ρ

theorem frame_reference2 : Cert.quiescent_Reference2Ideal := by
  intro m ρ _
  exact (θ_run Cert.Reference2Ideal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.Reference2Ideal.Value.run m ρ)

theorem same2 : Cert.algebraic_Kernel2Ideal_Reference2Ideal := by
  intro m ρ m' ρ' hpre hargs
  refine ⟨fun c => (Cert.Kernel2Ideal.Dw.data m 0 c).arrAt 9 Cert.Kernel2Ideal.cfg0.N,
    (θ_run Cert.Kernel2Ideal.defs _ _).mono (fun r h c => ⟨(h.1.1 c).1 9, h.2.1 c⟩) (θ_run_and (Cert.Kernel2Ideal.Dw.whole m ρ) (Cert.Kernel2Ideal.Dw.unmoved m ρ)), ?_⟩
  refine (θ_run Cert.Reference2Ideal.defs _ _).mono (fun r h c => ⟨(h c).1.trans ?_, (h c).2⟩) (Cert.Reference2Ideal.Value.run m' ρ')
  refine (Cert.Reference2Ideal.Read.val_main_v9_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))).trans ?_
  refine (Cert.In2.ref (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8))).trans ?_
  rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2]
  exact (Cert.In2.arr m c).symm

end Cert.Rest

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel3
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Frame
public import proofs.«01_k».proof.Proof.Gen.Kernel2Ideal.Skeleton
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference3Ideal
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Final
public import proofs.«01_k».proof.Proof.Rest
public import proofs.«01_k».proof.Proof.Rest2
public import Idealize.ShloMosaic.Adequacy
public import Idealize.ShloMosaic.Init

@[expose] public section

noncomputable section

namespace Cert.Proof

open Idealize.ShloMosaic Idealize.SL.Sem Cert.Kernel

/-- The kernel runs and leaves its arguments as they were. -/
theorem frame_kernel : Cert.quiescent_Kernel := fun m ρ _ => Cert.Kernel.Gen.frame m ρ

/-- So does the kernel read with exact operations. -/
theorem frame_ideal : Cert.quiescent_KernelIdeal := fun m ρ _ => Cert.KernelIdeal.Gen.frame m ρ

/-- So does the reference, which has no semaphore. -/
theorem frame_reference : Cert.quiescent_ReferenceIdeal := by
  intro m ρ _
  exact (θ_run Cert.ReferenceIdeal.defs _ _).mono
    (fun r h => ⟨fun c => ⟨(h c).2.2.2.1, (h c).2.2.2.2⟩, sem_eq_zero_of_no_sems (by decide) r.2⟩)
    (Cert.ReferenceIdeal.Value.run m ρ)

/-- The kernel and the reference end with the same gradients, where every number given is finite. -/
theorem same : Cert.algebraic_KernelIdeal_ReferenceIdeal_pre_finite (hPre_finite := Cert.Final.facts) := by
  intro m ρ m' ρ' hpre hargs
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m ρ, ?_⟩
  exact (θ_run Cert.ReferenceIdeal.defs _ _).mono
    (fun r h c => ⟨(h c).1.trans (Cert.Final.result0 m m' hpre c (hargs c).1 (hargs c).2),
      (h c).2.1.trans (Cert.Final.result1 m m' hpre c (hargs c).1 (hargs c).2),
      (h c).2.2.1.trans (Cert.Final.result2 m m' hpre c (hargs c).1 (hargs c).2),
      (h c).2.2.2.1, (h c).2.2.2.2⟩)
    (Cert.ReferenceIdeal.Value.run m' ρ')

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Final.facts,
  frame_kernel, frame_ideal, fun m ρ _ => frame_ideal m ρ trivial, frame_reference, fun m ρ _ => frame_reference m ρ trivial,
  Rest.frame2, Rest.frame_ideal2, Rest.frame_reference2, Rest.frame3, Rest.frame_ideal3, Rest.frame_reference3, Rest.frame4, Rest.frame_ideal4, Rest.frame_reference4,
  Rest.frame5, Rest.frame_ideal5, Rest.frame_reference5, Rest.frame6, Rest.frame_ideal6, Rest.frame_reference6,
  Rest.frame7, Rest.frame_ideal7, Rest.frame_reference7, Rest.frame8, Rest.frame_ideal8, Rest.frame_reference8,
  Rest.frame9, Rest.frame_ideal9, Rest.frame_reference9, Rest.frame10, Rest.frame_ideal10, Rest.frame_reference10, Rest.frame11, Rest.frame_ideal11, Rest.frame_reference11, Rest.frame12, Rest.frame_ideal12, Rest.frame_reference12,
  Rest.frame13, Rest.frame_ideal13, Rest.frame_reference13, Rest.frame14, Rest.frame_ideal14, Rest.frame_reference14,
  trivial, same, trivial, Rest.same2, trivial, Rest.same3, trivial, Rest.same4, trivial, Rest.same5,
  trivial, Rest.same6, trivial, Rest.same7, trivial, Rest.same8, trivial, Rest.same9,
  trivial, Rest.same10, trivial, Rest.same11, trivial, Rest.same12, trivial, Rest.same13, trivial, Rest.same14⟩

end Cert.Proof

end
